-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5))
      ∧ r.2.sem = fun _ => 0)

def preserves_Kernel_KernelIdeal : Prop :=
  IdealRules.named_const.Statement Cert.KernelIdeal.κ "neg" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v71_0)) (v1 : (c : Dev Cert.KernelIdeal.nD) → Buf (Elt Ideal) ((c.tc : Thread Cert.KernelIdeal.nD Cert.KernelIdeal.τ).loc Cert.KernelIdeal.main_v71_1)) (v2 : (c : Dev Cert.KernelIdeal.nD) → Buf (Elt Ideal) ((c.tc : Thread Cert.KernelIdeal.nD Cert.KernelIdeal.τ).loc Cert.KernelIdeal.main_v71_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71_0) = v0 c
          ∧ r.2.mem ((c.tc : Thread Cert.KernelIdeal.nD Cert.KernelIdeal.τ).loc Cert.KernelIdeal.main_v71_1) = v1 c
          ∧ r.2.mem ((c.tc : Thread Cert.KernelIdeal.nD Cert.KernelIdeal.τ).loc Cert.KernelIdeal.main_v71_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_v117) = v1 c
          ∧ r.2.mem ((c.tc : Thread Cert.ReferenceIdeal.nD Cert.ReferenceIdeal.τ).loc Cert.ReferenceIdeal.main_v115) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v22_0)) (v1 : (c : Dev Cert.Kernel2Ideal.nD) → Buf (Elt Ideal) ((c.tc : Thread Cert.Kernel2Ideal.nD Cert.Kernel2Ideal.τ).loc Cert.Kernel2Ideal.main_v22_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v22_0) = v0 c
          ∧ r.2.mem ((c.tc : Thread Cert.Kernel2Ideal.nD Cert.Kernel2Ideal.τ).loc Cert.Kernel2Ideal.main_v22_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_v12) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_v12) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v9)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v9) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v5)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v4)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v6)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v6) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v1_0)) (v1 : (c : Dev Cert.Kernel17Ideal.nD) → Buf (Elt Ideal) ((c.tc : Thread Cert.Kernel17Ideal.nD Cert.Kernel17Ideal.τ).loc Cert.Kernel17Ideal.main_v1_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1_0) = v0 c
          ∧ r.2.mem ((c.tc : Thread Cert.Kernel17Ideal.nD Cert.Kernel17Ideal.τ).loc Cert.Kernel17Ideal.main_v1_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v36) = v0 c
          ∧ r.2.mem ((c.tc : Thread Cert.Reference17Ideal.nD Cert.Reference17Ideal.τ).loc Cert.Reference17Ideal.main_v37) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v6_0)) (v1 : (c : Dev Cert.Kernel18Ideal.nD) → Buf (Elt Ideal) ((c.tc : Thread Cert.Kernel18Ideal.nD Cert.Kernel18Ideal.τ).loc Cert.Kernel18Ideal.main_v6_1)) (v2 : (c : Dev Cert.Kernel18Ideal.nD) → Buf (Elt Ideal) ((c.tc : Thread Cert.Kernel18Ideal.nD Cert.Kernel18Ideal.τ).loc Cert.Kernel18Ideal.main_v6_2)) (v3 : (c : Dev Cert.Kernel18Ideal.nD) → Buf (Elt Ideal) ((c.tc : Thread Cert.Kernel18Ideal.nD Cert.Kernel18Ideal.τ).loc Cert.Kernel18Ideal.main_v6_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v6_0) = v0 c
          ∧ r.2.mem ((c.tc : Thread Cert.Kernel18Ideal.nD Cert.Kernel18Ideal.τ).loc Cert.Kernel18Ideal.main_v6_1) = v1 c
          ∧ r.2.mem ((c.tc : Thread Cert.Kernel18Ideal.nD Cert.Kernel18Ideal.τ).loc Cert.Kernel18Ideal.main_v6_2) = v2 c
          ∧ r.2.mem ((c.tc : Thread Cert.Kernel18Ideal.nD Cert.Kernel18Ideal.τ).loc Cert.Kernel18Ideal.main_v6_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v53) = v0 c
          ∧ r.2.mem ((c.tc : Thread Cert.Reference18Ideal.nD Cert.Reference18Ideal.τ).loc Cert.Reference18Ideal.main_v32) = v1 c
          ∧ r.2.mem ((c.tc : Thread Cert.Reference18Ideal.nD Cert.Reference18Ideal.τ).loc Cert.Reference18Ideal.main_v54) = v2 c
          ∧ r.2.mem ((c.tc : Thread Cert.Reference18Ideal.nD Cert.Reference18Ideal.τ).loc Cert.Reference18Ideal.main_v55) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)) →
    ∃ (v0 : (c : Dev Cert.Kernel19Ideal.nD) → Buf (Elt Ideal) ((c.tc : Thread Cert.Kernel19Ideal.nD Cert.Kernel19Ideal.τ).loc Cert.Kernel19Ideal.main_v16_0)) (v1 : (c : Dev Cert.Kernel19Ideal.nD) → Buf (Elt Ideal) ((c.tc : Thread Cert.Kernel19Ideal.nD Cert.Kernel19Ideal.τ).loc Cert.Kernel19Ideal.main_v16_1)) (v2 : (c : Dev Cert.Kernel19Ideal.nD) → Buf (Elt Ideal) ((c.tc : Thread Cert.Kernel19Ideal.nD Cert.Kernel19Ideal.τ).loc Cert.Kernel19Ideal.main_v16_2)) (v3 : (c : Dev Cert.Kernel19Ideal.nD) → Buf (Elt Ideal) ((c.tc : Thread Cert.Kernel19Ideal.nD Cert.Kernel19Ideal.τ).loc Cert.Kernel19Ideal.main_v16_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v16_0) = v0 c
          ∧ r.2.mem ((c.tc : Thread Cert.Kernel19Ideal.nD Cert.Kernel19Ideal.τ).loc Cert.Kernel19Ideal.main_v16_1) = v1 c
          ∧ r.2.mem ((c.tc : Thread Cert.Kernel19Ideal.nD Cert.Kernel19Ideal.τ).loc Cert.Kernel19Ideal.main_v16_2) = v2 c
          ∧ r.2.mem ((c.tc : Thread Cert.Kernel19Ideal.nD Cert.Kernel19Ideal.τ).loc Cert.Kernel19Ideal.main_v16_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v53) = v0 c
          ∧ r.2.mem ((c.tc : Thread Cert.Reference19Ideal.nD Cert.Reference19Ideal.τ).loc Cert.Reference19Ideal.main_v75) = v1 c
          ∧ r.2.mem ((c.tc : Thread Cert.Reference19Ideal.nD Cert.Reference19Ideal.τ).loc Cert.Reference19Ideal.main_v76) = v2 c
          ∧ r.2.mem ((c.tc : Thread Cert.Reference19Ideal.nD Cert.Reference19Ideal.τ).loc Cert.Reference19Ideal.main_v77) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v13) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v2_0)) (v1 : (c : Dev Cert.Kernel21Ideal.nD) → Buf (Elt Ideal) ((c.tc : Thread Cert.Kernel21Ideal.nD Cert.Kernel21Ideal.τ).loc Cert.Kernel21Ideal.main_v2_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v2_0) = v0 c
          ∧ r.2.mem ((c.tc : Thread Cert.Kernel21Ideal.nD Cert.Kernel21Ideal.τ).loc Cert.Kernel21Ideal.main_v2_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v13) = v0 c
          ∧ r.2.mem ((c.tc : Thread Cert.Reference21Ideal.nD Cert.Reference21Ideal.τ).loc Cert.Reference21Ideal.main_v27) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)) →
    ∃ (v0 : (c : Dev Cert.Kernel22Ideal.nD) → Buf (Elt Ideal) ((c.tc : Thread Cert.Kernel22Ideal.nD Cert.Kernel22Ideal.τ).loc Cert.Kernel22Ideal.main_v4)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v4) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v52) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
-- ==== Pre_finite.lean ====
abbrev S2048x8x192 : Shape := ⟨3, ![2048, 8, 192]⟩
abbrev S2048x8x256 : Shape := ⟨3, ![2048, 8, 256]⟩
abbrev S2048x64 : Shape := ⟨2, ![2048, 64]⟩
abbrev S2048x32 : Shape := ⟨2, ![2048, 32]⟩
abbrev S2048x1024 : Shape := ⟨2, ![2048, 1024]⟩
abbrev S_ : Shape := ⟨0, ![]⟩

class Facts : Prop where
  bcast_S_S2048x8x192 : S_.BroadcastsInDim S2048x8x192 (![] : Fin 0 → Fin S2048x8x192.rank)
  reducesTo_S2048x8x192_S_d0_1_2 : S2048x8x192.ReducesTo [0, 1, 2] S_
  h_S_ : 0 < S_.numel
  bcast_S_S2048x8x256 : S_.BroadcastsInDim S2048x8x256 (![] : Fin 0 → Fin S2048x8x256.rank)
  reducesTo_S2048x8x256_S_d0_1_2 : S2048x8x256.ReducesTo [0, 1, 2] S_
  bcast_S_S2048x64 : S_.BroadcastsInDim S2048x64 (![] : Fin 0 → Fin S2048x64.rank)
  reducesTo_S2048x64_S_d0_1 : S2048x64.ReducesTo [0, 1] S_
  bcast_S_S2048x32 : S_.BroadcastsInDim S2048x32 (![] : Fin 0 → Fin S2048x32.rank)
  reducesTo_S2048x32_S_d0_1 : S2048x32.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn_part1 {F : FTy → Type} [FloatOps F] (main_arg4 : FVec F S2048x32 .f32) (main_arg5 : FVec F S2048x1024 .f32) (main_v13 : IVec S_ 1) (main_v16 : IVec S2048x32 1) : IVec S_ 1 :=
  let main_c_5 : IVec S_ 1 := constantI S_ 1 1#1
  let main_v17 : IVec S_ 1 := (fun x v => Host.reduce IntOp.andi x v reducesTo_S2048x32_S_d0_1 h_S_) main_v16 main_c_5
  let main_v18 : IVec S_ 1 := andi main_v13 main_v17
  let main_v19 : FVec F S2048x32 .f32 := Host.absf main_arg4
  let main_cst_6 : FVec F S_ .f32 := constant S_ .f32 0x7F800000#32
  let main_v20 : FVec F S2048x32 .f32 := broadcastInDim S2048x32 ![] bcast_S_S2048x32 main_cst_6
  let main_v21 : IVec S2048x32 1 := cmpf .olt main_v19 main_v20
  let main_c_7 : IVec S_ 1 := constantI S_ 1 1#1
  let main_v22 : IVec S_ 1 := (fun x v => Host.reduce IntOp.andi x v reducesTo_S2048x32_S_d0_1 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  main_v28

def fn {F : FTy → Type} [FloatOps F] (main_arg0 : FVec F S2048x8x192 .f32) (main_arg1 : FVec F S2048x8x256 .f32) (main_arg2 : FVec F S2048x64 .f32) (main_arg3 : FVec F S2048x32 .f32) (main_arg4 : FVec F S2048x32 .f32) (main_arg5 : FVec F S2048x1024 .f32) : IVec S_ 1 :=
  let main_v0 : FVec F S2048x8x192 .f32 := Host.absf main_arg0
  let main_cst : FVec F S_ .f32 := constant S_ .f32 0x7F800000#32
  let main_v1 : FVec F S2048x8x192 .f32 := broadcastInDim S2048x8x192 ![] bcast_S_S2048x8x192 main_cst
  let main_v2 : IVec S2048x8x192 1 := cmpf .olt main_v0 main_v1
  let main_c : IVec S_ 1 := constantI S_ 1 1#1
  let main_v3 : IVec S_ 1 := (fun x v => Host.reduce IntOp.andi x v reducesTo_S2048x8x192_S_d0_1_2 h_S_) main_v2 main_c
  let main_v4 : FVec F S2048x8x256 .f32 := Host.absf main_arg1
  let main_cst_0 : FVec F S_ .f32 := constant S_ .f32 0x7F800000#32
  let main_v5 : FVec F S2048x8x256 .f32 := broadcastInDim S2048x8x256 ![] bcast_S_S2048x8x256 main_cst_0
  let main_v6 : IVec S2048x8x256 1 := cmpf .olt main_v4 main_v5
  let main_c_1 : IVec S_ 1 := constantI S_ 1 1#1
  let main_v7 : IVec S_ 1 := (fun x v => Host.reduce IntOp.andi x v reducesTo_S2048x8x256_S_d0_1_2 h_S_) main_v6 main_c_1
  let main_v8 : IVec S_ 1 := andi main_v3 main_v7
  let main_v9 : FVec F S2048x64 .f32 := Host.absf main_arg2
  let main_cst_2 : FVec F S_ .f32 := constant S_ .f32 0x7F800000#32
  let main_v10 : FVec F S2048x64 .f32 := broadcastInDim S2048x64 ![] bcast_S_S2048x64 main_cst_2
  let main_v11 : IVec S2048x64 1 := cmpf .olt main_v9 main_v10
  let main_c_3 : IVec S_ 1 := constantI S_ 1 1#1
  let main_v12 : IVec S_ 1 := (fun x v => Host.reduce IntOp.andi x v reducesTo_S2048x64_S_d0_1 h_S_) main_v11 main_c_3
  let main_v13 : IVec S_ 1 := andi main_v8 main_v12
  let main_v14 : FVec F S2048x32 .f32 := Host.absf main_arg3
  let main_cst_4 : FVec F S_ .f32 := constant S_ .f32 0x7F800000#32
  let main_v15 : FVec F S2048x32 .f32 := broadcastInDim S2048x32 ![] bcast_S_S2048x32 main_cst_4
  let main_v16 : IVec S2048x32 1 := cmpf .olt main_v14 main_v15
  fn_part1 (F := F) main_arg4 main_arg5 main_v13 main_v16
-- ==== Pre_finite2.lean ====
abbrev S2048x5632 : Shape := ⟨2, ![2048, 5632]⟩
abbrev S5632x2048 : Shape := ⟨2, ![5632, 2048]⟩
abbrev S2048x2048 : Shape := ⟨2, ![2048, 2048]⟩
abbrev S_ : Shape := ⟨0, ![]⟩

class Facts : Prop where
  bcast_S_S2048x5632 : S_.BroadcastsInDim S2048x5632 (![] : Fin 0 → Fin S2048x5632.rank)
  reducesTo_S2048x5632_S_d0_1 : S2048x5632.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  main_v18

def fn {F : FTy → Type} [FloatOps F] (main_arg0 : FVec F S2048x5632 .f32) (main_arg1 : FVec F S2048x5632 .f32) (main_arg2 : FVec F S5632x2048 .f32) (main_arg3 : FVec F S2048x2048 .f32) : IVec S_ 1 :=
  let main_v0 : FVec F S2048x5632 .f32 := Host.absf main_arg0
  let main_cst : FVec F S_ .f32 := constant S_ .f32 0x7F800000#32
  let main_v1 : FVec F S2048x5632 .f32 := broadcastInDim S2048x5632 ![] bcast_S_S2048x5632 main_cst
  let main_v2 : IVec S2048x5632 1 := cmpf .olt main_v0 main_v1
  let main_c : IVec S_ 1 := constantI S_ 1 1#1
  let main_v3 : IVec S_ 1 := (fun x v => Host.reduce IntOp.andi x v reducesTo_S2048x5632_S_d0_1 h_S_) main_v2 main_c
  let main_v4 : FVec F S2048x5632 .f32 := Host.absf main_arg1
  let main_cst_0 : FVec F S_ .f32 := constant S_ .f32 0x7F800000#32
  let main_v5 : FVec F S2048x5632 .f32 := broadcastInDim S2048x5632 ![] bcast_S_S2048x5632 main_cst_0
  let main_v6 : IVec S2048x5632 1 := cmpf .olt main_v4 main_v5
  let main_c_1 : IVec S_ 1 := constantI S_ 1 1#1
  let main_v7 : IVec S_ 1 := (fun x v => Host.reduce IntOp.andi x v reducesTo_S2048x5632_S_d0_1 h_S_) main_v6 main_c_1
  let main_v8 : IVec S_ 1 := andi main_v3 main_v7
  let main_v9 : FVec F S5632x2048 .f32 := Host.absf main_arg2
  let main_cst_2 : FVec F S_ .f32 := constant S_ .f32 0x7F800000#32
  let main_v10 : FVec F S5632x2048 .f32 := broadcastInDim S5632x2048 ![] bcast_S_S5632x2048 main_cst_2
  let main_v11 : IVec S5632x2048 1 := cmpf .olt main_v9 main_v10
  let main_c_3 : IVec S_ 1 := constantI S_ 1 1#1
  let main_v12 : IVec S_ 1 := (fun x v => Host.reduce IntOp.andi x v reducesTo_S5632x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_v13 main_v16
-- ==== Kernel.lean ====
abbrev S2048x8x192 : Shape := ⟨3, ![2048, 8, 192]⟩
abbrev S2048x8x256 : Shape := ⟨3, ![2048, 8, 256]⟩
abbrev S2048x64 : Shape := ⟨2, ![2048, 64]⟩
abbrev S2048x32 : Shape := ⟨2, ![2048, 32]⟩
abbrev S2048x1024 : Shape := ⟨2, ![2048, 1024]⟩
abbrev S2048x8x128 : Shape := ⟨3, ![2048, 8, 128]⟩
abbrev S2048x8x64 : Shape := ⟨3, ![2048, 8, 64]⟩
abbrev S2048x1x32 : Shape := ⟨3, ![2048, 1, 32]⟩
abbrev S2048x8x32 : Shape := ⟨3, ![2048, 8, 32]⟩
abbrev S2048x1x64 : Shape := ⟨3, ![2048, 1, 64]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2048 : Shape := ⟨2, ![8, 2048]⟩
abbrev S8x2048x1 : Shape := ⟨3, ![8, 2048, 1]⟩
abbrev S8x128x2048 : Shape := ⟨3, ![8, 128, 2048]⟩
abbrev S2048x8 : Shape := ⟨2, ![2048, 8]⟩
abbrev S2048x8x1 : Shape := ⟨3, ![2048, 8, 1]⟩
abbrev S2048x128 : Shape := ⟨2, ![2048, 128]⟩
abbrev S2048x256 : Shape := ⟨2, ![2048, 256]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S512x512 : Shape := ⟨2, ![512, 512]⟩

abbrev nBuf : Space → Nat
  | .hbm => 96
  | .vmem => 28
  | .smem => 0
  | _ => 0

abbrev bufTy : (tb : Table) → Fin (tcTables nBuf tb) → BufTy
  | .hbm, ⟨0, _⟩ => ⟨S2048x8x192, .f32⟩
  | .hbm, ⟨1, _⟩ => ⟨S2048x8x256, .f32⟩
  | .hbm, ⟨2, _⟩ => ⟨S2048x64, .f32⟩
  | .hbm, ⟨3, _⟩ => ⟨S2048x32, .f32⟩
  | .hbm, ⟨4, _⟩ => ⟨S2048x32, .f32⟩
  | .hbm, ⟨5, _⟩ => ⟨S2048x1024, .f32⟩
  | .hbm, ⟨6, _⟩ => ⟨S2048x8x128, .f32⟩
  | .hbm, ⟨7, _⟩ => ⟨S2048x8x64, .f32⟩
  | .hbm, ⟨8, _⟩ => ⟨S2048x1x32, .f32⟩
  | .hbm, ⟨9, _⟩ => ⟨S2048x1x32, .f32⟩
  | .hbm, ⟨10, _⟩ => ⟨S2048x8x32, .f32⟩
  | .hbm, ⟨11, _⟩ => ⟨S2048x8x32, .f32⟩
  | .hbm, ⟨12, _⟩ => ⟨S2048x8x32, .f32⟩
  | .hbm, ⟨13, _⟩ => ⟨S2048x8x32, .f32⟩
  | .hbm, ⟨14, _⟩ => ⟨S2048x8x32, .f32⟩
  | .hbm, ⟨15, _⟩ => ⟨S2048x8x32, .f32⟩
  | .hbm, ⟨16, _⟩ => ⟨S2048x8x32, .f32⟩
  | .hbm, ⟨17, _⟩ => ⟨S2048x8x32, .f32⟩
  | .hbm, ⟨18, _⟩ => ⟨S2048x8x32, .f32⟩
  | .hbm, ⟨19, _⟩ => ⟨S2048x8x32, .f32⟩
  | .hbm, ⟨20, _⟩ => ⟨S2048x8x32, .f32⟩
  | .hbm, ⟨21, _⟩ => ⟨S2048x8x32, .f32⟩
  | .hbm, ⟨22, _⟩ => ⟨S2048x8x64, .f32⟩
  | .hbm, ⟨23, _⟩ => ⟨S2048x8x192, .f32⟩
  | .hbm, ⟨24, _⟩ => ⟨S2048x8x128, .f32⟩
  | .hbm, ⟨25, _⟩ => ⟨S2048x1x64, .f32⟩
  | .hbm, ⟨26, _⟩ => ⟨S2048x8x64, .f32⟩
  | .hbm, ⟨27, _⟩ => ⟨S2048x8x192, .f32⟩
  | .hbm, ⟨28, _⟩ => ⟨S8x2048x2048, .f32⟩
  | .hbm, ⟨29, _⟩ => ⟨S_, .f32⟩
  | .hbm, ⟨30, _⟩ => ⟨S8x2048x2048, .f32⟩
  | .hbm, ⟨31, _⟩ => ⟨S8x2048x2048, .f32⟩
  | .hbm, ⟨32, _⟩ => ⟨S2048, .i32⟩
  | .hbm, ⟨33, _⟩ => ⟨S1x2048, .i32⟩
  | .hbm, ⟨34, _⟩ => ⟨S2048x1, .i32⟩
  | .hbm, ⟨35, _⟩ => ⟨S2048x2048, .i32⟩
  | .hbm, ⟨36, _⟩ => ⟨S2048x2048, .i32⟩
  | .hbm, ⟨37, _⟩ => ⟨S2048x2048, .i1⟩
  | .hbm, ⟨38, _⟩ => ⟨S_, .f32⟩
  | .hbm, ⟨39, _⟩ => ⟨S_, .f32⟩
  | .hbm, ⟨40, _⟩ => ⟨S8x2048x2048, .i1⟩
  | .hbm, ⟨41, _⟩ => ⟨S8x2048x2048, .f32⟩
  | .hbm, ⟨42, _⟩ => ⟨S8x2048x2048, .f32⟩
  | .hbm, ⟨43, _⟩ => ⟨S_, .f32⟩
  | .hbm, ⟨44, _⟩ => ⟨S8x2048, .f32⟩
  | .hbm, ⟨45, _⟩ => ⟨S_, .f32⟩
  | .hbm, ⟨46, _⟩ => ⟨S8x2048, .f32⟩
  | .hbm, ⟨47, _⟩ => ⟨S8x2048, .f32⟩
  | .hbm, ⟨48, _⟩ => ⟨S8x2048x1, .f32⟩
  | .hbm, ⟨49, _⟩ => ⟨S8x2048x2048, .f32⟩
  | .hbm, ⟨50, _⟩ => ⟨S8x2048x2048, .f32⟩
  | .hbm, ⟨51, _⟩ => ⟨S8x2048x2048, .f32⟩
  | .hbm, ⟨52, _⟩ => ⟨S_, .f32⟩
  | .hbm, ⟨53, _⟩ => ⟨S8x2048, .f32⟩
  | .hbm, ⟨54, _⟩ => ⟨S8x2048x1, .f32⟩
  | .hbm, ⟨55, _⟩ => ⟨S8x2048x2048, .f32⟩
  | .hbm, ⟨56, _⟩ => ⟨S8x2048x2048, .f32⟩
  | .hbm, ⟨57, _⟩ => ⟨S2048x8x128, .f32⟩
  | .hbm, ⟨58, _⟩ => ⟨S8x128x2048, .f32⟩
  | .hbm, ⟨59, _⟩ => ⟨S2048x8x128, .f32⟩
  | .hbm, ⟨60, _⟩ => ⟨S2048x1024, .f32⟩
  | .hbm, ⟨61, _⟩ => ⟨S_, .f32⟩
  | .hbm, ⟨62, _⟩ => ⟨S8x2048, .f32⟩
  | .hbm, ⟨63, _⟩ => ⟨S8x2048x1, .f32⟩
  | .hbm, ⟨64, _⟩ => ⟨S8x2048x2048, .f32⟩
  | .hbm, ⟨65, _⟩ => ⟨S8x2048x2048, .f32⟩
  | .hbm, ⟨66, _⟩ => ⟨S8x2048x2048, .f32⟩
  | .hbm, ⟨67, _⟩ => ⟨S_, .f32⟩
  | .hbm, ⟨68, _⟩ => ⟨S8x2048, .f32⟩
  | .hbm, ⟨69, _⟩ => ⟨S8x2048, .f32⟩
  | .hbm, ⟨70, _⟩ => ⟨S8x2048, .f32⟩
  | .hbm, ⟨71, _⟩ => ⟨S2048x8, .f32⟩
  | .hbm, ⟨72, _⟩ => ⟨S2048x8x1, .f32⟩
  | .hbm, ⟨73, _⟩ => ⟨S2048x8x128, .f32⟩
  | .hbm, ⟨74, _⟩ => ⟨S2048x1024, .f32⟩
  | .hbm, ⟨75, _⟩ => ⟨S_, .i32⟩
  | .hbm, ⟨76, _⟩ => ⟨S_, .f32⟩
  | .hbm, ⟨77, _⟩ => ⟨S2048x8x256, .f32⟩
  | .hbm, ⟨78, _⟩ => ⟨S2048x2048, .f32⟩
  | .hbm, ⟨79, _⟩ => ⟨S2048x2048, .bf16⟩
  | .hbm, ⟨80, _⟩ => ⟨S_, .i32⟩
  | .hbm, ⟨81, _⟩ => ⟨S_, .f32⟩
  | .hbm, ⟨82, _⟩ => ⟨S2048x128, .f32⟩
  | .hbm, ⟨83, _⟩ => ⟨S2048x128, .bf16⟩
  | .hbm, ⟨84, _⟩ => ⟨S_, .f32⟩
  | .hbm, ⟨85, _⟩ => ⟨S2048x32, .f32⟩
  | .hbm, ⟨86, _⟩ => ⟨S_, .f32⟩
  | .hbm, ⟨87, _⟩ => ⟨S2048x64, .f32⟩
  | .hbm, ⟨88, _⟩ => ⟨S2048x128, .f32⟩
  | .hbm, ⟨89, _⟩ => ⟨S2048x32, .f32⟩
  | .hbm, ⟨90, _⟩ => ⟨S2048x128, .f32⟩
  | .hbm, ⟨91, _⟩ => ⟨S2048x128, .f32⟩
  | .hbm, ⟨92, _⟩ => ⟨S2048x2048, .f32⟩
  | .hbm, ⟨93, _⟩ => ⟨S2048x2048, .bf16⟩
  | .hbm, ⟨94, _⟩ => ⟨S2048x2048, .f32⟩
  | .hbm, ⟨95, _⟩ => ⟨S2048x1024, .f32⟩
  | .local _ .vmem, ⟨0, _⟩ => ⟨S2048x256, .bf16⟩
  | .local _ .vmem, ⟨1, _⟩ => ⟨S2048x256, .bf16⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .bf16⟩
  | .local _ .vmem, ⟨7, _⟩ => ⟨S512x128, .bf16⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x256, .bf16⟩
  | .local _ .vmem, ⟨18, _⟩ => ⟨S2048x256, .bf16⟩
  | .local _ .vmem, ⟨19, _⟩ => ⟨S512x256, .f32⟩
  | .local _ .vmem, ⟨20, _⟩ => ⟨S512x256, .f32⟩
  | .local _ .vmem, ⟨21, _⟩ => ⟨S512x128, .f32⟩
  | .local _ .vmem, ⟨22, _⟩ => ⟨S512x128, .f32⟩
  | .local _ .vmem, ⟨23, _⟩ => ⟨S512x256, .bf16⟩
  | .local _ .vmem, ⟨24, _⟩ => ⟨S512x128, .bf16⟩
  | .local _ .vmem, ⟨25, _⟩ => ⟨S512x256, .f32⟩
  | .local _ .vmem, ⟨26, _⟩ => ⟨S512x128, .f32⟩
  | .local _ .vmem, ⟨27, _⟩ => ⟨S2048x256, .f32⟩
  | _, _ => ⟨S2048x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_0 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v31 : Ref sig .tc := ⟨.hbm, 42, rfl⟩
abbrev main_cst_1 : Ref sig .tc := ⟨.hbm, 43, rfl⟩
abbrev main_v32 : Ref sig .tc := ⟨.hbm, 44, rfl⟩
abbrev main_cst_2 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_3 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_4 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_5 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_c : Ref sig .tc := ⟨.hbm, 75, rfl⟩
abbrev main_call1_v0 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_c_6 : Ref sig .tc := ⟨.hbm, 80, rfl⟩
abbrev main_call2_v0 : Ref sig .tc := ⟨.hbm, 81, rfl⟩
abbrev main_v62 : Ref sig .tc := ⟨.hbm, 82, rfl⟩
abbrev main_v63 : Ref sig .tc := ⟨.hbm, 83, rfl⟩
abbrev main_cst_7 : Ref sig .tc := ⟨.hbm, 84, rfl⟩
abbrev main_v64 : Ref sig .tc := ⟨.hbm, 85, rfl⟩
abbrev main_cst_8 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71_0 : Ref sig .tc := ⟨.hbm, 93, rfl⟩
abbrev main_v71_1 : Ref sig .tc := ⟨.hbm, 94, rfl⟩
abbrev main_v71_2 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![8, 4], ![false, false]⟩

def k0_cond6 (i : grid0.Coords) : BitVec 1 :=
  let arg1 : BitVec 32 := BitVec.ofNat 32 (i 1).val
  let c3_i32_33 : BitVec 32 := 3#32
  let v46 : BitVec 1 := Scalar.cmpi .eq arg1 c3_i32_33
  let v47 : BitVec 32 := Scalar.extui v46
  let c0_i32_34 : BitVec 32 := 0#32
  let v48 : BitVec 1 := Scalar.cmpi .ne v47 c0_i32_34
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2048x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "neg" => some ⊥
  | _ => none
-- ==== ReferenceIdeal.lean ====
abbrev S2048x8x192 : Shape := ⟨3, ![2048, 8, 192]⟩
abbrev S2048x8x256 : Shape := ⟨3, ![2048, 8, 256]⟩
abbrev S2048x64 : Shape := ⟨2, ![2048, 64]⟩
abbrev S2048x32 : Shape := ⟨2, ![2048, 32]⟩
abbrev S2048x1024 : Shape := ⟨2, ![2048, 1024]⟩
abbrev S2048x1x64 : Shape := ⟨3, ![2048, 1, 64]⟩
abbrev S2048x8x64 : Shape := ⟨3, ![2048, 8, 64]⟩
abbrev S2048x1x32 : Shape := ⟨3, ![2048, 1, 32]⟩
abbrev S2048x8x32 : Shape := ⟨3, ![2048, 8, 32]⟩
abbrev S2048x8x128 : Shape := ⟨3, ![2048, 8, 128]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2048 : Shape := ⟨2, ![8, 2048]⟩
abbrev S8x2048x1 : Shape := ⟨3, ![8, 2048, 1]⟩
abbrev S8x128x2048 : Shape := ⟨3, ![8, 128, 2048]⟩
abbrev S8x2048x192 : Shape := ⟨3, ![8, 2048, 192]⟩

abbrev nBuf : Space → Nat
  | .hbm => 154
  | .vmem => 0
  | .smem => 0
  | _ => 0

abbrev hbmTy0_0 (i : Nat) : BufTy := match i % 128 with
  | 0 => ⟨S2048x8x192, .f32⟩
  | 1 => ⟨S2048x8x256, .f32⟩
  | 2 => ⟨S2048x64, .f32⟩
  | 3 => ⟨S2048x32, .f32⟩
  | 4 => ⟨S2048x32, .f32⟩
  | 5 => ⟨S2048x1024, .f32⟩
  | 6 => ⟨S2048x1x64, .f32⟩
  | 7 => ⟨S2048x8x64, .f32⟩
  | 8 => ⟨S2048x8x64, .f32⟩
  | 9 => ⟨S2048x1x32, .f32⟩
  | 10 => ⟨S2048x1x32, .f32⟩
  | 11 => ⟨S2048x8x32, .f32⟩
  | 12 => ⟨S2048x8x32, .f32⟩
  | 13 => ⟨S2048x8x32, .f32⟩
  | 14 => ⟨S2048x8x32, .f32⟩
  | 15 => ⟨S2048x8x32, .f32⟩
  | 16 => ⟨S2048x8x32, .f32⟩
  | 17 => ⟨S2048x8x32, .f32⟩
  | 18 => ⟨S2048x8x32, .f32⟩
  | 19 => ⟨S2048x8x32, .f32⟩
  | 20 => ⟨S2048x8x32, .f32⟩
  | 21 => ⟨S2048x8x32, .f32⟩
  | 22 => ⟨S2048x8x32, .f32⟩
  | 23 => ⟨S2048x8x64, .f32⟩
  | 24 => ⟨S2048x8x128, .f32⟩
  | 25 => ⟨S2048x8x192, .f32⟩
  | 26 => ⟨S2048x8x128, .f32⟩
  | 27 => ⟨S2048x8x192, .f32⟩
  | 28 => ⟨S2048x8x128, .f32⟩
  | 29 => ⟨S8x2048x2048, .f32⟩
  | 30 => ⟨S_, .f32⟩
  | 31 => ⟨S8x2048x2048, .f32⟩
  | 32 => ⟨S8x2048x2048, .f32⟩
  | 33 => ⟨S2048, .i32⟩
  | 34 => ⟨S1x2048, .i32⟩
  | 35 => ⟨S2048x1, .i32⟩
  | 36 => ⟨S2048x2048, .i32⟩
  | 37 => ⟨S2048x2048, .i32⟩
  | 38 => ⟨S2048x2048, .i1⟩
  | 39 => ⟨S_, .f32⟩
  | 40 => ⟨S_, .f32⟩
  | 41 => ⟨S8x2048x2048, .i1⟩
  | 42 => ⟨S8x2048x2048, .f32⟩
  | 43 => ⟨S8x2048x2048, .f32⟩
  | 44 => ⟨S_, .f32⟩
  | 45 => ⟨S8x2048x2048, .f32⟩
  | 46 => ⟨S_, .f32⟩
  | 47 => ⟨S8x2048, .f32⟩
  | 48 => ⟨S8x2048x1, .f32⟩
  | 49 => ⟨S8x2048x2048, .f32⟩
  | 50 => ⟨S8x2048x2048, .i1⟩
  | 51 => ⟨S8x2048x2048, .f32⟩
  | 52 => ⟨S_, .f32⟩
  | 53 => ⟨S8x2048, .f32⟩
  | 54 => ⟨S_, .f32⟩
  | 55 => ⟨S8x2048, .f32⟩
  | 56 => ⟨S8x2048, .f32⟩
  | 57 => ⟨S_, .f32⟩
  | 58 => ⟨S8x2048, .f32⟩
  | 59 => ⟨S8x2048, .i1⟩
  | 60 => ⟨S_, .f32⟩
  | 61 => ⟨S8x2048, .f32⟩
  | 62 => ⟨S8x2048, .i1⟩
  | 63 => ⟨S_, .f32⟩
  | 64 => ⟨S8x2048, .f32⟩
  | 65 => ⟨S_, .f32⟩
  | 66 => ⟨S8x2048, .f32⟩
  | 67 => ⟨S_, .f32⟩
  | 68 => ⟨S8x2048, .f32⟩
  | 69 => ⟨S8x2048, .f32⟩
  | 70 => ⟨S8x2048, .f32⟩
  | 71 => ⟨S8x2048x1, .f32⟩
  | 72 => ⟨S8x2048x2048, .f32⟩
  | 73 => ⟨S8x2048x2048, .f32⟩
  | 74 => ⟨S8x2048x2048, .f32⟩
  | 75 => ⟨S_, .f32⟩
  | 76 => ⟨S8x2048, .f32⟩
  | 77 => ⟨S8x2048x1, .f32⟩
  | 78 => ⟨S8x2048x2048, .f32⟩
  | 79 => ⟨S8x2048x2048, .f32⟩
  | 80 => ⟨S8x2048x1, .f32⟩
  | 81 => ⟨S_, .f32⟩
  | 82 => ⟨S8x2048x1, .f32⟩
  | 83 => ⟨S8x2048x1, .f32⟩
  | 84 => ⟨S8x128x2048, .f32⟩
  | 85 => ⟨S2048x8x128, .f32⟩
  | 86 => ⟨S2048x1024, .f32⟩
  | 87 => ⟨S2048x8x128, .f32⟩
  | 88 => ⟨S8x128x2048, .f32⟩
  | 89 => ⟨S8x2048x2048, .f32⟩
  | 90 => ⟨S8x128x2048, .f32⟩
  | 91 => ⟨S2048x8x128, .f32⟩
  | 92 => ⟨S8x2048x2048, .f32⟩
  | 93 => ⟨S8x2048x2048, .f32⟩
  | 94 => ⟨S8x2048x2048, .f32⟩
  | 95 => ⟨S_, .f32⟩
  | 96 => ⟨S8x2048, .f32⟩
  | 97 => ⟨S8x2048x1, .f32⟩
  | 98 => ⟨S8x2048x1, .f32⟩
  | 99 => ⟨S8x2048x2048, .f32⟩
  | 100 => ⟨S8x2048x2048, .f32⟩
  | 101 => ⟨S_, .f32⟩
  | 102 => ⟨S8x2048, .f32⟩
  | 103 => ⟨S8x2048x2048, .f32⟩
  | 104 => ⟨S8x2048x2048, .f32⟩
  | 105 => ⟨S8x2048x2048, .f32⟩
  | 106 => ⟨S_, .f32⟩
  | 107 => ⟨S8x2048x2048, .f32⟩
  | 108 => ⟨S8x2048x2048, .f32⟩
  | 109 => ⟨S_, .f32⟩
  | 110 => ⟨S8x2048x2048, .f32⟩
  | 111 => ⟨S8x2048x2048, .f32⟩
  | 112 => ⟨S8x2048x192, .f32⟩
  | 113 => ⟨S2048x8x192, .f32⟩
  | 114 => ⟨S8x2048x192, .f32⟩
  | 115 => ⟨S2048x8x192, .f32⟩
  | 116 => ⟨S_, .f32⟩
  | 117 => ⟨S2048x8x256, .f32⟩
  | 118 => ⟨S2048x8x128, .f32⟩
  | 119 => ⟨S2048x8x64, .f32⟩
  | 120 => ⟨S_, .f32⟩
  | 121 => ⟨S2048x8x256, .f32⟩
  | 122 => ⟨S2048x8x256, .f32⟩
  | 123 => ⟨S2048x8x128, .f32⟩
  | 124 => ⟨S2048x8x64, .f32⟩
  | 125 => ⟨S_, .f32⟩
  | 126 => ⟨S2048x8x192, .f32⟩
  | 127 => ⟨S2048x8x32, .f32⟩
  | _ => ⟨S2048x8x192, .f32⟩

abbrev hbmTy0_1 (i : Nat) : BufTy := match i % 128 with
  | 0 => ⟨S2048x8x32, .f32⟩
  | 1 => ⟨S2048x8x32, .f32⟩
  | 2 => ⟨S2048x8x32, .f32⟩
  | 3 => ⟨S2048x8x32, .f32⟩
  | 4 => ⟨S2048x8x32, .f32⟩
  | 5 => ⟨S2048x8x32, .f32⟩
  | 6 => ⟨S2048x8x32, .f32⟩
  | 7 => ⟨S2048x8x32, .f32⟩
  | 8 => ⟨S2048x8x32, .f32⟩
  | 9 => ⟨S2048x8x32, .f32⟩
  | 10 => ⟨S2048x8x32, .f32⟩
  | 11 => ⟨S2048x8x32, .f32⟩
  | 12 => ⟨S2048x8x64, .f32⟩
  | 13 => ⟨S_, .f32⟩
  | 14 => ⟨S2048x8x192, .f32⟩
  | 15 => ⟨S2048x8x192, .f32⟩
  | 16 => ⟨S_, .i32⟩
  | 17 => ⟨S_, .f32⟩
  | 18 => ⟨S2048x8x256, .f32⟩
  | 19 => ⟨S2048x2048, .f32⟩
  | 20 => ⟨S_, .i32⟩
  | 21 => ⟨S_, .f32⟩
  | 22 => ⟨S2048x8x128, .f32⟩
  | 23 => ⟨S2048x1024, .f32⟩
  | 24 => ⟨S2048x2048, .bf16⟩
  | 25 => ⟨S2048x2048, .f32⟩
  | _ => ⟨S2048x8x192, .f32⟩

abbrev hbmTy (i : Nat) : BufTy := match i / 128 with
  | 0 => hbmTy0_0 i
  | 1 => hbmTy0_1 i
  | _ => ⟨S2048x8x192, .f32⟩

abbrev bufTy : (tb : Table) → Fin (tcTables nBuf tb) → BufTy
  | .hbm, ⟨i, _⟩ => hbmTy i
  | _, _ => ⟨S2048x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_0 : Ref sig .tc := ⟨.hbm, 39, rfl⟩
abbrev main_call0_v0 : Ref sig .tc := ⟨.hbm, 40, rfl⟩
abbrev main_v32_1 : Ref sig .tc := ⟨.hbm, 41, rfl⟩
abbrev main_call0_v2 : Ref sig .tc := ⟨.hbm, 42, rfl⟩
abbrev main_v32_0 : Ref sig .tc := ⟨.hbm, 43, rfl⟩
abbrev main_call0_cst : Ref sig .tc := ⟨.hbm, 44, rfl⟩
abbrev main_v32_2 : Ref sig .tc := ⟨.hbm, 45, rfl⟩
abbrev main_cst_1 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_2 : Ref sig .tc := ⟨.hbm, 52, rfl⟩
abbrev main_v38 : Ref sig .tc := ⟨.hbm, 53, rfl⟩
abbrev main_cst_3 : Ref sig .tc := ⟨.hbm, 54, rfl⟩
abbrev main_v39 : Ref sig .tc := ⟨.hbm, 55, rfl⟩
abbrev main_v40 : Ref sig .tc := ⟨.hbm, 56, rfl⟩
abbrev main_cst_4 : Ref sig .tc := ⟨.hbm, 57, rfl⟩
abbrev main_v41 : Ref sig .tc := ⟨.hbm, 58, rfl⟩
abbrev main_v42 : Ref sig .tc := ⟨.hbm, 59, rfl⟩
abbrev main_cst_5 : Ref sig .tc := ⟨.hbm, 60, rfl⟩
abbrev main_v43 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_10 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_11 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_12 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_call1_cst : Ref sig .tc := ⟨.hbm, 106, rfl⟩
abbrev main_call1_v0 : Ref sig .tc := ⟨.hbm, 107, rfl⟩
abbrev main_v81 : Ref sig .tc := ⟨.hbm, 108, rfl⟩
abbrev main_cst_13 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_14 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_cst_15 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_cst_16 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_cst_17 : Ref sig .tc := ⟨.hbm, 141, rfl⟩
abbrev main_v110 : Ref sig .tc := ⟨.hbm, 142, rfl⟩
abbrev main_v111 : Ref sig .tc := ⟨.hbm, 143, rfl⟩
abbrev main_c : Ref sig .tc := ⟨.hbm, 144, rfl⟩
abbrev main_call2_v0 : Ref sig .tc := ⟨.hbm, 145, rfl⟩
abbrev main_v112 : Ref sig .tc := ⟨.hbm, 146, rfl⟩
abbrev main_v113 : Ref sig .tc := ⟨.hbm, 147, rfl⟩
abbrev main_c_18 : Ref sig .tc := ⟨.hbm, 148, rfl⟩
abbrev main_call3_v0 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩

abbrev nD : Nat := 1
abbrev τ : Topo := Topo.v7x

variable {F : FTy → Type} [FloatOps F]
-- ==== Kernel2.lean ====
abbrev S2048x5632 : Shape := ⟨2, ![2048, 5632]⟩
abbrev S5632x2048 : Shape := ⟨2, ![5632, 2048]⟩
abbrev S2048x2048 : Shape := ⟨2, ![2048, 2048]⟩
abbrev S_ : Shape := ⟨0, ![]⟩
abbrev S8x704x2048 : Shape := ⟨3, ![8, 704, 2048]⟩
abbrev S2048x8x704 : Shape := ⟨3, ![2048, 8, 704]⟩
abbrev S8x2048x704 : Shape := ⟨3, ![8, 2048, 704]⟩
abbrev S8x128 : Shape := ⟨2, ![8, 128]⟩
abbrev S1024x2048 : Shape := ⟨2, ![1024, 2048]⟩
abbrev S1x704x2048 : Shape := ⟨3, ![1, 704, 2048]⟩
abbrev S1x1024x704 : Shape := ⟨3, ![1, 1024, 704]⟩
abbrev S704x2048 : Shape := ⟨2, ![704, 2048]⟩
abbrev S1024x704 : Shape := ⟨2, ![1024, 704]⟩

abbrev nBuf : Space → Nat
  | .hbm => 33
  | .vmem => 13
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S5632x2048, .f32⟩
  | .hbm, ⟨3, _⟩ => ⟨S2048x2048, .f32⟩
  | .hbm, ⟨4, _⟩ => ⟨S2048x5632, .f32⟩
  | .hbm, ⟨5, _⟩ => ⟨S2048x5632, .f32⟩
  | .hbm, ⟨6, _⟩ => ⟨S_, .f32⟩
  | .hbm, ⟨7, _⟩ => ⟨S2048x5632, .f32⟩
  | .hbm, ⟨8, _⟩ => ⟨S2048x5632, .f32⟩
  | .hbm, ⟨9, _⟩ => ⟨S_, .f32⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S2048x5632, .f32⟩
  | .hbm, ⟨16, _⟩ => ⟨S_, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x2048, .bf16⟩
  | .hbm, ⟨23, _⟩ => ⟨S8x704x2048, .f32⟩
  | .hbm, ⟨24, _⟩ => ⟨S8x704x2048, .bf16⟩
  | .hbm, ⟨25, _⟩ => ⟨S2048x8x704, .f32⟩
  | .hbm, ⟨26, _⟩ => ⟨S8x2048x704, .f32⟩
  | .hbm, ⟨27, _⟩ => ⟨S2048x8x704, .f32⟩
  | .hbm, ⟨28, _⟩ => ⟨S8x2048x704, .f32⟩
  | .hbm, ⟨29, _⟩ => ⟨S_, .f32⟩
  | .hbm, ⟨30, _⟩ => ⟨S8x128, .f32⟩
  | .hbm, ⟨31, _⟩ => ⟨S8x2048x704, .bf16⟩
  | .hbm, ⟨32, _⟩ => ⟨S8x2048x704, .bf16⟩
  | .local _ .vmem, ⟨0, _⟩ => ⟨S1024x2048, .bf16⟩
  | .local _ .vmem, ⟨1, _⟩ => ⟨S1024x2048, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x1024x704, .f32⟩
  | .local _ .vmem, ⟨5, _⟩ => ⟨S1x1024x704, .f32⟩
  | .local _ .vmem, ⟨6, _⟩ => ⟨S1x1024x704, .f32⟩
  | .local _ .vmem, ⟨7, _⟩ => ⟨S1x1024x704, .f32⟩
  | .local _ .vmem, ⟨8, _⟩ => ⟨S8x128, .f32⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S1x1024x704, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22_0 : Ref sig .tc := ⟨.hbm, 31, rfl⟩
abbrev main_v22_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S2048x5632 : Shape := ⟨2, ![2048, 5632]⟩
abbrev S5632x2048 : Shape := ⟨2, ![5632, 2048]⟩
abbrev S2048x2048 : Shape := ⟨2, ![2048, 2048]⟩
abbrev S_ : Shape := ⟨0, ![]⟩
abbrev S2048x8x704 : Shape := ⟨3, ![2048, 8, 704]⟩
abbrev S8x2048x704 : Shape := ⟨3, ![8, 2048, 704]⟩

abbrev nBuf : Space → Nat
  | .hbm => 32
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S5632x2048, .f32⟩
  | .hbm, ⟨3, _⟩ => ⟨S2048x2048, .f32⟩
  | .hbm, ⟨4, _⟩ => ⟨S2048x5632, .f32⟩
  | .hbm, ⟨5, _⟩ => ⟨S2048x5632, .f32⟩
  | .hbm, ⟨6, _⟩ => ⟨S_, .f32⟩
  | .hbm, ⟨7, _⟩ => ⟨S2048x5632, .f32⟩
  | .hbm, ⟨8, _⟩ => ⟨S2048x5632, .f32⟩
  | .hbm, ⟨9, _⟩ => ⟨S_, .f32⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x2048, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S2048x8x704, .f32⟩
  | .hbm, ⟨27, _⟩ => ⟨S8x2048x704, .f32⟩
  | .hbm, ⟨28, _⟩ => ⟨S8x2048x704, .bf16⟩
  | .hbm, ⟨29, _⟩ => ⟨S2048x8x704, .f32⟩
  | .hbm, ⟨30, _⟩ => ⟨S8x2048x704, .f32⟩
  | .hbm, ⟨31, _⟩ => ⟨S8x2048x704, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Kernel3.lean ====
abbrev S2048x5632 : Shape := ⟨2, ![2048, 5632]⟩
abbrev S2048x2048 : Shape := ⟨2, ![2048, 2048]⟩
abbrev S2048x8x704 : Shape := ⟨3, ![2048, 8, 704]⟩
abbrev S8x2048x704 : Shape := ⟨3, ![8, 2048, 704]⟩
abbrev S8x704x2048 : Shape := ⟨3, ![8, 704, 2048]⟩
abbrev S1x2048x704 : Shape := ⟨3, ![1, 2048, 704]⟩
abbrev S1x704x2048 : Shape := ⟨3, ![1, 704, 2048]⟩
abbrev S2048x704 : Shape := ⟨2, ![2048, 704]⟩
abbrev S704x2048 : Shape := ⟨2, ![704, 2048]⟩

abbrev nBuf : Space → Nat
  | .hbm => 12
  | .vmem => 9
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S2048x2048, .f32⟩
  | .hbm, ⟨3, _⟩ => ⟨S2048x8x704, .f32⟩
  | .hbm, ⟨4, _⟩ => ⟨S8x2048x704, .f32⟩
  | .hbm, ⟨5, _⟩ => ⟨S8x2048x704, .bf16⟩
  | .hbm, ⟨6, _⟩ => ⟨S2048x8x704, .f32⟩
  | .hbm, ⟨7, _⟩ => ⟨S8x2048x704, .f32⟩
  | .hbm, ⟨8, _⟩ => ⟨S8x2048x704, .bf16⟩
  | .hbm, ⟨9, _⟩ => ⟨S2048x2048, .bf16⟩
  | .hbm, ⟨10, _⟩ => ⟨S8x704x2048, .bf16⟩
  | .hbm, ⟨11, _⟩ => ⟨S8x704x2048, .bf16⟩
  | .local _ .vmem, ⟨0, _⟩ => ⟨S1x2048x704, .bf16⟩
  | .local _ .vmem, ⟨1, _⟩ => ⟨S1x2048x704, .bf16⟩
  | .local _ .vmem, ⟨2, _⟩ => ⟨S1x2048x704, .bf16⟩
  | .local _ .vmem, ⟨3, _⟩ => ⟨S1x2048x704, .bf16⟩
  | .local _ .vmem, ⟨4, _⟩ => ⟨S2048x2048, .bf16⟩
  | .local _ .vmem, ⟨5, _⟩ => ⟨S1x704x2048, .bf16⟩
  | .local _ .vmem, ⟨6, _⟩ => ⟨S1x704x2048, .bf16⟩
  | .local _ .vmem, ⟨7, _⟩ => ⟨S1x704x2048, .bf16⟩
  | .local _ .vmem, ⟨8, _⟩ => ⟨S1x704x2048, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x704x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x704x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩
abbrev S8x704x2048 : Shape := ⟨3, ![8, 704, 2048]⟩

abbrev nBuf : Space → Nat
  | .hbm => 17
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S2048x2048, .f32⟩
  | .hbm, ⟨3, _⟩ => ⟨S_, .f32⟩
  | .hbm, ⟨4, _⟩ => ⟨S2048x5632, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S2048x5632, .f32⟩
  | .hbm, ⟨9, _⟩ => ⟨S5632x2048, .f32⟩
  | .hbm, ⟨10, _⟩ => ⟨S2048x5632, .f32⟩
  | .hbm, ⟨11, _⟩ => ⟨S5632x2048, .f32⟩
  | .hbm, ⟨12, _⟩ => ⟨S8x704x2048, .f32⟩
  | .hbm, ⟨13, _⟩ => ⟨S8x704x2048, .bf16⟩
  | .hbm, ⟨14, _⟩ => ⟨S5632x2048, .f32⟩
  | .hbm, ⟨15, _⟩ => ⟨S8x704x2048, .f32⟩
  | .hbm, ⟨16, _⟩ => ⟨S8x704x2048, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel4.lean ====
abbrev S2048x5632 : Shape := ⟨2, ![2048, 5632]⟩
abbrev S2048x2048 : Shape := ⟨2, ![2048, 2048]⟩
abbrev S_ : Shape := ⟨0, ![]⟩
abbrev S2048x8x704 : Shape := ⟨3, ![2048, 8, 704]⟩
abbrev S8x2048x704 : Shape := ⟨3, ![8, 2048, 704]⟩
abbrev S8x704x2048 : Shape := ⟨3, ![8, 704, 2048]⟩
abbrev S1x2048x704 : Shape := ⟨3, ![1, 2048, 704]⟩
abbrev S1x704x2048 : Shape := ⟨3, ![1, 704, 2048]⟩
abbrev S2048x704 : Shape := ⟨2, ![2048, 704]⟩
abbrev S704x2048 : Shape := ⟨2, ![704, 2048]⟩

abbrev nBuf : Space → Nat
  | .hbm => 18
  | .vmem => 5
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S2048x2048, .f32⟩
  | .hbm, ⟨3, _⟩ => ⟨S2048x5632, .f32⟩
  | .hbm, ⟨4, _⟩ => ⟨S2048x5632, .f32⟩
  | .hbm, ⟨5, _⟩ => ⟨S_, .f32⟩
  | .hbm, ⟨6, _⟩ => ⟨S2048x5632, .f32⟩
  | .hbm, ⟨7, _⟩ => ⟨S2048x5632, .f32⟩
  | .hbm, ⟨8, _⟩ => ⟨S_, .f32⟩
  | .hbm, ⟨9, _⟩ => ⟨S2048x5632, .f32⟩
  | .hbm, ⟨10, _⟩ => ⟨S2048x5632, .f32⟩
  | .hbm, ⟨11, _⟩ => ⟨S2048x5632, .f32⟩
  | .hbm, ⟨12, _⟩ => ⟨S2048x5632, .f32⟩
  | .hbm, ⟨13, _⟩ => ⟨S2048x8x704, .f32⟩
  | .hbm, ⟨14, _⟩ => ⟨S8x2048x704, .f32⟩
  | .hbm, ⟨15, _⟩ => ⟨S8x2048x704, .bf16⟩
  | .hbm, ⟨16, _⟩ => ⟨S2048x2048, .bf16⟩
  | .hbm, ⟨17, _⟩ => ⟨S8x704x2048, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x2048, .bf16⟩
  | .local _ .vmem, ⟨3, _⟩ => ⟨S1x704x2048, .bf16⟩
  | .local _ .vmem, ⟨4, _⟩ => ⟨S1x704x2048, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩
abbrev S8x704x2048 : Shape := ⟨3, ![8, 704, 2048]⟩

abbrev nBuf : Space → Nat
  | .hbm => 20
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S2048x2048, .f32⟩
  | .hbm, ⟨3, _⟩ => ⟨S_, .f32⟩
  | .hbm, ⟨4, _⟩ => ⟨S5632x2048, .f32⟩
  | .hbm, ⟨5, _⟩ => ⟨S2048x5632, .f32⟩
  | .hbm, ⟨6, _⟩ => ⟨S2048x5632, .f32⟩
  | .hbm, ⟨7, _⟩ => ⟨S_, .f32⟩
  | .hbm, ⟨8, _⟩ => ⟨S2048x5632, .f32⟩
  | .hbm, ⟨9, _⟩ => ⟨S2048x5632, .f32⟩
  | .hbm, ⟨10, _⟩ => ⟨S_, .f32⟩
  | .hbm, ⟨11, _⟩ => ⟨S2048x5632, .f32⟩
  | .hbm, ⟨12, _⟩ => ⟨S2048x5632, .f32⟩
  | .hbm, ⟨13, _⟩ => ⟨S2048x5632, .f32⟩
  | .hbm, ⟨14, _⟩ => ⟨S2048x5632, .f32⟩
  | .hbm, ⟨15, _⟩ => ⟨S2048x2048, .f32⟩
  | .hbm, ⟨16, _⟩ => ⟨S2048x5632, .f32⟩
  | .hbm, ⟨17, _⟩ => ⟨S5632x2048, .f32⟩
  | .hbm, ⟨18, _⟩ => ⟨S8x704x2048, .f32⟩
  | .hbm, ⟨19, _⟩ => ⟨S8x704x2048, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩

abbrev nD : Nat := 1
abbrev τ : Topo := Topo.v7x

variable {F : FTy → Type} [FloatOps F]
-- ==== Kernel5.lean ====
abbrev S2048x3392 : Shape := ⟨2, ![2048, 3392]⟩
abbrev S_ : Shape := ⟨0, ![]⟩
abbrev S2048x3456 : Shape := ⟨2, ![2048, 3456]⟩
abbrev S3392x2048 : Shape := ⟨2, ![3392, 2048]⟩
abbrev S3456x2048 : Shape := ⟨2, ![3456, 2048]⟩
abbrev S2048x2048 : Shape := ⟨2, ![2048, 2048]⟩
abbrev S1024x3456 : Shape := ⟨2, ![1024, 3456]⟩
abbrev S3456x512 : Shape := ⟨2, ![3456, 512]⟩
abbrev S1024x512 : Shape := ⟨2, ![1024, 512]⟩

abbrev nBuf : Space → Nat
  | .hbm => 12
  | .vmem => 6
  | .smem => 0
  | _ => 0

abbrev bufTy : (tb : Table) → Fin (tcTables nBuf tb) → BufTy
  | .hbm, ⟨0, _⟩ => ⟨S2048x3392, .f32⟩
  | .hbm, ⟨1, _⟩ => ⟨S2048x3392, .f32⟩
  | .hbm, ⟨2, _⟩ => ⟨S_, .i32⟩
  | .hbm, ⟨3, _⟩ => ⟨S_, .f32⟩
  | .hbm, ⟨4, _⟩ => ⟨S2048x3456, .f32⟩
  | .hbm, ⟨5, _⟩ => ⟨S2048x3456, .bf16⟩
  | .hbm, ⟨6, _⟩ => ⟨S3392x2048, .f32⟩
  | .hbm, ⟨7, _⟩ => ⟨S_, .i32⟩
  | .hbm, ⟨8, _⟩ => ⟨S_, .f32⟩
  | .hbm, ⟨9, _⟩ => ⟨S3456x2048, .f32⟩
  | .hbm, ⟨10, _⟩ => ⟨S3456x2048, .bf16⟩
  | .hbm, ⟨11, _⟩ => ⟨S2048x2048, .f32⟩
  | .local _ .vmem, ⟨0, _⟩ => ⟨S1024x3456, .bf16⟩
  | .local _ .vmem, ⟨1, _⟩ => ⟨S1024x3456, .bf16⟩
  | .local _ .vmem, ⟨2, _⟩ => ⟨S3456x512, .bf16⟩
  | .local _ .vmem, ⟨3, _⟩ => ⟨S3456x512, .bf16⟩
  | .local _ .vmem, ⟨4, _⟩ => ⟨S1024x512, .f32⟩
  | .local _ .vmem, ⟨5, _⟩ => ⟨S1024x512, .f32⟩
  | _, _ => ⟨S2048x3392, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call1_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x3456 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3456x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S2048x3392 : Shape := ⟨2, ![2048, 3392]⟩
abbrev S_ : Shape := ⟨0, ![]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x3392, .f32⟩
  | .hbm, ⟨1, _⟩ => ⟨S2048x3392, .f32⟩
  | .hbm, ⟨2, _⟩ => ⟨S_, .f32⟩
  | .hbm, ⟨3, _⟩ => ⟨S2048x2048, .f32⟩
  | .hbm, ⟨4, _⟩ => ⟨S2048x3392, .f32⟩
  | .hbm, ⟨5, _⟩ => ⟨S2048x2048, .f32⟩
  | _, _ => ⟨S2048x3392, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S2048x3392 : Shape := ⟨2, ![2048, 3392]⟩
abbrev S2048x2048 : Shape := ⟨2, ![2048, 2048]⟩
abbrev S_ : Shape := ⟨0, ![]⟩
abbrev S2048x3456 : Shape := ⟨2, ![2048, 3456]⟩
abbrev S3456x2048 : Shape := ⟨2, ![3456, 2048]⟩
abbrev S2048x256 : Shape := ⟨2, ![2048, 256]⟩
abbrev S3456x256 : Shape := ⟨2, ![3456, 256]⟩

abbrev nBuf : Space → Nat
  | .hbm => 8
  | .vmem => 5
  | .smem => 0
  | _ => 0

abbrev bufTy : (tb : Table) → Fin (tcTables nBuf tb) → BufTy
  | .hbm, ⟨0, _⟩ => ⟨S2048x3392, .f32⟩
  | .hbm, ⟨1, _⟩ => ⟨S2048x2048, .f32⟩
  | .hbm, ⟨2, _⟩ => ⟨S_, .i32⟩
  | .hbm, ⟨3, _⟩ => ⟨S_, .f32⟩
  | .hbm, ⟨4, _⟩ => ⟨S2048x3456, .f32⟩
  | .hbm, ⟨5, _⟩ => ⟨S2048x3456, .bf16⟩
  | .hbm, ⟨6, _⟩ => ⟨S2048x2048, .bf16⟩
  | .hbm, ⟨7, _⟩ => ⟨S3456x2048, .bf16⟩
  | .local _ .vmem, ⟨0, _⟩ => ⟨S2048x3456, .bf16⟩
  | .local _ .vmem, ⟨1, _⟩ => ⟨S2048x256, .bf16⟩
  | .local _ .vmem, ⟨2, _⟩ => ⟨S2048x256, .bf16⟩
  | .local _ .vmem, ⟨3, _⟩ => ⟨S3456x256, .bf16⟩
  | .local _ .vmem, ⟨4, _⟩ => ⟨S3456x256, .bf16⟩
  | _, _ => ⟨S2048x3392, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x3456 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3456x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S2048x3392 : Shape := ⟨2, ![2048, 3392]⟩
abbrev S2048x2048 : Shape := ⟨2, ![2048, 2048]⟩
abbrev S_ : Shape := ⟨0, ![]⟩
abbrev S3392x2048 : Shape := ⟨2, ![3392, 2048]⟩
abbrev S3456x2048 : Shape := ⟨2, ![3456, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x3392, .f32⟩
  | .hbm, ⟨1, _⟩ => ⟨S2048x2048, .f32⟩
  | .hbm, ⟨2, _⟩ => ⟨S_, .f32⟩
  | .hbm, ⟨3, _⟩ => ⟨S2048x3392, .f32⟩
  | .hbm, ⟨4, _⟩ => ⟨S2048x3392, .f32⟩
  | .hbm, ⟨5, _⟩ => ⟨S3392x2048, .f32⟩
  | .hbm, ⟨6, _⟩ => ⟨S2048x3392, .f32⟩
  | .hbm, ⟨7, _⟩ => ⟨S3392x2048, .f32⟩
  | .hbm, ⟨8, _⟩ => ⟨S_, .i32⟩
  | .hbm, ⟨9, _⟩ => ⟨S_, .f32⟩
  | .hbm, ⟨10, _⟩ => ⟨S3456x2048, .f32⟩
  | .hbm, ⟨11, _⟩ => ⟨S3456x2048, .bf16⟩
  | _, _ => ⟨S2048x3392, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel7.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel8.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S2048x1536 : Shape := ⟨2, ![2048, 1536]⟩
abbrev S768x1536 : Shape := ⟨2, ![768, 1536]⟩
abbrev S2048x8x192 : Shape := ⟨3, ![2048, 8, 192]⟩
abbrev S_ : Shape := ⟨0, ![]⟩
abbrev S2048x8x256 : Shape := ⟨3, ![2048, 8, 256]⟩
abbrev S2048x2048 : Shape := ⟨2, ![2048, 2048]⟩
abbrev S1536x768 : Shape := ⟨2, ![1536, 768]⟩
abbrev S8x192x768 : Shape := ⟨3, ![8, 192, 768]⟩
abbrev S8x256x768 : Shape := ⟨3, ![8, 256, 768]⟩
abbrev S2048x768 : Shape := ⟨2, ![2048, 768]⟩
abbrev S512x2048 : Shape := ⟨2, ![512, 2048]⟩
abbrev S512x768 : Shape := ⟨2, ![512, 768]⟩

abbrev nBuf : Space → Nat
  | .hbm => 16
  | .vmem => 5
  | .smem => 0
  | _ => 0

abbrev bufTy : (tb : Table) → Fin (tcTables nBuf tb) → BufTy
  | .hbm, ⟨0, _⟩ => ⟨S2048x1536, .f32⟩
  | .hbm, ⟨1, _⟩ => ⟨S768x1536, .f32⟩
  | .hbm, ⟨2, _⟩ => ⟨S2048x8x192, .f32⟩
  | .hbm, ⟨3, _⟩ => ⟨S_, .i32⟩
  | .hbm, ⟨4, _⟩ => ⟨S_, .f32⟩
  | .hbm, ⟨5, _⟩ => ⟨S2048x8x256, .f32⟩
  | .hbm, ⟨6, _⟩ => ⟨S2048x2048, .f32⟩
  | .hbm, ⟨7, _⟩ => ⟨S2048x2048, .bf16⟩
  | .hbm, ⟨8, _⟩ => ⟨S1536x768, .f32⟩
  | .hbm, ⟨9, _⟩ => ⟨S8x192x768, .f32⟩
  | .hbm, ⟨10, _⟩ => ⟨S_, .i32⟩
  | .hbm, ⟨11, _⟩ => ⟨S_, .f32⟩
  | .hbm, ⟨12, _⟩ => ⟨S8x256x768, .f32⟩
  | .hbm, ⟨13, _⟩ => ⟨S2048x768, .f32⟩
  | .hbm, ⟨14, _⟩ => ⟨S2048x768, .bf16⟩
  | .hbm, ⟨15, _⟩ => ⟨S2048x768, .f32⟩
  | .local _ .vmem, ⟨0, _⟩ => ⟨S512x2048, .bf16⟩
  | .local _ .vmem, ⟨1, _⟩ => ⟨S512x2048, .bf16⟩
  | .local _ .vmem, ⟨2, _⟩ => ⟨S2048x768, .bf16⟩
  | .local _ .vmem, ⟨3, _⟩ => ⟨S512x768, .f32⟩
  | .local _ .vmem, ⟨4, _⟩ => ⟨S512x768, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_call1_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S2048x1536 : Shape := ⟨2, ![2048, 1536]⟩
abbrev S768x1536 : Shape := ⟨2, ![768, 1536]⟩
abbrev S_ : Shape := ⟨0, ![]⟩
abbrev S2048x768 : Shape := ⟨2, ![2048, 768]⟩

abbrev nBuf : Space → Nat
  | .hbm => 6
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S768x1536, .f32⟩
  | .hbm, ⟨2, _⟩ => ⟨S_, .f32⟩
  | .hbm, ⟨3, _⟩ => ⟨S2048x768, .f32⟩
  | .hbm, ⟨4, _⟩ => ⟨S2048x1536, .f32⟩
  | .hbm, ⟨5, _⟩ => ⟨S2048x768, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel10.lean ====
abbrev S2048x1536 : Shape := ⟨2, ![2048, 1536]⟩
abbrev S2048x768 : Shape := ⟨2, ![2048, 768]⟩
abbrev S2048x8x192 : Shape := ⟨3, ![2048, 8, 192]⟩
abbrev S_ : Shape := ⟨0, ![]⟩
abbrev S2048x8x256 : Shape := ⟨3, ![2048, 8, 256]⟩
abbrev S2048x2048 : Shape := ⟨2, ![2048, 2048]⟩
abbrev S2048x512 : Shape := ⟨2, ![2048, 512]⟩
abbrev S512x768 : Shape := ⟨2, ![512, 768]⟩

abbrev nBuf : Space → Nat
  | .hbm => 10
  | .vmem => 5
  | .smem => 0
  | _ => 0

abbrev bufTy : (tb : Table) → Fin (tcTables nBuf tb) → BufTy
  | .hbm, ⟨0, _⟩ => ⟨S2048x1536, .f32⟩
  | .hbm, ⟨1, _⟩ => ⟨S2048x768, .f32⟩
  | .hbm, ⟨2, _⟩ => ⟨S2048x8x192, .f32⟩
  | .hbm, ⟨3, _⟩ => ⟨S_, .i32⟩
  | .hbm, ⟨4, _⟩ => ⟨S_, .f32⟩
  | .hbm, ⟨5, _⟩ => ⟨S2048x8x256, .f32⟩
  | .hbm, ⟨6, _⟩ => ⟨S2048x2048, .f32⟩
  | .hbm, ⟨7, _⟩ => ⟨S2048x2048, .bf16⟩
  | .hbm, ⟨8, _⟩ => ⟨S2048x768, .bf16⟩
  | .hbm, ⟨9, _⟩ => ⟨S2048x768, .bf16⟩
  | .local _ .vmem, ⟨0, _⟩ => ⟨S2048x512, .bf16⟩
  | .local _ .vmem, ⟨1, _⟩ => ⟨S2048x512, .bf16⟩
  | .local _ .vmem, ⟨2, _⟩ => ⟨S2048x768, .bf16⟩
  | .local _ .vmem, ⟨3, _⟩ => ⟨S512x768, .bf16⟩
  | .local _ .vmem, ⟨4, _⟩ => ⟨S512x768, .bf16⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S2048x1536 : Shape := ⟨2, ![2048, 1536]⟩
abbrev S2048x768 : Shape := ⟨2, ![2048, 768]⟩
abbrev S_ : Shape := ⟨0, ![]⟩
abbrev S768x1536 : Shape := ⟨2, ![768, 1536]⟩
abbrev S1536x768 : Shape := ⟨2, ![1536, 768]⟩
abbrev S8x192x768 : Shape := ⟨3, ![8, 192, 768]⟩
abbrev S8x256x768 : Shape := ⟨3, ![8, 256, 768]⟩

abbrev nBuf : Space → Nat
  | .hbm => 14
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x768, .f32⟩
  | .hbm, ⟨2, _⟩ => ⟨S_, .f32⟩
  | .hbm, ⟨3, _⟩ => ⟨S768x1536, .f32⟩
  | .hbm, ⟨4, _⟩ => ⟨S2048x1536, .f32⟩
  | .hbm, ⟨5, _⟩ => ⟨S1536x768, .f32⟩
  | .hbm, ⟨6, _⟩ => ⟨S768x1536, .f32⟩
  | .hbm, ⟨7, _⟩ => ⟨S1536x768, .f32⟩
  | .hbm, ⟨8, _⟩ => ⟨S8x192x768, .f32⟩
  | .hbm, ⟨9, _⟩ => ⟨S_, .i32⟩
  | .hbm, ⟨10, _⟩ => ⟨S_, .f32⟩
  | .hbm, ⟨11, _⟩ => ⟨S8x256x768, .f32⟩
  | .hbm, ⟨12, _⟩ => ⟨S2048x768, .f32⟩
  | .hbm, ⟨13, _⟩ => ⟨S2048x768, .bf16⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel11.lean ====
abbrev S2048x2048 : Shape := ⟨2, ![2048, 2048]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S512x2048, .f32⟩
  | .hbm, ⟨2, _⟩ => ⟨S512x2048, .bf16⟩
  | .hbm, ⟨3, _⟩ => ⟨S2048x512, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x512, .f32⟩
  | .local _ .vmem, ⟨4, _⟩ => ⟨S512x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S2048x2048 : Shape := ⟨2, ![2048, 2048]⟩
abbrev S512x2048 : Shape := ⟨2, ![512, 2048]⟩
abbrev S_ : Shape := ⟨0, ![]⟩
abbrev S2048x512 : Shape := ⟨2, ![2048, 512]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S512x2048, .f32⟩
  | .hbm, ⟨2, _⟩ => ⟨S_, .f32⟩
  | .hbm, ⟨3, _⟩ => ⟨S2048x512, .f32⟩
  | .hbm, ⟨4, _⟩ => ⟨S2048x2048, .f32⟩
  | .hbm, ⟨5, _⟩ => ⟨S2048x512, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel12.lean ====
abbrev S2048x2048 : Shape := ⟨2, ![2048, 2048]⟩
abbrev S2048x512 : Shape := ⟨2, ![2048, 512]⟩
abbrev S512x2048 : Shape := ⟨2, ![512, 2048]⟩
abbrev S512x512 : Shape := ⟨2, ![512, 512]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x512, .f32⟩
  | .hbm, ⟨2, _⟩ => ⟨S2048x512, .bf16⟩
  | .hbm, ⟨3, _⟩ => ⟨S512x2048, .bf16⟩
  | .local _ .vmem, ⟨0, _⟩ => ⟨S2048x512, .bf16⟩
  | .local _ .vmem, ⟨1, _⟩ => ⟨S2048x512, .f32⟩
  | .local _ .vmem, ⟨2, _⟩ => ⟨S2048x512, .f32⟩
  | .local _ .vmem, ⟨3, _⟩ => ⟨S512x512, .bf16⟩
  | .local _ .vmem, ⟨4, _⟩ => ⟨S512x512, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S2048x2048 : Shape := ⟨2, ![2048, 2048]⟩
abbrev S2048x512 : Shape := ⟨2, ![2048, 512]⟩
abbrev S_ : Shape := ⟨0, ![]⟩
abbrev S512x2048 : Shape := ⟨2, ![512, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x512, .f32⟩
  | .hbm, ⟨2, _⟩ => ⟨S_, .f32⟩
  | .hbm, ⟨3, _⟩ => ⟨S512x2048, .f32⟩
  | .hbm, ⟨4, _⟩ => ⟨S2048x2048, .f32⟩
  | .hbm, ⟨5, _⟩ => ⟨S2048x512, .f32⟩
  | .hbm, ⟨6, _⟩ => ⟨S512x2048, .f32⟩
  | .hbm, ⟨7, _⟩ => ⟨S512x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S2048x2048 : Shape := ⟨2, ![2048, 2048]⟩
abbrev S2048x3392 : Shape := ⟨2, ![2048, 3392]⟩
abbrev S3392x2048 : Shape := ⟨2, ![3392, 2048]⟩
abbrev S_ : Shape := ⟨0, ![]⟩
abbrev S3456x2048 : Shape := ⟨2, ![3456, 2048]⟩
abbrev S2048x3456 : Shape := ⟨2, ![2048, 3456]⟩
abbrev S384x2048 : Shape := ⟨2, ![384, 2048]⟩
abbrev S2048x384 : Shape := ⟨2, ![2048, 384]⟩

abbrev nBuf : Space → Nat
  | .hbm => 9
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x3392, .f32⟩
  | .hbm, ⟨2, _⟩ => ⟨S2048x2048, .bf16⟩
  | .hbm, ⟨3, _⟩ => ⟨S3392x2048, .f32⟩
  | .hbm, ⟨4, _⟩ => ⟨S_, .i32⟩
  | .hbm, ⟨5, _⟩ => ⟨S_, .f32⟩
  | .hbm, ⟨6, _⟩ => ⟨S3456x2048, .f32⟩
  | .hbm, ⟨7, _⟩ => ⟨S3456x2048, .bf16⟩
  | .hbm, ⟨8, _⟩ => ⟨S2048x3456, .f32⟩
  | .local _ .vmem, ⟨0, _⟩ => ⟨S2048x2048, .bf16⟩
  | .local _ .vmem, ⟨1, _⟩ => ⟨S384x2048, .bf16⟩
  | .local _ .vmem, ⟨2, _⟩ => ⟨S384x2048, .bf16⟩
  | .local _ .vmem, ⟨3, _⟩ => ⟨S2048x384, .f32⟩
  | .local _ .vmem, ⟨4, _⟩ => ⟨S2048x384, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S384x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S2048x2048 : Shape := ⟨2, ![2048, 2048]⟩
abbrev S2048x3392 : Shape := ⟨2, ![2048, 3392]⟩
abbrev S_ : Shape := ⟨0, ![]⟩
abbrev S2048x3456 : Shape := ⟨2, ![2048, 3456]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x3392, .f32⟩
  | .hbm, ⟨2, _⟩ => ⟨S2048x3392, .f32⟩
  | .hbm, ⟨3, _⟩ => ⟨S_, .i32⟩
  | .hbm, ⟨4, _⟩ => ⟨S_, .f32⟩
  | .hbm, ⟨5, _⟩ => ⟨S2048x3456, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== Kernel14.lean ====
abbrev S2048x768 : Shape := ⟨2, ![2048, 768]⟩
abbrev S768x1536 : Shape := ⟨2, ![768, 1536]⟩
abbrev S1536x768 : Shape := ⟨2, ![1536, 768]⟩
abbrev S8x192x768 : Shape := ⟨3, ![8, 192, 768]⟩
abbrev S_ : Shape := ⟨0, ![]⟩
abbrev S8x256x768 : Shape := ⟨3, ![8, 256, 768]⟩
abbrev S2048x2048 : Shape := ⟨2, ![2048, 2048]⟩
abbrev S512x768 : Shape := ⟨2, ![512, 768]⟩
abbrev S2048x512 : Shape := ⟨2, ![2048, 512]⟩

abbrev nBuf : Space → Nat
  | .hbm => 11
  | .vmem => 5
  | .smem => 0
  | _ => 0

abbrev bufTy : (tb : Table) → Fin (tcTables nBuf tb) → BufTy
  | .hbm, ⟨0, _⟩ => ⟨S2048x768, .f32⟩
  | .hbm, ⟨1, _⟩ => ⟨S768x1536, .f32⟩
  | .hbm, ⟨2, _⟩ => ⟨S2048x768, .bf16⟩
  | .hbm, ⟨3, _⟩ => ⟨S1536x768, .f32⟩
  | .hbm, ⟨4, _⟩ => ⟨S8x192x768, .f32⟩
  | .hbm, ⟨5, _⟩ => ⟨S_, .i32⟩
  | .hbm, ⟨6, _⟩ => ⟨S_, .f32⟩
  | .hbm, ⟨7, _⟩ => ⟨S8x256x768, .f32⟩
  | .hbm, ⟨8, _⟩ => ⟨S2048x768, .f32⟩
  | .hbm, ⟨9, _⟩ => ⟨S2048x768, .bf16⟩
  | .hbm, ⟨10, _⟩ => ⟨S2048x2048, .f32⟩
  | .local _ .vmem, ⟨0, _⟩ => ⟨S2048x768, .bf16⟩
  | .local _ .vmem, ⟨1, _⟩ => ⟨S512x768, .bf16⟩
  | .local _ .vmem, ⟨2, _⟩ => ⟨S512x768, .bf16⟩
  | .local _ .vmem, ⟨3, _⟩ => ⟨S2048x512, .f32⟩
  | .local _ .vmem, ⟨4, _⟩ => ⟨S2048x512, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S2048x768 : Shape := ⟨2, ![2048, 768]⟩
abbrev S768x1536 : Shape := ⟨2, ![768, 1536]⟩
abbrev S2048x1536 : Shape := ⟨2, ![2048, 1536]⟩
abbrev S2048x8x192 : Shape := ⟨3, ![2048, 8, 192]⟩
abbrev S_ : Shape := ⟨0, ![]⟩
abbrev S2048x8x256 : Shape := ⟨3, ![2048, 8, 256]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S768x1536, .f32⟩
  | .hbm, ⟨2, _⟩ => ⟨S2048x1536, .f32⟩
  | .hbm, ⟨3, _⟩ => ⟨S2048x8x192, .f32⟩
  | .hbm, ⟨4, _⟩ => ⟨S_, .i32⟩
  | .hbm, ⟨5, _⟩ => ⟨S_, .f32⟩
  | .hbm, ⟨6, _⟩ => ⟨S2048x8x256, .f32⟩
  | .hbm, ⟨7, _⟩ => ⟨S2048x2048, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel15.lean ====
abbrev S2048x512 : Shape := ⟨2, ![2048, 512]⟩
abbrev S512x2048 : Shape := ⟨2, ![512, 2048]⟩
abbrev S2048x2048 : Shape := ⟨2, ![2048, 2048]⟩
abbrev S512x512 : Shape := ⟨2, ![512, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x512, .f32⟩
  | .hbm, ⟨1, _⟩ => ⟨S512x2048, .f32⟩
  | .hbm, ⟨2, _⟩ => ⟨S2048x512, .bf16⟩
  | .hbm, ⟨3, _⟩ => ⟨S512x2048, .bf16⟩
  | .hbm, ⟨4, _⟩ => ⟨S2048x2048, .f32⟩
  | .local _ .vmem, ⟨0, _⟩ => ⟨S2048x512, .bf16⟩
  | .local _ .vmem, ⟨1, _⟩ => ⟨S512x512, .bf16⟩
  | .local _ .vmem, ⟨2, _⟩ => ⟨S512x512, .bf16⟩
  | .local _ .vmem, ⟨3, _⟩ => ⟨S2048x512, .f32⟩
  | .local _ .vmem, ⟨4, _⟩ => ⟨S2048x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S2048x512 : Shape := ⟨2, ![2048, 512]⟩
abbrev S512x2048 : Shape := ⟨2, ![512, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x2048, .f32⟩
  | .hbm, ⟨2, _⟩ => ⟨S2048x2048, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel16.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference16Ideal.lean ====
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel17.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S1x2048, .f32⟩
  | .hbm, ⟨5, _⟩ => ⟨S2048x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference17Ideal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel18.lean ====
abbrev S2048x5632 : Shape := ⟨2, ![2048, 5632]⟩
abbrev S5632x2048 : Shape := ⟨2, ![5632, 2048]⟩
abbrev S2048x2048 : Shape := ⟨2, ![2048, 2048]⟩
abbrev S2048 : Shape := ⟨1, ![2048]⟩
abbrev S2048x8x704 : Shape := ⟨3, ![2048, 8, 704]⟩
abbrev S8x2048x704 : Shape := ⟨3, ![8, 2048, 704]⟩
abbrev S8x704x2048 : Shape := ⟨3, ![8, 704, 2048]⟩
abbrev S1x2048 : Shape := ⟨2, ![1, 2048]⟩
abbrev S1x128 : Shape := ⟨2, ![1, 128]⟩
abbrev S8x256x704 : Shape := ⟨3, ![8, 256, 704]⟩
abbrev S256x2048 : Shape := ⟨2, ![256, 2048]⟩
abbrev S1x256x704 : Shape := ⟨3, ![1, 256, 704]⟩
abbrev S256x704 : Shape := ⟨2, ![256, 704]⟩
abbrev S1x704x2048 : Shape := ⟨3, ![1, 704, 2048]⟩
abbrev S704x2048 : Shape := ⟨2, ![704, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 15
  | .vmem => 14
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048x8x704, .f32⟩
  | .hbm, ⟨6, _⟩ => ⟨S8x2048x704, .f32⟩
  | .hbm, ⟨7, _⟩ => ⟨S8x2048x704, .bf16⟩
  | .hbm, ⟨8, _⟩ => ⟨S8x704x2048, .f32⟩
  | .hbm, ⟨9, _⟩ => ⟨S8x704x2048, .bf16⟩
  | .hbm, ⟨10, _⟩ => ⟨S1x2048, .f32⟩
  | .hbm, ⟨11, _⟩ => ⟨S1x128, .f32⟩
  | .hbm, ⟨12, _⟩ => ⟨S2048x2048, .f32⟩
  | .hbm, ⟨13, _⟩ => ⟨S2048x2048, .bf16⟩
  | .hbm, ⟨14, _⟩ => ⟨S1x2048, .f32⟩
  | .local _ .vmem, ⟨0, _⟩ => ⟨S8x256x704, .bf16⟩
  | .local _ .vmem, ⟨1, _⟩ => ⟨S8x256x704, .bf16⟩
  | .local _ .vmem, ⟨2, _⟩ => ⟨S8x704x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S1x128, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S1x2048, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x704x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference18Ideal.lean ====
abbrev S2048x5632 : Shape := ⟨2, ![2048, 5632]⟩
abbrev S5632x2048 : Shape := ⟨2, ![5632, 2048]⟩
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S1x128 : Shape := ⟨2, ![1, 128]⟩

abbrev nBuf : Space → Nat
  | .hbm => 78
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x2048, .f32⟩
  | .hbm, ⟨22, _⟩ => ⟨S2048x2048, .f32⟩
  | .hbm, ⟨23, _⟩ => ⟨S1x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S2048, .f32⟩
  | .hbm, ⟨45, _⟩ => ⟨S_, .f32⟩
  | .hbm, ⟨46, _⟩ => ⟨S2048, .f32⟩
  | .hbm, ⟨47, _⟩ => ⟨S2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S_, .f32⟩
  | .hbm, ⟨52, _⟩ => ⟨S2048, .f32⟩
  | .hbm, ⟨53, _⟩ => ⟨S1x2048, .f32⟩
  | .hbm, ⟨54, _⟩ => ⟨S2048x2048, .f32⟩
  | .hbm, ⟨55, _⟩ => ⟨S2048x2048, .f32⟩
  | .hbm, ⟨56, _⟩ => ⟨S_, .f32⟩
  | .hbm, ⟨57, _⟩ => ⟨S2048, .f32⟩
  | .hbm, ⟨58, _⟩ => ⟨S2048x2048, .f32⟩
  | .hbm, ⟨59, _⟩ => ⟨S_, .f32⟩
  | .hbm, ⟨60, _⟩ => ⟨S2048, .f32⟩
  | .hbm, ⟨61, _⟩ => ⟨S2048x1, .f32⟩
  | .hbm, ⟨62, _⟩ => ⟨S2048x2048, .f32⟩
  | .hbm, ⟨63, _⟩ => ⟨S2048x2048, .f32⟩
  | .hbm, ⟨64, _⟩ => ⟨S2048x1, .f32⟩
  | .hbm, ⟨65, _⟩ => ⟨S_, .f32⟩
  | .hbm, ⟨66, _⟩ => ⟨S2048x1, .f32⟩
  | .hbm, ⟨67, _⟩ => ⟨S2048x1, .f32⟩
  | .hbm, ⟨68, _⟩ => ⟨S_, .f32⟩
  | .hbm, ⟨69, _⟩ => ⟨S2048, .f32⟩
  | .hbm, ⟨70, _⟩ => ⟨S2048x2048, .f32⟩
  | .hbm, ⟨71, _⟩ => ⟨S2048x2048, .f32⟩
  | .hbm, ⟨72, _⟩ => ⟨S2048x2048, .f32⟩
  | .hbm, ⟨73, _⟩ => ⟨S2048x2048, .f32⟩
  | .hbm, ⟨74, _⟩ => ⟨S2048x2048, .f32⟩
  | .hbm, ⟨75, _⟩ => ⟨S1x128, .f32⟩
  | .hbm, ⟨76, _⟩ => ⟨S2048x2048, .bf16⟩
  | .hbm, ⟨77, _⟩ => ⟨S1x2048, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_cst_13 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== Kernel19.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 29
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x2048, .f32⟩
  | .hbm, ⟨18, _⟩ => ⟨S2048x2048, .f32⟩
  | .hbm, ⟨19, _⟩ => ⟨S1x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S1x2048, .f32⟩
  | .hbm, ⟨24, _⟩ => ⟨S1x2048, .f32⟩
  | .hbm, ⟨25, _⟩ => ⟨S2048x2048, .f32⟩
  | .hbm, ⟨26, _⟩ => ⟨S2048x2048, .bf16⟩
  | .hbm, ⟨27, _⟩ => ⟨S1x2048, .f32⟩
  | .hbm, ⟨28, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S1x2048, .f32⟩
  | .local _ .vmem, ⟨15, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v16_3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference19Ideal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 102
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x2048, .f32⟩
  | .hbm, ⟨22, _⟩ => ⟨S2048x2048, .f32⟩
  | .hbm, ⟨23, _⟩ => ⟨S1x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S2048x2048, .f32⟩
  | .hbm, ⟨43, _⟩ => ⟨S2048x2048, .f32⟩
  | .hbm, ⟨44, _⟩ => ⟨S1x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S2048x2048, .f32⟩
  | .hbm, ⟨52, _⟩ => ⟨S2048x2048, .f32⟩
  | .hbm, ⟨53, _⟩ => ⟨S_, .f32⟩
  | .hbm, ⟨54, _⟩ => ⟨S2048, .f32⟩
  | .hbm, ⟨55, _⟩ => ⟨S2048x2048, .f32⟩
  | .hbm, ⟨56, _⟩ => ⟨S_, .f32⟩
  | .hbm, ⟨57, _⟩ => ⟨S2048, .f32⟩
  | .hbm, ⟨58, _⟩ => ⟨S2048x1, .f32⟩
  | .hbm, ⟨59, _⟩ => ⟨S2048x2048, .f32⟩
  | .hbm, ⟨60, _⟩ => ⟨S2048x2048, .f32⟩
  | .hbm, ⟨61, _⟩ => ⟨S2048x2048, .f32⟩
  | .hbm, ⟨62, _⟩ => ⟨S2048x1, .f32⟩
  | .hbm, ⟨63, _⟩ => ⟨S_, .f32⟩
  | .hbm, ⟨64, _⟩ => ⟨S2048x1, .f32⟩
  | .hbm, ⟨65, _⟩ => ⟨S2048x1, .f32⟩
  | .hbm, ⟨66, _⟩ => ⟨S_, .f32⟩
  | .hbm, ⟨67, _⟩ => ⟨S2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S2048x2048, .f32⟩
  | .hbm, ⟨73, _⟩ => ⟨S2048x2048, .f32⟩
  | .hbm, ⟨74, _⟩ => ⟨S2048x2048, .f32⟩
  | .hbm, ⟨75, _⟩ => ⟨S_, .f32⟩
  | .hbm, ⟨76, _⟩ => ⟨S2048, .f32⟩
  | .hbm, ⟨77, _⟩ => ⟨S1x2048, .f32⟩
  | .hbm, ⟨78, _⟩ => ⟨S2048x2048, .f32⟩
  | .hbm, ⟨79, _⟩ => ⟨S2048x2048, .f32⟩
  | .hbm, ⟨80, _⟩ => ⟨S_, .f32⟩
  | .hbm, ⟨81, _⟩ => ⟨S2048, .f32⟩
  | .hbm, ⟨82, _⟩ => ⟨S2048x2048, .f32⟩
  | .hbm, ⟨83, _⟩ => ⟨S_, .f32⟩
  | .hbm, ⟨84, _⟩ => ⟨S2048, .f32⟩
  | .hbm, ⟨85, _⟩ => ⟨S2048x1, .f32⟩
  | .hbm, ⟨86, _⟩ => ⟨S2048x2048, .f32⟩
  | .hbm, ⟨87, _⟩ => ⟨S2048x2048, .f32⟩
  | .hbm, ⟨88, _⟩ => ⟨S2048x1, .f32⟩
  | .hbm, ⟨89, _⟩ => ⟨S_, .f32⟩
  | .hbm, ⟨90, _⟩ => ⟨S2048x1, .f32⟩
  | .hbm, ⟨91, _⟩ => ⟨S2048x1, .f32⟩
  | .hbm, ⟨92, _⟩ => ⟨S_, .f32⟩
  | .hbm, ⟨93, _⟩ => ⟨S2048, .f32⟩
  | .hbm, ⟨94, _⟩ => ⟨S2048x2048, .f32⟩
  | .hbm, ⟨95, _⟩ => ⟨S2048x2048, .f32⟩
  | .hbm, ⟨96, _⟩ => ⟨S2048x2048, .f32⟩
  | .hbm, ⟨97, _⟩ => ⟨S2048x2048, .f32⟩
  | .hbm, ⟨98, _⟩ => ⟨S2048x2048, .f32⟩
  | .hbm, ⟨99, _⟩ => ⟨S2048x2048, .bf16⟩
  | .hbm, ⟨100, _⟩ => ⟨S1x2048, .f32⟩
  | .hbm, ⟨101, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩
abbrev main_cst_14 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_15 : Ref sig .tc := ⟨.hbm, 89, rfl⟩
abbrev main_v67 : Ref sig .tc := ⟨.hbm, 90, rfl⟩
abbrev main_v68 : Ref sig .tc := ⟨.hbm, 91, rfl⟩
abbrev main_cst_16 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩

abbrev nD : Nat := 1
abbrev τ : Topo := Topo.v7x

variable {F : FTy → Type} [FloatOps F]
-- ==== Kernel20.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S1x2048, .f32⟩
  | .hbm, ⟨3, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference20Ideal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S1x2048, .f32⟩
  | .hbm, ⟨16, _⟩ => ⟨S2048x2048, .f32⟩
  | .hbm, ⟨17, _⟩ => ⟨S2048x2048, .f32⟩
  | .hbm, ⟨18, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel21.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference21Ideal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S1x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S2048x1, .f32⟩
  | .hbm, ⟨32, _⟩ => ⟨S2048x2048, .f32⟩
  | .hbm, ⟨33, _⟩ => ⟨S2048x2048, .f32⟩
  | .hbm, ⟨34, _⟩ => ⟨S1x2048, .f32⟩
  | .hbm, ⟨35, _⟩ => ⟨S2048x2048, .f32⟩
  | .hbm, ⟨36, _⟩ => ⟨S2048x2048, .f32⟩
  | .hbm, ⟨37, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kernel22.lean ====
abbrev S2048x1024 : Shape := ⟨2, ![2048, 1024]⟩
abbrev S1024 : Shape := ⟨1, ![1024]⟩
abbrev S1x1024 : Shape := ⟨2, ![1, 1024]⟩
abbrev S2048x2048 : Shape := ⟨2, ![2048, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 11
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S2048x1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S2048x2048, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x2048, .bf16⟩
  | .local _ .vmem, ⟨9, _⟩ => ⟨S256x2048, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference22Ideal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x2048 : Shape := ⟨2, ![2048, 2048]⟩

abbrev nBuf : Space → Nat
  | .hbm => 78
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S2048x1024, .f32⟩
  | .hbm, ⟨5, _⟩ => ⟨S1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S2048, .f32⟩
  | .hbm, ⟨47, _⟩ => ⟨S2048x1, .f32⟩
  | .hbm, ⟨48, _⟩ => ⟨S_, .f32⟩
  | .hbm, ⟨49, _⟩ => ⟨S2048x1, .f32⟩
  | .hbm, ⟨50, _⟩ => ⟨S2048x1, .f32⟩
  | .hbm, ⟨51, _⟩ => ⟨S_, .f32⟩
  | .hbm, ⟨52, _⟩ => ⟨S2048x1, .f32⟩
  | .hbm, ⟨53, _⟩ => ⟨S2048x1, .f32⟩
  | .hbm, ⟨54, _⟩ => ⟨S2048x1, .f32⟩
  | .hbm, ⟨55, _⟩ => ⟨S2048x1024, .f32⟩
  | .hbm, ⟨56, _⟩ => ⟨S2048x1024, .f32⟩
  | .hbm, ⟨57, _⟩ => ⟨S1x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S_, .f32⟩
  | .hbm, ⟨62, _⟩ => ⟨S2048, .f32⟩
  | .hbm, ⟨63, _⟩ => ⟨S2048x1, .f32⟩
  | .hbm, ⟨64, _⟩ => ⟨S_, .f32⟩
  | .hbm, ⟨65, _⟩ => ⟨S2048x1, .f32⟩
  | .hbm, ⟨66, _⟩ => ⟨S2048x1, .f32⟩
  | .hbm, ⟨67, _⟩ => ⟨S_, .f32⟩
  | .hbm, ⟨68, _⟩ => ⟨S2048x1, .f32⟩
  | .hbm, ⟨69, _⟩ => ⟨S2048x1, .f32⟩
  | .hbm, ⟨70, _⟩ => ⟨S2048x1, .f32⟩
  | .hbm, ⟨71, _⟩ => ⟨S2048x1024, .f32⟩
  | .hbm, ⟨72, _⟩ => ⟨S2048x1024, .f32⟩
  | .hbm, ⟨73, _⟩ => ⟨S1x1024, .f32⟩
  | .hbm, ⟨74, _⟩ => ⟨S2048x1024, .f32⟩
  | .hbm, ⟨75, _⟩ => ⟨S2048x1024, .f32⟩
  | .hbm, ⟨76, _⟩ => ⟨S2048x2048, .f32⟩
  | .hbm, ⟨77, _⟩ => ⟨S2048x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_v29 : Ref sig .tc := ⟨.hbm, 50, rfl⟩
abbrev main_cst_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩

abbrev nD : Nat := 1
abbrev τ : Topo := Topo.v7x

variable {F : FTy → Type} [FloatOps F]
-- ==== Proof.Gradient.lean ====
module

public import Mathlib.Analysis.SpecialFunctions.Log.Basic
public import Mathlib.Data.EReal.Operations
public import Mathlib.Data.EReal.Inv
public import Mathlib.Algebra.BigOperators.Intervals
public import Mathlib.Tactic.FieldSimp
public import Mathlib.Tactic.Ring
public import Idealize.ShloMosaic.Lib.Pointwise

/-!
# The gradient of causal attention, over the real numbers

The quantities that both programs compute, written as plain sums of real numbers. Every coordinate is a natural number:
`h` a head, `t` a query position, `u` a key position, `d` a feature.
-/

@[expose] public section

noncomputable section

namespace Cert.Attention

open Finset

/-- The arguments as real functions of their coordinates, the rounded scale, and a shift of each row's exponents. -/
structure Inputs where
  /-- queries, by position, head and feature, before the rotation -/
  q : ℕ → ℕ → ℕ → ℝ
  /-- unrotated key features and then values, by position, head and feature -/
  kv : ℕ → ℕ → ℕ → ℝ
  /-- rotated key features, shared by the heads -/
  kp : ℕ → ℕ → ℝ
  /-- cosines -/
  co : ℕ → ℕ → ℝ
  /-- sines -/
  si : ℕ → ℕ → ℝ
  /-- the output's cotangent -/
  g : ℕ → ℕ → ℝ
  /-- the factor of the scores -/
  sc : ℝ
  /-- what is subtracted from the scores of a row before the exponential -/
  mx : ℕ → ℕ → ℝ

namespace Inputs

variable (I : Inputs)

/-- The rotated query, with zeros past its 192 features. -/
def qr (t h d : ℕ) : ℝ :=
  if d < 128 then I.q t h d
  else if d < 160 then I.q t h d * I.co t (d - 128) - I.q t h (d + 32) * I.si t (d - 128)
  else if d < 192 then I.q t h d * I.co t (d - 160) + I.q t h (d - 32) * I.si t (d - 160)
  else 0

/-- The key, with zeros past its 192 features. -/
def kk (u h d : ℕ) : ℝ := if d < 128 then I.kv u h d else if d < 192 then I.kp u (d - 128) else 0

/-- The scaled score. -/
def S (h t u : ℕ) : ℝ := (∑ d ∈ range 192, I.qr t h d * I.kk u h d) * I.sc

/-- The exponential of the shifted score, zero where the key comes after the query. -/
def E (h t u : ℕ) : ℝ := if u ≤ t then Real.exp (I.S h t u - I.mx h t) else 0

/-- The row sum of the exponentials. -/
def L (h t : ℕ) : ℝ := ∑ u ∈ range 2048, I.E h t u

/-- The attention weight. -/
def y (h t u : ℕ) : ℝ := I.E h t u / I.L h t

/-- The attention's output. -/
def o (t h d : ℕ) : ℝ := ∑ u ∈ range 2048, I.kv u h (128 + d) * I.y h t u

/-- The cotangent of the weights. -/
def dp (h t u : ℕ) : ℝ := ∑ d ∈ range 128, I.g t (h * 128 + d) * I.kv u h (128 + d)

/-- The cotangent of the scores before their factor. -/
def ds (h t u : ℕ) : ℝ := I.y h t u * (I.dp h t u - ∑ w ∈ range 2048, I.y h t w * I.dp h t w) * I.sc

/-- The gradient of the values. -/
def dv (u h d : ℕ) : ℝ := ∑ t ∈ range 2048, I.g t (h * 128 + d) * I.y h t u

/-- The gradient of the keys. -/
def dk (u h d : ℕ) : ℝ := ∑ t ∈ range 2048, I.ds h t u * I.qr t h d

/-- The gradient of the rotated queries. -/
def dq (t h d : ℕ) : ℝ := ∑ u ∈ range 2048, I.ds h t u * I.kk u h d

/-- The gradient of the queries: the rotation's transpose of `dq`, with zeros past the 192 features. -/
def dqr (t h d : ℕ) : ℝ :=
  if d < 128 then I.dq t h d
  else if d < 160 then I.dq t h (d + 32) * I.si t (d - 128) + I.dq t h d * I.co t (d - 128)
  else if d < 192 then I.dq t h d * I.co t (d - 160) - I.dq t h (d - 32) * I.si t (d - 160)
  else 0

/-- The gradient of the keys' unrotated features, then of the values. -/
def dkv (u h d : ℕ) : ℝ := if d < 128 then I.dk u h d else I.dv u h (d - 128)

theorem E_nonneg (h t u : ℕ) : 0 ≤ I.E h t u := by
  unfold E; split <;> positivity

theorem L_pos (h t : ℕ) (ht : t < 2048) : 0 < I.L h t := by
  refine sum_pos' (fun u _ => I.E_nonneg h t u) ⟨t, mem_range.2 ht, ?_⟩
  simp [E, Real.exp_pos]

theorem y_of_lt {h t u : ℕ} (hu : t < u) : I.y h t u = 0 := by
  simp [y, E, Nat.not_le.2 hu]

theorem ds_of_lt {h t u : ℕ} (hu : t < u) : I.ds h t u = 0 := by
  simp [ds, I.y_of_lt hu]

/-- The weight as one exponential: the row's shift and the logarithm of its sum subtracted together. -/
theorem exp_sub_lse {h t u : ℕ} (ht : t < 2048) (hu : u ≤ t) :
    Real.exp (I.S h t u - (I.mx h t + Real.log (I.L h t))) = I.y h t u := by
  rw [y, E, if_pos hu, ← sub_sub, Real.exp_sub _ (Real.log _), Real.exp_log (I.L_pos h t ht)]

/-- The row's correction, from the output: the cotangent times the output, summed over the features. -/
theorem sum_g_mul_o (h t : ℕ) :
    ∑ d ∈ range 128, I.g t (h * 128 + d) * I.o t h d = ∑ u ∈ range 2048, I.y h t u * I.dp h t u := by
  simp only [o, dp, mul_sum]
  rw [sum_comm]
  exact sum_congr rfl fun u _ => sum_congr rfl fun d _ => by ring

/-- The scores' cotangent as the quotient's rule writes it. -/
theorem ds_of_quotient {h t u : ℕ} (ht : t < 2048) :
    (I.dp h t u / I.L h t + -(∑ w ∈ range 2048, I.dp h t w * (1 / (I.L h t * I.L h t)) * I.E h t w)) * I.E h t u * I.sc
      = I.ds h t u := by
  have hL := (I.L_pos h t ht).ne'
  have e : ∑ w ∈ range 2048, I.dp h t w * (1 / (I.L h t * I.L h t)) * I.E h t w
      = (∑ w ∈ range 2048, I.y h t w * I.dp h t w) / I.L h t := by
    rw [sum_div]
    exact sum_congr rfl fun w _ => by unfold y; field_simp
  rw [e, ds, y]
  field_simp
  ring

/-- A sum over the 2048 positions, block by block. -/
theorem sum_blocks (f : ℕ → ℝ) :
    ∑ t ∈ range 2048, f t = ∑ i ∈ range 4, ∑ r ∈ range 512, f (512 * i + r) := by
  have h := fun n => sum_range_add f (512 * n) 512
  rw [show (2048 : ℕ) = 512 * 3 + 512 from rfl, h, show 512 * 3 = 512 * 2 + 512 from rfl, h, show 512 * 2 = 512 * 1 + 512 from rfl, h]
  simp [sum_range_succ]

end Inputs

end Cert.Attention

end
-- ==== Proof.RefValue.lean ====
module

public import proofs.«01_k».proof.Proof.Gen.ReferenceIdeal.Read
public import proofs.«01_k».proof.Proof.Gradient

/-!
# The reference's stages as real numbers

Each stage of the reference, at arguments whose entries are real, is the real formula of `Inputs` at the index.
-/

@[expose] public section

set_option maxRecDepth 16384

noncomputable section

namespace Cert.Attention

open Cert.ReferenceIdeal Cert.ReferenceIdeal.Gen Cert.ReferenceIdeal.Read Idealize.ShloMosaic Finset

/-! ## Sums and quotients of reals among the extended reals -/

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [sum_insert ha, sum_insert ha, ih, EReal.coe_add]

/-- A sum over the coordinates of an axis, as a sum over an initial segment of the naturals. -/
theorem coe_sum_fin (n : ℕ) (f : ℕ → ℝ) : ∑ k : Fin n, ((f k : ℝ) : EReal) = ((∑ k ∈ range n, f k : ℝ) : EReal) := by
  rw [coe_sum, Finset.sum_range]

theorem div_coe_coe {x y : ℝ} (hy : y ≠ 0) : Ideal.div (x : EReal) (y : EReal) = ((x / y : ℝ) : EReal) := by
  rw [Ideal.div, if_neg (by exact_mod_cast hy), div_eq_mul_inv, EReal.coe_mul, EReal.coe_inv]

theorem ofBits_neg_inf : Ideal.ofBits .f32 0xFF800000#32 = ⊥ := by simp [Ideal.ofBits, Ideal.ieee]

theorem ofBits_one : Ideal.ofBits .f32 0x3F800000#32 = ((1 : ℝ) : EReal) := by
  simp [Ideal.ofBits, Ideal.ieee, -EReal.coe_mul]; norm_num

/-- The factor of the scores, a real number. -/
def scale : ℝ := (Ideal.ofBits .f32 0x3D93CD3A#32).toReal

theorem ofBits_scale : Ideal.ofBits .f32 0x3D93CD3A#32 = (scale : EReal) := by
  unfold scale
  simp [Ideal.ofBits, Ideal.ieee, -EReal.coe_mul]

theorem max_neg_inf (a : EReal) : FloatOps.maximumf (F := Ideal) (φ := .f32) (FloatOps.ofBits .f32 0xFF800000#32) a = a := by
  rw [show FloatOps.ofBits (F := Ideal) .f32 0xFF800000#32 = (⊥ : EReal) from ofBits_neg_inf]
  exact max_eq_right bot_le

theorem exp_bot : Ideal.exp ⊥ = ((0 : ℝ) : EReal) := rfl

theorem exp_coe (r : ℝ) : Ideal.exp (r : EReal) = ((Real.exp r : ℝ) : EReal) := rfl

theorem sitofp_zero : (FloatOps.sitofp (F := Ideal) .f32 (0#32 : BitVec 32) : EReal) = ((0 : ℝ) : EReal) := by
  show (((0#32 : BitVec 32).toInt : ℝ) : EReal) = _
  simp

/-- A maximum of values below `⊤`, one of them above `⊥`, is a real number. -/
theorem fold_max_real {ι : Type*} [DecidableEq ι] (s : Finset ι) (f : ι → EReal) (hT : ∀ i ∈ s, f i ≠ ⊤) (i : ι) (hi : i ∈ s)
    (hB : f i ≠ ⊥) : ∃ r : ℝ, s.fold max ⊥ f = r := by
  have h1 : s.fold max ⊥ f < ⊤ := (Finset.fold_max_lt (c := (⊤ : EReal))).2 ⟨bot_lt_top, fun j hj => lt_top_iff_ne_top.2 (hT j hj)⟩
  have h2 : ⊥ < s.fold max ⊥ f := (Finset.lt_fold_max _).2 (Or.inr ⟨i, hi, bot_lt_iff_ne_bot.2 hB⟩)
  exact ⟨_, (EReal.coe_toReal h1.ne h2.ne').symm⟩

variable (x0 : (⟨S2048x8x192, .f32⟩ : BufTy).Contents (Elt Ideal)) (x1 : (⟨S2048x8x256, .f32⟩ : BufTy).Contents (Elt Ideal))
  (x2 : (⟨S2048x64, .f32⟩ : BufTy).Contents (Elt Ideal)) (x3 x4 : (⟨S2048x32, .f32⟩ : BufTy).Contents (Elt Ideal))
  (x5 : (⟨S2048x1024, .f32⟩ : BufTy).Contents (Elt Ideal))

/-- The value at natural coordinates, each reduced modulo its extent. -/
def at2 {a b : ℕ} (ha : 0 < a) (hb : 0 < b) (x : (⟨2, ![a, b]⟩ : Shape).Idx → EReal) (i j : ℕ) : ℝ :=
  (x (ix2 ⟨i % a, Nat.mod_lt _ ha⟩ ⟨j % b, Nat.mod_lt _ hb⟩)).toReal

def at3 {a b c : ℕ} (ha : 0 < a) (hb : 0 < b) (hc : 0 < c) (x : (⟨3, ![a, b, c]⟩ : Shape).Idx → EReal) (i j k : ℕ) : ℝ :=
  (x (ix3 ⟨i % a, Nat.mod_lt _ ha⟩ ⟨j % b, Nat.mod_lt _ hb⟩ ⟨k % c, Nat.mod_lt _ hc⟩)).toReal

theorem at2_coe_of {a b : ℕ} (ha : 0 < a) (hb : 0 < b) (x : (⟨2, ![a, b]⟩ : Shape).Idx → EReal) (i : Fin a) (j : Fin b)
    (hx : ∃ r : ℝ, x (ix2 i j) = r) : x (ix2 i j) = (at2 ha hb x i j : EReal) := by
  obtain ⟨r, hr⟩ := hx
  simp only [at2, Nat.mod_eq_of_lt i.isLt, Nat.mod_eq_of_lt j.isLt, Fin.eta, hr, EReal.toReal_coe]

theorem at2_coe {a b : ℕ} (ha : 0 < a) (hb : 0 < b) (x : (⟨2, ![a, b]⟩ : Shape).Idx → EReal) (hx : ∀ i, ∃ r : ℝ, x i = r)
    (i : Fin a) (j : Fin b) : x (ix2 i j) = (at2 ha hb x i j : EReal) := by
  obtain ⟨r, hr⟩ := hx (ix2 i j)
  simp only [at2, Nat.mod_eq_of_lt i.isLt, Nat.mod_eq_of_lt j.isLt, Fin.eta, hr, EReal.toReal_coe]

theorem at3_coe {a b c : ℕ} (ha : 0 < a) (hb : 0 < b) (hc : 0 < c) (x : (⟨3, ![a, b, c]⟩ : Shape).Idx → EReal)
    (hx : ∀ i, ∃ r : ℝ, x i = r) (i : Fin a) (j : Fin b) (k : Fin c) : x (ix3 i j k) = (at3 ha hb hc x i j k : EReal) := by
  obtain ⟨r, hr⟩ := hx (ix3 i j k)
  simp only [at3, Nat.mod_eq_of_lt i.isLt, Nat.mod_eq_of_lt j.isLt, Nat.mod_eq_of_lt k.isLt, Fin.eta, hr, EReal.toReal_coe]

/-- The arguments' entries as reals; a row's shift is the maximum of its masked scores. -/
def inputs : Inputs where
  q := at3 (by decide) (by decide) (by decide) x0
  kv := at3 (by decide) (by decide) (by decide) x1
  kp := at2 (by decide) (by decide) x2
  co := at2 (by decide) (by decide) x3
  si := at2 (by decide) (by decide) x4
  g := at2 (by decide) (by decide) x5
  sc := scale
  mx := at2 (a := 8) (b := 2048) (by decide) (by decide) (val_main_v33 (F := Ideal) x0 x1 x2 x3 x4)

theorem inputs_sc : (inputs x0 x1 x2 x3 x4 x5).sc = scale := by
  rw [inputs]

theorem inputs_mx : (inputs x0 x1 x2 x3 x4 x5).mx
    = at2 (a := 8) (b := 2048) (by decide) (by decide) (val_main_v33 (F := Ideal) x0 x1 x2 x3 x4) := by
  rw [inputs]

/-- Every entry of the six arguments is a real number. -/
structure Reals : Prop where
  h0 : ∀ i, ∃ r : ℝ, x0 i = r
  h1 : ∀ i, ∃ r : ℝ, x1 i = r
  h2 : ∀ i, ∃ r : ℝ, x2 i = r
  h3 : ∀ i, ∃ r : ℝ, x3 i = r
  h4 : ∀ i, ∃ r : ℝ, x4 i = r
  h5 : ∀ i, ∃ r : ℝ, x5 i = r

variable {x0 x1 x2 x3 x4 x5} (H : Reals x0 x1 x2 x3 x4 x5)
include H

theorem q_at (t : Fin 2048) (h : Fin 8) (d : Fin 192) : x0 (ix3 t h d) = ((inputs x0 x1 x2 x3 x4 x5).q t h d : EReal) := at3_coe (by decide) (by decide) (by decide) x0 H.h0 t h d
theorem kv_at (t : Fin 2048) (h : Fin 8) (d : Fin 256) : x1 (ix3 t h d) = ((inputs x0 x1 x2 x3 x4 x5).kv t h d : EReal) := at3_coe (by decide) (by decide) (by decide) x1 H.h1 t h d
theorem kp_at (t : Fin 2048) (d : Fin 64) : x2 (ix2 t d) = ((inputs x0 x1 x2 x3 x4 x5).kp t d : EReal) := at2_coe (by decide) (by decide) x2 H.h2 t d
theorem co_at (t : Fin 2048) (d : Fin 32) : x3 (ix2 t d) = ((inputs x0 x1 x2 x3 x4 x5).co t d : EReal) := at2_coe (by decide) (by decide) x3 H.h3 t d
theorem si_at (t : Fin 2048) (d : Fin 32) : x4 (ix2 t d) = ((inputs x0 x1 x2 x3 x4 x5).si t d : EReal) := at2_coe (by decide) (by decide) x4 H.h4 t d
theorem g_at (t : Fin 2048) (d : Fin 1024) : x5 (ix2 t d) = ((inputs x0 x1 x2 x3 x4 x5).g t d : EReal) := at2_coe (by decide) (by decide) x5 H.h5 t d

/-! ## The stages -/

theorem v11_at (t : Fin 2048) (h : Fin 8) (d : Fin 32) : val_main_v11 (F := Ideal) x0 x3 x4 (ix3 t h d)
    = (((inputs x0 x1 x2 x3 x4 x5).q t h (128 + d) * (inputs x0 x1 x2 x3 x4 x5).co t d - (inputs x0 x1 x2 x3 x4 x5).q t h (128 + (32 + d)) * (inputs x0 x1 x2 x3 x4 x5).si t d : ℝ) : EReal) := by
  pointwise [val_main_v11, val_main_v10, val_main_v9, val_main_v8, val_main_v7, val_main_v6, val_main_v5, val_main_v4, val_main_v3, val_main_v2,
    q_at H, co_at H, si_at H, EReal.coe_mul, EReal.coe_sub]

theorem v16_at (t : Fin 2048) (h : Fin 8) (d : Fin 32) : val_main_v16 (F := Ideal) x0 x3 x4 (ix3 t h d)
    = (((inputs x0 x1 x2 x3 x4 x5).q t h (128 + (32 + d)) * (inputs x0 x1 x2 x3 x4 x5).co t d + (inputs x0 x1 x2 x3 x4 x5).q t h (128 + d) * (inputs x0 x1 x2 x3 x4 x5).si t d : ℝ) : EReal) := by
  pointwise [val_main_v16, val_main_v15, val_main_v14, val_main_v13, val_main_v12, val_main_v6, val_main_v5, val_main_v4, val_main_v3, val_main_v2,
    q_at H, co_at H, si_at H, EReal.coe_mul, EReal.coe_add]

/-- The rotated queries. -/
theorem v19_at (t : Fin 2048) (h : Fin 8) (d : Fin 192) : val_main_v19 (F := Ideal) x0 x3 x4 (ix3 t h d) = ((inputs x0 x1 x2 x3 x4 x5).qr t h d : EReal) := by
  pointwise [val_main_v19, val_main_v18, val_main_v17, v11_at H, v16_at H, q_at H]
  have hd := d.isLt
  unfold Inputs.qr
  split
  · rfl
  · split
    · rw [if_pos (show (d : ℕ) < 160 by omega), show 128 + (32 + ((d : ℕ) - 128)) = d + 32 by omega, show 128 + ((d : ℕ) - 128) = d by omega]
    · rw [if_neg (show ¬(d : ℕ) < 160 by omega), show 128 + (32 + ((d : ℕ) - 128 - 32)) = d by omega,
        show 128 + ((d : ℕ) - 128 - 32) = d - 32 by omega, show (d : ℕ) - 128 - 32 = d - 160 by omega]

/-- The keys. -/
theorem v21_at (t : Fin 2048) (h : Fin 8) (d : Fin 192) : val_main_v21 (F := Ideal) x1 x2 (ix3 t h d) = ((inputs x0 x1 x2 x3 x4 x5).kk t h d : EReal) := by
  pointwise [val_main_v21, val_main_v20, val_main_v1, val_main_v0, kv_at H, kp_at H]
  have hd := d.isLt
  unfold Inputs.kk
  split
  · rfl
  · rfl

/-- The values. -/
theorem v22_at (t : Fin 2048) (h : Fin 8) (d : Fin 128) : val_main_v22 (F := Ideal) x1 (ix3 t h d) = ((inputs x0 x1 x2 x3 x4 x5).kv t h (128 + d) : EReal) := by
  pointwise [val_main_v22, kv_at H]

/-- The scaled scores. -/
theorem v25_at (h : Fin 8) (t u : Fin 2048) : val_main_v25 (F := Ideal) x0 x1 x2 x3 x4 (ix3 h t u) = ((inputs x0 x1 x2 x3 x4 x5).S h t u : EReal) := by
  pointwise [val_main_v25, val_main_v23, val_main_v24, val_main_cst, v19_at H, v21_at H, dot_S2048x8x192_S2048x8x192_S8x2048x2048_2_2_0_0_1_1, ofBits_scale,
    ← EReal.coe_mul, Inputs.S]
  rw [coe_sum_fin 192 fun d => (inputs x0 x1 x2 x3 x4 x5).qr t h d * (inputs x0 x1 x2 x3 x4 x5).kk u h d, ← EReal.coe_mul]
  rfl

omit H in
/-- The mask: a key no later than the query. -/
theorem v31_at (t u : Fin 2048) : val_main_v31 (F := Ideal) (ix2 t u) = if (u : ℕ) ≤ t then 1#1 else 0#1 := by
  pointwise [val_main_v31, val_main_v29, val_main_v30, val_main_v28, val_main_v27, val_main_v26]
  have ht := t.isLt
  have hu := u.isLt
  unfold IntOp.cmpi
  have e : (BitVec.ofNat 32 u).sle (BitVec.ofNat 32 t) = decide ((u : ℕ) ≤ t) := by
    rw [BitVec.sle_eq_decide, BitVec.toInt_eq_toNat_of_lt (by simp; omega), BitVec.toInt_eq_toNat_of_lt (by simp; omega),
      BitVec.toNat_ofNat, BitVec.toNat_ofNat, Nat.mod_eq_of_lt (by omega), Nat.mod_eq_of_lt (by omega)]
    exact decide_eq_decide.2 Nat.cast_le
  simp only [e]
  by_cases h : (u : ℕ) ≤ t <;> simp [h]

/-- The masked scores. -/
theorem v32_at (h : Fin 8) (t u : Fin 2048) : val_main_v32_0 (F := Ideal) x0 x1 x2 x3 x4 (ix3 h t u)
    = if (u : ℕ) ≤ t then ((inputs x0 x1 x2 x3 x4 x5).S h t u : EReal) else ⊥ := by
  pointwise [val_main_v32_0, val_main_v32_1, v25_at H, val_main_call0_v2, val_main_call0_v0, val_main_cst_0, id, ofBits_neg_inf]
  rw [v31_at]
  unfold Scalar.select
  split <;> rfl

/-- A row's maximum is a real number. -/
theorem v33_real (h : Fin 8) (t : Fin 2048) : ∃ r : ℝ, val_main_v33 (F := Ideal) x0 x1 x2 x3 x4 (ix2 h t) = r := by
  pointwise [val_main_v33, v32_at H,  val_main_cst_1, ofBits_neg_inf]
  refine fold_max_real univ _ (fun u _ => ?_) t (mem_univ t) ?_
  · split
    · exact EReal.coe_ne_top _
    · exact bot_ne_top
  · rw [if_pos le_rfl]; exact EReal.coe_ne_bot _

theorem v33_at (h : Fin 8) (t : Fin 2048) : val_main_v33 (F := Ideal) x0 x1 x2 x3 x4 (ix2 h t) = ((inputs x0 x1 x2 x3 x4 x5).mx h t : EReal) := by
  rw [inputs_mx]
  exact at2_coe_of (by decide) (by decide) _ h t (v33_real H h t)

theorem v40_at (h : Fin 8) (t : Fin 2048) : val_main_v40 (F := Ideal) x0 x1 x2 x3 x4 (ix2 h t) = ((inputs x0 x1 x2 x3 x4 x5).mx h t : EReal) := by
  rw [val_main_v40_apply, val_main_v39_apply, val_main_cst_3_apply, v33_at H]
  exact max_neg_inf _

theorem v52_at (h : Fin 8) (t u : Fin 2048) : val_main_v52 (F := Ideal) x0 x1 x2 x3 x4 (ix3 h t u)
    = (if (u : ℕ) ≤ t then ((inputs x0 x1 x2 x3 x4 x5).S h t u : EReal) else ⊥) - ((inputs x0 x1 x2 x3 x4 x5).mx h t : EReal) := by
  pointwise [val_main_v52, val_main_v51, val_main_v50, v32_at H, v40_at H]

/-- The exponentials. -/
theorem v53_at (h : Fin 8) (t u : Fin 2048) : val_main_v53 (F := Ideal) x0 x1 x2 x3 x4 (ix3 h t u) = ((inputs x0 x1 x2 x3 x4 x5).E h t u : EReal) := by
  pointwise [val_main_v53, v52_at H]
  unfold Inputs.E
  by_cases hu : (u : ℕ) ≤ t
  · rw [if_pos hu, if_pos hu, ← EReal.coe_sub, exp_coe]
  · rw [if_neg hu, if_neg hu, EReal.bot_sub, exp_bot]

/-- The row sums. -/
theorem v54_at (h : Fin 8) (t : Fin 2048) : val_main_v54 (F := Ideal) x0 x1 x2 x3 x4 (ix2 h t) = ((inputs x0 x1 x2 x3 x4 x5).L h t : EReal) := by
  pointwise [val_main_v54, v53_at H, val_main_cst_9]
  exact coe_sum_fin 2048 fun u => (inputs x0 x1 x2 x3 x4 x5).E h t u

/-- The weights. -/
theorem v57_at (h : Fin 8) (t u : Fin 2048) : val_main_v57 (F := Ideal) x0 x1 x2 x3 x4 (ix3 h t u) = ((inputs x0 x1 x2 x3 x4 x5).y h t u : EReal) := by
  pointwise [val_main_v57, val_main_v56, val_main_v55, v53_at H, v54_at H]
  exact div_coe_coe ((inputs x0 x1 x2 x3 x4 x5).L_pos h t t.isLt).ne'

/-- The attention's output. -/
theorem v63_at (t : Fin 2048) (c : Fin 1024) : val_main_v63 (F := Ideal) x0 x1 x2 x3 x4 (ix2 t c) = ((inputs x0 x1 x2 x3 x4 x5).o t (c / 128) (c % 128) : EReal) := by
  pointwise [val_main_v63, val_main_v62, val_main_v61, v22_at H, v57_at H, dot_S2048x8x128_S8x2048x2048_S8x128x2048_0_2_2_1_1_0, ← EReal.coe_mul]
  exact coe_sum_fin 2048 fun u => (inputs x0 x1 x2 x3 x4 x5).kv u (c / 128) (128 + c % 128) * (inputs x0 x1 x2 x3 x4 x5).y (c / 128) t u

/-- The cotangent of the weights. -/
theorem v66_at (h : Fin 8) (t u : Fin 2048) : val_main_v66 (F := Ideal) x1 x5 (ix3 h t u) = ((inputs x0 x1 x2 x3 x4 x5).dp h t u : EReal) := by
  pointwise [val_main_v66, val_main_v65, val_main_v64, v22_at H, g_at H, dot_S8x128x2048_S2048x8x128_S8x2048x2048_1_2_2_0_0_1, ← EReal.coe_mul]
  exact coe_sum_fin 128 fun x => (inputs x0 x1 x2 x3 x4 x5).g t (h * 128 + x) * (inputs x0 x1 x2 x3 x4 x5).kv u h (128 + x)

/-- The values' gradient. -/
theorem v67_at (h : Fin 8) (d : Fin 128) (u : Fin 2048) : val_main_v67 (F := Ideal) x0 x1 x2 x3 x4 x5 (ix3 h d u) = ((inputs x0 x1 x2 x3 x4 x5).dv u h d : EReal) := by
  pointwise [val_main_v67, val_main_v65, val_main_v64, v57_at H, g_at H, dot_S8x128x2048_S8x2048x2048_S8x128x2048_2_1_1_2_0_0, ← EReal.coe_mul]
  exact coe_sum_fin 2048 fun x => (inputs x0 x1 x2 x3 x4 x5).g x (h * 128 + d) * (inputs x0 x1 x2 x3 x4 x5).y h x u

/-- The scores' cotangent. -/
theorem v83_at (h : Fin 8) (t u : Fin 2048) : val_main_v83 (F := Ideal) x0 x1 x2 x3 x4 x5 (ix3 h t u) = ((inputs x0 x1 x2 x3 x4 x5).ds h t u : EReal) := by
  pointwise [val_main_v83, val_main_v82, val_main_v81, val_main_v80, val_main_v79, val_main_v78, val_main_v77, val_main_v76, val_main_v75, val_main_v74,
    val_main_v73, val_main_v72, val_main_v71, val_main_v70, val_main_v69, val_main_v60, val_main_v59, val_main_v58, val_main_v55, val_main_cst_10, val_main_cst_11,
    val_main_cst_12, val_main_cst_13, val_main_call1_v0, val_main_call1_cst, val_main_v32_1, v53_at H, v54_at H, v66_at H, ofBits_scale, ofBits_one, ← EReal.coe_mul]
  rw [v31_at]
  have hL := ((inputs x0 x1 x2 x3 x4 x5).L_pos h t t.isLt).ne'
  by_cases hu : (u : ℕ) ≤ t
  · rw [if_pos hu, ← (inputs x0 x1 x2 x3 x4 x5).ds_of_quotient t.isLt, div_coe_coe hL, div_coe_coe (mul_ne_zero hL hL)]
    rw [Scalar.select, if_pos (by rfl)]
    simp only [Finset.univ_unique, Finset.sum_singleton, ← EReal.coe_mul, ← EReal.coe_neg, ← EReal.coe_add]
    rw [coe_sum_fin 2048 fun w => (inputs x0 x1 x2 x3 x4 x5).dp h t w * (1 / ((inputs x0 x1 x2 x3 x4 x5).L h t * (inputs x0 x1 x2 x3 x4 x5).L h t)) * (inputs x0 x1 x2 x3 x4 x5).E h t w, ← EReal.coe_neg, ← EReal.coe_add, ← EReal.coe_mul, ← EReal.coe_mul]
    exact congrArg _ (congrArg _ (inputs_sc (x0 := x0) (x1 := x1) (x2 := x2) (x3 := x3) (x4 := x4) (x5 := x5)).symm)
  · rw [if_neg hu, (inputs x0 x1 x2 x3 x4 x5).ds_of_lt (not_le.1 hu)]
    simp [Scalar.select]

/-- The keys' gradient. -/
theorem v85_at (u : Fin 2048) (h : Fin 8) (d : Fin 192) : val_main_v85 (F := Ideal) x0 x1 x2 x3 x4 x5 (ix3 u h d) = ((inputs x0 x1 x2 x3 x4 x5).dk u h d : EReal) := by
  pointwise [val_main_v85, val_main_v84, v83_at H, v19_at H, dot_S8x2048x2048_S2048x8x192_S8x2048x192_1_0_2_2_0_1, ← EReal.coe_mul]
  exact coe_sum_fin 2048 fun t => (inputs x0 x1 x2 x3 x4 x5).ds h t u * (inputs x0 x1 x2 x3 x4 x5).qr t h d

/-- The rotated queries' gradient. -/
theorem v87_at (t : Fin 2048) (h : Fin 8) (d : Fin 192) : val_main_v87 (F := Ideal) x0 x1 x2 x3 x4 x5 (ix3 t h d) = ((inputs x0 x1 x2 x3 x4 x5).dq t h d : EReal) := by
  pointwise [val_main_v87, val_main_v86, v83_at H, v21_at H, dot_S8x2048x2048_S2048x8x192_S8x2048x192_2_0_1_2_0_1, ← EReal.coe_mul]
  exact coe_sum_fin 2048 fun u => (inputs x0 x1 x2 x3 x4 x5).ds h t u * (inputs x0 x1 x2 x3 x4 x5).kk u h d

/-! ## The results -/

/-- The gradient of the unrotated keys and of the values. -/
theorem v117_at (u c : Fin 2048) : val_main_v117 (F := Ideal) x0 x1 x2 x3 x4 x5 (ix2 u c) = ((inputs x0 x1 x2 x3 x4 x5).dkv u (c / 256) (c % 256) : EReal) := by
  pointwise [val_main_v117, val_main_v92, val_main_v91, val_main_v89, val_main_v88, val_main_v68, v67_at H, v85_at H, val_main_cst_14, val_main_cst_15]
  have hc := c.isLt
  unfold Inputs.dkv
  by_cases hd : (c : ℕ) % 256 < 128
  · rw [dif_neg (by omega), dif_pos (by omega), if_pos hd]
    simp
  · rw [dif_pos (by omega), dif_neg (by omega), if_neg hd]
    simp

/-- The gradient of the rotated keys, a head at a time. -/
theorem v115_at (u : Fin 2048) (c : Fin 1024) : val_main_v115 (F := Ideal) x0 x1 x2 x3 x4 x5 (ix2 u c)
    = ((if (c : ℕ) % 128 < 64 then (inputs x0 x1 x2 x3 x4 x5).dk u (c / 128) (128 + c % 128) else 0 : ℝ) : EReal) := by
  pointwise [val_main_v115, val_main_v114, val_main_v90, v85_at H, val_main_call3_v0, val_main_c_18]
  have hc := c.isLt
  by_cases hd : (c : ℕ) % 128 < 64
  · rw [dif_pos (by omega), if_pos hd]
  · rw [dif_neg (by omega), if_neg hd]
    exact sitofp_zero

/-- The gradient of the queries. -/
theorem v116_at (t c : Fin 2048) : val_main_v116 (F := Ideal) x0 x1 x2 x3 x4 x5 (ix2 t c) = ((inputs x0 x1 x2 x3 x4 x5).dqr t (c / 256) (c % 256) : EReal) := by
  pointwise [val_main_v116, val_main_v113, val_main_v112, val_main_v111, val_main_v110, val_main_v109, val_main_v108, val_main_v107, val_main_v106, val_main_v105,
    val_main_v104, val_main_v103, val_main_v102, val_main_v101, val_main_v100, val_main_v99, val_main_v98, val_main_v97, val_main_v96, val_main_v95, val_main_v94, val_main_v93,
    val_main_v4, val_main_v3, v87_at H, co_at H, si_at H, val_main_call2_v0, val_main_c, val_main_cst_16, val_main_cst_17, ← EReal.coe_mul]
  have hc := c.isLt
  unfold Inputs.dqr
  by_cases h1 : (c : ℕ) % 256 < 128
  · rw [dif_pos (by omega), dif_pos (by omega), dif_neg (by omega), if_pos h1, add_zero]
  rw [if_neg h1]
  by_cases h2 : (c : ℕ) % 256 < 160
  · rw [dif_pos (by omega), dif_neg (by omega), dif_pos (by omega), dif_pos (by omega), if_pos h2, zero_add,
      show 128 + (32 + ((c : ℕ) % 256 - 128)) = (c : ℕ) % 256 + 32 by omega, show 128 + ((c : ℕ) % 256 - 128) = (c : ℕ) % 256 by omega,
      ← EReal.coe_add]
  rw [if_neg h2]
  by_cases h3 : (c : ℕ) % 256 < 192
  · rw [dif_pos (by omega), dif_neg (by omega), dif_pos (by omega), dif_neg (by omega), if_pos h3, zero_add,
      show 128 + (32 + ((c : ℕ) % 256 - 128 - 32)) = (c : ℕ) % 256 by omega, show 128 + ((c : ℕ) % 256 - 128 - 32) = (c : ℕ) % 256 - 32 by omega,
      show (c : ℕ) % 256 - 128 - 32 = (c : ℕ) % 256 - 160 by omega, ← EReal.coe_neg, ← EReal.coe_mul, ← EReal.coe_add,
      neg_mul, ← sub_eq_add_neg]
  · rw [dif_neg (by omega), if_neg h3]
    exact sitofp_zero

end Cert.Attention

end
-- ==== Proof.Sums.lean ====
module

public import Mathlib.Data.EReal.Operations
public import Mathlib.Algebra.BigOperators.Fin
public import Mathlib.Logic.Equiv.Fin.Basic
public import Idealize.ShloMosaic.Lib.KernelVsHost

/-!
# Sums with padding

The kernels pad an axis with zeros; a sum over the padded axis is the sum over the axis.
-/

@[expose] public section

namespace Cert.Padding

open Idealize.ShloMosaic

/-- The number with which the host pads. -/
theorem sitofp_zero : (FloatOps.sitofp (F := Ideal) .f32 (0#32 : BitVec 32) : EReal) = 0 := by
  show (((0#32 : BitVec 32).toInt : ℝ) : EReal) = _
  simp

/-- Zeros behind the terms. -/
theorem sum_pad {n p : ℕ} (f : Fin (n + p) → EReal) (g : Fin n → EReal) (h : ∀ k : Fin n, f (k.castAdd p) = g k) (h0 : ∀ k : Fin p, f (k.natAdd n) = 0) :
    ∑ k, f k = ∑ k, g k := by
  rw [Fin.sum_univ_add, Finset.sum_congr rfl (fun k _ => h k), Finset.sum_congr rfl (fun k _ => h0 k), Finset.sum_const_zero, add_zero]

/-- A sum over groups. -/
theorem sum_groups {a b : ℕ} (f : Fin (a * b) → EReal) : ∑ k, f k = ∑ i : Fin a, ∑ j : Fin b, f (finProdFinEquiv (i, j)) := by
  rw [← Fintype.sum_prod_type', ← (finProdFinEquiv (m := a) (n := b)).sum_comp]

/-- Zeros behind the terms of every group. -/
theorem sum_pad_groups {a n p : ℕ} (f : Fin (a * (n + p)) → EReal) (g : Fin (a * n) → EReal)
    (h : ∀ (i : Fin a) (k : Fin n), f (finProdFinEquiv (i, k.castAdd p)) = g (finProdFinEquiv (i, k)))
    (h0 : ∀ (i : Fin a) (k : Fin p), f (finProdFinEquiv (i, k.natAdd n)) = 0) : ∑ k, f k = ∑ k, g k := by
  rw [sum_groups f, sum_groups g]
  exact Finset.sum_congr rfl fun i _ => sum_pad _ _ (h i) (h0 i)

end Cert.Padding
-- ==== Proof.Norm.lean ====
module

public import proofs.«01_k».proof.Proof.RefValue
public import proofs.«01_k».proof.Proof.Sums

/-!
# The root mean square norm and its gradient

For one row of 2048 numbers, real or infinite.
-/

@[expose] public section

noncomputable section

namespace Cert.Norm

open Idealize.ShloMosaic Finset

theorem ofBits_count : Ideal.ofBits .f32 0x45000000#32 = ((2048 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_zero : Ideal.ofBits .f32 0x00000000#32 = ((0 : ℝ) : EReal) := by
  simp [Ideal.ofBits, Ideal.ieee]

/-- The number added under the root. -/
def eps : ℝ := (Ideal.ofBits .f32 0x358637BD#32).toReal

theorem ofBits_eps : Ideal.ofBits .f32 0x358637BD#32 = (eps : EReal) := by
  unfold eps
  simp [Ideal.ofBits, Ideal.ieee, -EReal.coe_mul]

theorem eps_pos : 0 < eps := by
  unfold eps
  simp [Ideal.ofBits, Ideal.ieee, -EReal.coe_mul]

/-- The mean square, with the small number added. -/
def ms (x : Fin 2048 → EReal) : EReal := Ideal.div (∑ k, x k * x k) ((2048 : ℝ) : EReal) + (eps : EReal)

/-- The factor of a row. -/
def rs (x : Fin 2048 → EReal) : EReal := Ideal.rsqrt (ms x)

/-- A square is not negative. -/
theorem mul_self_nonneg' (x : EReal) : 0 ≤ x * x := by
  induction x with
  | bot => simp
  | top => simp
  | coe x => exact_mod_cast mul_self_nonneg x

/-- The mean square is a positive real number or infinite. -/
theorem ms_cases (x : Fin 2048 → EReal) : ms x = ⊤ ∨ ∃ μ : ℝ, 0 < μ ∧ ms x = (μ : EReal) := by
  have h : (0 : EReal) ≤ ∑ k, x k * x k := sum_nonneg fun k _ => mul_self_nonneg' (x k)
  unfold ms
  rw [Ideal.div_coe (by norm_num)]
  generalize ∑ k, x k * x k = s at h
  induction s with
  | bot => exact absurd h (by simp)
  | top =>
    left
    rw [EReal.top_mul_coe_of_pos (by norm_num)]
    exact EReal.top_add_coe _
  | coe s =>
    right
    have hs : 0 ≤ s := by exact_mod_cast h
    refine ⟨s * (1 / 2048) + eps, add_pos_of_nonneg_of_pos (mul_nonneg hs (by norm_num)) eps_pos, ?_⟩
    rw [← EReal.coe_mul, ← EReal.coe_add]

/-- A factor that is a real number and not negative comes out of a sum. -/
theorem sum_mul_coe {ι : Type*} (t : Finset ι) (f : ι → EReal) {a : ℝ} (ha : 0 ≤ a) : ∑ k ∈ t, f k * (a : EReal) = (∑ k ∈ t, f k) * (a : EReal) := by
  classical
  induction t using Finset.induction_on with
  | empty => simp
  | insert k t hk ih =>
    rw [sum_insert hk, sum_insert hk, ih, EReal.right_distrib_of_nonneg_of_ne_top (by exact_mod_cast ha) (EReal.coe_ne_top a)]

theorem neg_add_neg_self (u : EReal) : -u + -u = -(u + u) := by
  induction u with
  | bot => simp
  | top => simp
  | coe u => norm_cast; ring

/-- The gradient by the row of the norm `x k * rs x * g k`, for the cotangent `c`. -/
def grad (x g c : Fin 2048 → EReal) (d : Fin 2048) : EReal :=
  rs x * (c d * g d - x d * rs x * Ideal.div (∑ k, c k * g k * (x k * rs x)) ((2048 : ℝ) : EReal))

/-- What the chain rule adds twice: the gradient by the factor, times the factor's derivative. -/
def chain (x g c : Fin 2048 → EReal) : EReal :=
  Ideal.div ((∑ k, x k * (c k * g k)) * (((-(1 / 2) : ℝ) : EReal) * Ideal.div (rs x) (ms x))) ((2048 : ℝ) : EReal)

/-- The chain rule gives the gradient, also where a number is infinite: the factor is then zero, or it is a positive real number. -/
theorem grad_eq (x g c : Fin 2048 → EReal) (d : Fin 2048) : c d * g d * rs x + x d * chain x g c + chain x g c * x d = grad x g c d := by
  unfold grad chain
  simp only [Ideal.div_coe (show (2048 : ℝ) ≠ 0 by norm_num)]
  rcases ms_cases x with h | ⟨μ, hμ, h⟩
  · have hr : rs x = 0 := by rw [rs, h]; rfl
    have hd : Ideal.div (0 : EReal) ⊤ = 0 := by simp [Ideal.div]
    rw [hr, h, hd]
    simp
  · have hr : rs x = (((Real.sqrt μ)⁻¹ : ℝ) : EReal) := by
      rw [rs, h, Ideal.rsqrt_coe, if_neg (not_lt.2 hμ.le), if_neg hμ.ne']
    have hpos : 0 < (Real.sqrt μ)⁻¹ := inv_pos.2 (Real.sqrt_pos.2 hμ)
    have hsq : (Real.sqrt μ)⁻¹ * (Real.sqrt μ)⁻¹ = 1 / μ := by rw [← mul_inv, Real.mul_self_sqrt hμ.le, one_div]
    rw [hr, h, Ideal.div_coe hμ.ne', ← hsq]
    generalize (Real.sqrt μ)⁻¹ = ρ at hpos
    have e : ∑ k, c k * g k * (x k * (ρ : EReal)) = (∑ k, x k * (c k * g k)) * (ρ : EReal) := by
      rw [← sum_mul_coe _ _ hpos.le]
      exact sum_congr rfl fun k _ => by rw [← mul_assoc, mul_comm (c k * g k)]
    rw [e]
    generalize ∑ k, x k * (c k * g k) = S
    generalize c d * g d = A
    generalize x d = X
    have ha : 0 ≤ ρ * ρ * ρ / 4096 := by positivity
    have e1 : S * (((-(1 / 2) : ℝ) : EReal) * ((ρ : EReal) * ((ρ * ρ : ℝ) : EReal))) * ((1 / 2048 : ℝ) : EReal) = -(S * ((ρ * ρ * ρ / 4096 : ℝ) : EReal)) := by
      rw [mul_assoc, ← EReal.coe_mul, ← EReal.coe_mul, ← EReal.coe_mul, ← mul_neg, ← EReal.coe_neg]
      congr 2
      ring
    have e2 : (ρ : EReal) * (X * (ρ : EReal) * (S * (ρ : EReal) * ((1 / 2048 : ℝ) : EReal))) = X * S * ((ρ * ρ * ρ / 4096 + ρ * ρ * ρ / 4096 : ℝ) : EReal) := by
      have e3 : (ρ : EReal) * (X * (ρ : EReal) * (S * (ρ : EReal) * ((1 / 2048 : ℝ) : EReal))) = X * S * ((ρ : EReal) * ρ * ρ * ((1 / 2048 : ℝ) : EReal)) := by ac_rfl
      rw [e3, ← EReal.coe_mul, ← EReal.coe_mul, ← EReal.coe_mul]
      congr 2
      ring
    have e4 : -(S * ((ρ * ρ * ρ / 4096 : ℝ) : EReal)) * X = X * -(S * ((ρ * ρ * ρ / 4096 : ℝ) : EReal)) := mul_comm _ _
    rw [e1, e4, EReal.mul_sub_of_nonneg_of_ne_top (by exact_mod_cast hpos.le) (EReal.coe_ne_top ρ), e2, add_assoc, mul_neg, neg_add_neg_self, ← mul_assoc,
      ← EReal.left_distrib_of_nonneg (by exact_mod_cast ha) (by exact_mod_cast ha), ← EReal.coe_add, mul_comm A, sub_eq_add_neg]

/-- The row of a matrix. -/
def row {a : ℕ} (X : (⟨2, ![a, 2048]⟩ : Shape).Idx → EReal) (r : Fin a) (k : Fin 2048) : EReal := X (ix2 r k)

/-- A vector. -/
def vec (X : (⟨1, ![2048]⟩ : Shape).Idx → EReal) (k : Fin 2048) : EReal := X (ix1 k)

theorem row_eq {a : ℕ} (X : (⟨2, ![a, 2048]⟩ : Shape).Idx → EReal) (r : Fin a) (k : Fin 2048) : X (ix2 r k) = row X r k := rfl

theorem vec_eq (X : (⟨1, ![2048]⟩ : Shape).Idx → EReal) (k : Fin 2048) : X (ix1 k) = vec X k := rfl

/-- A sum over the rows, block by block. -/
theorem sum_blocks (f : Fin 2048 → EReal) : ∑ k, f k = ∑ s ∈ range 8, ∑ r : Fin 256, f ⟨(256 * s + r.val) % 2048, Nat.mod_lt _ (by decide)⟩ := by
  rw [← Fin.sum_univ_eq_sum_range (fun s => ∑ r : Fin 256, f ⟨(256 * s + r.val) % 2048, Nat.mod_lt _ (by decide)⟩),
    ← (finProdFinEquiv (m := 8) (n := 256)).sum_comp f, Fintype.sum_prod_type]
  refine sum_congr rfl fun s _ => sum_congr rfl fun r _ => congrArg f (Fin.ext ?_)
  show r.val + 256 * s.val = (256 * s.val + r.val) % 2048
  omega

end Cert.Norm

end
-- ==== Proof.Tiles.lean ====
module

public import Idealize.ShloMosaic.Lib.Pipeline.Value
public import Idealize.ShloMosaic.Lib.Pipeline.ReadBack
public import Idealize.ShloMosaic.Lib.VecWindow
public import Idealize.ShloMosaic.Lib.Pointwise

/-!
# Bands of rows and of columns of a matrix

A load through a band of rows, and a store over a band of rows or of columns, as functions of the matrix's coordinates.
-/

@[expose] public section

noncomputable section

namespace Cert.Attention

open Idealize.ShloMosaic

variable {α : Type} {m n : ℕ}

/-- The `k` rows from row `o`. -/
def rowsOf (o k : ℕ) (h : o + k ≤ m) (X : (⟨2, ![m, n]⟩ : Shape).Idx → α) : (⟨2, ![k, n]⟩ : Shape).Idx → α :=
  fun i => X (ix2 ⟨o + (i 0), by have : (i 0).val < k := (i 0).isLt; omega⟩ (i 1))

/-- The `k` columns from column `o`. -/
def colsOf (o k : ℕ) (h : o + k ≤ n) (X : (⟨2, ![m, n]⟩ : Shape).Idx → α) : (⟨2, ![m, k]⟩ : Shape).Idx → α :=
  fun i => X (ix2 (i 0) ⟨o + (i 1), by have : (i 1).val < k := (i 1).isLt; omega⟩)

/-- The matrix with the `k` rows from row `o` replaced. -/
def setRows (o k : ℕ) (w : (⟨2, ![k, n]⟩ : Shape).Idx → α) (X : (⟨2, ![m, n]⟩ : Shape).Idx → α) : (⟨2, ![m, n]⟩ : Shape).Idx → α :=
  fun i => if h : o ≤ (i 0).val ∧ (i 0).val < o + k then w (ix2 ⟨(i 0).val - o, by omega⟩ (i 1)) else X i

/-- The matrix with the `k` columns from column `o` replaced. -/
def setCols (o k : ℕ) (w : (⟨2, ![m, k]⟩ : Shape).Idx → α) (X : (⟨2, ![m, n]⟩ : Shape).Idx → α) : (⟨2, ![m, n]⟩ : Shape).Idx → α :=
  fun i => if h : o ≤ (i 1).val ∧ (i 1).val < o + k then w (ix2 (i 0) ⟨(i 1).val - o, by omega⟩) else X i

theorem rowsOf_at {o k : ℕ} (h : o + k ≤ m) (X : (⟨2, ![m, n]⟩ : Shape).Idx → α) (r : Fin k) (l : Fin n) :
    rowsOf o k h X (ix2 r l) = X (ix2 ⟨o + r, by have := r.isLt; omega⟩ l) := rfl

theorem colsOf_at {o k : ℕ} (h : o + k ≤ n) (X : (⟨2, ![m, n]⟩ : Shape).Idx → α) (r : Fin m) (l : Fin k) :
    colsOf o k h X (ix2 r l) = X (ix2 r ⟨o + l, by have := l.isLt; omega⟩) := rfl

theorem setRows_at {o k : ℕ} (w : (⟨2, ![k, n]⟩ : Shape).Idx → α) (X : (⟨2, ![m, n]⟩ : Shape).Idx → α) (r : Fin m) (l : Fin n) :
    setRows o k w X (ix2 r l) = if h : o ≤ r.val ∧ r.val < o + k then w (ix2 ⟨r - o, by omega⟩ l) else X (ix2 r l) := rfl

theorem setCols_at {o k : ℕ} (w : (⟨2, ![m, k]⟩ : Shape).Idx → α) (X : (⟨2, ![m, n]⟩ : Shape).Idx → α) (r : Fin m) (l : Fin n) :
    setCols o k w X (ix2 r l) = if h : o ≤ l.val ∧ l.val < o + k then w (ix2 r ⟨l - o, by omega⟩) else X (ix2 r l) := rfl

theorem rowsOf_setRows_disjoint {o k o' k' : ℕ} (h : o + k ≤ m) (w : (⟨2, ![k', n]⟩ : Shape).Idx → α)
    (X : (⟨2, ![m, n]⟩ : Shape).Idx → α) (hd : o + k ≤ o' ∨ o' + k' ≤ o) :
    rowsOf o k h (setRows o' k' w X) = rowsOf o k h X := by
  funext i
  have hi : (i 0).val < k := (i 0).isLt
  exact dif_neg (by show ¬(o' ≤ o + (i 0).val ∧ o + (i 0).val < o' + k'); omega)

section
variable {Val : EltTy → Type} {e : EltTy}

theorem emb_rows {o k : ℕ} (inb : ∀ a, (![o, 0] : Fin 2 → ℕ) a + (![k, n] : Fin 2 → ℕ) a ≤ (⟨2, ![m, n]⟩ : Shape).size a) (h : o + k ≤ m)
    (i : (⟨2, ![k, n]⟩ : Shape).Idx) :
    (Rect.unit (s := ⟨2, ![m, n]⟩) ![o, 0] ![k, n] inb).emb i
      = ix2 ⟨o + (i 0), by have : (i 0).val < k := (i 0).isLt; omega⟩ (i 1) := by
  funext a
  refine Fin.ext ?_
  match a with
  | ⟨0, _⟩ => exact congrArg (o + ·) (Nat.one_mul _)
  | ⟨1, _⟩ => exact (Nat.zero_add _).trans (Nat.one_mul _)

theorem emb_cols {o k : ℕ} (inb : ∀ a, (![0, o] : Fin 2 → ℕ) a + (![m, k] : Fin 2 → ℕ) a ≤ (⟨2, ![m, n]⟩ : Shape).size a) (h : o + k ≤ n)
    (i : (⟨2, ![m, k]⟩ : Shape).Idx) :
    (Rect.unit (s := ⟨2, ![m, n]⟩) ![0, o] ![m, k] inb).emb i
      = ix2 (i 0) ⟨o + (i 1), by have : (i 1).val < k := (i 1).isLt; omega⟩ := by
  funext a
  refine Fin.ext ?_
  match a with
  | ⟨0, _⟩ => exact (Nat.zero_add _).trans (Nat.one_mul _)
  | ⟨1, _⟩ => exact congrArg (o + ·) (Nat.one_mul _)

theorem ld_rows {o k : ℕ} (inb : ∀ a, (![o, 0] : Fin 2 → ℕ) a + (![k, n] : Fin 2 → ℕ) a ≤ (⟨2, ![m, n]⟩ : Shape).size a)
    (h : o + k ≤ m) (X : (⟨2, ![m, n]⟩ : Shape).Idx → Val e) :
    View.ld X (Rect.unit (s := ⟨2, ![m, n]⟩) ![o, 0] ![k, n] inb) = rowsOf o k h X :=
  funext fun i => congrArg X (emb_rows inb h i)

theorem ld_cols {o k : ℕ} (inb : ∀ a, (![0, o] : Fin 2 → ℕ) a + (![m, k] : Fin 2 → ℕ) a ≤ (⟨2, ![m, n]⟩ : Shape).size a)
    (h : o + k ≤ n) (X : (⟨2, ![m, n]⟩ : Shape).Idx → Val e) :
    View.ld X (Rect.unit (s := ⟨2, ![m, n]⟩) ![0, o] ![m, k] inb) = colsOf o k h X :=
  funext fun i => congrArg X (emb_cols inb h i)

theorem ld_whole (inb : ∀ a, (![0, 0] : Fin 2 → ℕ) a + (![m, n] : Fin 2 → ℕ) a ≤ (⟨2, ![m, n]⟩ : Shape).size a)
    (X : (⟨2, ![m, n]⟩ : Shape).Idx → Val e) :
    View.ld X (Rect.unit (s := ⟨2, ![m, n]⟩) ![0, 0] ![m, n] inb) = X :=
  View.ld_unit_zero (S := ⟨2, ![m, n]⟩) (funext fun a => by fin_cases a <;> rfl) inb X

theorem overlay_rows {o k : ℕ} (inb : ∀ a, (![o, 0] : Fin 2 → ℕ) a + (![k, n] : Fin 2 → ℕ) a ≤ (⟨2, ![m, n]⟩ : Shape).size a)
    (w : (⟨2, ![k, n]⟩ : Shape).Idx → α) (X : (⟨2, ![m, n]⟩ : Shape).Idx → α) :
    (Rect.unit (s := ⟨2, ![m, n]⟩) ![o, 0] ![k, n] inb).overlay X w = setRows o k w X := by
  have hok : o + k ≤ m := inb 0
  funext i
  unfold setRows
  split
  · rename_i h
    have e := emb_rows inb hok (ix2 ⟨(i 0).val - o, by omega⟩ (i 1))
    have e' : i = (Rect.unit (s := ⟨2, ![m, n]⟩) ![o, 0] ![k, n] inb).emb (ix2 ⟨(i 0).val - o, by omega⟩ (i 1)) := by
      rw [e]
      funext a
      refine Fin.ext ?_
      match a with
      | ⟨0, _⟩ => show (i 0).val = o + ((i 0).val - o); omega
      | ⟨1, _⟩ => rfl
    exact (congrArg _ e').trans (Rect.overlay_emb _ _ _ _)
  · rename_i h
    refine Rect.overlay_of_not_mem _ _ _ ?_
    rw [Rect.mem_set_unit]
    intro hm
    exact h ⟨(hm 0).1, (hm 0).2⟩

theorem overlay_cols {o k : ℕ} (inb : ∀ a, (![0, o] : Fin 2 → ℕ) a + (![m, k] : Fin 2 → ℕ) a ≤ (⟨2, ![m, n]⟩ : Shape).size a)
    (w : (⟨2, ![m, k]⟩ : Shape).Idx → α) (X : (⟨2, ![m, n]⟩ : Shape).Idx → α) :
    (Rect.unit (s := ⟨2, ![m, n]⟩) ![0, o] ![m, k] inb).overlay X w = setCols o k w X := by
  have hok : o + k ≤ n := inb 1
  funext i
  unfold setCols
  split
  · rename_i h
    have e := emb_cols inb hok (ix2 (i 0) ⟨(i 1).val - o, by omega⟩)
    have e' : i = (Rect.unit (s := ⟨2, ![m, n]⟩) ![0, o] ![m, k] inb).emb (ix2 (i 0) ⟨(i 1).val - o, by omega⟩) := by
      rw [e]
      funext a
      refine Fin.ext ?_
      match a with
      | ⟨0, _⟩ => rfl
      | ⟨1, _⟩ => show (i 1).val = o + ((i 1).val - o); omega
    exact (congrArg _ e').trans (Rect.overlay_emb _ _ _ _)
  · rename_i h
    refine Rect.overlay_of_not_mem _ _ _ ?_
    rw [Rect.mem_set_unit]
    intro hm
    exact h ⟨(hm 1).1, (hm 1).2⟩

theorem overlay_whole (inb : ∀ a, (![0, 0] : Fin 2 → ℕ) a + (![m, n] : Fin 2 → ℕ) a ≤ (⟨2, ![m, n]⟩ : Shape).size a)
    (w : (⟨2, ![m, n]⟩ : Shape).Idx → α) (X : (⟨2, ![m, n]⟩ : Shape).Idx → α) :
    (Rect.unit (s := ⟨2, ![m, n]⟩) ![0, 0] ![m, n] inb).overlay X w = w := by
  rw [overlay_rows]
  funext i
  have h : 0 ≤ (i 0).val ∧ (i 0).val < 0 + m := ⟨Nat.zero_le _, by have : (i 0).val < m := (i 0).isLt; omega⟩
  refine (dif_pos h).trans (congrArg w (funext fun a => ?_))
  match a with
  | ⟨0, _⟩ => rfl
  | ⟨1, _⟩ => rfl

variable [∀ e, Nonempty (Val e)] {sig : RefSig} {κ : Kind} {sp : Space}

/-- A covered load is a load of what the stores left. -/
theorem readCov_ld {s : Shape} (v : View sig κ sp s e) (L : List (View.Piece Val s e)) (r : Rect s) :
    v.readCov L r.toLoadRect = View.ld (View.canon L) r :=
  View.readCov_eq_canon' v L r.toLoadRect

/-- What is read after a store: the store's values laid over what was read before. -/
theorem read_writes_cons {s : Shape} (v : View sig κ sp s e) (f : v.ty.Contents Val) (p : View.Piece Val s e) (L : List (View.Piece Val s e)) :
    v.read Val (v.writes Val f (p :: L)) = p.1.overlay (v.read Val (v.writes Val f L)) p.2 := by
  funext y
  by_cases hy : y ∈ p.1.set
  · obtain ⟨r, w⟩ := p
    obtain ⟨x, rfl⟩ : ∃ x, r.emb x = y := r.exists_idx_of_mem hy
    exact (View.read_writes_cons_emb v f r w L x).trans (Rect.overlay_emb r _ w x).symm
  · have hy' : y ∉ Finset.univ.map p.1.emb := by rwa [Rect.map_emb_univ]
    rw [View.writes_cons, View.read_slice_write_of_not_mem p.1 _ _ _ hy', Rect.overlay_of_not_mem _ _ _ hy]

end

end Cert.Attention

end
-- ==== Proof.NormGrad.lean ====
module

public import proofs.«01_k».proof.Proof.Gen.Kernel17Ideal.Value
public import proofs.«01_k».proof.Proof.Gen.Reference17Ideal.Read
public import proofs.«01_k».proof.Proof.Norm
public import proofs.«01_k».proof.Proof.Tiles
public import Idealize.ShloMosaic.Lib.Pipeline.ValueKit.Point
public import Idealize.ShloMosaic.Lib.StableHlo.ReadAt

/-!
# The gradient through the first norm

At point `t` the rows are those of block `t` of 256.  The rows' gradient is written at every point; the gain's gradient is
added up over the points.
-/

@[expose] public section

set_option maxRecDepth 16384

noncomputable section

namespace Cert.Kernel17Ideal

open Idealize.ShloMosaic Idealize.ShloMosaic.TcCoe Idealize.SL.Sem Gen Finset
open Cert.Norm hiding row vec
open Cert.Norm (row vec)
open Cert.Attention (readCov_ld read_writes_cons overlay_whole ld_whole)
open Reference17Ideal.Read (val_main_v0 val_main_v1 val_main_v2 val_main_v3 val_main_v4 val_main_v5 val_main_v6 val_main_v7 val_main_v8 val_main_v9 val_main_v10
  val_main_v11 val_main_v12 val_main_v13 val_main_v14 val_main_v16 val_main_v17 val_main_v18 val_main_v19 val_main_v20 val_main_v21 val_main_v22 val_main_v23 val_main_v24
  val_main_v25 val_main_v26 val_main_v27 val_main_v28 val_main_v29 val_main_v30 val_main_v31 val_main_v32 val_main_v33 val_main_v34 val_main_v35 val_main_v36 val_main_v37
  val_main_cst val_main_cst_0 val_main_cst_1 val_main_cst_2 val_main_cst_3 val_main_cst_4 val_main_cst_5 val_main_cst_6 val_main_cst_7)

/-! ## One block -/

section block

variable {v0 v3 v6 : FVec Ideal S256x2048 .f32} {v4 : FVec Ideal S1x2048 .f32} {b x c : Fin 256 → Fin 2048 → EReal} {g : Fin 2048 → EReal}

theorem pay3_at (hx : ∀ r k, v3 (ix2 r k) = x r k) (r : Fin 256) : k0_pay3 (F := Ideal) v3 (ix2 r (0 : Fin 1)) = (rs (x r)) := by
  pointwise [k0_pay3, hx, ofBits_count, ofBits_eps] <;> rfl

theorem pay4_at (hx : ∀ r k, v3 (ix2 r k) = x r k) (r : Fin 256) (d : Fin 2048) : k0_pay4 (F := Ideal) v3 (ix2 r d) = (x r d * rs (x r)) := by
  pointwise [k0_pay4, hx, pay3_at hx] <;> rfl

theorem pay5_at (hx : ∀ r k, v3 (ix2 r k) = x r k) (hc : ∀ r k, v6 (ix2 r k) = c r k) (d : Fin 2048) :
    k0_pay5 (F := Ideal) v3 v6 (ix2 (0 : Fin 1) d) = ∑ r : Fin 256, c r d * (x r d * rs (x r)) := by
  pointwise [k0_pay5, hc, pay4_at hx] <;> rfl

theorem pay6_at (hb : ∀ r k, v0 (ix2 r k) = b r k) (hx : ∀ r k, v3 (ix2 r k) = x r k) (hc : ∀ r k, v6 (ix2 r k) = c r k)
    (hg : ∀ k, v4 (ix2 (0 : Fin 1) k) = g k) (r : Fin 256) (d : Fin 2048) :
    k0_pay6 (F := Ideal) v3 v4 v6 v0 (ix2 r d) = b r d + grad (x r) g (c r) d := by
  pointwise [k0_pay6, hb, hc, hg, pay4_at hx, pay3_at hx, ofBits_count] <;> rfl

end block

/-! ## One point -/

theorem out4_A (c : Dev nD) (t : Fin cfg0.N) (h : cond0_0 (grid0.coords t)) (x0 x1 x2 : Vec Ideal S256x2048 .f32) (x3 : Vec Ideal S1x2048 .f32) :
    out0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) h x0 x1 x2 x3
      = k0_pay6 (F := Ideal) x2 x3 x1 x0 := by
  unfold out0_A_4
  rw [View.read_writes_eq_canon _ _ _ (cover0_A_4 c _ _ _ _ _ _ _ _ _ _ _ _ _ _ _ _ _ _)]
  unfold kernelRun0_A
  dsimp only
  sl_unfold_words
  simp only [View.readAt_eq_ld, Memref.IsWhole.read_unread, readCov_ld, View.canon_cons, read_writes_cons, overlay_whole, ld_whole]

theorem out5_A (c : Dev nD) (t : Fin cfg0.N) (h : cond0_0 (grid0.coords t)) (x0 x1 x2 : Vec Ideal S256x2048 .f32) (x3 : Vec Ideal S1x2048 .f32) :
    out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) h x0 x1 x2 x3
      = k0_pay1 (k0_pay5 (F := Ideal) x2 x1) (k0_pay7 (k0_pay2 (F := Ideal))) := by
  unfold out0_A_5
  rw [View.read_writes_eq_canon _ _ _ (cover0_A_5 c _ _ _ _ _ _ _ _ _ _ _ _ _ _ _ _ _ _)]
  unfold kernelRun0_A
  dsimp only
  sl_unfold_words
  simp only [View.readAt_eq_ld, Memref.IsWhole.read_unread, readCov_ld, View.canon_cons, read_writes_cons, overlay_whole, ld_whole]

theorem out4_B (c : Dev nD) (t : Fin cfg0.N) (h : ¬cond0_0 (grid0.coords t)) (x0 x1 x2 : Vec Ideal S256x2048 .f32) (x3 s : Vec Ideal S1x2048 .f32) :
    out0_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) h x0 x1 x2 x3 s
      = k0_pay6 (F := Ideal) x2 x3 x1 x0 := by
  unfold out0_B_4
  rw [View.read_writes_eq_canon _ _ _ (cover0_B_4 c _ _ _ _ _ _ _ _ _ _ _ _ _ _ _ _ _ _ _)]
  unfold kernelRun0_B
  dsimp only
  sl_unfold_words
  simp only [View.readAt_eq_ld, Memref.IsWhole.read_unread, readCov_ld, View.canon_cons, read_writes_cons, overlay_whole, ld_whole]

theorem out5_B (c : Dev nD) (t : Fin cfg0.N) (h : ¬cond0_0 (grid0.coords t)) (x0 x1 x2 : Vec Ideal S256x2048 .f32) (x3 s : Vec Ideal S1x2048 .f32) :
    out0_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) h x0 x1 x2 x3 s
      = k0_pay1 (k0_pay5 (F := Ideal) x2 x1) (k0_pay7 s) := by
  unfold out0_B_5
  rw [View.read_writes_eq_canon _ _ _ (cover0_B_5 c _ _ _ _ _ _ _ _ _ _ _ _ _ _ _ _ _ _ _)]
  unfold kernelRun0_B
  dsimp only
  sl_unfold_words
  simp only [View.readAt_eq_ld, Memref.IsWhole.read_unread, readCov_ld, View.canon_cons, read_writes_cons, overlay_whole, ld_whole]

theorem add_at (w s : FVec Ideal S1x2048 .f32) (d : Fin 2048) : k0_pay1 (F := Ideal) w (k0_pay7 s) (ix2 (0 : Fin 1) d) = s (ix2 (0 : Fin 1) d) + w (ix2 (0 : Fin 1) d) := by
  pointwise [k0_pay1, k0_pay7]

theorem zero_at (d : Fin 2048) : k0_pay2 (F := Ideal) (ix2 (0 : Fin 1) d) = 0 := by
  pointwise [k0_pay2, ofBits_zero, EReal.coe_zero]

/-- The blocks that the windows read at a point. -/
theorem index_at (t : Fin cfg0.N) : win0_0.index t = ![t.val, 0] ∧ win0_1.index t = ![t.val, 0] ∧ win0_2.index t = ![t.val, 0]
    ∧ win0_3.index t = ![0, 0] ∧ win0_4.index t = ![t.val, 0] ∧ win0_5.index t = ![0, 0] := by
  revert t
  decide +kernel

theorem N_eq : cfg0.N = 8 := by decide +kernel

theorem flush_at (t : Fin cfg0.N) : (cfg0.win 4).flush t = true := by
  revert t
  decide +kernel

/-- The rows of a point's block. -/
abbrev rowAt (t : Fin cfg0.N) (r : Fin 256) : Fin 2048 := ⟨256 * t.val + r.val, by have ht : t.val < 8 := N_eq ▸ t.isLt; omega⟩

variable (m : (ℓ : Loc nD τ sig) → Buf (Elt Ideal) ℓ) (c : Dev nD)

/-- The vector as a row. -/
def asRow (x : FVec Ideal S2048 .f32) : FVec Ideal S1x2048 .f32 := broadcastInDim S1x2048 ![1] bcast_S2048_S1x2048_1 x

theorem asRow_at (x : FVec Ideal S2048 .f32) (k : Fin 2048) : asRow x (ix2 (0 : Fin 1) k) = x (ix1 k) := by
  pointwise [asRow]

theorem V_v0 : V (F := Ideal) m c main_v0 = asRow (m ((c : Thread nD τ).loc main_arg3)) := by
  unfold_abbrev_sides
  after_reads_simp
  rfl

theorem window0_at (t : Fin cfg0.N) (r : Fin 256) (d : Fin 2048) : (iblk m c 0 t : FVec Ideal S256x2048 .f32) (ix2 r d) = V m c main_arg0 (ix2 (rowAt t r) d) := by
  blk_ext [iblk, (index_at t).1]

theorem window1_at (t : Fin cfg0.N) (r : Fin 256) (d : Fin 2048) : (iblk m c 1 t : FVec Ideal S256x2048 .f32) (ix2 r d) = V m c main_arg1 (ix2 (rowAt t r) d) := by
  blk_ext [iblk, (index_at t).2.1]

theorem window2_at (t : Fin cfg0.N) (r : Fin 256) (d : Fin 2048) : (iblk m c 2 t : FVec Ideal S256x2048 .f32) (ix2 r d) = V m c main_arg2 (ix2 (rowAt t r) d) := by
  blk_ext [iblk, (index_at t).2.2.1]

theorem window3_at (t : Fin cfg0.N) (d : Fin 2048) : (iblk m c 3 t : FVec Ideal S1x2048 .f32) (ix2 (0 : Fin 1) d) = V m c main_v0 (ix2 (0 : Fin 1) d) := by
  blk_ext [iblk, (index_at t).2.2.2.1]

/-- A block of a result. -/
theorem read4 (X : FVec Ideal S2048x2048 .f32) (t : Fin cfg0.N) (r : Fin 256) (d : Fin 2048) :
    (((cfg0.win 4).blk t).view.read (Elt Ideal) X : FVec Ideal S256x2048 .f32) (ix2 r d) = X (ix2 (rowAt t r) d) := by
  blk_ext [(index_at t).2.2.2.2.1]

theorem read5 (X : FVec Ideal S1x2048 .f32) (t : Fin cfg0.N) (d : Fin 2048) :
    (((cfg0.win 5).blk t).view.read (Elt Ideal) X : FVec Ideal S1x2048 .f32) (ix2 (0 : Fin 1) d) = X (ix2 (0 : Fin 1) d) := by
  blk_ext [(index_at t).2.2.2.2.2]

theorem mem4 (t : Fin cfg0.N) (i : S2048x2048.Idx) (h : t.val = (i 0).val / 256) : i ∈ ((cfg0.win 4).blk t).view.set := by
  show i ∈ ((View.whole main_v1_0).slice (win0_4.rect t)).set
  rw [View.set_slice_whole, Rect.mem_set_unit]
  have h1 : (i 1).val < 2048 := (i 1).isLt
  intro a
  match a with
  | ⟨0, _⟩ =>
    show win0_4.index t (0 : Fin 2) * 256 ≤ (i 0).val ∧ (i 0).val < win0_4.index t (0 : Fin 2) * 256 + 256
    rw [(index_at t).2.2.2.2.1]; show t.val * 256 ≤ _ ∧ _ < t.val * 256 + 256; omega
  | ⟨1, _⟩ =>
    show win0_4.index t (1 : Fin 2) * 2048 ≤ (i 1).val ∧ (i 1).val < win0_4.index t (1 : Fin 2) * 2048 + 2048
    rw [(index_at t).2.2.2.2.1]; show 0 * 2048 ≤ _ ∧ _ < 0 * 2048 + 2048; omega

theorem mem5 (t : Fin cfg0.N) (i : S1x2048.Idx) : i ∈ ((cfg0.win 5).blk t).view.set := by
  show i ∈ ((View.whole main_v1_1).slice (win0_5.rect t)).set
  rw [View.set_slice_whole, Rect.mem_set_unit]
  have h0 : (i 0).val < 1 := (i 0).isLt
  have h1 : (i 1).val < 2048 := (i 1).isLt
  intro a
  match a with
  | ⟨0, _⟩ =>
    show win0_5.index t (0 : Fin 2) * 1 ≤ (i 0).val ∧ (i 0).val < win0_5.index t (0 : Fin 2) * 1 + 1
    rw [(index_at t).2.2.2.2.2]; show 0 * 1 ≤ _ ∧ _ < 0 * 1 + 1; omega
  | ⟨1, _⟩ =>
    show win0_5.index t (1 : Fin 2) * 2048 ≤ (i 1).val ∧ (i 1).val < win0_5.index t (1 : Fin 2) * 2048 + 2048
    rw [(index_at t).2.2.2.2.2]; show 0 * 2048 ≤ _ ∧ _ < 0 * 2048 + 2048; omega

/-! ## The reference -/

section ref

variable {b d x : FVec Ideal S2048x2048 .f32} {g : FVec Ideal S2048 .f32}

theorem v6_at (r : Fin 2048) : val_main_v6 (F := Ideal) x (ix2 r (0 : Fin 1)) = ms (row x r) := by
  pointwise [val_main_v6, val_main_v5, val_main_v4, val_main_v3, val_main_v2, val_main_v1, val_main_v0, val_main_cst, val_main_cst_0, val_main_cst_1, row_eq x, ofBits_count, ofBits_eps] <;> rfl

theorem v7_at (r : Fin 2048) : val_main_v7 (F := Ideal) x (ix2 r (0 : Fin 1)) = rs (row x r) := by
  pointwise [val_main_v7, v6_at] <;> rfl

theorem v20_at (r k : Fin 2048) : val_main_v20 (F := Ideal) d g (ix2 r k) = row d r k * vec g k := by
  pointwise [val_main_v20, val_main_v19, val_main_v13, row_eq d, vec_eq g] <;> rfl

theorem v24_at (r : Fin 2048) : val_main_v24 (F := Ideal) d x g (ix2 r (0 : Fin 1)) = ∑ k, row x r k * (row d r k * vec g k) := by
  pointwise [val_main_v24, val_main_v23, val_main_v22, val_main_cst_5, v20_at, row_eq x] <;> rfl

theorem v30_at (r : Fin 2048) : val_main_v30 (F := Ideal) d x g (ix2 r (0 : Fin 1)) = chain (row x r) (vec g) (row d r) := by
  pointwise [val_main_v30, val_main_v29, val_main_v28, val_main_v10, val_main_v9, val_main_v8, val_main_cst_2, val_main_cst_6, v24_at, v7_at, v6_at, ofBits_count, ofBits_neg_half] <;> rfl

theorem v36_at (r k : Fin 2048) : val_main_v36 (F := Ideal) b d x g (ix2 r k) = row b r k + grad (row x r) (vec g) (row d r) k := by
  rw [← grad_eq]
  pointwise [val_main_v36, val_main_v35, val_main_v34, val_main_v33, val_main_v32, val_main_v31, val_main_v27, val_main_v26, val_main_v25, val_main_cst_7, v30_at, v20_at, v7_at, row_eq x, row_eq b]
  simp only [Fin.sum_univ_one, v30_at]
  simp only [add_assoc]

theorem v37_at (k : Fin 2048) : val_main_v37 (F := Ideal) d x (ix2 (0 : Fin 1) k) = ∑ r, row d r k * (row x r k * rs (row x r)) := by
  pointwise [val_main_v37, val_main_v21, val_main_v18, val_main_v17, val_main_v16, val_main_v12, val_main_v11, val_main_cst_3, val_main_cst_4, v7_at, row_eq x, row_eq d]
  simp only [mul_comm, Fin.sum_univ_one]

end ref

/-! ## The results -/

theorem cond_of (t : Fin cfg0.N) (r : Fin 256) (k : Fin 2048) : (iblk m c 0 t : FVec Ideal S256x2048 .f32) (ix2 r k) = (row (m ((c : Thread nD τ).loc main_arg0)) (rowAt t r) k)
    ∧ (iblk m c 1 t : FVec Ideal S256x2048 .f32) (ix2 r k) = (row (m ((c : Thread nD τ).loc main_arg1)) (rowAt t r) k)
    ∧ (iblk m c 2 t : FVec Ideal S256x2048 .f32) (ix2 r k) = (row (m ((c : Thread nD τ).loc main_arg2)) (rowAt t r) k)
    ∧ (iblk m c 3 t : FVec Ideal S1x2048 .f32) (ix2 (0 : Fin 1) k) = vec (m ((c : Thread nD τ).loc main_arg3)) k := by
  refine ⟨?_, ?_, ?_, ?_⟩
  · rw [window0_at, V_main_arg0]; exact row_eq _ _ _
  · rw [window1_at, V_main_arg1]; exact row_eq _ _ _
  · rw [window2_at, V_main_arg2]; exact row_eq _ _ _
  · rw [window3_at, V_v0, asRow_at]; exact vec_eq _ _

/-- The rows' gradient of a block. -/
theorem rows_at (t : Fin cfg0.N) (r : Fin 256) (d : Fin 2048) :
    k0_pay6 (F := Ideal) (iblk m c 2 t) (iblk m c 3 t) (iblk m c 1 t) (iblk m c 0 t) (ix2 r d)
      = val_main_v36 (F := Ideal) (m ((c : Thread nD τ).loc main_arg0)) (m ((c : Thread nD τ).loc main_arg1)) (m ((c : Thread nD τ).loc main_arg2)) (m ((c : Thread nD τ).loc main_arg3)) (ix2 (rowAt t r) d) := by
  rw [v36_at]
  exact pay6_at (b := fun r => row (m ((c : Thread nD τ).loc main_arg0)) (rowAt t r)) (x := fun r => row (m ((c : Thread nD τ).loc main_arg2)) (rowAt t r))
    (c := fun r => row (m ((c : Thread nD τ).loc main_arg1)) (rowAt t r)) (g := vec (m ((c : Thread nD τ).loc main_arg3)))
    (fun r k => (cond_of m c t r k).1) (fun r k => (cond_of m c t r k).2.2.1) (fun r k => (cond_of m c t r k).2.1) (fun k => (cond_of m c t 0 k).2.2.2) r d

/-- A term of the gain's gradient. -/
def term (d k : Fin 2048) : EReal := row (m ((c : Thread nD τ).loc main_arg1)) k d * (row (m ((c : Thread nD τ).loc main_arg2)) k d * rs (row (m ((c : Thread nD τ).loc main_arg2)) k))

/-- What a block adds to the gain's gradient. -/
def part (d : Fin 2048) (s : ℕ) : EReal := ∑ r : Fin 256, term m c d ⟨(256 * s + r.val) % 2048, Nat.mod_lt _ (by decide)⟩

theorem part_at (t : Fin cfg0.N) (d : Fin 2048) : k0_pay5 (F := Ideal) (iblk m c 2 t) (iblk m c 1 t) (ix2 (0 : Fin 1) d) = part m c d t.val := by
  rw [pay5_at (x := fun r => row (m ((c : Thread nD τ).loc main_arg2)) (rowAt t r)) (c := fun r => row (m ((c : Thread nD τ).loc main_arg1)) (rowAt t r))
    (fun r k => (cond_of m c t r k).2.2.1) (fun r k => (cond_of m c t r k).2.1)]
  refine sum_congr rfl fun r _ => ?_
  rw [show (⟨(256 * t.val + r.val) % 2048, Nat.mod_lt _ (by decide)⟩ : Fin 2048) = rowAt t r from Fin.ext (Nat.mod_eq_of_lt (rowAt t r).isLt)]
  rfl

/-- The gain's gradient after a point: the sum over the blocks so far. -/
theorem holds : ∀ (n : ℕ) (hn : n < cfg0.N) (d : Fin 2048), (outsAt0 m c n hn).2 (ix2 (0 : Fin 1) d) = (∑ s ∈ range (n + 1), part m c d s)
  | 0, hn, d => by
    rw [show outsAt0 m c 0 hn = _ from outsAt0_A m c ⟨0, hn⟩ rfl]
    dsimp only
    rw [out5_A, add_at, zero_at, part_at m c, sum_range_one, zero_add]
  | n + 1, hn, d => by
    have h8 : n + 1 < 8 := N_eq ▸ hn
    rw [show outsAt0 m c (n + 1) hn = _ from outsAt0_B m c ⟨n + 1, hn⟩ (by show ¬(n + 1) % 8 = 0; omega)]
    dsimp only
    rw [out5_B, add_at, part_at m c, sum_range_succ]
    exact congrArg (· + _) (holds n (Nat.lt_of_succ_lt hn) d)

theorem block4 (t : Fin cfg0.N) : (dats m 0 c).flushed 4 t = ((cfg0.win 4).blk t).view.read (Elt Ideal)
    (val_main_v36 (F := Ideal) (m ((c : Thread nD τ).loc main_arg0)) (m ((c : Thread nD τ).loc main_arg1)) (m ((c : Thread nD τ).loc main_arg2)) (m ((c : Thread nD τ).loc main_arg3))) := by
  have e : (dats m 0 c).flushed 4 t = k0_pay6 (F := Ideal) (iblk m c 2 t) (iblk m c 3 t) (iblk m c 1 t) (iblk m c 0 t) := by
    by_cases h0 : t.val % 8 = 0
    · rw [Value.flushed4_A m c t h0, out4_A]; rfl
    · rw [Value.flushed4_B m c t h0, out4_B]; rfl
  rw [e]
  funext y
  obtain ⟨r, d, rfl⟩ : ∃ (r : Fin 256) (d : Fin 2048), y = ix2 r d := ⟨y 0, y 1, by
    funext a
    match a with
    | ⟨0, _⟩ => rfl
    | ⟨1, _⟩ => rfl⟩
  exact (rows_at m c t r d).trans (read4 _ t r d).symm

/-- The rows' gradient. -/
theorem result_rows : (dats m 0 c).arrAt 4 cfg0.N
    = val_main_v36 (F := Ideal) (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => block4 m c t) (fun i =>
    have h0 : (i 0).val < 2048 := (i 0).isLt
    ⟨⟨(i 0).val / 256, by rw [N_eq]; omega⟩, flush_at _, mem4 _ i rfl⟩)

theorem block5 (t : Fin cfg0.N) (hf : (cfg0.win 5).flush t = true) : (dats m 0 c).flushed 5 t = ((cfg0.win 5).blk t).view.read (Elt Ideal)
    (val_main_v37 (F := Ideal) (m ((c : Thread nD τ).loc main_arg1)) (m ((c : Thread nD τ).loc main_arg2))) := by
  have h7 : t.val = 7 := by
    have := (flush0_5 t).1 hf
    have ht : t.val < 8 := N_eq ▸ t.isLt
    omega
  have e : (dats m 0 c).flushed 5 t = (outsAt0 m c t.val t.isLt).2 := (Value.flushed5 m c t).trans rfl
  rw [e]
  funext y
  obtain ⟨d, rfl⟩ : ∃ d : Fin 2048, y = ix2 (0 : Fin 1) d := ⟨y 1, by
    funext a
    match a with
    | ⟨0, _⟩ => exact Subsingleton.elim (α := Fin 1) _ _
    | ⟨1, _⟩ => rfl⟩
  refine Eq.trans ?_ (read5 _ t d).symm
  rw [v37_at, holds m c, h7, sum_blocks]
  rfl

/-- The gain's gradient. -/
theorem result_gain : (dats m 0 c).arrAt 5 cfg0.N
    = val_main_v37 (F := Ideal) (m ((c : Thread nD τ).loc main_arg1)) (m ((c : Thread nD τ).loc main_arg2)) :=
  (dats m 0 c).arrAt_eq_of_cover 5 _ (fun t h => block5 m c t h) (fun i =>
    ⟨⟨7, by rw [N_eq]; omega⟩, (flush0_5 _).2 rfl, mem5 _ i⟩)

end Cert.Kernel17Ideal

end
-- ==== Proof.FinalGrad.lean ====
module

public import proofs.«01_k».proof.Proof.Gen.Kernel18Ideal.Value
public import proofs.«01_k».proof.Proof.Gen.Reference18Ideal.Read
public import proofs.«01_k».proof.Proof.Norm
public import proofs.«01_k».proof.Proof.Tiles
public import Idealize.ShloMosaic.Lib.Pipeline.ValueKit.Point
public import Idealize.ShloMosaic.Lib.StableHlo.ReadAt

/-!
# The down product, the loss and the gradient through the last norm

At point `t` the rows are those of block `t` of 256.  The cotangent of the sum and the gradient of the product are written at
every point; the loss and the gain's gradient are added up over the points.
-/

@[expose] public section

set_option maxRecDepth 16384

noncomputable section

namespace Cert.Kernel18Ideal

open Idealize.ShloMosaic Idealize.ShloMosaic.TcCoe Idealize.SL.Sem Gen Finset
open Cert.Norm hiding row vec
open Cert.Norm (row vec)
open Cert.Attention (readCov_ld read_writes_cons overlay_whole ld_whole ofBits_one)
open Reference18Ideal.Read

/-! ## The error of a row -/

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_share : Ideal.ofBits .f32 0x3A000000#32 = ((1 / 2048 : ℝ) : EReal) := by
  simp [Ideal.ofBits, Ideal.ieee, -EReal.coe_mul]; norm_num

/-- The error of a row: the residual and the normed product, less the target. -/
def err (y b q g : Fin 2048 → EReal) (d : Fin 2048) : EReal := b d + y d * rs y * g d - q d

/-- The loss's gradient by the row. -/
def cot (y b q g : Fin 2048 → EReal) (d : Fin 2048) : EReal := err y b q g d * ((1 / 2048 : ℝ) : EReal)

/-- The mean square error of a row. -/
def rowLoss (y b q g : Fin 2048 → EReal) : EReal := Ideal.div (∑ k, err y b q g k * err y b q g k) ((2048 : ℝ) : EReal)

/-! ## One block -/

/-- The sums of the squares. -/
def sumsq (v : FVec Ideal S256x2048 .f32) : FVec Ideal S256 .f32 :=
  multiReduction .add [1] S256 (mulf v v) 0x00000000#32 reduces_S256x2048_S256 (.inl rfl) rfl

section block

variable {v u q : FVec Ideal S256x2048 .f32} {w : FVec Ideal S1x2048 .f32} {y b z : Fin 256 → Fin 2048 → EReal} {g : Fin 2048 → EReal}

theorem sumsq_at (hy : ∀ r k, v (ix2 r k) = y r k) (r : Fin 256) : sumsq v (ix1 r) = (∑ k, y r k * y r k) := by
  pointwise [sumsq, hy] <;> rfl

theorem pay9_at (hg : ∀ k, w (ix2 (0 : Fin 1) k) = g k) (k : Fin 2048) : k0_pay9 (F := Ideal) w (ix2 (0 : Fin 1) k) = g k := by
  pointwise [k0_pay9, hg]

theorem pay14_at (hg : ∀ k, w (ix2 (0 : Fin 1) k) = g k) (k : Fin 2048) : k0_pay14 (F := Ideal) w (ix2 (0 : Fin 1) k) = g k := by
  pointwise [k0_pay14, hg]

theorem pay11_at (hy : ∀ r k, v (ix2 r k) = y r k) (hb : ∀ r k, u (ix2 r k) = b r k) (hz : ∀ r k, q (ix2 r k) = z r k)
    (hg : ∀ k, w (ix2 (0 : Fin 1) k) = g k) (r : Fin 256) (d : Fin 2048) :
    k0_pay11 (F := Ideal) v u (k0_pay9 w) (sumsq v) q (ix2 r d) = err (y r) (b r) (z r) g d := by
  pointwise [k0_pay11, hy, hb, hz, pay9_at hg, sumsq_at hy, ofBits_count, ofBits_eps] <;> rfl

theorem pay13_at (hy : ∀ r k, v (ix2 r k) = y r k) (hb : ∀ r k, u (ix2 r k) = b r k) (hz : ∀ r k, q (ix2 r k) = z r k)
    (hg : ∀ k, w (ix2 (0 : Fin 1) k) = g k) (r : Fin 256) (d : Fin 2048) :
    k0_pay13 (F := Ideal) v u (k0_pay9 w) (sumsq v) q (ix2 r d) = cot (y r) (b r) (z r) g d := by
  pointwise [k0_pay13, pay11_at hy hb hz hg, ofBits_share] <;> rfl

theorem pay12_at (hy : ∀ r k, v (ix2 r k) = y r k) (hb : ∀ r k, u (ix2 r k) = b r k) (hz : ∀ r k, q (ix2 r k) = z r k)
    (hg : ∀ k, w (ix2 (0 : Fin 1) k) = g k) (s : FVec Ideal S1x128 .f32) (l : Fin 128) :
    k0_pay12 (F := Ideal) v u (k0_pay9 w) (sumsq v) q s (ix2 (0 : Fin 1) l) = s (ix2 (0 : Fin 1) l) + ((1 / 2 : ℝ) : EReal) * ∑ r, rowLoss (y r) (b r) (z r) g := by
  pointwise [k0_pay12, pay11_at hy hb hz hg, ofBits_half, ofBits_count] <;> rfl

theorem pay1_at (hy : ∀ r k, v (ix2 r k) = y r k) (r : Fin 256) : k0_pay1 (F := Ideal) (k0_pay15 v) k0_pay16 (ix2 r (0 : Fin 1)) = (rs (y r)) := by
  pointwise [k0_pay1, k0_pay15, k0_pay16, hy, ofBits_count, ofBits_eps] <;> rfl

theorem pay2_at (hy : ∀ r k, v (ix2 r k) = y r k) (r : Fin 256) (d : Fin 2048) :
    k0_pay2 (F := Ideal) v (k0_pay15 v) k0_pay16 (ix2 r d) = y r d * rs (y r) := by
  pointwise [k0_pay2, hy, pay1_at hy] <;> rfl

theorem pay3_at {p : FVec Ideal S256x2048 .f32} {c : Fin 256 → Fin 2048 → EReal} (hy : ∀ r k, v (ix2 r k) = y r k) (hp : ∀ r k, p (ix2 r k) = c r k)
    (hg : ∀ k, w (ix2 (0 : Fin 1) k) = g k) (r : Fin 256) (d : Fin 2048) :
    k0_pay3 (F := Ideal) v p (k0_pay14 w) (k0_pay15 v) k0_pay16 (ix2 r d) = grad (y r) g (c r) d := by
  pointwise [k0_pay3, hp, pay14_at hg, pay2_at hy, pay1_at hy, ofBits_count] <;> rfl

theorem pay4_at {p : FVec Ideal S256x2048 .f32} {c : Fin 256 → Fin 2048 → EReal} (hy : ∀ r k, v (ix2 r k) = y r k) (hp : ∀ r k, p (ix2 r k) = c r k)
    (s : FVec Ideal S1x2048 .f32) (d : Fin 2048) :
    k0_pay4 (F := Ideal) v p (k0_pay15 v) k0_pay16 s (ix2 (0 : Fin 1) d) = s (ix2 (0 : Fin 1) d) + (∑ r, c r d * (y r d * rs (y r))) := by
  pointwise [k0_pay4, hp, pay2_at hy] <;> rfl

theorem pay5_at (l : Fin 128) : k0_pay5 (F := Ideal) (ix2 (0 : Fin 1) l) = 0 := by
  pointwise [k0_pay5, ofBits_zero, EReal.coe_zero]

theorem pay6_at (d : Fin 2048) : k0_pay6 (F := Ideal) (ix2 (0 : Fin 1) d) = 0 := by
  pointwise [k0_pay6, ofBits_zero, EReal.coe_zero]

end block

/-! ## The product of a block -/

/-- A slab of the left factor. -/
abbrev left (x : FVec Ideal S8x256x704 .bf16) (j : ℕ) (h : ∀ a, (![j, 0, 0] : Fin 3 → ℕ) a + S1x256x704.size a ≤ S8x256x704.size a) : FVec Ideal S1x256x704 .bf16 :=
  View.ld (Val := Elt Ideal) (e' := .bf16) x (Rect.unit (s := S8x256x704) ![j, 0, 0] S1x256x704.size h)

theorem left_at (x : FVec Ideal S8x256x704 .bf16) (j : ℕ) (hj : j < 8) (h : ∀ a, (![j, 0, 0] : Fin 3 → ℕ) a + S1x256x704.size a ≤ S8x256x704.size a) (r : Fin 256) (f : Fin 704) :
    left x j h (ix3 (0 : Fin 1) r f) = x (ix3 (⟨j, hj⟩ : Fin 8) r f) := by
  show x _ = x _
  congr 1
  funext a
  match a with
  | ⟨0, _⟩ => exact Fin.ext (by show j + 1 * 0 = j; omega)
  | ⟨1, _⟩ => exact Fin.ext (by show 0 + 1 * r.val = r.val; omega)
  | ⟨2, _⟩ => exact Fin.ext (by show 0 + 1 * f.val = f.val; omega)

/-- A slab of the right factor. -/
abbrev right (x : FVec Ideal S8x704x2048 .bf16) (j : ℕ) (h : ∀ a, (![j, 0, 0] : Fin 3 → ℕ) a + S1x704x2048.size a ≤ S8x704x2048.size a) : FVec Ideal S1x704x2048 .bf16 :=
  View.ld (Val := Elt Ideal) (e' := .bf16) x (Rect.unit (s := S8x704x2048) ![j, 0, 0] S1x704x2048.size h)

theorem right_at (x : FVec Ideal S8x704x2048 .bf16) (j : ℕ) (hj : j < 8) (h : ∀ a, (![j, 0, 0] : Fin 3 → ℕ) a + S1x704x2048.size a ≤ S8x704x2048.size a) (r : Fin 704) (f : Fin 2048) :
    right x j h (ix3 (0 : Fin 1) r f) = x (ix3 (⟨j, hj⟩ : Fin 8) r f) := by
  show x _ = x _
  congr 1
  funext a
  match a with
  | ⟨0, _⟩ => exact Fin.ext (by show j + 1 * 0 = j; omega)
  | ⟨1, _⟩ => exact Fin.ext (by show 0 + 1 * r.val = r.val; omega)
  | ⟨2, _⟩ => exact Fin.ext (by show 0 + 1 * f.val = f.val; omega)

/-- The block's product, over the eight slabs. -/
def product (x : FVec Ideal S8x256x704 .bf16) (w : FVec Ideal S8x704x2048 .bf16) : FVec Ideal S256x2048 .f32 :=
  k0_pay8 (F := Ideal) (k0_pay7 (F := Ideal) (left x 0 inb_S8x256x704_S1x256x704_0_0_0) (right w 0 inb_S8x704x2048_S1x704x2048_0_0_0) (left x 1 inb_S8x256x704_S1x256x704_1_0_0) (right w 1 inb_S8x704x2048_S1x704x2048_1_0_0) (left x 2 inb_S8x256x704_S1x256x704_2_0_0) (right w 2 inb_S8x704x2048_S1x704x2048_2_0_0) (left x 3 inb_S8x256x704_S1x256x704_3_0_0) (right w 3 inb_S8x704x2048_S1x704x2048_3_0_0))
    (left x 4 inb_S8x256x704_S1x256x704_4_0_0) (right w 4 inb_S8x704x2048_S1x704x2048_4_0_0) (left x 5 inb_S8x256x704_S1x256x704_5_0_0) (right w 5 inb_S8x704x2048_S1x704x2048_5_0_0) (left x 6 inb_S8x256x704_S1x256x704_6_0_0) (right w 6 inb_S8x704x2048_S1x704x2048_6_0_0) (left x 7 inb_S8x256x704_S1x256x704_7_0_0) (right w 7 inb_S8x704x2048_S1x704x2048_7_0_0)

theorem product_at (x : FVec Ideal S8x256x704 .bf16) (w : FVec Ideal S8x704x2048 .bf16) (r : Fin 256) (d : Fin 2048) :
    product x w (ix2 r d) = ∑ s : Fin 8, ∑ f : Fin 704, x (ix3 s r f) * w (ix3 s f d) := by
  rw [Fin.sum_univ_eight]
  pointwise [product, k0_pay8, k0_pay7, dot_S256x704_S704x2048_S256x2048_1_0_0_1_n_n, left_at x 0 (by decide), right_at w 0 (by decide), left_at x 1 (by decide), right_at w 1 (by decide), left_at x 2 (by decide), right_at w 2 (by decide), left_at x 3 (by decide), right_at w 3 (by decide), left_at x 4 (by decide), right_at w 4 (by decide), left_at x 5 (by decide), right_at w 5 (by decide), left_at x 6 (by decide), right_at w 6 (by decide), left_at x 7 (by decide), right_at w 7 (by decide)]

/-! ## One point -/

theorem out5_A (c : Dev nD) (t : Fin cfg0.N) (h : cond0_0 (grid0.coords t)) (x0 : Vec Ideal S8x256x704 .bf16) (x1 : Vec Ideal S8x704x2048 .bf16) (x2 x3 : Vec Ideal S256x2048 .f32) (x4 : Vec Ideal S1x2048 .f32) :
    out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) h x0 x1 x2 x3 x4
      = k0_pay12 (F := Ideal) (product x0 x1) x2 (k0_pay9 x4) (sumsq (product x0 x1)) x3 (k0_pay5 (F := Ideal)) := by
  unfold out0_A_5
  rw [View.read_writes_eq_canon _ _ _ (cover0_A_5 c _ _ _ _ _ _ _ _ _ _ _ _ _ _ _ _ _ _ _ _ _ _ _ _ _)]
  unfold kernelRun0_A
  dsimp only
  sl_unfold_words
  simp only [View.readAt_eq_ld, Memref.IsWhole.read_unread, readCov_ld, View.canon_cons, read_writes_cons, overlay_whole, ld_whole]
  rfl

theorem out5_B (c : Dev nD) (t : Fin cfg0.N) (h : ¬cond0_0 (grid0.coords t)) (x0 : Vec Ideal S8x256x704 .bf16) (x1 : Vec Ideal S8x704x2048 .bf16) (x2 x3 : Vec Ideal S256x2048 .f32) (x4 : Vec Ideal S1x2048 .f32) (s : Vec Ideal S1x128 .f32) (s' : Vec Ideal S1x2048 .f32) :
    out0_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) h x0 x1 x2 x3 x4 s s'
      = k0_pay12 (F := Ideal) (product x0 x1) x2 (k0_pay9 x4) (sumsq (product x0 x1)) x3 s := by
  unfold out0_B_5
  rw [View.read_writes_eq_canon _ _ _ (cover0_B_5 c _ _ _ _ _ _ _ _ _ _ _ _ _ _ _ _ _ _ _ _ _ _ _ _ _ _ _)]
  unfold kernelRun0_B
  dsimp only
  sl_unfold_words
  simp only [View.readAt_eq_ld, Memref.IsWhole.read_unread, readCov_ld, View.canon_cons, read_writes_cons, overlay_whole, ld_whole]
  rfl

theorem out6_A (c : Dev nD) (t : Fin cfg0.N) (h : cond0_0 (grid0.coords t)) (x0 : Vec Ideal S8x256x704 .bf16) (x1 : Vec Ideal S8x704x2048 .bf16) (x2 x3 : Vec Ideal S256x2048 .f32) (x4 : Vec Ideal S1x2048 .f32) :
    out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) h x0 x1 x2 x3 x4
      = k0_pay13 (F := Ideal) (product x0 x1) x2 (k0_pay9 x4) (sumsq (product x0 x1)) x3 := by
  unfold out0_A_6
  rw [View.read_writes_eq_canon _ _ _ (cover0_A_6 c _ _ _ _ _ _ _ _ _ _ _ _ _ _ _ _ _ _ _ _ _ _ _ _ _)]
  unfold kernelRun0_A
  dsimp only
  sl_unfold_words
  simp only [View.readAt_eq_ld, Memref.IsWhole.read_unread, readCov_ld, View.canon_cons, read_writes_cons, overlay_whole, ld_whole]
  rfl

theorem out6_B (c : Dev nD) (t : Fin cfg0.N) (h : ¬cond0_0 (grid0.coords t)) (x0 : Vec Ideal S8x256x704 .bf16) (x1 : Vec Ideal S8x704x2048 .bf16) (x2 x3 : Vec Ideal S256x2048 .f32) (x4 : Vec Ideal S1x2048 .f32) (s : Vec Ideal S1x128 .f32) (s' : Vec Ideal S1x2048 .f32) :
    out0_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) h x0 x1 x2 x3 x4 s s'
      = k0_pay13 (F := Ideal) (product x0 x1) x2 (k0_pay9 x4) (sumsq (product x0 x1)) x3 := by
  unfold out0_B_6
  rw [View.read_writes_eq_canon _ _ _ (cover0_B_6 c _ _ _ _ _ _ _ _ _ _ _ _ _ _ _ _ _ _ _ _ _ _ _ _ _ _ _)]
  unfold kernelRun0_B
  dsimp only
  sl_unfold_words
  simp only [View.readAt_eq_ld, Memref.IsWhole.read_unread, readCov_ld, View.canon_cons, read_writes_cons, overlay_whole, ld_whole]
  rfl

theorem out7_A (c : Dev nD) (t : Fin cfg0.N) (h : cond0_0 (grid0.coords t)) (x0 : Vec Ideal S8x256x704 .bf16) (x1 : Vec Ideal S8x704x2048 .bf16) (x2 x3 : Vec Ideal S256x2048 .f32) (x4 : Vec Ideal S1x2048 .f32) :
    out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) h x0 x1 x2 x3 x4
      = k0_pay3 (F := Ideal) (product x0 x1) (k0_pay13 (F := Ideal) (product x0 x1) x2 (k0_pay9 x4) (sumsq (product x0 x1)) x3) (k0_pay14 x4) (k0_pay15 (product x0 x1)) k0_pay16 := by
  unfold out0_A_7
  rw [View.read_writes_eq_canon _ _ _ (cover0_A_7 c _ _ _ _ _ _ _ _ _ _ _ _ _ _ _ _ _ _ _ _ _ _ _ _ _)]
  unfold kernelRun0_A
  dsimp only
  sl_unfold_words
  simp only [View.readAt_eq_ld, Memref.IsWhole.read_unread, readCov_ld, View.canon_cons, read_writes_cons, overlay_whole, ld_whole]
  rfl

theorem out7_B (c : Dev nD) (t : Fin cfg0.N) (h : ¬cond0_0 (grid0.coords t)) (x0 : Vec Ideal S8x256x704 .bf16) (x1 : Vec Ideal S8x704x2048 .bf16) (x2 x3 : Vec Ideal S256x2048 .f32) (x4 : Vec Ideal S1x2048 .f32) (s : Vec Ideal S1x128 .f32) (s' : Vec Ideal S1x2048 .f32) :
    out0_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) h x0 x1 x2 x3 x4 s s'
      = k0_pay3 (F := Ideal) (product x0 x1) (k0_pay13 (F := Ideal) (product x0 x1) x2 (k0_pay9 x4) (sumsq (product x0 x1)) x3) (k0_pay14 x4) (k0_pay15 (product x0 x1)) k0_pay16 := by
  unfold out0_B_7
  rw [View.read_writes_eq_canon _ _ _ (cover0_B_7 c _ _ _ _ _ _ _ _ _ _ _ _ _ _ _ _ _ _ _ _ _ _ _ _ _ _ _)]
  unfold kernelRun0_B
  dsimp only
  sl_unfold_words
  simp only [View.readAt_eq_ld, Memref.IsWhole.read_unread, readCov_ld, View.canon_cons, read_writes_cons, overlay_whole, ld_whole]
  rfl

theorem out8_A (c : Dev nD) (t : Fin cfg0.N) (h : cond0_0 (grid0.coords t)) (x0 : Vec Ideal S8x256x704 .bf16) (x1 : Vec Ideal S8x704x2048 .bf16) (x2 x3 : Vec Ideal S256x2048 .f32) (x4 : Vec Ideal S1x2048 .f32) :
    out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) h x0 x1 x2 x3 x4
      = k0_pay4 (F := Ideal) (product x0 x1) (k0_pay13 (F := Ideal) (product x0 x1) x2 (k0_pay9 x4) (sumsq (product x0 x1)) x3) (k0_pay15 (product x0 x1)) k0_pay16 (k0_pay6 (F := Ideal)) := by
  unfold out0_A_8
  rw [View.read_writes_eq_canon _ _ _ (cover0_A_8 c _ _ _ _ _ _ _ _ _ _ _ _ _ _ _ _ _ _ _ _ _ _ _ _ _)]
  unfold kernelRun0_A
  dsimp only
  sl_unfold_words
  simp only [View.readAt_eq_ld, Memref.IsWhole.read_unread, readCov_ld, View.canon_cons, read_writes_cons, overlay_whole, ld_whole]
  rfl

theorem out8_B (c : Dev nD) (t : Fin cfg0.N) (h : ¬cond0_0 (grid0.coords t)) (x0 : Vec Ideal S8x256x704 .bf16) (x1 : Vec Ideal S8x704x2048 .bf16) (x2 x3 : Vec Ideal S256x2048 .f32) (x4 : Vec Ideal S1x2048 .f32) (s : Vec Ideal S1x128 .f32) (s' : Vec Ideal S1x2048 .f32) :
    out0_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) h x0 x1 x2 x3 x4 s s'
      = k0_pay4 (F := Ideal) (product x0 x1) (k0_pay13 (F := Ideal) (product x0 x1) x2 (k0_pay9 x4) (sumsq (product x0 x1)) x3) (k0_pay15 (product x0 x1)) k0_pay16 s' := by
  unfold out0_B_8
  rw [View.read_writes_eq_canon _ _ _ (cover0_B_8 c _ _ _ _ _ _ _ _ _ _ _ _ _ _ _ _ _ _ _ _ _ _ _ _ _ _ _)]
  unfold kernelRun0_B
  dsimp only
  sl_unfold_words
  simp only [View.readAt_eq_ld, Memref.IsWhole.read_unread, readCov_ld, View.canon_cons, read_writes_cons, overlay_whole, ld_whole]
  rfl

/-- The blocks that the windows read at a point. -/
theorem index_at (t : Fin cfg0.N) : win0_0.index t = ![0, t.val, 0] ∧ win0_1.index t = ![0, 0, 0] ∧ win0_2.index t = ![t.val, 0] ∧ win0_3.index t = ![t.val, 0]
    ∧ win0_4.index t = ![0, 0] ∧ win0_5.index t = ![0, 0] ∧ win0_6.index t = ![t.val, 0] ∧ win0_7.index t = ![t.val, 0] ∧ win0_8.index t = ![0, 0] := by
  revert t
  decide +kernel

theorem N_eq : cfg0.N = 8 := by decide +kernel

/-- The rows of a point's block. -/
abbrev rowAt (t : Fin cfg0.N) (r : Fin 256) : Fin 2048 := ⟨256 * t.val + r.val, by have ht : t.val < 8 := N_eq ▸ t.isLt; omega⟩

variable (m : (ℓ : Loc nD τ sig) → Buf (Elt Ideal) ℓ) (c : Dev nD)

/-- A matrix cut into eight slabs of 704 columns. -/
def slabs (x : FVec Ideal S2048x5632 .f32) : FVec Ideal S8x2048x704 .bf16 :=
  truncf .bf16 (transpose S8x2048x704 [1, 0, 2] (shapeCast S2048x8x704 x shapeCasts_S2048x5632_S2048x8x704) transposes_S2048x8x704_S8x2048x704_1_0_2) bitsLt_bf16_f32

theorem slabs_at (x : FVec Ideal S2048x5632 .f32) (s : Fin 8) (r : Fin 2048) (f : Fin 704) :
    slabs x (ix3 s r f) = x (ix2 r (⟨s.val * 704 + f.val, by omega⟩ : Fin 5632)) := by
  pointwise [slabs]

/-- The weights cut into eight slabs of 704 rows. -/
def rowSlabs (w : FVec Ideal S5632x2048 .f32) : FVec Ideal S8x704x2048 .bf16 :=
  truncf .bf16 (shapeCast S8x704x2048 w shapeCasts_S5632x2048_S8x704x2048) bitsLt_bf16_f32

theorem rowSlabs_at (w : FVec Ideal S5632x2048 .f32) (s : Fin 8) (f : Fin 704) (d : Fin 2048) :
    rowSlabs w (ix3 s f d) = w (ix2 (⟨s.val * 704 + f.val, by omega⟩ : Fin 5632) d) := by
  pointwise [rowSlabs]

/-- The vector as a row. -/
def asRow (x : FVec Ideal S2048 .f32) : FVec Ideal S1x2048 .f32 := broadcastInDim S1x2048 ![1] bcast_S2048_S1x2048_1 x

theorem asRow_at (x : FVec Ideal S2048 .f32) (k : Fin 2048) : asRow x (ix2 (0 : Fin 1) k) = x (ix1 k) := by
  pointwise [asRow]

theorem V_v2 : V (F := Ideal) m c main_v2 = slabs (m ((c : Thread nD τ).loc main_arg0)) := by
  unfold_abbrev_sides
  after_reads_simp
  rfl

theorem V_v4 : V (F := Ideal) m c main_v4 = rowSlabs (m ((c : Thread nD τ).loc main_arg1)) := by
  unfold_abbrev_sides
  after_reads_simp
  rfl

theorem V_v5 : V (F := Ideal) m c main_v5 = asRow (m ((c : Thread nD τ).loc main_arg4)) := by
  unfold_abbrev_sides
  after_reads_simp
  rfl

theorem window0_at (t : Fin cfg0.N) (s : Fin 8) (r : Fin 256) (f : Fin 704) : (iblk m c 0 t : FVec Ideal S8x256x704 .bf16) (ix3 s r f) = V m c main_v2 (ix3 s (rowAt t r) f) := by
  blk_ext [iblk, (index_at t).1]

theorem window1_at (t : Fin cfg0.N) (s : Fin 8) (f : Fin 704) (d : Fin 2048) : (iblk m c 1 t : FVec Ideal S8x704x2048 .bf16) (ix3 s f d) = V m c main_v4 (ix3 s f d) := by
  blk_ext [iblk, (index_at t).2.1]

theorem window2_at (t : Fin cfg0.N) (r : Fin 256) (d : Fin 2048) : (iblk m c 2 t : FVec Ideal S256x2048 .f32) (ix2 r d) = V m c main_arg2 (ix2 (rowAt t r) d) := by
  blk_ext [iblk, (index_at t).2.2.1]

theorem window3_at (t : Fin cfg0.N) (r : Fin 256) (d : Fin 2048) : (iblk m c 3 t : FVec Ideal S256x2048 .f32) (ix2 r d) = V m c main_arg3 (ix2 (rowAt t r) d) := by
  blk_ext [iblk, (index_at t).2.2.2.1]

theorem window4_at (t : Fin cfg0.N) (d : Fin 2048) : (iblk m c 4 t : FVec Ideal S1x2048 .f32) (ix2 (0 : Fin 1) d) = V m c main_v5 (ix2 (0 : Fin 1) d) := by
  blk_ext [iblk, (index_at t).2.2.2.2.1]

/-! Blocks of the results. -/

theorem read6 (X : FVec Ideal S2048x2048 .f32) (t : Fin cfg0.N) (r : Fin 256) (d : Fin 2048) :
    (((cfg0.win 6).blk t).view.read (Elt Ideal) X : FVec Ideal S256x2048 .f32) (ix2 r d) = X (ix2 (rowAt t r) d) := by
  blk_ext [(index_at t).2.2.2.2.2.2.1]

theorem mem6 (t : Fin cfg0.N) (i : S2048x2048.Idx) (h : t.val = (i 0).val / 256) : i ∈ ((cfg0.win 6).blk t).view.set := by
  show i ∈ ((View.whole main_v6_1).slice (win0_6.rect t)).set
  rw [View.set_slice_whole, Rect.mem_set_unit]
  have h1 : (i 1).val < 2048 := (i 1).isLt
  intro a
  match a with
  | ⟨0, _⟩ =>
    show win0_6.index t (0 : Fin 2) * 256 ≤ (i 0).val ∧ (i 0).val < win0_6.index t (0 : Fin 2) * 256 + 256
    rw [(index_at t).2.2.2.2.2.2.1]; show t.val * 256 ≤ _ ∧ _ < t.val * 256 + 256; omega
  | ⟨1, _⟩ =>
    show win0_6.index t (1 : Fin 2) * 2048 ≤ (i 1).val ∧ (i 1).val < win0_6.index t (1 : Fin 2) * 2048 + 2048
    rw [(index_at t).2.2.2.2.2.2.1]; show 0 * 2048 ≤ _ ∧ _ < 0 * 2048 + 2048; omega

theorem read7 (X : FVec Ideal S2048x2048 .bf16) (t : Fin cfg0.N) (r : Fin 256) (d : Fin 2048) :
    (((cfg0.win 7).blk t).view.read (Elt Ideal) X : FVec Ideal S256x2048 .bf16) (ix2 r d) = X (ix2 (rowAt t r) d) := by
  blk_ext [(index_at t).2.2.2.2.2.2.2.1]

theorem mem7 (t : Fin cfg0.N) (i : S2048x2048.Idx) (h : t.val = (i 0).val / 256) : i ∈ ((cfg0.win 7).blk t).view.set := by
  show i ∈ ((View.whole main_v6_2).slice (win0_7.rect t)).set
  rw [View.set_slice_whole, Rect.mem_set_unit]
  have h1 : (i 1).val < 2048 := (i 1).isLt
  intro a
  match a with
  | ⟨0, _⟩ =>
    show win0_7.index t (0 : Fin 2) * 256 ≤ (i 0).val ∧ (i 0).val < win0_7.index t (0 : Fin 2) * 256 + 256
    rw [(index_at t).2.2.2.2.2.2.2.1]; show t.val * 256 ≤ _ ∧ _ < t.val * 256 + 256; omega
  | ⟨1, _⟩ =>
    show win0_7.index t (1 : Fin 2) * 2048 ≤ (i 1).val ∧ (i 1).val < win0_7.index t (1 : Fin 2) * 2048 + 2048
    rw [(index_at t).2.2.2.2.2.2.2.1]; show 0 * 2048 ≤ _ ∧ _ < 0 * 2048 + 2048; omega

theorem read5 (X : FVec Ideal S1x128 .f32) (t : Fin cfg0.N) (d : Fin 128) :
    (((cfg0.win 5).blk t).view.read (Elt Ideal) X : FVec Ideal S1x128 .f32) (ix2 (0 : Fin 1) d) = X (ix2 (0 : Fin 1) d) := by
  blk_ext [(index_at t).2.2.2.2.2.1]

theorem mem5 (t : Fin cfg0.N) (i : S1x128.Idx) : i ∈ ((cfg0.win 5).blk t).view.set := by
  show i ∈ ((View.whole main_v6_0).slice (win0_5.rect t)).set
  rw [View.set_slice_whole, Rect.mem_set_unit]
  have h0 : (i 0).val < 1 := (i 0).isLt
  have h1 : (i 1).val < 128 := (i 1).isLt
  intro a
  match a with
  | ⟨0, _⟩ =>
    show win0_5.index t (0 : Fin 2) * 1 ≤ (i 0).val ∧ (i 0).val < win0_5.index t (0 : Fin 2) * 1 + 1
    rw [(index_at t).2.2.2.2.2.1]; show 0 * 1 ≤ _ ∧ _ < 0 * 1 + 1; omega
  | ⟨1, _⟩ =>
    show win0_5.index t (1 : Fin 2) * 128 ≤ (i 1).val ∧ (i 1).val < win0_5.index t (1 : Fin 2) * 128 + 128
    rw [(index_at t).2.2.2.2.2.1]; show 0 * 128 ≤ _ ∧ _ < 0 * 128 + 128; omega

theorem read8 (X : FVec Ideal S1x2048 .f32) (t : Fin cfg0.N) (d : Fin 2048) :
    (((cfg0.win 8).blk t).view.read (Elt Ideal) X : FVec Ideal S1x2048 .f32) (ix2 (0 : Fin 1) d) = X (ix2 (0 : Fin 1) d) := by
  blk_ext [(index_at t).2.2.2.2.2.2.2.2]

theorem mem8 (t : Fin cfg0.N) (i : S1x2048.Idx) : i ∈ ((cfg0.win 8).blk t).view.set := by
  show i ∈ ((View.whole main_v6_3).slice (win0_8.rect t)).set
  rw [View.set_slice_whole, Rect.mem_set_unit]
  have h0 : (i 0).val < 1 := (i 0).isLt
  have h1 : (i 1).val < 2048 := (i 1).isLt
  intro a
  match a with
  | ⟨0, _⟩ =>
    show win0_8.index t (0 : Fin 2) * 1 ≤ (i 0).val ∧ (i 0).val < win0_8.index t (0 : Fin 2) * 1 + 1
    rw [(index_at t).2.2.2.2.2.2.2.2]; show 0 * 1 ≤ _ ∧ _ < 0 * 1 + 1; omega
  | ⟨1, _⟩ =>
    show win0_8.index t (1 : Fin 2) * 2048 ≤ (i 1).val ∧ (i 1).val < win0_8.index t (1 : Fin 2) * 2048 + 2048
    rw [(index_at t).2.2.2.2.2.2.2.2]; show 0 * 2048 ≤ _ ∧ _ < 0 * 2048 + 2048; omega

/-! ## The reference -/

section ref

variable {a : FVec Ideal S2048x5632 .f32} {w : FVec Ideal S5632x2048 .f32} {b q : FVec Ideal S2048x2048 .f32} {g : FVec Ideal S2048 .f32}

theorem v0_at (a : FVec Ideal S2048x5632 .f32) (w : FVec Ideal S5632x2048 .f32) (r d : Fin 2048) :
    val_main_v0 (F := Ideal) a w (ix2 r d) = ∑ k : Fin 5632, a (ix2 r k) * w (ix2 k d) := by
  pointwise [val_main_v0, Reference18Ideal.dot_S2048x5632_S5632x2048_S2048x2048_1_0_0_1_n_n]

/-- The product, slab by slab. -/
theorem v0_slabs (a : FVec Ideal S2048x5632 .f32) (w : FVec Ideal S5632x2048 .f32) (r d : Fin 2048) :
    val_main_v0 (F := Ideal) a w (ix2 r d) = ∑ s : Fin 8, ∑ f : Fin 704, a (ix2 r (⟨s.val * 704 + f.val, by omega⟩ : Fin 5632)) * w (ix2 (⟨s.val * 704 + f.val, by omega⟩ : Fin 5632) d) := by
  rw [v0_at]
  refine (Padding.sum_groups (a := 8) (b := 704) fun k : Fin 5632 => a (ix2 r k) * w (ix2 k d)).trans ?_
  refine sum_congr rfl fun s _ => sum_congr rfl fun f _ => ?_
  have e : finProdFinEquiv (m := 8) (n := 704) (s, f) = (⟨s.val * 704 + f.val, by omega⟩ : Fin 5632) := Fin.ext (by show f.val + 704 * s.val = s.val * 704 + f.val; omega)
  rw [e]

/-- The row of the product. -/
def prow (a : FVec Ideal S2048x5632 .f32) (w : FVec Ideal S5632x2048 .f32) (r k : Fin 2048) : EReal := (val_main_v0 (F := Ideal) a w (ix2 r k))

theorem prow_eq (a : FVec Ideal S2048x5632 .f32) (w : FVec Ideal S5632x2048 .f32) (r k : Fin 2048) : val_main_v0 (F := Ideal) a w (ix2 r k) = prow a w r k := rfl

theorem v7_at (r : Fin 2048) : val_main_v7 (F := Ideal) a w (ix2 r (0 : Fin 1)) = ms (prow a w r) := by
  pointwise [val_main_v7, val_main_v6, val_main_v5, val_main_v4, val_main_v3, val_main_v2, val_main_v1, val_main_cst, val_main_cst_0, val_main_cst_1, prow_eq a w, ofBits_count, ofBits_eps] <;> rfl

theorem v8_at (r : Fin 2048) : val_main_v8 (F := Ideal) a w (ix2 r (0 : Fin 1)) = rs (prow a w r) := by
  pointwise [val_main_v8, v7_at] <;> rfl

theorem v13_at (r k : Fin 2048) : val_main_v13 (F := Ideal) a w (ix2 r k) = prow a w r k * rs (prow a w r) := by
  pointwise [val_main_v13, val_main_v12, v8_at, prow_eq a w] <;> rfl

theorem v18_at (r k : Fin 2048) : val_main_v18 (F := Ideal) a w b q g (ix2 r k) = err (prow a w r) (row b r) (row q r) (vec g) k := by
  pointwise [val_main_v18, val_main_v17, val_main_v16, val_main_v15, val_main_v14, v13_at, row_eq b, row_eq q, vec_eq g] <;> rfl

theorem v32_at (r k : Fin 2048) : val_main_v32 (F := Ideal) a w b q g (ix2 r k) = cot (prow a w r) (row b r) (row q r) (vec g) k := by
  pointwise [val_main_v32, val_main_v31, val_main_v30, val_main_v29, val_main_v28, val_main_v27, val_main_v21, val_main_v20, val_main_cst_3, val_main_cst_8, val_main_cst_9, val_main_cst_10,
    v18_at, ofBits_half, ofBits_one, ofBits_two, ofBits_count]
  simp only [← EReal.coe_one, ← EReal.coe_mul, Ideal.div_coe (show (2048 : ℝ) ≠ 0 by norm_num), cot]
  rw [← mul_assoc, ← EReal.coe_mul, mul_comm]
  congr 2
  norm_num

theorem v53_at (l : Fin 128) : val_main_v53 (F := Ideal) a w b q g (ix2 (0 : Fin 1) l)
    = ((1 / 2 : ℝ) : EReal) * ∑ r, rowLoss (prow a w r) (row b r) (row q r) (vec g) := by
  pointwise [val_main_v53, val_main_v26, val_main_v25, val_main_v24, val_main_v23, val_main_v22, val_main_v19, val_main_cst_4, val_main_cst_5, val_main_cst_6, val_main_cst_7,
    v18_at, ofBits_half, ofBits_count] <;> rfl

theorem v37_at (r k : Fin 2048) : val_main_v37 (F := Ideal) a w b q g (ix2 r k) = cot (prow a w r) (row b r) (row q r) (vec g) k * vec g k := by
  pointwise [val_main_v37, val_main_v36, val_main_v14, v32_at, vec_eq g] <;> rfl

theorem v41_at (r : Fin 2048) : val_main_v41 (F := Ideal) a w b q g (ix2 r (0 : Fin 1))
    = ∑ k, prow a w r k * (cot (prow a w r) (row b r) (row q r) (vec g) k * vec g k) := by
  pointwise [val_main_v41, val_main_v40, val_main_v39, val_main_cst_13, v37_at, prow_eq a w] <;> rfl

theorem v46_at (r : Fin 2048) : val_main_v46 (F := Ideal) a w b q g (ix2 r (0 : Fin 1))
    = chain (prow a w r) (vec g) (cot (prow a w r) (row b r) (row q r) (vec g)) := by
  pointwise [val_main_v46, val_main_v45, val_main_v44, val_main_v11, val_main_v10, val_main_v9, val_main_cst_2, val_main_cst_14, v41_at, v8_at, v7_at, ofBits_count, ofBits_neg_half] <;> rfl

theorem v54_at (r k : Fin 2048) : val_main_v54 (F := Ideal) a w b q g (ix2 r k)
    = grad (prow a w r) (vec g) (cot (prow a w r) (row b r) (row q r) (vec g)) k := by
  rw [← grad_eq]
  pointwise [val_main_v54, val_main_v52, val_main_v51, val_main_v50, val_main_v49, val_main_v48, val_main_v47, val_main_v43, val_main_v42, val_main_cst_15, v46_at, v37_at, v8_at, prow_eq a w]
  simp only [Fin.sum_univ_one, v46_at]

theorem v55_at (k : Fin 2048) : val_main_v55 (F := Ideal) a w b q g (ix2 (0 : Fin 1) k)
    = ∑ r, cot (prow a w r) (row b r) (row q r) (vec g) k * (prow a w r k * rs (prow a w r)) := by
  pointwise [val_main_v55, val_main_v38, val_main_v35, val_main_v34, val_main_v33, val_main_cst_11, val_main_cst_12, v13_at, v32_at]
  simp only [Fin.sum_univ_one]
  exact sum_congr rfl fun r _ => mul_comm _ _

end ref

/-! ## The results -/

theorem product_eq (t : Fin cfg0.N) (r : Fin 256) (d : Fin 2048) : product (iblk m c 0 t) (iblk m c 1 t) (ix2 r d) = val_main_v0 (F := Ideal) (m ((c : Thread nD τ).loc main_arg0)) (m ((c : Thread nD τ).loc main_arg1)) (ix2 (rowAt t r) d) := by
  rw [product_at, v0_slabs]
  refine sum_congr rfl fun s _ => sum_congr rfl fun f _ => ?_
  rw [window0_at, window1_at, V_v2, V_v4, slabs_at, rowSlabs_at]

/-- The rows of a point's block. -/
abbrev yAt (t : Fin cfg0.N) (r : Fin 256) : Fin 2048 → EReal := prow (m ((c : Thread nD τ).loc main_arg0)) (m ((c : Thread nD τ).loc main_arg1)) (rowAt t r)
abbrev bAt (t : Fin cfg0.N) (r : Fin 256) : Fin 2048 → EReal := row (m ((c : Thread nD τ).loc main_arg2)) (rowAt t r)
abbrev qAt (t : Fin cfg0.N) (r : Fin 256) : Fin 2048 → EReal := row (m ((c : Thread nD τ).loc main_arg3)) (rowAt t r)
abbrev gain : Fin 2048 → EReal := vec (m ((c : Thread nD τ).loc main_arg4))

theorem y_of (t : Fin cfg0.N) (r : Fin 256) (k : Fin 2048) : product (iblk m c 0 t) (iblk m c 1 t) (ix2 r k) = yAt m c t r k := by
  rw [product_eq]; rfl

theorem b_of (t : Fin cfg0.N) (r : Fin 256) (k : Fin 2048) : (iblk m c 2 t : FVec Ideal S256x2048 .f32) (ix2 r k) = bAt m c t r k := by
  rw [window2_at, V_main_arg2]; exact row_eq _ _ _

theorem q_of (t : Fin cfg0.N) (r : Fin 256) (k : Fin 2048) : (iblk m c 3 t : FVec Ideal S256x2048 .f32) (ix2 r k) = qAt m c t r k := by
  rw [window3_at, V_main_arg3]; exact row_eq _ _ _

theorem g_of (t : Fin cfg0.N) (k : Fin 2048) : (iblk m c 4 t : FVec Ideal S1x2048 .f32) (ix2 (0 : Fin 1) k) = gain m c k := by
  rw [window4_at, V_v5, asRow_at]; exact vec_eq _ _

/-- The cotangent of a block. -/
theorem cot_at (t : Fin cfg0.N) (r : Fin 256) (d : Fin 2048) :
    k0_pay13 (F := Ideal) (product (iblk m c 0 t) (iblk m c 1 t)) (iblk m c 2 t) (k0_pay9 (iblk m c 4 t)) (sumsq (product (iblk m c 0 t) (iblk m c 1 t))) (iblk m c 3 t) (ix2 r d)
      = cot (yAt m c t r) (bAt m c t r) (qAt m c t r) (gain m c) d :=
  pay13_at (y_of m c t) (b_of m c t) (q_of m c t) (g_of m c t) r d

/-- What a block adds to the loss. -/
def lossPart (s : ℕ) : EReal := ∑ r : Fin 256, (fun k : Fin 2048 => rowLoss (prow (m ((c : Thread nD τ).loc main_arg0)) (m ((c : Thread nD τ).loc main_arg1)) k) (row (m ((c : Thread nD τ).loc main_arg2)) k) (row (m ((c : Thread nD τ).loc main_arg3)) k) (vec (m ((c : Thread nD τ).loc main_arg4)))) ⟨(256 * s + r.val) % 2048, Nat.mod_lt _ (by decide)⟩

/-- What a block adds to the gain's gradient. -/
def part (d : Fin 2048) (s : ℕ) : EReal := ∑ r : Fin 256, (fun k : Fin 2048 => cot (prow (m ((c : Thread nD τ).loc main_arg0)) (m ((c : Thread nD τ).loc main_arg1)) k) (row (m ((c : Thread nD τ).loc main_arg2)) k) (row (m ((c : Thread nD τ).loc main_arg3)) k) (vec (m ((c : Thread nD τ).loc main_arg4))) d * (prow (m ((c : Thread nD τ).loc main_arg0)) (m ((c : Thread nD τ).loc main_arg1)) k d * rs (prow (m ((c : Thread nD τ).loc main_arg0)) (m ((c : Thread nD τ).loc main_arg1)) k)))
  ⟨(256 * s + r.val) % 2048, Nat.mod_lt _ (by decide)⟩

theorem rowAt_eq (t : Fin cfg0.N) (r : Fin 256) : (⟨(256 * t.val + r.val) % 2048, Nat.mod_lt _ (by decide)⟩ : Fin 2048) = rowAt t r := Fin.ext (Nat.mod_eq_of_lt (rowAt t r).isLt)

theorem loss_at (t : Fin cfg0.N) (s : FVec Ideal S1x128 .f32) (l : Fin 128) :
    k0_pay12 (F := Ideal) (product (iblk m c 0 t) (iblk m c 1 t)) (iblk m c 2 t) (k0_pay9 (iblk m c 4 t)) (sumsq (product (iblk m c 0 t) (iblk m c 1 t))) (iblk m c 3 t) s (ix2 (0 : Fin 1) l)
      = s (ix2 (0 : Fin 1) l) + ((1 / 2 : ℝ) : EReal) * lossPart m c t.val := by
  rw [pay12_at (y_of m c t) (b_of m c t) (q_of m c t) (g_of m c t)]
  refine congrArg (fun x : EReal => s (ix2 (0 : Fin 1) l) + ((1 / 2 : ℝ) : EReal) * x) (sum_congr rfl fun r _ => ?_)
  rw [rowAt_eq]

theorem part_at (t : Fin cfg0.N) (s : FVec Ideal S1x2048 .f32) (d : Fin 2048) :
    k0_pay4 (F := Ideal) (product (iblk m c 0 t) (iblk m c 1 t)) (k0_pay13 (F := Ideal) (product (iblk m c 0 t) (iblk m c 1 t)) (iblk m c 2 t) (k0_pay9 (iblk m c 4 t))
      (sumsq (product (iblk m c 0 t) (iblk m c 1 t))) (iblk m c 3 t)) (k0_pay15 (product (iblk m c 0 t) (iblk m c 1 t))) k0_pay16 s (ix2 (0 : Fin 1) d)
      = s (ix2 (0 : Fin 1) d) + (part m c d t.val) := by
  rw [pay4_at (y_of m c t) (cot_at m c t)]
  refine congrArg (fun x : EReal => s (ix2 (0 : Fin 1) d) + x) (sum_congr rfl fun r _ => ?_)
  rw [rowAt_eq]

/-- The two sums after a point: those over the blocks so far. -/
theorem holds : ∀ (n : ℕ) (hn : n < cfg0.N),
    (∀ l : Fin 128, (outsAt0 m c n hn).1 (ix2 (0 : Fin 1) l) = (∑ s ∈ range (n + 1), ((1 / 2 : ℝ) : EReal) * lossPart m c s))
    ∧ ∀ d : Fin 2048, (outsAt0 m c n hn).2.2.2 (ix2 (0 : Fin 1) d) = (∑ s ∈ range (n + 1), part m c d s)
  | 0, hn => by
    rw [show outsAt0 m c 0 hn = _ from outsAt0_A m c ⟨0, hn⟩ rfl]
    dsimp only
    constructor
    · intro l
      rw [out5_A, loss_at m c, pay5_at, sum_range_one, zero_add]
    · intro d
      rw [out8_A, part_at m c, pay6_at, sum_range_one, zero_add]
  | n + 1, hn => by
    have h8 : n + 1 < 8 := N_eq ▸ hn
    obtain ⟨e5, e8⟩ := holds n (Nat.lt_of_succ_lt hn)
    rw [show outsAt0 m c (n + 1) hn = _ from outsAt0_B m c ⟨n + 1, hn⟩ (by show ¬(n + 1) % 8 = 0; omega)]
    dsimp only
    constructor
    · intro l
      rw [out5_B, loss_at m c, sum_range_succ]
      exact congrArg (· + _) (e5 l)
    · intro d
      rw [out8_B, part_at m c, sum_range_succ]
      exact congrArg (· + _) (e8 d)

theorem block6 (t : Fin cfg0.N) : (dats m 0 c).flushed 6 t = ((cfg0.win 6).blk t).view.read (Elt Ideal)
    (val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4))) := by
  have e : (dats m 0 c).flushed 6 t = k0_pay13 (F := Ideal) (product (iblk m c 0 t) (iblk m c 1 t)) (iblk m c 2 t) (k0_pay9 (iblk m c 4 t)) (sumsq (product (iblk m c 0 t) (iblk m c 1 t))) (iblk m c 3 t) := by
    by_cases h0 : t.val % 8 = 0
    · rw [Value.flushed6_A m c t h0, out6_A]; rfl
    · rw [Value.flushed6_B m c t h0, out6_B]; rfl
  rw [e]
  funext y
  obtain ⟨r, d, rfl⟩ : ∃ (r : Fin 256) (d : Fin 2048), y = ix2 r d := ⟨y 0, y 1, by
    funext a
    match a with
    | ⟨0, _⟩ => rfl
    | ⟨1, _⟩ => rfl⟩
  exact (cot_at m c t r d).trans ((v32_at _ _).symm.trans (read6 _ t r d).symm)

/-- The loss's gradient by the sum. -/
theorem result_cot : (dats m 0 c).arrAt 6 cfg0.N = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 6 _ (fun t _ => block6 m c t) (fun i =>
    have h0 : (i 0).val < 2048 := (i 0).isLt
    ⟨⟨(i 0).val / 256, by rw [N_eq]; omega⟩, flush0_6 _, mem6 _ i rfl⟩)

theorem block7 (t : Fin cfg0.N) : (dats m 0 c).flushed 7 t = ((cfg0.win 7).blk t).view.read (Elt Ideal)
    (val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4))) := by
  have e : (dats m 0 c).flushed 7 t = k0_pay3 (F := Ideal) (product (iblk m c 0 t) (iblk m c 1 t)) (k0_pay13 (F := Ideal) (product (iblk m c 0 t) (iblk m c 1 t)) (iblk m c 2 t) (k0_pay9 (iblk m c 4 t)) (sumsq (product (iblk m c 0 t) (iblk m c 1 t))) (iblk m c 3 t)) (k0_pay14 (iblk m c 4 t)) (k0_pay15 (product (iblk m c 0 t) (iblk m c 1 t))) k0_pay16 := by
    by_cases h0 : t.val % 8 = 0
    · rw [Value.flushed7_A m c t h0, out7_A]; rfl
    · rw [Value.flushed7_B m c t h0, out7_B]; rfl
  rw [e]
  funext y
  obtain ⟨r, d, rfl⟩ : ∃ (r : Fin 256) (d : Fin 2048), y = ix2 r d := ⟨y 0, y 1, by
    funext a
    match a with
    | ⟨0, _⟩ => rfl
    | ⟨1, _⟩ => rfl⟩
  exact (pay3_at (y_of m c t) (cot_at m c t) (g_of m c t) r d).trans ((v54_at _ _).symm.trans (read7 _ t r d).symm)

/-- The product's gradient. -/
theorem result_rows : (dats m 0 c).arrAt 7 cfg0.N = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 7 _ (fun t _ => block7 m c t) (fun i =>
    have h0 : (i 0).val < 2048 := (i 0).isLt
    ⟨⟨(i 0).val / 256, by rw [N_eq]; omega⟩, flush0_7 _, mem7 _ i rfl⟩)

theorem block5 (t : Fin cfg0.N) (hf : (cfg0.win 5).flush t = true) : (dats m 0 c).flushed 5 t = ((cfg0.win 5).blk t).view.read (Elt Ideal)
    (val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4))) := by
  have h7 : t.val = 7 := by
    have := (flush0_5 t).1 hf
    have ht : t.val < 8 := N_eq ▸ t.isLt
    omega
  have e : (dats m 0 c).flushed 5 t = (outsAt0 m c t.val t.isLt).1 := (Value.flushed5 m c t).trans rfl
  rw [e]
  funext y
  obtain ⟨d, rfl⟩ : ∃ d : Fin 128, y = ix2 (0 : Fin 1) d := ⟨y 1, by
    funext a
    match a with
    | ⟨0, _⟩ => exact Subsingleton.elim (α := Fin 1) _ _
    | ⟨1, _⟩ => rfl⟩
  refine Eq.trans ?_ (read5 _ t d).symm
  rw [v53_at, (holds m c _ _).1, h7, sum_blocks, mul_comm, ← sum_mul_coe _ _ (by norm_num)]
  exact sum_congr rfl fun s _ => mul_comm _ _

/-- The loss. -/
theorem result_loss : (dats m 0 c).arrAt 5 cfg0.N = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 5 _ (fun t h => block5 m c t h) (fun i =>
    ⟨⟨7, by rw [N_eq]; omega⟩, (flush0_5 _).2 rfl, mem5 _ i⟩)

theorem block8 (t : Fin cfg0.N) (hf : (cfg0.win 8).flush t = true) : (dats m 0 c).flushed 8 t = ((cfg0.win 8).blk t).view.read (Elt Ideal)
    (val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4))) := by
  have h7 : t.val = 7 := by
    have := (flush0_8 t).1 hf
    have ht : t.val < 8 := N_eq ▸ t.isLt
    omega
  have e : (dats m 0 c).flushed 8 t = (outsAt0 m c t.val t.isLt).2.2.2 := (Value.flushed8 m c t).trans rfl
  rw [e]
  funext y
  obtain ⟨d, rfl⟩ : ∃ d : Fin 2048, y = ix2 (0 : Fin 1) d := ⟨y 1, by
    funext a
    match a with
    | ⟨0, _⟩ => exact Subsingleton.elim (α := Fin 1) _ _
    | ⟨1, _⟩ => rfl⟩
  refine Eq.trans ?_ (read8 _ t d).symm
  rw [v55_at, (holds m c _ _).2, h7, sum_blocks]
  rfl

/-- The gain's gradient. -/
theorem result_gain : (dats m 0 c).arrAt 8 cfg0.N = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 8 _ (fun t h => block8 m c t h) (fun i =>
    ⟨⟨7, by rw [N_eq]; omega⟩, (flush0_8 _).2 rfl, mem8 _ i⟩)

end Cert.Kernel18Ideal

end
-- ==== Proof.MiddleGrad.lean ====
module

public import proofs.«01_k».proof.Proof.Gen.Kernel19Ideal.Value
public import proofs.«01_k».proof.Proof.Gen.Reference19Ideal.Read
public import proofs.«01_k».proof.Proof.Norm
public import proofs.«01_k».proof.Proof.Tiles
public import Idealize.ShloMosaic.Lib.Pipeline.ValueKit.Point
public import Idealize.ShloMosaic.Lib.StableHlo.ReadAt

/-!
# The gradient through the two norms between the mixing and the feed-forward

At point `t` the rows are those of block `t` of 256.  The rows' gradients are written at every point; the gains' gradients are
added up over the points.
-/

@[expose] public section

set_option maxRecDepth 16384

noncomputable section

namespace Cert.Kernel19Ideal

open Idealize.ShloMosaic Idealize.ShloMosaic.TcCoe Idealize.SL.Sem Gen Finset
open Cert.Norm hiding row vec
open Cert.Norm (row vec)
open Cert.Attention (readCov_ld read_writes_cons overlay_whole ld_whole)
open Reference19Ideal.Read

/-! ## One block -/

section block

variable {v u p : FVec Ideal S256x2048 .f32} {w : FVec Ideal S1x2048 .f32} {x b c : Fin 256 → Fin 2048 → EReal} {g : Fin 2048 → EReal}

theorem pay8_at (hx : ∀ r k, v (ix2 r k) = x r k) (r : Fin 256) (k : Fin 2048) : k0_pay8 (F := Ideal) v (ix2 r k) = x r k := by
  pointwise [k0_pay8, hx]

theorem pay9_at (hx : ∀ r k, v (ix2 r k) = x r k) (r : Fin 256) : k0_pay9 (F := Ideal) v (ix2 r (0 : Fin 1)) = (rs (x r)) := by
  pointwise [k0_pay9, pay8_at hx, ofBits_count, ofBits_eps] <;> rfl

theorem pay10_at (hx : ∀ r k, v (ix2 r k) = x r k) (r : Fin 256) (d : Fin 2048) : k0_pay10 (F := Ideal) v (ix2 r d) = (x r d * rs (x r)) := by
  pointwise [k0_pay10, pay8_at hx, pay9_at hx] <;> rfl

theorem pay12_at (hx : ∀ r k, v (ix2 r k) = x r k) (hg : ∀ k, w (ix2 (0 : Fin 1) k) = g k) (hc : ∀ r k, u (ix2 r k) = c r k)
    (hb : ∀ r k, p (ix2 r k) = b r k) (r : Fin 256) (d : Fin 2048) :
    k0_pay12 (F := Ideal) v w u p (ix2 r d) = b r d + grad (x r) g (c r) d := by
  pointwise [k0_pay12, hb, hc, hg, pay10_at hx, pay9_at hx, ofBits_count] <;> rfl

theorem pay1_at (hx : ∀ r k, v (ix2 r k) = x r k) (hc : ∀ r k, u (ix2 r k) = c r k) (s : FVec Ideal S1x2048 .f32) (d : Fin 2048) :
    k0_pay1 (F := Ideal) (k0_pay11 v u) s (ix2 (0 : Fin 1) d) = s (ix2 (0 : Fin 1) d) + (∑ r : Fin 256, c r d * (x r d * rs (x r))) := by
  pointwise [k0_pay1, k0_pay11, hc, pay10_at hx] <;> rfl

theorem pay2_at (hx : ∀ r k, v (ix2 r k) = x r k) (r : Fin 256) : k0_pay2 (F := Ideal) v (ix2 r (0 : Fin 1)) = (rs (x r)) := by
  pointwise [k0_pay2, hx, ofBits_count, ofBits_eps] <;> rfl

theorem pay3_at (hx : ∀ r k, v (ix2 r k) = x r k) (r : Fin 256) (d : Fin 2048) : k0_pay3 (F := Ideal) v (ix2 r d) = (x r d * rs (x r)) := by
  pointwise [k0_pay3, hx, pay2_at hx] <;> rfl

theorem pay4_at (hx : ∀ r k, v (ix2 r k) = x r k) (hg : ∀ k, w (ix2 (0 : Fin 1) k) = g k) (hc : ∀ r k, u (ix2 r k) = c r k)
    (r : Fin 256) (d : Fin 2048) : k0_pay4 (F := Ideal) u v w (ix2 r d) = grad (x r) g (c r) d := by
  pointwise [k0_pay4, hc, hg, pay3_at hx, pay2_at hx, ofBits_count] <;> rfl

theorem pay5_at (hx : ∀ r k, v (ix2 r k) = x r k) (hc : ∀ r k, u (ix2 r k) = c r k) (s : FVec Ideal S1x2048 .f32) (d : Fin 2048) :
    k0_pay5 (F := Ideal) u v s (ix2 (0 : Fin 1) d) = s (ix2 (0 : Fin 1) d) + (∑ r : Fin 256, c r d * (x r d * rs (x r))) := by
  pointwise [k0_pay5, hc, pay3_at hx] <;> rfl

theorem pay6_at (d : Fin 2048) : k0_pay6 (F := Ideal) (ix2 (0 : Fin 1) d) = 0 := by
  pointwise [k0_pay6, ofBits_zero, EReal.coe_zero]

theorem pay7_at (d : Fin 2048) : k0_pay7 (F := Ideal) (ix2 (0 : Fin 1) d) = 0 := by
  pointwise [k0_pay7, ofBits_zero, EReal.coe_zero]

end block

/-! ## One point -/

theorem out6_A (c : Dev nD) (t : Fin cfg0.N) (h : cond0_0 (grid0.coords t)) (x0 x1 x2 : Vec Ideal S256x2048 .f32) (x3 : Vec Ideal S1x2048 .f32) (x4 : Vec Ideal S256x2048 .f32) (x5 : Vec Ideal S1x2048 .f32) :
    out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) h x0 x1 x2 x3 x4 x5
      = k0_pay12 (F := Ideal) x2 x3 x1 x0 := by
  unfold out0_A_6
  rw [View.read_writes_eq_canon _ _ _ (cover0_A_6 c _ _ _ _ _ _ _ _ _ _ _ _ _ _ _ _ _ _ _ _ _ _ _ _ _ _ _ _)]
  unfold kernelRun0_A
  dsimp only
  sl_unfold_words
  simp only [View.readAt_eq_ld, Memref.IsWhole.read_unread, readCov_ld, View.canon_cons, read_writes_cons, overlay_whole, ld_whole]

theorem out6_B (c : Dev nD) (t : Fin cfg0.N) (h : ¬cond0_0 (grid0.coords t)) (x0 x1 x2 : Vec Ideal S256x2048 .f32) (x3 : Vec Ideal S1x2048 .f32) (x4 : Vec Ideal S256x2048 .f32) (x5 : Vec Ideal S1x2048 .f32) (s s' : Vec Ideal S1x2048 .f32) :
    out0_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) h x0 x1 x2 x3 x4 x5 s s'
      = k0_pay12 (F := Ideal) x2 x3 x1 x0 := by
  unfold out0_B_6
  rw [View.read_writes_eq_canon _ _ _ (cover0_B_6 c _ _ _ _ _ _ _ _ _ _ _ _ _ _ _ _ _ _ _ _ _ _ _ _ _ _ _ _ _ _)]
  unfold kernelRun0_B
  dsimp only
  sl_unfold_words
  simp only [View.readAt_eq_ld, Memref.IsWhole.read_unread, readCov_ld, View.canon_cons, read_writes_cons, overlay_whole, ld_whole]

theorem out7_A (c : Dev nD) (t : Fin cfg0.N) (h : cond0_0 (grid0.coords t)) (x0 x1 x2 : Vec Ideal S256x2048 .f32) (x3 : Vec Ideal S1x2048 .f32) (x4 : Vec Ideal S256x2048 .f32) (x5 : Vec Ideal S1x2048 .f32) :
    out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) h x0 x1 x2 x3 x4 x5
      = k0_pay4 (F := Ideal) (k0_pay12 (F := Ideal) x2 x3 x1 x0) x4 x5 := by
  unfold out0_A_7
  rw [View.read_writes_eq_canon _ _ _ (cover0_A_7 c _ _ _ _ _ _ _ _ _ _ _ _ _ _ _ _ _ _ _ _ _ _ _ _ _ _ _ _)]
  unfold kernelRun0_A
  dsimp only
  sl_unfold_words
  simp only [View.readAt_eq_ld, Memref.IsWhole.read_unread, readCov_ld, View.canon_cons, read_writes_cons, overlay_whole, ld_whole]

theorem out7_B (c : Dev nD) (t : Fin cfg0.N) (h : ¬cond0_0 (grid0.coords t)) (x0 x1 x2 : Vec Ideal S256x2048 .f32) (x3 : Vec Ideal S1x2048 .f32) (x4 : Vec Ideal S256x2048 .f32) (x5 : Vec Ideal S1x2048 .f32) (s s' : Vec Ideal S1x2048 .f32) :
    out0_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) h x0 x1 x2 x3 x4 x5 s s'
      = k0_pay4 (F := Ideal) (k0_pay12 (F := Ideal) x2 x3 x1 x0) x4 x5 := by
  unfold out0_B_7
  rw [View.read_writes_eq_canon _ _ _ (cover0_B_7 c _ _ _ _ _ _ _ _ _ _ _ _ _ _ _ _ _ _ _ _ _ _ _ _ _ _ _ _ _ _)]
  unfold kernelRun0_B
  dsimp only
  sl_unfold_words
  simp only [View.readAt_eq_ld, Memref.IsWhole.read_unread, readCov_ld, View.canon_cons, read_writes_cons, overlay_whole, ld_whole]

theorem out8_A (c : Dev nD) (t : Fin cfg0.N) (h : cond0_0 (grid0.coords t)) (x0 x1 x2 : Vec Ideal S256x2048 .f32) (x3 : Vec Ideal S1x2048 .f32) (x4 : Vec Ideal S256x2048 .f32) (x5 : Vec Ideal S1x2048 .f32) :
    out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) h x0 x1 x2 x3 x4 x5
      = k0_pay1 (F := Ideal) (k0_pay11 x2 x1) (k0_pay6 (F := Ideal)) := by
  unfold out0_A_8
  rw [View.read_writes_eq_canon _ _ _ (cover0_A_8 c _ _ _ _ _ _ _ _ _ _ _ _ _ _ _ _ _ _ _ _ _ _ _ _ _ _ _ _)]
  unfold kernelRun0_A
  dsimp only
  sl_unfold_words
  simp only [View.readAt_eq_ld, Memref.IsWhole.read_unread, readCov_ld, View.canon_cons, read_writes_cons, overlay_whole, ld_whole]

theorem out8_B (c : Dev nD) (t : Fin cfg0.N) (h : ¬cond0_0 (grid0.coords t)) (x0 x1 x2 : Vec Ideal S256x2048 .f32) (x3 : Vec Ideal S1x2048 .f32) (x4 : Vec Ideal S256x2048 .f32) (x5 : Vec Ideal S1x2048 .f32) (s s' : Vec Ideal S1x2048 .f32) :
    out0_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) h x0 x1 x2 x3 x4 x5 s s'
      = k0_pay1 (F := Ideal) (k0_pay11 x2 x1) s := by
  unfold out0_B_8
  rw [View.read_writes_eq_canon _ _ _ (cover0_B_8 c _ _ _ _ _ _ _ _ _ _ _ _ _ _ _ _ _ _ _ _ _ _ _ _ _ _ _ _ _ _)]
  unfold kernelRun0_B
  dsimp only
  sl_unfold_words
  simp only [View.readAt_eq_ld, Memref.IsWhole.read_unread, readCov_ld, View.canon_cons, read_writes_cons, overlay_whole, ld_whole]

theorem out9_A (c : Dev nD) (t : Fin cfg0.N) (h : cond0_0 (grid0.coords t)) (x0 x1 x2 : Vec Ideal S256x2048 .f32) (x3 : Vec Ideal S1x2048 .f32) (x4 : Vec Ideal S256x2048 .f32) (x5 : Vec Ideal S1x2048 .f32) :
    out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) h x0 x1 x2 x3 x4 x5
      = k0_pay5 (F := Ideal) (k0_pay12 (F := Ideal) x2 x3 x1 x0) x4 (k0_pay7 (F := Ideal)) := by
  unfold out0_A_9
  rw [View.read_writes_eq_canon _ _ _ (cover0_A_9 c _ _ _ _ _ _ _ _ _ _ _ _ _ _ _ _ _ _ _ _ _ _ _ _ _ _ _ _)]
  unfold kernelRun0_A
  dsimp only
  sl_unfold_words
  simp only [View.readAt_eq_ld, Memref.IsWhole.read_unread, readCov_ld, View.canon_cons, read_writes_cons, overlay_whole, ld_whole]

theorem out9_B (c : Dev nD) (t : Fin cfg0.N) (h : ¬cond0_0 (grid0.coords t)) (x0 x1 x2 : Vec Ideal S256x2048 .f32) (x3 : Vec Ideal S1x2048 .f32) (x4 : Vec Ideal S256x2048 .f32) (x5 : Vec Ideal S1x2048 .f32) (s s' : Vec Ideal S1x2048 .f32) :
    out0_B_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) h x0 x1 x2 x3 x4 x5 s s'
      = k0_pay5 (F := Ideal) (k0_pay12 (F := Ideal) x2 x3 x1 x0) x4 s' := by
  unfold out0_B_9
  rw [View.read_writes_eq_canon _ _ _ (cover0_B_9 c _ _ _ _ _ _ _ _ _ _ _ _ _ _ _ _ _ _ _ _ _ _ _ _ _ _ _ _ _ _)]
  unfold kernelRun0_B
  dsimp only
  sl_unfold_words
  simp only [View.readAt_eq_ld, Memref.IsWhole.read_unread, readCov_ld, View.canon_cons, read_writes_cons, overlay_whole, ld_whole]

/-- The blocks that the windows read at a point. -/
theorem index_at (t : Fin cfg0.N) : win0_0.index t = ![t.val, 0] ∧ win0_1.index t = ![t.val, 0] ∧ win0_2.index t = ![t.val, 0] ∧ win0_3.index t = ![0, 0]
    ∧ win0_4.index t = ![t.val, 0] ∧ win0_5.index t = ![0, 0] ∧ win0_6.index t = ![t.val, 0] ∧ win0_7.index t = ![t.val, 0] ∧ win0_8.index t = ![0, 0]
    ∧ win0_9.index t = ![0, 0] := by
  revert t
  decide +kernel

theorem N_eq : cfg0.N = 8 := by decide +kernel

/-- The rows of a point's block. -/
abbrev rowAt (t : Fin cfg0.N) (r : Fin 256) : Fin 2048 := ⟨256 * t.val + r.val, by have ht : t.val < 8 := N_eq ▸ t.isLt; omega⟩

theorem rowAt_eq (t : Fin cfg0.N) (r : Fin 256) : (⟨(256 * t.val + r.val) % 2048, Nat.mod_lt _ (by decide)⟩ : Fin 2048) = rowAt t r := Fin.ext (Nat.mod_eq_of_lt (rowAt t r).isLt)

variable (m : (ℓ : Loc nD τ sig) → Buf (Elt Ideal) ℓ) (c : Dev nD)

/-- The vector as a row. -/
def asRow (x : FVec Ideal S2048 .f32) : FVec Ideal S1x2048 .f32 := broadcastInDim S1x2048 ![1] bcast_S2048_S1x2048_1 x

theorem asRow_at (x : FVec Ideal S2048 .f32) (k : Fin 2048) : asRow x (ix2 (0 : Fin 1) k) = x (ix1 k) := by
  pointwise [asRow]

/-- The residual behind the mixing, computed outside the call as the reference computes it. -/
theorem V_v13 : V (F := Ideal) m c main_v13 = val_main_v16 (F := Ideal) (m ((c : Thread nD τ).loc main_arg2)) (m ((c : Thread nD τ).loc main_arg3)) (m ((c : Thread nD τ).loc main_arg4)) := by
  unfold_abbrev_sides
  after_reads_simp
  rfl

theorem V_v14 : V (F := Ideal) m c main_v14 = asRow (m ((c : Thread nD τ).loc main_arg5)) := by
  unfold_abbrev_sides
  after_reads_simp
  rfl

theorem V_v15 : V (F := Ideal) m c main_v15 = asRow (m ((c : Thread nD τ).loc main_arg4)) := by
  unfold_abbrev_sides
  after_reads_simp
  rfl

theorem window0_at (t : Fin cfg0.N) (r : Fin 256) (d : Fin 2048) : (iblk m c 0 t : FVec Ideal S256x2048 .f32) (ix2 r d) = V m c main_arg0 (ix2 (rowAt t r) d) := by
  blk_ext [iblk, (index_at t).1]

theorem window1_at (t : Fin cfg0.N) (r : Fin 256) (d : Fin 2048) : (iblk m c 1 t : FVec Ideal S256x2048 .f32) (ix2 r d) = V m c main_arg1 (ix2 (rowAt t r) d) := by
  blk_ext [iblk, (index_at t).2.1]

theorem window2_at (t : Fin cfg0.N) (r : Fin 256) (d : Fin 2048) : (iblk m c 2 t : FVec Ideal S256x2048 .f32) (ix2 r d) = V m c main_v13 (ix2 (rowAt t r) d) := by
  blk_ext [iblk, (index_at t).2.2.1]

theorem window4_at (t : Fin cfg0.N) (r : Fin 256) (d : Fin 2048) : (iblk m c 4 t : FVec Ideal S256x2048 .f32) (ix2 r d) = V m c main_arg3 (ix2 (rowAt t r) d) := by
  blk_ext [iblk, (index_at t).2.2.2.2.1]

theorem window3_at (t : Fin cfg0.N) (d : Fin 2048) : (iblk m c 3 t : FVec Ideal S1x2048 .f32) (ix2 (0 : Fin 1) d) = V m c main_v14 (ix2 (0 : Fin 1) d) := by
  blk_ext [iblk, (index_at t).2.2.2.1]

theorem window5_at (t : Fin cfg0.N) (d : Fin 2048) : (iblk m c 5 t : FVec Ideal S1x2048 .f32) (ix2 (0 : Fin 1) d) = V m c main_v15 (ix2 (0 : Fin 1) d) := by
  blk_ext [iblk, (index_at t).2.2.2.2.2.1]

/-! Blocks of the results. -/

theorem read6 (X : FVec Ideal S2048x2048 .f32) (t : Fin cfg0.N) (r : Fin 256) (d : Fin 2048) :
    (((cfg0.win 6).blk t).view.read (Elt Ideal) X : FVec Ideal S256x2048 .f32) (ix2 r d) = X (ix2 (rowAt t r) d) := by
  blk_ext [(index_at t).2.2.2.2.2.2.1]

theorem mem6 (t : Fin cfg0.N) (i : S2048x2048.Idx) (h : t.val = (i 0).val / 256) : i ∈ ((cfg0.win 6).blk t).view.set := by
  show i ∈ ((View.whole main_v16_0).slice (win0_6.rect t)).set
  rw [View.set_slice_whole, Rect.mem_set_unit]
  have h1 : (i 1).val < 2048 := (i 1).isLt
  intro a
  match a with
  | ⟨0, _⟩ =>
    show win0_6.index t (0 : Fin 2) * 256 ≤ (i 0).val ∧ (i 0).val < win0_6.index t (0 : Fin 2) * 256 + 256
    rw [(index_at t).2.2.2.2.2.2.1]; show t.val * 256 ≤ _ ∧ _ < t.val * 256 + 256; omega
  | ⟨1, _⟩ =>
    show win0_6.index t (1 : Fin 2) * 2048 ≤ (i 1).val ∧ (i 1).val < win0_6.index t (1 : Fin 2) * 2048 + 2048
    rw [(index_at t).2.2.2.2.2.2.1]; show 0 * 2048 ≤ _ ∧ _ < 0 * 2048 + 2048; omega

theorem read7 (X : FVec Ideal S2048x2048 .bf16) (t : Fin cfg0.N) (r : Fin 256) (d : Fin 2048) :
    (((cfg0.win 7).blk t).view.read (Elt Ideal) X : FVec Ideal S256x2048 .bf16) (ix2 r d) = X (ix2 (rowAt t r) d) := by
  blk_ext [(index_at t).2.2.2.2.2.2.2.1]

theorem mem7 (t : Fin cfg0.N) (i : S2048x2048.Idx) (h : t.val = (i 0).val / 256) : i ∈ ((cfg0.win 7).blk t).view.set := by
  show i ∈ ((View.whole main_v16_1).slice (win0_7.rect t)).set
  rw [View.set_slice_whole, Rect.mem_set_unit]
  have h1 : (i 1).val < 2048 := (i 1).isLt
  intro a
  match a with
  | ⟨0, _⟩ =>
    show win0_7.index t (0 : Fin 2) * 256 ≤ (i 0).val ∧ (i 0).val < win0_7.index t (0 : Fin 2) * 256 + 256
    rw [(index_at t).2.2.2.2.2.2.2.1]; show t.val * 256 ≤ _ ∧ _ < t.val * 256 + 256; omega
  | ⟨1, _⟩ =>
    show win0_7.index t (1 : Fin 2) * 2048 ≤ (i 1).val ∧ (i 1).val < win0_7.index t (1 : Fin 2) * 2048 + 2048
    rw [(index_at t).2.2.2.2.2.2.2.1]; show 0 * 2048 ≤ _ ∧ _ < 0 * 2048 + 2048; omega

theorem read8 (X : FVec Ideal S1x2048 .f32) (t : Fin cfg0.N) (d : Fin 2048) :
    (((cfg0.win 8).blk t).view.read (Elt Ideal) X : FVec Ideal S1x2048 .f32) (ix2 (0 : Fin 1) d) = X (ix2 (0 : Fin 1) d) := by
  blk_ext [(index_at t).2.2.2.2.2.2.2.2.1]

theorem mem8 (t : Fin cfg0.N) (i : S1x2048.Idx) : i ∈ ((cfg0.win 8).blk t).view.set := by
  show i ∈ ((View.whole main_v16_2).slice (win0_8.rect t)).set
  rw [View.set_slice_whole, Rect.mem_set_unit]
  have h0 : (i 0).val < 1 := (i 0).isLt
  have h1 : (i 1).val < 2048 := (i 1).isLt
  intro a
  match a with
  | ⟨0, _⟩ =>
    show win0_8.index t (0 : Fin 2) * 1 ≤ (i 0).val ∧ (i 0).val < win0_8.index t (0 : Fin 2) * 1 + 1
    rw [(index_at t).2.2.2.2.2.2.2.2.1]; show 0 * 1 ≤ _ ∧ _ < 0 * 1 + 1; omega
  | ⟨1, _⟩ =>
    show win0_8.index t (1 : Fin 2) * 2048 ≤ (i 1).val ∧ (i 1).val < win0_8.index t (1 : Fin 2) * 2048 + 2048
    rw [(index_at t).2.2.2.2.2.2.2.2.1]; show 0 * 2048 ≤ _ ∧ _ < 0 * 2048 + 2048; omega

theorem read9 (X : FVec Ideal S1x2048 .f32) (t : Fin cfg0.N) (d : Fin 2048) :
    (((cfg0.win 9).blk t).view.read (Elt Ideal) X : FVec Ideal S1x2048 .f32) (ix2 (0 : Fin 1) d) = X (ix2 (0 : Fin 1) d) := by
  blk_ext [(index_at t).2.2.2.2.2.2.2.2.2]

theorem mem9 (t : Fin cfg0.N) (i : S1x2048.Idx) : i ∈ ((cfg0.win 9).blk t).view.set := by
  show i ∈ ((View.whole main_v16_3).slice (win0_9.rect t)).set
  rw [View.set_slice_whole, Rect.mem_set_unit]
  have h0 : (i 0).val < 1 := (i 0).isLt
  have h1 : (i 1).val < 2048 := (i 1).isLt
  intro a
  match a with
  | ⟨0, _⟩ =>
    show win0_9.index t (0 : Fin 2) * 1 ≤ (i 0).val ∧ (i 0).val < win0_9.index t (0 : Fin 2) * 1 + 1
    rw [(index_at t).2.2.2.2.2.2.2.2.2]; show 0 * 1 ≤ _ ∧ _ < 0 * 1 + 1; omega
  | ⟨1, _⟩ =>
    show win0_9.index t (1 : Fin 2) * 2048 ≤ (i 1).val ∧ (i 1).val < win0_9.index t (1 : Fin 2) * 2048 + 2048
    rw [(index_at t).2.2.2.2.2.2.2.2.2]; show 0 * 2048 ≤ _ ∧ _ < 0 * 2048 + 2048; omega

/-! ## The reference -/

/-- The row of the residual behind the mixing. -/
def mid (z x : FVec Ideal S2048x2048 .f32) (p : FVec Ideal S2048 .f32) (r k : Fin 2048) : EReal := row z r k + row x r k * rs (row x r) * vec p k

/-- The gradient that leaves the second norm: that of the residual. -/
def dmid (b d z x : FVec Ideal S2048x2048 .f32) (p g : FVec Ideal S2048 .f32) (r k : Fin 2048) : EReal := row b r k + grad (mid z x p r) (vec g) (row d r) k

section ref

variable {b d z x : FVec Ideal S2048x2048 .f32} {p g : FVec Ideal S2048 .f32}

theorem v6_at (r : Fin 2048) : val_main_v6 (F := Ideal) x (ix2 r (0 : Fin 1)) = ms (row x r) := by
  pointwise [val_main_v6, val_main_v5, val_main_v4, val_main_v3, val_main_v2, val_main_v1, val_main_v0, val_main_cst, val_main_cst_0, val_main_cst_1, row_eq x, ofBits_count, ofBits_eps] <;> rfl

theorem v7_at (r : Fin 2048) : val_main_v7 (F := Ideal) x (ix2 r (0 : Fin 1)) = rs (row x r) := by
  pointwise [val_main_v7, v6_at] <;> rfl

theorem v12_at (r k : Fin 2048) : val_main_v12 (F := Ideal) x (ix2 r k) = row x r k * rs (row x r) := by
  pointwise [val_main_v12, val_main_v11, v7_at, row_eq x] <;> rfl

theorem v16_at (r k : Fin 2048) : val_main_v16 (F := Ideal) z x p (ix2 r k) = mid z x p r k := by
  pointwise [val_main_v16, val_main_v15, val_main_v14, val_main_v13, v12_at, row_eq z, vec_eq p] <;> rfl

theorem v23_at (r : Fin 2048) : val_main_v23 (F := Ideal) z x p (ix2 r (0 : Fin 1)) = ms (mid z x p r) := by
  pointwise [val_main_v23, val_main_v22, val_main_v21, val_main_v20, val_main_v19, val_main_v18, val_main_v17, val_main_cst_3, val_main_cst_4, val_main_cst_5, v16_at, ofBits_count, ofBits_eps] <;> rfl

theorem v24_at (r : Fin 2048) : val_main_v24 (F := Ideal) z x p (ix2 r (0 : Fin 1)) = rs (mid z x p r) := by
  pointwise [val_main_v24, v23_at] <;> rfl

theorem v29_at (r k : Fin 2048) : val_main_v29 (F := Ideal) z x p (ix2 r k) = mid z x p r k * rs (mid z x p r) := by
  pointwise [val_main_v29, val_main_v28, v24_at, v16_at] <;> rfl

theorem v37_at (r k : Fin 2048) : val_main_v37 (F := Ideal) d g (ix2 r k) = row d r k * vec g k := by
  pointwise [val_main_v37, val_main_v36, val_main_v30, row_eq d, vec_eq g] <;> rfl

theorem v41_at (r : Fin 2048) : val_main_v41 (F := Ideal) d z x p g (ix2 r (0 : Fin 1)) = ∑ k, mid z x p r k * (row d r k * vec g k) := by
  pointwise [val_main_v41, val_main_v40, val_main_v39, val_main_cst_9, v37_at, v16_at] <;> rfl

theorem v47_at (r : Fin 2048) : val_main_v47 (F := Ideal) d z x p g (ix2 r (0 : Fin 1)) = chain (mid z x p r) (vec g) (row d r) := by
  pointwise [val_main_v47, val_main_v46, val_main_v45, val_main_v27, val_main_v26, val_main_v25, val_main_cst_6, val_main_cst_10, v41_at, v24_at, v23_at, ofBits_count, ofBits_neg_half] <;> rfl

theorem v53_at (r k : Fin 2048) : val_main_v53 (F := Ideal) b d z x p g (ix2 r k) = dmid b d z x p g r k := by
  rw [dmid, ← grad_eq]
  pointwise [val_main_v53, val_main_v52, val_main_v51, val_main_v50, val_main_v49, val_main_v48, val_main_v44, val_main_v43, val_main_v42, val_main_cst_11, v47_at, v37_at, v24_at, v16_at, row_eq b]
  simp only [Fin.sum_univ_one, v47_at]
  simp only [add_assoc]

theorem v54_at (r k : Fin 2048) : val_main_v54 (F := Ideal) b d z x p g (ix2 r k) = dmid b d z x p g r k := by
  pointwise [val_main_v54, v53_at]

theorem v59_at (r k : Fin 2048) : val_main_v59 (F := Ideal) b d z x p g (ix2 r k) = dmid b d z x p g r k * vec p k := by
  pointwise [val_main_v59, val_main_v58, val_main_v13, v54_at, vec_eq p] <;> rfl

theorem v63_at (r : Fin 2048) : val_main_v63 (F := Ideal) b d z x p g (ix2 r (0 : Fin 1)) = ∑ k, row x r k * (dmid b d z x p g r k * vec p k) := by
  pointwise [val_main_v63, val_main_v62, val_main_v61, val_main_cst_14, v59_at, row_eq x] <;> rfl

theorem v68_at (r : Fin 2048) : val_main_v68 (F := Ideal) b d z x p g (ix2 r (0 : Fin 1)) = chain (row x r) (vec p) (dmid b d z x p g r) := by
  pointwise [val_main_v68, val_main_v67, val_main_v66, val_main_v10, val_main_v9, val_main_v8, val_main_cst_2, val_main_cst_15, v63_at, v7_at, v6_at, ofBits_count, ofBits_neg_half] <;> rfl

theorem v75_at (r k : Fin 2048) : val_main_v75 (F := Ideal) b d z x p g (ix2 r k) = grad (row x r) (vec p) (dmid b d z x p g r) k := by
  rw [← grad_eq]
  pointwise [val_main_v75, val_main_v74, val_main_v73, val_main_v72, val_main_v71, val_main_v70, val_main_v69, val_main_v65, val_main_v64, val_main_cst_16, v68_at, v59_at, v7_at, row_eq x]
  simp only [Fin.sum_univ_one, v68_at]

theorem v76_at (k : Fin 2048) : val_main_v76 (F := Ideal) d z x p (ix2 (0 : Fin 1) k) = ∑ r, row d r k * (mid z x p r k * rs (mid z x p r)) := by
  pointwise [val_main_v76, val_main_v38, val_main_v35, val_main_v34, val_main_v33, val_main_cst_7, val_main_cst_8, v29_at, row_eq d]
  simp only [Fin.sum_univ_one]
  exact sum_congr rfl fun r _ => mul_comm _ _

theorem v77_at (k : Fin 2048) : val_main_v77 (F := Ideal) b d z x p g (ix2 (0 : Fin 1) k) = ∑ r, dmid b d z x p g r k * (row x r k * rs (row x r)) := by
  pointwise [val_main_v77, val_main_v60, val_main_v57, val_main_v56, val_main_v55, val_main_cst_12, val_main_cst_13, v12_at, v54_at]
  simp only [Fin.sum_univ_one]
  exact sum_congr rfl fun r _ => mul_comm _ _

end ref

/-! ## The results -/

theorem b_of (t : Fin cfg0.N) (r : Fin 256) (k : Fin 2048) : (iblk m c 0 t : FVec Ideal S256x2048 .f32) (ix2 r k) = row (m ((c : Thread nD τ).loc main_arg0)) (rowAt t r) k := by
  rw [window0_at, V_main_arg0]; exact row_eq _ _ _

theorem d_of (t : Fin cfg0.N) (r : Fin 256) (k : Fin 2048) : (iblk m c 1 t : FVec Ideal S256x2048 .f32) (ix2 r k) = row (m ((c : Thread nD τ).loc main_arg1)) (rowAt t r) k := by
  rw [window1_at, V_main_arg1]; exact row_eq _ _ _

theorem mid_of (t : Fin cfg0.N) (r : Fin 256) (k : Fin 2048) : (iblk m c 2 t : FVec Ideal S256x2048 .f32) (ix2 r k) = mid (m ((c : Thread nD τ).loc main_arg2)) (m ((c : Thread nD τ).loc main_arg3)) (m ((c : Thread nD τ).loc main_arg4)) (rowAt t r) k := by
  rw [window2_at, V_v13]; exact v16_at _ _

theorem g_of (t : Fin cfg0.N) (k : Fin 2048) : (iblk m c 3 t : FVec Ideal S1x2048 .f32) (ix2 (0 : Fin 1) k) = vec (m ((c : Thread nD τ).loc main_arg5)) k := by
  rw [window3_at, V_v14, asRow_at]; exact vec_eq _ _

theorem x_of (t : Fin cfg0.N) (r : Fin 256) (k : Fin 2048) : (iblk m c 4 t : FVec Ideal S256x2048 .f32) (ix2 r k) = row (m ((c : Thread nD τ).loc main_arg3)) (rowAt t r) k := by
  rw [window4_at, V_main_arg3]; exact row_eq _ _ _

theorem p_of (t : Fin cfg0.N) (k : Fin 2048) : (iblk m c 5 t : FVec Ideal S1x2048 .f32) (ix2 (0 : Fin 1) k) = vec (m ((c : Thread nD τ).loc main_arg4)) k := by
  rw [window5_at, V_v15, asRow_at]; exact vec_eq _ _

/-- The residual's gradient of a block. -/
theorem dmid_at (t : Fin cfg0.N) (r : Fin 256) (d : Fin 2048) : (k0_pay12 (F := Ideal) (iblk m c 2 t) (iblk m c 3 t) (iblk m c 1 t) (iblk m c 0 t)) (ix2 r d) = dmid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (rowAt t r) d :=
  pay12_at (x := fun r => mid (m ((c : Thread nD τ).loc main_arg2)) (m ((c : Thread nD τ).loc main_arg3)) (m ((c : Thread nD τ).loc main_arg4)) (rowAt t r)) (b := fun r => row (m ((c : Thread nD τ).loc main_arg0)) (rowAt t r)) (c := fun r => row (m ((c : Thread nD τ).loc main_arg1)) (rowAt t r))
    (mid_of m c t) (g_of m c t) (d_of m c t) (b_of m c t) r d

/-- What a block adds to the gradient of the second norm's gain. -/
def part (d : Fin 2048) (s : ℕ) : EReal := ∑ r : Fin 256, (fun k : Fin 2048 => row (m ((c : Thread nD τ).loc main_arg1)) k d * (mid (m ((c : Thread nD τ).loc main_arg2)) (m ((c : Thread nD τ).loc main_arg3)) (m ((c : Thread nD τ).loc main_arg4)) k d * rs (mid (m ((c : Thread nD τ).loc main_arg2)) (m ((c : Thread nD τ).loc main_arg3)) (m ((c : Thread nD τ).loc main_arg4)) k)))
  ⟨(256 * s + r.val) % 2048, Nat.mod_lt _ (by decide)⟩

/-- What a block adds to the gradient of the first norm's gain. -/
def part' (d : Fin 2048) (s : ℕ) : EReal := ∑ r : Fin 256, (fun k : Fin 2048 => dmid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) k d * (row (m ((c : Thread nD τ).loc main_arg3)) k d * rs (row (m ((c : Thread nD τ).loc main_arg3)) k)))
  ⟨(256 * s + r.val) % 2048, Nat.mod_lt _ (by decide)⟩

theorem part_at (t : Fin cfg0.N) (s : FVec Ideal S1x2048 .f32) (d : Fin 2048) :
    k0_pay1 (F := Ideal) (k0_pay11 (iblk m c 2 t) (iblk m c 1 t)) s (ix2 (0 : Fin 1) d) = s (ix2 (0 : Fin 1) d) + (part m c d t.val) := by
  rw [pay1_at (x := fun r => mid (m ((c : Thread nD τ).loc main_arg2)) (m ((c : Thread nD τ).loc main_arg3)) (m ((c : Thread nD τ).loc main_arg4)) (rowAt t r)) (c := fun r => row (m ((c : Thread nD τ).loc main_arg1)) (rowAt t r)) (mid_of m c t) (d_of m c t)]
  refine congrArg (fun x : EReal => s (ix2 (0 : Fin 1) d) + x) (sum_congr rfl fun r _ => ?_)
  rw [rowAt_eq]

theorem part'_at (t : Fin cfg0.N) (s : FVec Ideal S1x2048 .f32) (d : Fin 2048) :
    k0_pay5 (F := Ideal) (k0_pay12 (F := Ideal) (iblk m c 2 t) (iblk m c 3 t) (iblk m c 1 t) (iblk m c 0 t)) (iblk m c 4 t) s (ix2 (0 : Fin 1) d) = s (ix2 (0 : Fin 1) d) + (part' m c d t.val) := by
  rw [pay5_at (x := fun r => row (m ((c : Thread nD τ).loc main_arg3)) (rowAt t r)) (c := fun r => dmid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (rowAt t r)) (x_of m c t) (dmid_at m c t)]
  refine congrArg (fun x : EReal => s (ix2 (0 : Fin 1) d) + x) (sum_congr rfl fun r _ => ?_)
  rw [rowAt_eq]

/-- The two sums after a point: those over the blocks so far. -/
theorem holds : ∀ (n : ℕ) (hn : n < cfg0.N),
    (∀ d : Fin 2048, (outsAt0 m c n hn).2.2.1 (ix2 (0 : Fin 1) d) = (∑ s ∈ range (n + 1), part m c d s))
    ∧ ∀ d : Fin 2048, (outsAt0 m c n hn).2.2.2 (ix2 (0 : Fin 1) d) = (∑ s ∈ range (n + 1), part' m c d s)
  | 0, hn => by
    rw [show outsAt0 m c 0 hn = _ from outsAt0_A m c ⟨0, hn⟩ rfl]
    dsimp only
    constructor
    · intro d
      rw [out8_A, part_at m c, pay6_at, sum_range_one, zero_add]
    · intro d
      rw [out9_A, part'_at m c, pay7_at, sum_range_one, zero_add]
  | n + 1, hn => by
    have h8 : n + 1 < 8 := N_eq ▸ hn
    obtain ⟨e8, e9⟩ := holds n (Nat.lt_of_succ_lt hn)
    rw [show outsAt0 m c (n + 1) hn = _ from outsAt0_B m c ⟨n + 1, hn⟩ (by show ¬(n + 1) % 8 = 0; omega)]
    dsimp only
    constructor
    · intro d
      rw [out8_B, part_at m c, sum_range_succ]
      exact congrArg (· + _) (e8 d)
    · intro d
      rw [out9_B, part'_at m c, sum_range_succ]
      exact congrArg (· + _) (e9 d)

theorem block6 (t : Fin cfg0.N) : (dats m 0 c).flushed 6 t = ((cfg0.win 6).blk t).view.read (Elt Ideal)
    (val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  have e : (dats m 0 c).flushed 6 t = k0_pay12 (F := Ideal) (iblk m c 2 t) (iblk m c 3 t) (iblk m c 1 t) (iblk m c 0 t) := by
    by_cases h0 : t.val % 8 = 0
    · rw [Value.flushed6_A m c t h0, out6_A]; rfl
    · rw [Value.flushed6_B m c t h0, out6_B]; rfl
  rw [e]
  funext y
  obtain ⟨r, d, rfl⟩ : ∃ (r : Fin 256) (d : Fin 2048), y = ix2 r d := ⟨y 0, y 1, by
    funext a
    match a with
    | ⟨0, _⟩ => rfl
    | ⟨1, _⟩ => rfl⟩
  exact (dmid_at m c t r d).trans ((v53_at _ _).symm.trans (read6 _ t r d).symm)

/-- The residual's gradient. -/
theorem result_mid : (dats m 0 c).arrAt 6 cfg0.N = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 6 _ (fun t _ => block6 m c t) (fun i =>
    have h0 : (i 0).val < 2048 := (i 0).isLt
    ⟨⟨(i 0).val / 256, by rw [N_eq]; omega⟩, flush0_6 _, mem6 _ i rfl⟩)

theorem block7 (t : Fin cfg0.N) : (dats m 0 c).flushed 7 t = ((cfg0.win 7).blk t).view.read (Elt Ideal)
    (val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  have e : (dats m 0 c).flushed 7 t = k0_pay4 (F := Ideal) (k0_pay12 (F := Ideal) (iblk m c 2 t) (iblk m c 3 t) (iblk m c 1 t) (iblk m c 0 t)) (iblk m c 4 t) (iblk m c 5 t) := by
    by_cases h0 : t.val % 8 = 0
    · rw [Value.flushed7_A m c t h0, out7_A]; rfl
    · rw [Value.flushed7_B m c t h0, out7_B]; rfl
  rw [e]
  funext y
  obtain ⟨r, d, rfl⟩ : ∃ (r : Fin 256) (d : Fin 2048), y = ix2 r d := ⟨y 0, y 1, by
    funext a
    match a with
    | ⟨0, _⟩ => rfl
    | ⟨1, _⟩ => rfl⟩
  exact (pay4_at (x := fun r => row (m ((c : Thread nD τ).loc main_arg3)) (rowAt t r)) (c := fun r => dmid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (rowAt t r)) (x_of m c t) (p_of m c t) (dmid_at m c t) r d).trans ((v75_at _ _).symm.trans (read7 _ t r d).symm)

/-- The mixing's gradient. -/
theorem result_rows : (dats m 0 c).arrAt 7 cfg0.N = val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 7 _ (fun t _ => block7 m c t) (fun i =>
    have h0 : (i 0).val < 2048 := (i 0).isLt
    ⟨⟨(i 0).val / 256, by rw [N_eq]; omega⟩, flush0_7 _, mem7 _ i rfl⟩)

theorem block8 (t : Fin cfg0.N) (hf : (cfg0.win 8).flush t = true) : (dats m 0 c).flushed 8 t = ((cfg0.win 8).blk t).view.read (Elt Ideal)
    (val_main_v76 (F := Ideal) (m ((c : Thread nD τ).loc main_arg1)) (m ((c : Thread nD τ).loc main_arg2)) (m ((c : Thread nD τ).loc main_arg3)) (m ((c : Thread nD τ).loc main_arg4))) := by
  have h7 : t.val = 7 := by
    have := (flush0_8 t).1 hf
    have ht : t.val < 8 := N_eq ▸ t.isLt
    omega
  have e : (dats m 0 c).flushed 8 t = (outsAt0 m c t.val t.isLt).2.2.1 := (Value.flushed8 m c t).trans rfl
  rw [e]
  funext y
  obtain ⟨d, rfl⟩ : ∃ d : Fin 2048, y = ix2 (0 : Fin 1) d := ⟨y 1, by
    funext a
    match a with
    | ⟨0, _⟩ => exact Subsingleton.elim (α := Fin 1) _ _
    | ⟨1, _⟩ => rfl⟩
  refine Eq.trans ?_ (read8 _ t d).symm
  rw [v76_at, (holds m c _ _).1, h7, sum_blocks]
  rfl

/-- The gradient of the second norm's gain. -/
theorem result_second : (dats m 0 c).arrAt 8 cfg0.N = val_main_v76 (F := Ideal) (m ((c : Thread nD τ).loc main_arg1)) (m ((c : Thread nD τ).loc main_arg2)) (m ((c : Thread nD τ).loc main_arg3)) (m ((c : Thread nD τ).loc main_arg4)) :=
  (dats m 0 c).arrAt_eq_of_cover 8 _ (fun t h => block8 m c t h) (fun i =>
    ⟨⟨7, by rw [N_eq]; omega⟩, (flush0_8 _).2 rfl, mem8 _ i⟩)

theorem block9 (t : Fin cfg0.N) (hf : (cfg0.win 9).flush t = true) : (dats m 0 c).flushed 9 t = ((cfg0.win 9).blk t).view.read (Elt Ideal)
    (val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  have h7 : t.val = 7 := by
    have := (flush0_9 t).1 hf
    have ht : t.val < 8 := N_eq ▸ t.isLt
    omega
  have e : (dats m 0 c).flushed 9 t = (outsAt0 m c t.val t.isLt).2.2.2 := (Value.flushed9 m c t).trans rfl
  rw [e]
  funext y
  obtain ⟨d, rfl⟩ : ∃ d : Fin 2048, y = ix2 (0 : Fin 1) d := ⟨y 1, by
    funext a
    match a with
    | ⟨0, _⟩ => exact Subsingleton.elim (α := Fin 1) _ _
    | ⟨1, _⟩ => rfl⟩
  refine Eq.trans ?_ (read9 _ t d).symm
  rw [v77_at, (holds m c _ _).2, h7, sum_blocks]
  rfl

/-- The gradient of the first norm's gain. -/
theorem result_first : (dats m 0 c).arrAt 9 cfg0.N = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 9 _ (fun t h => block9 m c t h) (fun i =>
    ⟨⟨7, by rw [N_eq]; omega⟩, (flush0_9 _).2 rfl, mem9 _ i⟩)

end Cert.Kernel19Ideal

end
-- ==== Proof.FirstNorm.lean ====
module

public import proofs.«01_k».proof.Proof.Gen.Kernel20Ideal.Value
public import proofs.«01_k».proof.Proof.Gen.Reference20Ideal.Read
public import proofs.«01_k».proof.Proof.Norm
public import Idealize.ShloMosaic.Lib.Pipeline.ValueKit.Point
public import Idealize.ShloMosaic.Lib.StableHlo.ReadAt

/-!
# The first norm

At point `t` the rows are those of block `t` of 256.
-/

@[expose] public section

set_option maxRecDepth 16384

noncomputable section

namespace Cert.Kernel20Ideal

open Idealize.ShloMosaic Idealize.ShloMosaic.TcCoe Idealize.SL.Sem Gen Finset
open Cert.Norm hiding row vec
open Cert.Norm (row vec)
open Reference20Ideal.Read

/-- The kernel's norm of a block. -/
theorem pay_at {v : FVec Ideal S256x2048 .f32} {w : FVec Ideal S1x2048 .f32} {x : Fin 256 → Fin 2048 → EReal} {g : Fin 2048 → EReal}
    (hx : ∀ r k, v (ix2 r k) = x r k) (hg : ∀ k, w (ix2 (0 : Fin 1) k) = g k) (r : Fin 256) (d : Fin 2048) :
    k0_pay1 (F := Ideal) v w (ix2 r d) = x r d * rs (x r) * g d := by
  pointwise [k0_pay1, hx, hg, ofBits_count, ofBits_eps] <;> rfl

/-- What the kernel leaves in a block. -/
theorem out_eq (x : FVec Ideal S256x2048 .f32) (g : FVec Ideal S1x2048 .f32) : out0_2 (F := Ideal) x g = k0_pay1 (F := Ideal) x g := by
  unfold out0_2
  rw [View.canon_unit_zero (funext fun a => by fin_cases a <;> rfl), View.ld_unit_zero (funext fun a => by fin_cases a <;> rfl),
    View.ld_unit_zero (funext fun a => by fin_cases a <;> rfl)]

/-- The blocks that the windows read at a point. -/
theorem index_at (t : Fin cfg0.N) : win0_0.index t = ![t.val, 0] ∧ win0_1.index t = ![0, 0] ∧ win0_2.index t = ![t.val, 0] := by
  revert t
  decide +kernel

theorem N_eq : cfg0.N = 8 := by decide +kernel

theorem flush_at (t : Fin cfg0.N) : (cfg0.win 2).flush t = true := by
  revert t
  decide +kernel

/-- The rows of a point's block. -/
abbrev rowAt (t : Fin cfg0.N) (r : Fin 256) : Fin 2048 := ⟨256 * t.val + r.val, by have ht : t.val < 8 := N_eq ▸ t.isLt; omega⟩

variable (m : (ℓ : Loc nD τ sig) → Buf (Elt Ideal) ℓ) (c : Dev nD)

/-- The vector as a row. -/
def asRow (x : FVec Ideal S2048 .f32) : FVec Ideal S1x2048 .f32 := broadcastInDim S1x2048 ![1] bcast_S2048_S1x2048_1 x

theorem asRow_at (x : FVec Ideal S2048 .f32) (k : Fin 2048) : asRow x (ix2 (0 : Fin 1) k) = x (ix1 k) := by
  pointwise [asRow]

theorem V_v0 : V (F := Ideal) m c main_v0 = asRow (m ((c : Thread nD τ).loc main_arg1)) := by
  unfold_abbrev_sides
  after_reads_simp
  rfl

theorem window0_at (t : Fin cfg0.N) (r : Fin 256) (d : Fin 2048) : (iblk m c 0 t : FVec Ideal S256x2048 .f32) (ix2 r d) = V m c main_arg0 (ix2 (rowAt t r) d) := by
  blk_ext [iblk, (index_at t).1]

theorem window1_at (t : Fin cfg0.N) (d : Fin 2048) : (iblk m c 1 t : FVec Ideal S1x2048 .f32) (ix2 (0 : Fin 1) d) = V m c main_v0 (ix2 (0 : Fin 1) d) := by
  blk_ext [iblk, (index_at t).2.1]

/-- A block of the result. -/
theorem read_at (X : FVec Ideal S2048x2048 .bf16) (t : Fin cfg0.N) (r : Fin 256) (d : Fin 2048) :
    (((cfg0.win 2).blk t).view.read (Elt Ideal) X : FVec Ideal S256x2048 .bf16) (ix2 r d) = X (ix2 (rowAt t r) d) := by
  blk_ext [(index_at t).2.2]

theorem mem_at (t : Fin cfg0.N) (i : S2048x2048.Idx) (h : t.val = (i 0).val / 256) : i ∈ ((cfg0.win 2).blk t).view.set := by
  show i ∈ ((View.whole main_v1).slice (win0_2.rect t)).set
  rw [View.set_slice_whole, Rect.mem_set_unit]
  have h1 : (i 1).val < 2048 := (i 1).isLt
  intro a
  match a with
  | ⟨0, _⟩ =>
    show win0_2.index t (0 : Fin 2) * 256 ≤ (i 0).val ∧ (i 0).val < win0_2.index t (0 : Fin 2) * 256 + 256
    rw [(index_at t).2.2]; show t.val * 256 ≤ _ ∧ _ < t.val * 256 + 256; omega
  | ⟨1, _⟩ =>
    show win0_2.index t (1 : Fin 2) * 2048 ≤ (i 1).val ∧ (i 1).val < win0_2.index t (1 : Fin 2) * 2048 + 2048
    rw [(index_at t).2.2]; show 0 * 2048 ≤ _ ∧ _ < 0 * 2048 + 2048; omega

/-- The reference's norm. -/
theorem ref_at (x : FVec Ideal S2048x2048 .f32) (g : FVec Ideal S2048 .f32) (r d : Fin 2048) :
    val_main_v13 (F := Ideal) x g (ix2 r d) = row x r d * rs (row x r) * vec g d := by
  pointwise [val_main_v13, val_main_v12, val_main_v11, val_main_v10, val_main_v9, val_main_v8, val_main_v7, val_main_v6, val_main_v5, val_main_v4, val_main_v3,
    val_main_v2, val_main_v1, val_main_v0, val_main_cst, val_main_cst_0, val_main_cst_1, row_eq x, vec_eq g, ofBits_count, ofBits_eps] <;> rfl

theorem point_at (t : Fin cfg0.N) (r : Fin 256) (d : Fin 2048) : k0_pay1 (F := Ideal) (iblk m c 0 t) (iblk m c 1 t) (ix2 r d)
    = val_main_v13 (F := Ideal) (m ((c : Thread nD τ).loc main_arg0)) (m ((c : Thread nD τ).loc main_arg1)) (ix2 (rowAt t r) d) := by
  rw [ref_at]
  exact pay_at (x := fun r => row (m ((c : Thread nD τ).loc main_arg0)) (rowAt t r)) (g := vec (m ((c : Thread nD τ).loc main_arg1)))
    (fun r k => by rw [window0_at, V_main_arg0]; exact row_eq _ _ _) (fun k => by rw [window1_at, V_v0, asRow_at]; exact vec_eq _ _) r d

theorem block_at (t : Fin cfg0.N) : (dats m 0 c).flushed 2 t = ((cfg0.win 2).blk t).view.read (Elt Ideal)
    (val_main_v13 (F := Ideal) (m ((c : Thread nD τ).loc main_arg0)) (m ((c : Thread nD τ).loc main_arg1))) := by
  rw [Value.flushed2, out_eq]
  funext y
  obtain ⟨r, d, rfl⟩ : ∃ (r : Fin 256) (d : Fin 2048), y = ix2 r d := ⟨y 0, y 1, by
    funext a
    match a with
    | ⟨0, _⟩ => rfl
    | ⟨1, _⟩ => rfl⟩
  exact (point_at m c t r d).trans (read_at _ t r d).symm

/-- The first norm: the kernel's result is the reference's. -/
theorem result : (dats m 0 c).arrAt 2 cfg0.N
    = val_main_v13 (F := Ideal) (m ((c : Thread nD τ).loc main_arg0)) (m ((c : Thread nD τ).loc main_arg1)) :=
  (dats m 0 c).arrAt_eq_of_cover 2 _ (fun t _ => block_at m c t) (fun i =>
    have h0 : (i 0).val < 2048 := (i 0).isLt
    ⟨⟨(i 0).val / 256, by rw [N_eq]; omega⟩, flush_at _, mem_at _ i rfl⟩)

end Cert.Kernel20Ideal

end
-- ==== Proof.MiddleNorms.lean ====
module

public import proofs.«01_k».proof.Proof.Gen.Kernel21Ideal.Value
public import proofs.«01_k».proof.Proof.Gen.Reference21Ideal.Read
public import proofs.«01_k».proof.Proof.Norm
public import Idealize.ShloMosaic.Lib.Pipeline.ValueKit.Point
public import Idealize.ShloMosaic.Lib.StableHlo.ReadAt

/-!
# The two norms between the mixing and the feed-forward, and the residual between them

At point `t` the rows are those of block `t` of 256.
-/

@[expose] public section

set_option maxRecDepth 16384

noncomputable section

namespace Cert.Kernel21Ideal

open Idealize.ShloMosaic Idealize.ShloMosaic.TcCoe Idealize.SL.Sem Gen Finset
open Cert.Norm hiding row vec
open Cert.Norm (row vec)
open Reference21Ideal.Read

/-- A row of the residual behind the mixing: the row before it, and the norm of the mixing's row. -/
def mid (a y g : Fin 2048 → EReal) (k : Fin 2048) : EReal := a k + y k * rs y * g k

/-! ## One block -/

section block

variable {u v : FVec Ideal S256x2048 .f32} {w z : FVec Ideal S1x2048 .f32} {a y : Fin 256 → Fin 2048 → EReal} {g h : Fin 2048 → EReal}

theorem pay1_at (ha : ∀ r k, u (ix2 r k) = a r k) (hy : ∀ r k, v (ix2 r k) = y r k) (hg : ∀ k, w (ix2 (0 : Fin 1) k) = g k) (r : Fin 256) (d : Fin 2048) :
    k0_pay1 (F := Ideal) u v w (ix2 r d) = mid (a r) (y r) g d := by
  pointwise [k0_pay1, ha, hy, hg, ofBits_count, ofBits_eps] <;> rfl

theorem pay2_at (ha : ∀ r k, u (ix2 r k) = a r k) (hy : ∀ r k, v (ix2 r k) = y r k) (hg : ∀ k, w (ix2 (0 : Fin 1) k) = g k)
    (hh : ∀ k, z (ix2 (0 : Fin 1) k) = h k) (r : Fin 256) (d : Fin 2048) :
    k0_pay2 (F := Ideal) u v w z (ix2 r d) = mid (a r) (y r) g d * rs (mid (a r) (y r) g) * h d := by
  pointwise [k0_pay2, pay1_at ha hy hg, hh, ofBits_count, ofBits_eps] <;> rfl

end block

/-- What the kernel leaves in the first result's block. -/
theorem out4_eq (x y : FVec Ideal S256x2048 .f32) (g h : FVec Ideal S1x2048 .f32) : out0_4 (F := Ideal) x y g h = k0_pay1 (F := Ideal) x y g := by
  unfold out0_4
  rw [View.canon_unit_zero (funext fun a => by fin_cases a <;> rfl), View.ld_unit_zero (funext fun a => by fin_cases a <;> rfl),
    View.ld_unit_zero (funext fun a => by fin_cases a <;> rfl), View.ld_unit_zero (funext fun a => by fin_cases a <;> rfl)]

/-- What the kernel leaves in the second result's block. -/
theorem out5_eq (x y : FVec Ideal S256x2048 .f32) (g h : FVec Ideal S1x2048 .f32) : out0_5 (F := Ideal) x y g h = k0_pay2 (F := Ideal) x y g h := by
  unfold out0_5
  rw [View.canon_unit_zero (funext fun a => by fin_cases a <;> rfl), View.ld_unit_zero (funext fun a => by fin_cases a <;> rfl),
    View.ld_unit_zero (funext fun a => by fin_cases a <;> rfl), View.ld_unit_zero (funext fun a => by fin_cases a <;> rfl),
    View.ld_unit_zero (funext fun a => by fin_cases a <;> rfl)]

/-! ## The windows -/

/-- The blocks that the windows read at a point. -/
theorem index_at (t : Fin cfg0.N) : win0_0.index t = ![t.val, 0] ∧ win0_1.index t = ![t.val, 0] ∧ win0_2.index t = ![0, 0]
    ∧ win0_3.index t = ![0, 0] ∧ win0_4.index t = ![t.val, 0] ∧ win0_5.index t = ![t.val, 0] := by
  revert t
  decide +kernel

theorem N_eq : cfg0.N = 8 := by decide +kernel

/-- The rows of a point's block. -/
abbrev rowAt (t : Fin cfg0.N) (r : Fin 256) : Fin 2048 := ⟨256 * t.val + r.val, by have ht : t.val < 8 := N_eq ▸ t.isLt; omega⟩

variable (m : (ℓ : Loc nD τ sig) → Buf (Elt Ideal) ℓ) (c : Dev nD)

/-- The vector as a row. -/
def asRow (x : FVec Ideal S2048 .f32) : FVec Ideal S1x2048 .f32 := broadcastInDim S1x2048 ![1] bcast_S2048_S1x2048_1 x

theorem asRow_at (x : FVec Ideal S2048 .f32) (k : Fin 2048) : asRow x (ix2 (0 : Fin 1) k) = x (ix1 k) := by
  pointwise [asRow]

theorem V_v0 : V (F := Ideal) m c main_v0 = asRow (m ((c : Thread nD τ).loc main_arg2)) := by
  unfold_abbrev_sides
  after_reads_simp
  rfl

theorem V_v1 : V (F := Ideal) m c main_v1 = asRow (m ((c : Thread nD τ).loc main_arg3)) := by
  unfold_abbrev_sides
  after_reads_simp
  rfl

theorem window0_at (t : Fin cfg0.N) (r : Fin 256) (d : Fin 2048) : (iblk m c 0 t : FVec Ideal S256x2048 .f32) (ix2 r d) = V m c main_arg0 (ix2 (rowAt t r) d) := by
  blk_ext [iblk, (index_at t).1]

theorem window1_at (t : Fin cfg0.N) (r : Fin 256) (d : Fin 2048) : (iblk m c 1 t : FVec Ideal S256x2048 .f32) (ix2 r d) = V m c main_arg1 (ix2 (rowAt t r) d) := by
  blk_ext [iblk, (index_at t).2.1]

theorem window2_at (t : Fin cfg0.N) (d : Fin 2048) : (iblk m c 2 t : FVec Ideal S1x2048 .f32) (ix2 (0 : Fin 1) d) = V m c main_v0 (ix2 (0 : Fin 1) d) := by
  blk_ext [iblk, (index_at t).2.2.1]

theorem window3_at (t : Fin cfg0.N) (d : Fin 2048) : (iblk m c 3 t : FVec Ideal S1x2048 .f32) (ix2 (0 : Fin 1) d) = V m c main_v1 (ix2 (0 : Fin 1) d) := by
  blk_ext [iblk, (index_at t).2.2.2.1]

/-! ## The results' blocks -/

theorem read4 (X : FVec Ideal S2048x2048 .f32) (t : Fin cfg0.N) (r : Fin 256) (d : Fin 2048) :
    (((cfg0.win 4).blk t).view.read (Elt Ideal) X : FVec Ideal S256x2048 .f32) (ix2 r d) = X (ix2 (rowAt t r) d) := by
  blk_ext [(index_at t).2.2.2.2.1]

theorem mem4 (t : Fin cfg0.N) (i : S2048x2048.Idx) (h : t.val = (i 0).val / 256) : i ∈ ((cfg0.win 4).blk t).view.set := by
  show i ∈ ((View.whole main_v2_0).slice (win0_4.rect t)).set
  rw [View.set_slice_whole, Rect.mem_set_unit]
  have h1 : (i 1).val < 2048 := (i 1).isLt
  intro a
  match a with
  | ⟨0, _⟩ =>
    show win0_4.index t (0 : Fin 2) * 256 ≤ (i 0).val ∧ (i 0).val < win0_4.index t (0 : Fin 2) * 256 + 256
    rw [(index_at t).2.2.2.2.1]; show t.val * 256 ≤ _ ∧ _ < t.val * 256 + 256; omega
  | ⟨1, _⟩ =>
    show win0_4.index t (1 : Fin 2) * 2048 ≤ (i 1).val ∧ (i 1).val < win0_4.index t (1 : Fin 2) * 2048 + 2048
    rw [(index_at t).2.2.2.2.1]; show 0 * 2048 ≤ _ ∧ _ < 0 * 2048 + 2048; omega

theorem flush4_at (t : Fin cfg0.N) : (cfg0.win 4).flush t = true := by
  revert t
  decide +kernel

theorem read5 (X : FVec Ideal S2048x2048 .bf16) (t : Fin cfg0.N) (r : Fin 256) (d : Fin 2048) :
    (((cfg0.win 5).blk t).view.read (Elt Ideal) X : FVec Ideal S256x2048 .bf16) (ix2 r d) = X (ix2 (rowAt t r) d) := by
  blk_ext [(index_at t).2.2.2.2.2]

theorem mem5 (t : Fin cfg0.N) (i : S2048x2048.Idx) (h : t.val = (i 0).val / 256) : i ∈ ((cfg0.win 5).blk t).view.set := by
  show i ∈ ((View.whole main_v2_1).slice (win0_5.rect t)).set
  rw [View.set_slice_whole, Rect.mem_set_unit]
  have h1 : (i 1).val < 2048 := (i 1).isLt
  intro a
  match a with
  | ⟨0, _⟩ =>
    show win0_5.index t (0 : Fin 2) * 256 ≤ (i 0).val ∧ (i 0).val < win0_5.index t (0 : Fin 2) * 256 + 256
    rw [(index_at t).2.2.2.2.2]; show t.val * 256 ≤ _ ∧ _ < t.val * 256 + 256; omega
  | ⟨1, _⟩ =>
    show win0_5.index t (1 : Fin 2) * 2048 ≤ (i 1).val ∧ (i 1).val < win0_5.index t (1 : Fin 2) * 2048 + 2048
    rw [(index_at t).2.2.2.2.2]; show 0 * 2048 ≤ _ ∧ _ < 0 * 2048 + 2048; omega

theorem flush5_at (t : Fin cfg0.N) : (cfg0.win 5).flush t = true := by
  revert t
  decide +kernel

/-! ## The reference -/

section ref

variable {x y : FVec Ideal S2048x2048 .f32} {g h : FVec Ideal S2048 .f32}

theorem ref13_at (r d : Fin 2048) : val_main_v13 (F := Ideal) x y g (ix2 r d) = mid (row x r) (row y r) (vec g) d := by
  pointwise [val_main_v13, val_main_v12, val_main_v11, val_main_v10, val_main_v9, val_main_v8, val_main_v7, val_main_v6, val_main_v5, val_main_v4, val_main_v3,
    val_main_v2, val_main_v1, val_main_v0, val_main_cst, val_main_cst_0, val_main_cst_1, row_eq x, row_eq y, vec_eq g, ofBits_count, ofBits_eps] <;> rfl

theorem ref27_at (r d : Fin 2048) : val_main_v27 (F := Ideal) x y g h (ix2 r d)
    = mid (row x r) (row y r) (vec g) d * rs (mid (row x r) (row y r) (vec g)) * vec h d := by
  pointwise [val_main_v27, val_main_v26, val_main_v25, val_main_v24, val_main_v23, val_main_v22, val_main_v21, val_main_v20, val_main_v19, val_main_v18, val_main_v17,
    val_main_v16, val_main_v15, val_main_v14, val_main_cst_2, val_main_cst_3, val_main_cst_4, ref13_at, vec_eq h, ofBits_count, ofBits_eps] <;> rfl

end ref

/-! ## The results -/

theorem point4 (t : Fin cfg0.N) (r : Fin 256) (d : Fin 2048) : k0_pay1 (F := Ideal) (iblk m c 0 t) (iblk m c 1 t) (iblk m c 2 t) (ix2 r d)
    = val_main_v13 (F := Ideal) (m ((c : Thread nD τ).loc main_arg0)) (m ((c : Thread nD τ).loc main_arg1)) (m ((c : Thread nD τ).loc main_arg2)) (ix2 (rowAt t r) d) := by
  rw [ref13_at]
  exact pay1_at (a := fun r => row (m ((c : Thread nD τ).loc main_arg0)) (rowAt t r)) (y := fun r => row (m ((c : Thread nD τ).loc main_arg1)) (rowAt t r)) (g := vec (m ((c : Thread nD τ).loc main_arg2)))
    (fun r k => by rw [window0_at, V_main_arg0]; exact row_eq _ _ _) (fun r k => by rw [window1_at, V_main_arg1]; exact row_eq _ _ _)
    (fun k => by rw [window2_at, V_v0, asRow_at]; exact vec_eq _ _) r d

theorem point5 (t : Fin cfg0.N) (r : Fin 256) (d : Fin 2048) : k0_pay2 (F := Ideal) (iblk m c 0 t) (iblk m c 1 t) (iblk m c 2 t) (iblk m c 3 t) (ix2 r d)
    = val_main_v27 (F := Ideal) (m ((c : Thread nD τ).loc main_arg0)) (m ((c : Thread nD τ).loc main_arg1)) (m ((c : Thread nD τ).loc main_arg2)) (m ((c : Thread nD τ).loc main_arg3)) (ix2 (rowAt t r) d) := by
  rw [ref27_at]
  exact pay2_at (a := fun r => row (m ((c : Thread nD τ).loc main_arg0)) (rowAt t r)) (y := fun r => row (m ((c : Thread nD τ).loc main_arg1)) (rowAt t r)) (g := vec (m ((c : Thread nD τ).loc main_arg2))) (h := vec (m ((c : Thread nD τ).loc main_arg3)))
    (fun r k => by rw [window0_at, V_main_arg0]; exact row_eq _ _ _) (fun r k => by rw [window1_at, V_main_arg1]; exact row_eq _ _ _)
    (fun k => by rw [window2_at, V_v0, asRow_at]; exact vec_eq _ _) (fun k => by rw [window3_at, V_v1, asRow_at]; exact vec_eq _ _) r d

theorem block4 (t : Fin cfg0.N) : (dats m 0 c).flushed 4 t = ((cfg0.win 4).blk t).view.read (Elt Ideal)
    (val_main_v13 (F := Ideal) (m ((c : Thread nD τ).loc main_arg0)) (m ((c : Thread nD τ).loc main_arg1)) (m ((c : Thread nD τ).loc main_arg2))) := by
  rw [Value.flushed4, out4_eq]
  funext y
  obtain ⟨r, d, rfl⟩ : ∃ (r : Fin 256) (d : Fin 2048), y = ix2 r d := ⟨y 0, y 1, by
    funext a
    match a with
    | ⟨0, _⟩ => rfl
    | ⟨1, _⟩ => rfl⟩
  exact (point4 m c t r d).trans (read4 _ t r d).symm

/-- The residual behind the mixing. -/
theorem result_mid : (dats m 0 c).arrAt 4 cfg0.N
    = val_main_v13 (F := Ideal) (m ((c : Thread nD τ).loc main_arg0)) (m ((c : Thread nD τ).loc main_arg1)) (m ((c : Thread nD τ).loc main_arg2)) :=
  (dats m 0 c).arrAt_eq_of_cover 4 _ (fun t _ => block4 m c t) (fun i =>
    have h0 : (i 0).val < 2048 := (i 0).isLt
    ⟨⟨(i 0).val / 256, by rw [N_eq]; omega⟩, flush4_at _, mem4 _ i rfl⟩)

theorem block5 (t : Fin cfg0.N) : (dats m 0 c).flushed 5 t = ((cfg0.win 5).blk t).view.read (Elt Ideal)
    (val_main_v27 (F := Ideal) (m ((c : Thread nD τ).loc main_arg0)) (m ((c : Thread nD τ).loc main_arg1)) (m ((c : Thread nD τ).loc main_arg2)) (m ((c : Thread nD τ).loc main_arg3))) := by
  rw [Value.flushed5, out5_eq]
  funext y
  obtain ⟨r, d, rfl⟩ : ∃ (r : Fin 256) (d : Fin 2048), y = ix2 r d := ⟨y 0, y 1, by
    funext a
    match a with
    | ⟨0, _⟩ => rfl
    | ⟨1, _⟩ => rfl⟩
  exact (point5 m c t r d).trans (read5 _ t r d).symm

/-- The feed-forward's input. -/
theorem result_rows : (dats m 0 c).arrAt 5 cfg0.N
    = val_main_v27 (F := Ideal) (m ((c : Thread nD τ).loc main_arg0)) (m ((c : Thread nD τ).loc main_arg1)) (m ((c : Thread nD τ).loc main_arg2)) (m ((c : Thread nD τ).loc main_arg3)) :=
  (dats m 0 c).arrAt_eq_of_cover 5 _ (fun t _ => block5 m c t) (fun i =>
    have h0 : (i 0).val < 2048 := (i 0).isLt
    ⟨⟨(i 0).val / 256, by rw [N_eq]; omega⟩, flush5_at _, mem5 _ i rfl⟩)

end Cert.Kernel21Ideal

end
-- ==== Proof.MixNorms.lean ====
module

public import proofs.«01_k».proof.Proof.Gen.Kernel22Ideal.Value
public import proofs.«01_k».proof.Proof.Gen.Reference22Ideal.Read
public import proofs.«01_k».proof.Proof.Norm
public import Idealize.ShloMosaic.Lib.Pipeline.ValueKit.Point
public import Idealize.ShloMosaic.Lib.StableHlo.ReadAt

/-!
# The norms inside the mixing

The output product's input: left the convolution group (a layer norm, the sigmoid-weighted unit, a root mean square norm), right the
attention's root mean square norm, 1024 columns each. At point `t` the rows are those of block `t` of 256.
-/

@[expose] public section

set_option maxRecDepth 16384

noncomputable section

namespace Cert.Mix

open Idealize.ShloMosaic Finset
open Cert.Norm (eps)

theorem ofBits_half_count : Ideal.ofBits .f32 0x44800000#32 = ((1024 : ℝ) : EReal) := by
  simp [Ideal.ofBits, Ideal.ieee, -EReal.coe_mul]; norm_num

/-- A row's distance from its mean. -/
def cen (x : Fin 1024 → EReal) (k : Fin 1024) : EReal := x k - Ideal.div (∑ k, x k) ((1024 : ℝ) : EReal)

/-- The factor of a row in the root mean square norm. -/
def fac (x : Fin 1024 → EReal) : EReal := Ideal.rsqrt (Ideal.div (∑ k, x k * x k) ((1024 : ℝ) : EReal) + (eps : EReal))

/-- The layer norm of a row. -/
def ln (x g b : Fin 1024 → EReal) (k : Fin 1024) : EReal := cen x k * fac (cen x) * g k + b k

/-- The sigmoid-weighted unit. -/
def silu (x : EReal) : EReal := x * Ideal.div ((1 : ℝ) : EReal) (((1 : ℝ) : EReal) + Ideal.exp (-x))

/-- The convolution group's row before its last norm. -/
def act (x g b : Fin 1024 → EReal) (k : Fin 1024) : EReal := silu (ln x g b k)

end Cert.Mix

namespace Cert.Kernel22Ideal

open Idealize.ShloMosaic Idealize.ShloMosaic.TcCoe Idealize.SL.Sem Gen Finset
open Cert.Norm (ofBits_eps ofBits_zero eps)
open Cert.Attention (ofBits_one)
open Cert.Mix
open Reference22Ideal.Read

/-! ## One block -/

section block

variable {u a : FVec Ideal S256x1024 .f32} {w z v q : FVec Ideal S1x1024 .f32} {x y : Fin 256 → Fin 1024 → EReal} {g b h e : Fin 1024 → EReal}

theorem pay3_at (hx : ∀ r k, u (ix2 r k) = x r k) (hg : ∀ k, w (ix2 (0 : Fin 1) k) = g k) (hb : ∀ k, z (ix2 (0 : Fin 1) k) = b k) (r : Fin 256) (d : Fin 1024) :
    k0_pay3 (F := Ideal) u w z (ix2 r d) = act (x r) g b d := by
  pointwise [k0_pay3, hx, hg, hb, ofBits_half_count, ofBits_eps, ofBits_one, ofBits_zero, EReal.coe_zero, zero_sub] <;> rfl

theorem pay5_at (hx : ∀ r k, u (ix2 r k) = x r k) (hg : ∀ k, w (ix2 (0 : Fin 1) k) = g k) (hb : ∀ k, z (ix2 (0 : Fin 1) k) = b k) (r : Fin 256) :
    k0_pay5 (F := Ideal) u w z (ix2 r (0 : Fin 1)) = Ideal.div (∑ k, act (x r) g b k * act (x r) g b k) ((1024 : ℝ) : EReal) := by
  pointwise [k0_pay5, pay3_at hx hg hb, ofBits_half_count]

/-- The kernel's left columns of a block. -/
theorem left_at (hx : ∀ r k, u (ix2 r k) = x r k) (hg : ∀ k, w (ix2 (0 : Fin 1) k) = g k) (hb : ∀ k, z (ix2 (0 : Fin 1) k) = b k)
    (hh : ∀ k, v (ix2 (0 : Fin 1) k) = h k) (r : Fin 256) (d : Fin 1024) :
    k0_pay1 (F := Ideal) (k0_pay3 u w z) (k0_pay4 v) (k0_pay5 u w z) (Scalar.ofBits .f32 0x358637BD#32) (ix2 r d)
      = act (x r) g b d * fac (act (x r) g b) * h d := by
  pointwise [k0_pay1, k0_pay4, pay3_at hx hg hb, pay5_at hx hg hb, hh, ofBits_eps] <;> rfl

/-- The kernel's right columns of a block. -/
theorem right_at (hy : ∀ r k, a (ix2 r k) = y r k) (he : ∀ k, q (ix2 (0 : Fin 1) k) = e k) (r : Fin 256) (d : Fin 1024) :
    k0_pay2 (F := Ideal) a q (ix2 r d) = y r d * fac (y r) * e d := by
  pointwise [k0_pay2, hy, he, ofBits_half_count, ofBits_eps] <;> rfl

end block

/-- Left and right columns. -/
abbrev colL (d : Fin 1024) : Fin 2048 := ⟨d.val, by omega⟩
abbrev colR (d : Fin 1024) : Fin 2048 := ⟨1024 + d.val, by omega⟩

theorem embL (r : Fin 256) (d : Fin 1024) : r0_2.emb (ix2 r d) = ix2 r (colL d) := by
  funext i
  match i with
  | ⟨0, _⟩ => exact Fin.ext (by show 0 + 1 * r.val = r.val; omega)
  | ⟨1, _⟩ => exact Fin.ext (by show 0 + 1 * d.val = d.val; omega)

theorem embR (r : Fin 256) (d : Fin 1024) : r0_3.emb (ix2 r d) = ix2 r (colR d) := by
  funext i
  match i with
  | ⟨0, _⟩ => exact Fin.ext (by show 0 + 1 * r.val = r.val; omega)
  | ⟨1, _⟩ => exact Fin.ext (by show 1024 + 1 * d.val = 1024 + d.val; omega)

theorem not_right (r : Fin 256) (d : Fin 1024) : ix2 r (colL d) ∉ r0_3.set := by
  rw [Rect.mem_set_unit]
  intro h
  have h1 : 1024 ≤ d.val := (h 1).1
  omega

/-- What the kernel leaves in the left columns. -/
theorem outL (x a : FVec Ideal S256x1024 .f32) (g b h e : FVec Ideal S1x1024 .f32) (r : Fin 256) (d : Fin 1024) :
    out0_6 (F := Ideal) x g b h a e (ix2 r (colL d)) = k0_pay1 (F := Ideal) (k0_pay3 x g b) (k0_pay4 h) (k0_pay5 x g b) (Scalar.ofBits .f32 0x358637BD#32) (ix2 r d) := by
  unfold out0_6
  have h0 := View.canon_cons_of_not_mem (Val := Elt Ideal) (⟨r0_3, k0_pay2 (F := Ideal) (View.ld a r0_0) (View.ld e r0_1)⟩ : View.Piece (Elt Ideal) S256x2048 .bf16)
    [⟨r0_2, k0_pay1 (F := Ideal) (k0_pay3 (View.ld x r0_0) (View.ld g r0_1) (View.ld b r0_1)) (k0_pay4 (View.ld h r0_1))
      (k0_pay5 (View.ld x r0_0) (View.ld g r0_1) (View.ld b r0_1)) (Scalar.ofBits .f32 0x358637BD#32)⟩] (not_right r d)
  refine h0.trans ?_
  refine (congrArg (View.canon _) (embL r d).symm).trans ?_
  rw [View.canon_cons_emb]
  rw [View.ld_unit_zero (funext fun a => by fin_cases a <;> rfl), View.ld_unit_zero (funext fun a => by fin_cases a <;> rfl),
    View.ld_unit_zero (funext fun a => by fin_cases a <;> rfl), View.ld_unit_zero (funext fun a => by fin_cases a <;> rfl)]

/-- What the kernel leaves in the right columns. -/
theorem outR (x a : FVec Ideal S256x1024 .f32) (g b h e : FVec Ideal S1x1024 .f32) (r : Fin 256) (d : Fin 1024) :
    out0_6 (F := Ideal) x g b h a e (ix2 r (colR d)) = k0_pay2 (F := Ideal) a e (ix2 r d) := by
  unfold out0_6
  refine (congrArg (View.canon _) (embR r d).symm).trans ?_
  rw [View.canon_cons_emb]
  rw [View.ld_unit_zero (funext fun a => by fin_cases a <;> rfl), View.ld_unit_zero (funext fun a => by fin_cases a <;> rfl)]

/-! ## The windows -/

/-- The blocks that the windows read at a point. -/
theorem index_at (t : Fin cfg0.N) : win0_0.index t = ![t.val, 0] ∧ win0_1.index t = ![0, 0] ∧ win0_2.index t = ![0, 0]
    ∧ win0_3.index t = ![0, 0] ∧ win0_4.index t = ![t.val, 0] ∧ win0_5.index t = ![0, 0] ∧ win0_6.index t = ![t.val, 0] := by
  revert t
  decide +kernel

theorem N_eq : cfg0.N = 8 := by decide +kernel

/-- The rows of a point's block. -/
abbrev rowAt (t : Fin cfg0.N) (r : Fin 256) : Fin 2048 := ⟨256 * t.val + r.val, by have ht : t.val < 8 := N_eq ▸ t.isLt; omega⟩

variable (m : (ℓ : Loc nD τ sig) → Buf (Elt Ideal) ℓ) (c : Dev nD)

/-- The vector as a row. -/
def asRow (x : FVec Ideal S1024 .f32) : FVec Ideal S1x1024 .f32 := broadcastInDim S1x1024 ![1] bcast_S1024_S1x1024_1 x

/-- A row of an array, and a vector, as functions. -/
def row (x : FVec Ideal S2048x1024 .f32) (r : Fin 2048) (k : Fin 1024) : EReal := x (ix2 r k)
def vec (x : FVec Ideal S1024 .f32) (k : Fin 1024) : EReal := x (ix1 k)

theorem row_eq (x : FVec Ideal S2048x1024 .f32) (r : Fin 2048) (k : Fin 1024) : x (ix2 r k) = row x r k := rfl
theorem vec_eq (x : FVec Ideal S1024 .f32) (k : Fin 1024) : x (ix1 k) = vec x k := rfl

theorem asRow_at (x : FVec Ideal S1024 .f32) (k : Fin 1024) : asRow x (ix2 (0 : Fin 1) k) = x (ix1 k) := by
  pointwise [asRow]

theorem V_v0 : V (F := Ideal) m c main_v0 = asRow (m ((c : Thread nD τ).loc main_arg1)) := by
  unfold_abbrev_sides
  after_reads_simp
  rfl

theorem V_v1 : V (F := Ideal) m c main_v1 = asRow (m ((c : Thread nD τ).loc main_arg2)) := by
  unfold_abbrev_sides
  after_reads_simp
  rfl

theorem V_v2 : V (F := Ideal) m c main_v2 = asRow (m ((c : Thread nD τ).loc main_arg3)) := by
  unfold_abbrev_sides
  after_reads_simp
  rfl

theorem V_v3 : V (F := Ideal) m c main_v3 = asRow (m ((c : Thread nD τ).loc main_arg5)) := by
  unfold_abbrev_sides
  after_reads_simp
  rfl

theorem window0_at (t : Fin cfg0.N) (r : Fin 256) (d : Fin 1024) : (iblk m c 0 t : FVec Ideal S256x1024 .f32) (ix2 r d) = V m c main_arg0 (ix2 (rowAt t r) d) := by
  blk_ext [iblk, (index_at t).1]

theorem window4_at (t : Fin cfg0.N) (r : Fin 256) (d : Fin 1024) : (iblk m c 4 t : FVec Ideal S256x1024 .f32) (ix2 r d) = V m c main_arg4 (ix2 (rowAt t r) d) := by
  blk_ext [iblk, (index_at t).2.2.2.2.1]

theorem window1_at (t : Fin cfg0.N) (d : Fin 1024) : (iblk m c 1 t : FVec Ideal S1x1024 .f32) (ix2 (0 : Fin 1) d) = V m c main_v0 (ix2 (0 : Fin 1) d) := by
  blk_ext [iblk, (index_at t).2.1]

theorem window2_at (t : Fin cfg0.N) (d : Fin 1024) : (iblk m c 2 t : FVec Ideal S1x1024 .f32) (ix2 (0 : Fin 1) d) = V m c main_v1 (ix2 (0 : Fin 1) d) := by
  blk_ext [iblk, (index_at t).2.2.1]

theorem window3_at (t : Fin cfg0.N) (d : Fin 1024) : (iblk m c 3 t : FVec Ideal S1x1024 .f32) (ix2 (0 : Fin 1) d) = V m c main_v2 (ix2 (0 : Fin 1) d) := by
  blk_ext [iblk, (index_at t).2.2.2.1]

theorem window5_at (t : Fin cfg0.N) (d : Fin 1024) : (iblk m c 5 t : FVec Ideal S1x1024 .f32) (ix2 (0 : Fin 1) d) = V m c main_v3 (ix2 (0 : Fin 1) d) := by
  blk_ext [iblk, (index_at t).2.2.2.2.2.1]

/-! ## The result's blocks -/

theorem read6 (X : FVec Ideal S2048x2048 .bf16) (t : Fin cfg0.N) (r : Fin 256) (d : Fin 2048) :
    (((cfg0.win 6).blk t).view.read (Elt Ideal) X : FVec Ideal S256x2048 .bf16) (ix2 r d) = X (ix2 (rowAt t r) d) := by
  blk_ext [(index_at t).2.2.2.2.2.2]

theorem mem6 (t : Fin cfg0.N) (i : S2048x2048.Idx) (h : t.val = (i 0).val / 256) : i ∈ ((cfg0.win 6).blk t).view.set := by
  show i ∈ ((View.whole main_v4).slice (win0_6.rect t)).set
  rw [View.set_slice_whole, Rect.mem_set_unit]
  have h1 : (i 1).val < 2048 := (i 1).isLt
  intro a
  match a with
  | ⟨0, _⟩ =>
    show win0_6.index t (0 : Fin 2) * 256 ≤ (i 0).val ∧ (i 0).val < win0_6.index t (0 : Fin 2) * 256 + 256
    rw [(index_at t).2.2.2.2.2.2]; show t.val * 256 ≤ _ ∧ _ < t.val * 256 + 256; omega
  | ⟨1, _⟩ =>
    show win0_6.index t (1 : Fin 2) * 2048 ≤ (i 1).val ∧ (i 1).val < win0_6.index t (1 : Fin 2) * 2048 + 2048
    rw [(index_at t).2.2.2.2.2.2]; show 0 * 2048 ≤ _ ∧ _ < 0 * 2048 + 2048; omega

theorem flush6_at (t : Fin cfg0.N) : (cfg0.win 6).flush t = true := by
  revert t
  decide +kernel

/-! ## The reference -/

section ref

variable {x a : FVec Ideal S2048x1024 .f32} {g b h e : FVec Ideal S1024 .f32}

theorem ref23_at (r : Fin 2048) (d : Fin 1024) : val_main_v23 (F := Ideal) x g b (ix2 r d) = ln (row x r) (vec g) (vec b) d := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, row_eq x, vec_eq g, vec_eq b, ofBits_half_count, ofBits_eps] <;> rfl

theorem ref24_at (r : Fin 2048) (d : Fin 1024) : val_main_v24 (F := Ideal) x g b (ix2 r d) = act (row x r) (vec g) (vec b) d := by
  pointwise [val_main_v24, val_main_call0_v5, val_main_call0_v4, val_main_call0_v3, val_main_call0_v2, val_main_call0_v1, val_main_call0_v0, val_main_call0_cst,
    val_main_call0_cst_0, ref23_at, ofBits_one] <;> rfl

theorem ref37_at (r : Fin 2048) (d : Fin 1024) : val_main_v37 (F := Ideal) x g b h (ix2 r d)
    = act (row x r) (vec g) (vec b) d * fac (act (row x r) (vec g) (vec b)) * vec h d := by
  pointwise [val_main_v37, val_main_v36, val_main_v35, val_main_v34, val_main_v33, val_main_v32, val_main_v31, val_main_v30, val_main_v29, val_main_v28, val_main_v27, val_main_v26, val_main_v25, val_main_cst_4, val_main_cst_5, val_main_cst_6, ref24_at, vec_eq h, ofBits_half_count, ofBits_eps] <;> rfl

theorem ref50_at (r : Fin 2048) (d : Fin 1024) : val_main_v50 (F := Ideal) a e (ix2 r d) = row a r d * fac (row a r) * vec e d := by
  pointwise [val_main_v50, val_main_v49, val_main_v48, val_main_v47, val_main_v46, val_main_v45, val_main_v44, val_main_v43, val_main_v42, val_main_v41, val_main_v40, val_main_v39, val_main_v38, val_main_cst_7, val_main_cst_8, val_main_cst_9, row_eq a, vec_eq e, ofBits_half_count, ofBits_eps] <;> rfl

theorem refL (r : Fin 2048) (d : Fin 1024) : val_main_v52 (F := Ideal) x g b h a e (ix2 r (colL d)) = val_main_v37 (F := Ideal) x g b h (ix2 r d) := by
  rw [val_main_v52_apply, val_main_v51]
  show concatenate _ _ _ _ _ = _
  refine (concatenate_pair_apply_left (t := Reference22Ideal.S2048x2048) (s₁ := Reference22Ideal.S2048x1024) (s₂ := Reference22Ideal.S2048x1024) 1 _ _ _ _ rfl (ix2 r d) fun i => ?_)
  match i with
  | ⟨0, _⟩ => rfl
  | ⟨1, _⟩ => rfl

theorem refR (r : Fin 2048) (d : Fin 1024) : val_main_v52 (F := Ideal) x g b h a e (ix2 r (colR d)) = val_main_v50 (F := Ideal) a e (ix2 r d) := by
  rw [val_main_v52_apply, val_main_v51]
  show concatenate _ _ _ _ _ = _
  refine (concatenate_pair_apply_right (t := Reference22Ideal.S2048x2048) (s₁ := Reference22Ideal.S2048x1024) (s₂ := Reference22Ideal.S2048x1024) 1 _ _ _ _ rfl rfl (ix2 r d) (fun i hi => ?_) ?_)
  · match i, hi with
    | ⟨0, _⟩, _ => rfl
    | ⟨1, _⟩, hi => exact absurd rfl hi
  · show d.val + 1024 = 1024 + d.val
    omega

end ref

/-! ## The result -/

theorem point_left (t : Fin cfg0.N) (r : Fin 256) (d : Fin 1024) :
    out0_6 (F := Ideal) (iblk m c 0 t) (iblk m c 1 t) (iblk m c 2 t) (iblk m c 3 t) (iblk m c 4 t) (iblk m c 5 t) (ix2 r (colL d))
    = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (rowAt t r) (colL d)) := by
  rw [refL, ref37_at, outL]
  exact left_at (x := fun r => row (m ((c : Thread nD τ).loc main_arg0)) (rowAt t r)) (g := vec (m ((c : Thread nD τ).loc main_arg1))) (b := vec (m ((c : Thread nD τ).loc main_arg2))) (h := vec (m ((c : Thread nD τ).loc main_arg3)))
    (fun r k => by rw [window0_at, V_main_arg0]; exact row_eq _ _ _) (fun k => by rw [window1_at, V_v0, asRow_at]; exact vec_eq _ _)
    (fun k => by rw [window2_at, V_v1, asRow_at]; exact vec_eq _ _) (fun k => by rw [window3_at, V_v2, asRow_at]; exact vec_eq _ _) r d

theorem point_right (t : Fin cfg0.N) (r : Fin 256) (d : Fin 1024) :
    out0_6 (F := Ideal) (iblk m c 0 t) (iblk m c 1 t) (iblk m c 2 t) (iblk m c 3 t) (iblk m c 4 t) (iblk m c 5 t) (ix2 r (colR d))
    = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (rowAt t r) (colR d)) := by
  rw [refR, ref50_at, outR]
  exact right_at (y := fun r => row (m ((c : Thread nD τ).loc main_arg4)) (rowAt t r)) (e := vec (m ((c : Thread nD τ).loc main_arg5)))
    (fun r k => by rw [window4_at, V_main_arg4]; exact row_eq _ _ _) (fun k => by rw [window5_at, V_v3, asRow_at]; exact vec_eq _ _) r d

theorem block6 (t : Fin cfg0.N) : (dats m 0 c).flushed 6 t = ((cfg0.win 6).blk t).view.read (Elt Ideal)
    (val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  rw [Value.flushed6]
  funext y
  obtain ⟨r, d, rfl⟩ : ∃ (r : Fin 256) (d : Fin 2048), y = ix2 r d := ⟨y 0, y 1, by
    funext a
    match a with
    | ⟨0, _⟩ => rfl
    | ⟨1, _⟩ => rfl⟩
  refine Eq.trans ?_ (read6 _ t r d).symm
  by_cases hd : d.val < 1024
  · exact point_left m c t r ⟨d.val, hd⟩
  · obtain ⟨k, rfl⟩ : ∃ k : Fin 1024, d = colR k := ⟨⟨d.val - 1024, by omega⟩, Fin.ext (by show d.val = 1024 + (d.val - 1024); omega)⟩
    exact point_right m c t r k

/-- The output product's input. -/
theorem result_mix : (dats m 0 c).arrAt 6 cfg0.N
    = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 6 _ (fun t _ => block6 m c t) (fun i =>
    have h0 : (i 0).val < 2048 := (i 0).isLt
    ⟨⟨(i 0).val / 256, by rw [N_eq]; omega⟩, flush6_at _, mem6 _ i rfl⟩)

end Cert.Kernel22Ideal

end
-- ==== Proof.HostValue.lean ====
module

public import proofs.«01_k».proof.Proof.Gen.KernelIdeal.Value
public import proofs.«01_k».proof.Proof.RefValue
public import Idealize.ShloMosaic.Lib.StableHlo.ReadAt

/-!
# The arrays that the host hands to the kernel

Each array before the call, by the arguments, and its entries as real numbers.
-/

@[expose] public section

set_option maxRecDepth 16384

noncomputable section

namespace Cert.KernelIdeal

open Idealize.ShloMosaic Idealize.ShloMosaic.TcCoe Idealize.SL.Sem Cert.Attention Gen Finset

variable (m : (ℓ : Loc nD τ sig) → Buf (Elt Ideal) ℓ) (c : Dev nD)

/-- The rotated queries, each head padded to 256 features. -/
def hostQ (x0 : FVec Ideal S2048x8x192 .f32) (x3 : FVec Ideal S2048x32 .f32) (x4 : FVec Ideal S2048x32 .f32) : FVec Ideal S2048x2048 .bf16 :=
  truncf .bf16 (shapeCast S2048x2048 (pad S2048x8x256 ![0, 0, 0] ![0, 0, 64] ![0, 0, 0] (ReferenceIdeal.Read.val_main_v19 (F := Ideal) x0 x3 x4) (sitofp .f32 (constantI S_ 32 0#32))
    pads_S2048x8x192_S2048x8x256_000_000_0640 h_S_) shapeCasts_S2048x8x256_S2048x2048) bitsLt_bf16_f32

/-- The rotated key features, padded to 128. -/
def hostKp (x2 : FVec Ideal S2048x64 .f32) : FVec Ideal S2048x128 .bf16 :=
  truncf .bf16 (pad S2048x128 ![0, 0] ![0, 64] ![0, 0] x2 (sitofp .f32 (constantI S_ 32 0#32)) pads_S2048x64_S2048x128_000_0640 h_S_) bitsLt_bf16_f32

/-- The keys and values, the heads side by side. -/
def hostKv (x1 : FVec Ideal S2048x8x256 .f32) : FVec Ideal S2048x2048 .f32 :=
  shapeCast S2048x2048 x1 shapeCasts_S2048x8x256_S2048x2048

/-- The cosines, twice, then zeros. -/
def hostCo (x3 : FVec Ideal S2048x32 .f32) : FVec Ideal S2048x128 .f32 :=
  concatenate S2048x128 1 [⟨S2048x32, x3⟩, ⟨S2048x32, x3⟩, ⟨S2048x64, broadcastInDim S2048x64 ![] bcast_S_S2048x64 (constant S_ .f32 0x00000000#32)⟩]
    concatenates_S2048x32_S2048x32_S2048x64_S2048x128_d1

/-- The negated sines, then zeros. -/
def hostSa (x4 : FVec Ideal S2048x32 .f32) : FVec Ideal S2048x128 .f32 :=
  concatenate S2048x128 1 [⟨S2048x32, negf x4⟩, ⟨S2048x32, broadcastInDim S2048x32 ![] bcast_S_S2048x32 (constant S_ .f32 0x00000000#32)⟩,
    ⟨S2048x64, broadcastInDim S2048x64 ![] bcast_S_S2048x64 (constant S_ .f32 0x00000000#32)⟩] concatenates_S2048x32_S2048x32_S2048x64_S2048x128_d1

/-- Zeros, the sines, then zeros. -/
def hostSb (x4 : FVec Ideal S2048x32 .f32) : FVec Ideal S2048x128 .f32 :=
  concatenate S2048x128 1 [⟨S2048x32, broadcastInDim S2048x32 ![] bcast_S_S2048x32 (constant S_ .f32 0x00000000#32)⟩, ⟨S2048x32, x4⟩,
    ⟨S2048x64, broadcastInDim S2048x64 ![] bcast_S_S2048x64 (constant S_ .f32 0x00000000#32)⟩] concatenates_S2048x32_S2048x32_S2048x64_S2048x128_d1

/-- The exponentials of the scores less the row maximum. -/
def hostE (x0 : FVec Ideal S2048x8x192 .f32) (x1 : FVec Ideal S2048x8x256 .f32) (x2 : FVec Ideal S2048x64 .f32) (x3 : FVec Ideal S2048x32 .f32) (x4 : FVec Ideal S2048x32 .f32) : FVec Ideal S8x2048x2048 .f32 :=
  Host.exp (subf (ReferenceIdeal.Read.val_main_v32_0 (F := Ideal) x0 x1 x2 x3 x4) (broadcastInDim S8x2048x2048 ![0, 1, 2] bcast_S8x2048x1_S8x2048x2048_0_1_2
    (broadcastInDim S8x2048x1 ![0, 1] bcast_S8x2048_S8x2048x1_0_1 (ReferenceIdeal.Read.val_main_v33 (F := Ideal) x0 x1 x2 x3 x4))))

/-- The sum of a row's exponentials. -/
def hostSum (x0 : FVec Ideal S2048x8x192 .f32) (x1 : FVec Ideal S2048x8x256 .f32) (x2 : FVec Ideal S2048x64 .f32) (x3 : FVec Ideal S2048x32 .f32) (x4 : FVec Ideal S2048x32 .f32) : FVec Ideal S8x2048 .f32 :=
  Host.reduceAdd (hostE x0 x1 x2 x3 x4) (constant (F := Ideal) S_ .f32 0x00000000#32) reducesTo_S8x2048x2048_S8x2048_d2 h_S_

/-- The logarithm of a row's sum of exponentials. -/
def hostLog (x0 : FVec Ideal S2048x8x192 .f32) (x1 : FVec Ideal S2048x8x256 .f32) (x2 : FVec Ideal S2048x64 .f32) (x3 : FVec Ideal S2048x32 .f32) (x4 : FVec Ideal S2048x32 .f32) : FVec Ideal S8x2048 .f32 :=
  addf (ReferenceIdeal.Read.val_main_v33 (F := Ideal) x0 x1 x2 x3 x4) (Host.log (hostSum x0 x1 x2 x3 x4))

/-- The same, repeated over a head's 128 features. -/
def hostLse (x0 : FVec Ideal S2048x8x192 .f32) (x1 : FVec Ideal S2048x8x256 .f32) (x2 : FVec Ideal S2048x64 .f32) (x3 : FVec Ideal S2048x32 .f32) (x4 : FVec Ideal S2048x32 .f32) : FVec Ideal S2048x1024 .f32 :=
  shapeCast S2048x1024 (broadcastInDim S2048x8x128 ![0, 1, 2] bcast_S2048x8x1_S2048x8x128_0_1_2 (broadcastInDim S2048x8x1 ![0, 1] bcast_S2048x8_S2048x8x1_0_1
    (transpose S2048x8 [1, 0] (hostLog x0 x1 x2 x3 x4) transposes_S8x2048_S2048x8_1_0))) shapeCasts_S2048x8x128_S2048x1024

theorem V_v61 : V (F := Ideal) m c main_v61 = hostQ (m ((c : Thread nD τ).loc main_arg0)) (m ((c : Thread nD τ).loc main_arg3)) (m ((c : Thread nD τ).loc main_arg4)) := by
  unfold_abbrev_sides
  after_reads_simp
  simp -implicitDefEqProofs only [StableHlo.TRef.ofBuf_toBuf, StableHlo.TRef.toBuf, StableHlo.TRef.ofBuf, cast_cast, cast_eq]
  clean_types
  rfl

theorem V_v63 : V (F := Ideal) m c main_v63 = hostKp (m ((c : Thread nD τ).loc main_arg2)) := by
  unfold_abbrev_sides
  after_reads_simp
  simp only [StableHlo.TRef.ofBuf_toBuf]
  rfl

theorem V_v70 : V (F := Ideal) m c main_v70 = hostKv (m ((c : Thread nD τ).loc main_arg1)) := by
  unfold_abbrev_sides
  after_reads_simp
  rfl

theorem V_v66 : V (F := Ideal) m c main_v66 = hostCo (m ((c : Thread nD τ).loc main_arg3)) := by
  unfold_abbrev_sides
  after_reads_simp
  rfl

theorem V_v68 : V (F := Ideal) m c main_v68 = hostSa (m ((c : Thread nD τ).loc main_arg4)) := by
  unfold_abbrev_sides
  after_reads_simp
  rfl

theorem V_v69 : V (F := Ideal) m c main_v69 = hostSb (m ((c : Thread nD τ).loc main_arg4)) := by
  unfold_abbrev_sides
  after_reads_simp
  rfl

theorem V_v51 : V (F := Ideal) m c main_v51 = hostE (m ((c : Thread nD τ).loc main_arg0)) (m ((c : Thread nD τ).loc main_arg1)) (m ((c : Thread nD τ).loc main_arg2)) (m ((c : Thread nD τ).loc main_arg3)) (m ((c : Thread nD τ).loc main_arg4)) := by
  unfold_abbrev_sides
  after_reads_simp
  simp only [StableHlo.TRef.ofBuf_toBuf]
  rfl

theorem V_v52 : V (F := Ideal) m c main_v52 = hostSum (m ((c : Thread nD τ).loc main_arg0)) (m ((c : Thread nD τ).loc main_arg1)) (m ((c : Thread nD τ).loc main_arg2)) (m ((c : Thread nD τ).loc main_arg3)) (m ((c : Thread nD τ).loc main_arg4)) := by
  unfold_abbrev_sides
  after_reads_simp
  simp only [StableHlo.TRef.ofBuf_toBuf]
  rfl

theorem V_v58 : V (F := Ideal) m c main_v58 = hostLse (m ((c : Thread nD τ).loc main_arg0)) (m ((c : Thread nD τ).loc main_arg1)) (m ((c : Thread nD τ).loc main_arg2)) (m ((c : Thread nD τ).loc main_arg3)) (m ((c : Thread nD τ).loc main_arg4)) := by
  unfold_abbrev_sides
  after_reads_simp
  simp only [StableHlo.TRef.ofBuf_toBuf]
  rfl

theorem V_v46 : V (F := Ideal) m c main_v46 = ReferenceIdeal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  unfold_abbrev_sides
  after_reads_simp
  simp only [StableHlo.TRef.ofBuf_toBuf]
  rfl

variable {x0 : FVec Ideal S2048x8x192 .f32} {x1 : FVec Ideal S2048x8x256 .f32} {x2 : FVec Ideal S2048x64 .f32} {x3 x4 : FVec Ideal S2048x32 .f32}
  {x5 : FVec Ideal S2048x1024 .f32}
variable (H : Reals x0 x1 x2 x3 x4 x5)
include H

theorem hostQ_at (t l : Fin 2048) : hostQ x0 x3 x4 (ix2 t l) = ((inputs x0 x1 x2 x3 x4 x5).qr t (l / 256) (l % 256) : EReal) := by
  pointwise [hostQ, v19_at H]
  have hl := l.isLt
  by_cases hd : (l : ℕ) % 256 < 192
  · rw [dif_pos ⟨by omega, hd⟩]
  · rw [dif_neg (by omega), sitofp_zero, Inputs.qr, if_neg (by omega), if_neg (by omega), if_neg hd]

theorem hostKp_at (t : Fin 2048) (l : Fin 128) : hostKp x2 (ix2 t l) = ((if (l : ℕ) < 64 then (inputs x0 x1 x2 x3 x4 x5).kp t l else 0 : ℝ) : EReal) := by
  pointwise [hostKp, kp_at H]
  by_cases hd : (l : ℕ) < 64
  · rw [dif_pos hd, if_pos hd]
  · rw [dif_neg hd, if_neg hd, sitofp_zero]

theorem hostKv_at (t l : Fin 2048) : hostKv x1 (ix2 t l) = ((inputs x0 x1 x2 x3 x4 x5).kv t (l / 256) (l % 256) : EReal) := by
  pointwise [hostKv, kv_at H]

theorem hostCo_at (t : Fin 2048) (l : Fin 128) : hostCo x3 (ix2 t l)
    = ((if (l : ℕ) < 32 then (inputs x0 x1 x2 x3 x4 x5).co t l else if (l : ℕ) < 64 then (inputs x0 x1 x2 x3 x4 x5).co t (l - 32) else 0 : ℝ) : EReal) := by
  pointwise [hostCo, co_at H]
  by_cases h1 : (l : ℕ) < 32
  · rw [dif_pos h1, if_pos h1]
  · by_cases h2 : (l : ℕ) < 64
    · rw [dif_neg h1, if_neg h1, dif_pos (by omega), if_pos h2]
    · rw [dif_neg h1, if_neg h1, dif_neg (by omega), if_neg h2]
      rfl

theorem hostSa_at (t : Fin 2048) (l : Fin 128) : hostSa x4 (ix2 t l) = ((if (l : ℕ) < 32 then -(inputs x0 x1 x2 x3 x4 x5).si t l else 0 : ℝ) : EReal) := by
  pointwise [hostSa, si_at H]
  by_cases h1 : (l : ℕ) < 32
  · rw [dif_pos h1, if_pos h1]
    rfl
  · rw [dif_neg h1, if_neg h1]
    split <;> rfl

theorem hostSb_at (t : Fin 2048) (l : Fin 128) : hostSb x4 (ix2 t l)
    = ((if (l : ℕ) < 32 then 0 else if (l : ℕ) < 64 then (inputs x0 x1 x2 x3 x4 x5).si t (l - 32) else 0 : ℝ) : EReal) := by
  pointwise [hostSb, si_at H]
  by_cases h1 : (l : ℕ) < 32
  · rw [dif_pos h1, if_pos h1]
    rfl
  · by_cases h2 : (l : ℕ) < 64
    · rw [dif_neg h1, if_neg h1, dif_pos (by omega), if_pos h2]
    · rw [dif_neg h1, if_neg h1, dif_neg (by omega), if_neg h2]
      rfl

theorem hostE_at (h : Fin 8) (t u : Fin 2048) : hostE x0 x1 x2 x3 x4 (ix3 h t u) = ((inputs x0 x1 x2 x3 x4 x5).E h t u : EReal) := by
  pointwise [hostE, v32_at H, v33_at H]
  unfold Inputs.E
  by_cases hu : (u : ℕ) ≤ t
  · rw [if_pos hu, if_pos hu, ← EReal.coe_sub, exp_coe]
  · rw [if_neg hu, if_neg hu, EReal.bot_sub, exp_bot]

theorem hostSum_at (h : Fin 8) (t : Fin 2048) : hostSum x0 x1 x2 x3 x4 (ix2 h t) = ((inputs x0 x1 x2 x3 x4 x5).L h t : EReal) := by
  pointwise [hostSum, hostE_at H]
  exact coe_sum_fin 2048 fun u => (inputs x0 x1 x2 x3 x4 x5).E h t u

omit H in
theorem log_coe {r : ℝ} (h : 0 < r) : Ideal.log (r : EReal) = ((Real.log r : ℝ) : EReal) := by
  show (if r ≤ 0 then (⊥ : EReal) else ((Real.log r : ℝ) : EReal)) = _
  rw [if_neg (not_le.2 h)]

omit H in
/-- An entry of a sum with a logarithm, where both are real numbers. -/
theorem log_entry (z y : FVec Ideal S8x2048 .f32) (h : Fin 8) (t : Fin 2048) (a b : ℝ) (hb : 0 < b) (hz : z (ix2 h t) = (b : EReal)) (hy : y (ix2 h t) = (a : EReal)) :
    addf y (Host.log z) (ix2 h t) = ((a + Real.log b : ℝ) : EReal) := by
  have e : addf y (Host.log z) (ix2 h t) = y (ix2 h t) + Ideal.log (z (ix2 h t)) := rfl
  rw [e, hz, hy, log_coe hb, ← EReal.coe_add]

theorem sum_pos (h : Fin 8) (t : Fin 2048) : 0 < (inputs x0 x1 x2 x3 x4 x5).L h t := Inputs.L_pos _ _ _ t.isLt

theorem hostLog_at (h : Fin 8) (t : Fin 2048) : hostLog x0 x1 x2 x3 x4 (ix2 h t)
    = (((inputs x0 x1 x2 x3 x4 x5).mx h t + Real.log ((inputs x0 x1 x2 x3 x4 x5).L h t) : ℝ) : EReal) := by
  rw [hostLog]
  exact log_entry _ _ h t _ _ (sum_pos H h t) (hostSum_at H h t) (v33_at H h t)

theorem hostLse_at (t : Fin 2048) (l : Fin 1024) : hostLse x0 x1 x2 x3 x4 (ix2 t l)
    = (((inputs x0 x1 x2 x3 x4 x5).mx (l / 128) t + Real.log ((inputs x0 x1 x2 x3 x4 x5).L (l / 128) t) : ℝ) : EReal) := by
  unfold hostLse
  generalize hz : hostLog x0 x1 x2 x3 x4 = z
  have hz' : ∀ (h : Fin 8) (t : Fin 2048), z (ix2 h t) = (((inputs x0 x1 x2 x3 x4 x5).mx h t + Real.log ((inputs x0 x1 x2 x3 x4 x5).L h t) : ℝ) : EReal) :=
    fun h t => hz ▸ hostLog_at H h t
  pointwise [hz']

end Cert.KernelIdeal
end
-- ==== Proof.Blocks.lean ====
module

public import proofs.«01_k».proof.Proof.Gen.KernelIdeal.Value
public import proofs.«01_k».proof.Proof.Tiles

/-!
# One block of the gradient

The operations of the body on one block of 512 queries and 512 keys, named once. Every block of every grid point is
these operations on its own rows.
-/

@[expose] public section

set_option maxRecDepth 16384

noncomputable section

namespace Cert.KernelIdeal

open Idealize.ShloMosaic Cert.Attention Gen

/-- The scaled scores of a block. -/
def scoreB (q kf : FVec Ideal S512x256 .bf16) : FVec Ideal S512x512 .f32 :=
  mulf (matmul dot_S512x256_S512x256_S512x512_1_1_0_0_n_n none q kf (constant S512x512 .f32 0x00000000#32)) (broadcast S512x512 (Scalar.ofBits .f32 0x3D93CD3A#32))

/-- The scores of a block on the diagonal, with the keys after the query masked. -/
def maskB (s : FVec Ideal S512x512 .f32) : FVec Ideal S512x512 .f32 :=
  select (cmpi .sle (addi (broadcast S512x512 0#32) (iota .tc S512x512 32 [1] iota_S512x512_d1_w32)) (addi (broadcast S512x512 0#32) (iota .tc S512x512 32 [0] iota_S512x512_d0_w32)))
    s (broadcast S512x512 (Named.named κ "neg" 0xF149F2CA#32))

/-- The weights from the scores and the rows' logarithms. -/
def weightB (s : FVec Ideal S512x512 .f32) (lse : FVec Ideal S512x128 .f32) : FVec Ideal S512x512 .f32 :=
  exp (subf s (concatenate S512x512 1 [⟨S512x128, shapeCast S512x128 lse shapeCasts_S512x128_S512x128⟩, ⟨S512x128, shapeCast S512x128 lse shapeCasts_S512x128_S512x128⟩,
    ⟨S512x128, shapeCast S512x128 lse shapeCasts_S512x128_S512x128⟩, ⟨S512x128, shapeCast S512x128 lse shapeCasts_S512x128_S512x128⟩] concatenates_S512x128_S512x128_S512x128_S512x128_S512x512_d1))

/-- The rows' corrections. -/
def deltaB (dob ob : FVec Ideal S512x128 .f32) : FVec Ideal S512x1 .f32 :=
  shapeCast S512x1 (multiReduction .add [1] S512 (mulf dob ob) 0x00000000#32 reduces_S512x128_S512 (.inl rfl) rfl) shapeCasts_S512_S512x1

/-- A block of the cotangent, narrowed. -/
def narrowB (g : FVec Ideal S512x128 .f32) : FVec Ideal S512x128 .bf16 := truncf .bf16 g bitsLt_bf16_f32

/-- A block of zeros. -/
def zeroB : FVec Ideal S512x512 .f32 := constant S512x512 .f32 0x00000000#32

/-- The scores' gradient. -/
def dsB (dl : FVec Ideal S512x1 .f32) (w : FVec Ideal S512x512 .f32) (h vb : FVec Ideal S512x128 .bf16) (z : FVec Ideal S512x512 .f32) : FVec Ideal S512x512 .bf16 :=
  truncf .bf16 (mulf (mulf w (subf (matmul dot_S512x128_S512x128_S512x512_1_1_0_0_n_n none h vb z)
    (broadcastTo S512x512 dl broadcasts_S512x1_S512x512))) (broadcast S512x512 (Scalar.ofBits .f32 0x3D93CD3A#32))) bitsLt_bf16_f32

/-- The values' gradient with a block added. -/
def dvB (w : FVec Ideal S512x512 .f32) (dob : FVec Ideal S512x128 .f32) (acc : FVec Ideal S512x128 .f32) : FVec Ideal S512x128 .f32 :=
  addf acc (matmul dot_S512x512_S512x128_S512x128_0_0_1_1_n_n none (truncf .bf16 w bitsLt_bf16_f32) (narrowB dob) (constant S512x128 .f32 0x00000000#32))

/-- The queries' gradient with a block added. -/
def dqB (ds : FVec Ideal S512x512 .bf16) (kf : FVec Ideal S512x256 .bf16) (acc : FVec Ideal S512x256 .f32) : FVec Ideal S512x256 .f32 :=
  addf acc (matmul dot_S512x512_S512x256_S512x256_1_0_0_1_n_n none ds kf (constant S512x256 .f32 0x00000000#32))

/-- The keys' gradient with a block added. -/
def dkB (ds : FVec Ideal S512x512 .bf16) (q : FVec Ideal S512x256 .bf16) (acc : FVec Ideal S512x256 .f32) : FVec Ideal S512x256 .f32 :=
  addf acc (matmul dot_S512x512_S512x256_S512x256_0_0_1_1_n_n none ds q (constant S512x256 .f32 0x00000000#32))

/-- The key block: the unrotated features, then the rotated ones. -/
def kfB (x1 : FVec Ideal S512x128 .f32) (x3 : FVec Ideal S512x128 .bf16) : FVec Ideal S512x256 .bf16 :=
  setCols 128 128 x3 (setCols 0 128 (truncf .bf16 x1 bitsLt_bf16_f32) (View.canon (Val := Elt Ideal) (s := S512x256) (e := .bf16) []))

/-- The value block. -/
def vbB (x2 : FVec Ideal S512x128 .f32) : FVec Ideal S512x128 .bf16 := truncf .bf16 x2 bitsLt_bf16_f32

/-- The zeros that the queries', the keys' and the values' gradients start from. -/
def zeroQ : FVec Ideal S2048x256 .f32 := broadcast S2048x256 (Scalar.ofBits .f32 0x00000000#32)
def zeroK : FVec Ideal S512x256 .f32 := broadcast S512x256 (Scalar.ofBits .f32 0x00000000#32)
def zeroV : FVec Ideal S512x128 .f32 := broadcast S512x128 (Scalar.ofBits .f32 0x00000000#32)

/-- The weights of the block on the diagonal, whose queries are the rows from `o`. -/
def wDiag (o : ℕ) (ho : o + 512 ≤ 2048) (x0 : FVec Ideal S2048x256 .bf16) (x1 : FVec Ideal S512x128 .f32) (x3 : FVec Ideal S512x128 .bf16) (x6 : FVec Ideal S2048x128 .f32) :
    FVec Ideal S512x512 .f32 := weightB (maskB (scoreB (rowsOf o 512 ho x0) (kfB x1 x3))) (rowsOf o 512 ho x6)

/-- The weights of a block under the diagonal. -/
def wOff (o : ℕ) (ho : o + 512 ≤ 2048) (x0 : FVec Ideal S2048x256 .bf16) (x1 : FVec Ideal S512x128 .f32) (x3 : FVec Ideal S512x128 .bf16) (x6 : FVec Ideal S2048x128 .f32) :
    FVec Ideal S512x512 .f32 := weightB (scoreB (rowsOf o 512 ho x0) (kfB x1 x3)) (rowsOf o 512 ho x6)

/-- The scores' gradient from a block's weights. -/
def dsW (o : ℕ) (ho : o + 512 ≤ 2048) (w : FVec Ideal S512x512 .f32) (x2 : FVec Ideal S512x128 .f32) (x4 x5 : FVec Ideal S2048x128 .f32) : FVec Ideal S512x512 .bf16 :=
  dsB (deltaB (rowsOf o 512 ho x5) (rowsOf o 512 ho x4)) w (narrowB (rowsOf o 512 ho x5)) (vbB x2) zeroB

/-- The two halves of a window of columns. -/
def halves {m : ℕ} (e : EltTy) (a b : (⟨2, ![m, 128]⟩ : Shape).Idx → Elt Ideal e) : (⟨2, ![m, 256]⟩ : Shape).Idx → Elt Ideal e :=
  setCols 128 128 b (setCols 0 128 a (View.canon (Val := Elt Ideal) (s := ⟨2, ![m, 256]⟩) (e := e) []))

/-- One payload of the body, in the names above; the others follow. -/
theorem pay12_eq (q : FVec Ideal S512x256 .bf16) : k0_pay12 (F := Ideal) q = q := by simp only [k0_pay12, shapeCast_self]
theorem pay41_eq (q : FVec Ideal S512x256 .bf16) : k0_pay41 (F := Ideal) q = q := by simp only [k0_pay41, shapeCast_self]
theorem pay63_eq (q : FVec Ideal S512x256 .bf16) : k0_pay63 (F := Ideal) q = q := by simp only [k0_pay63, shapeCast_self]
theorem pay80_eq (q : FVec Ideal S512x256 .bf16) : k0_pay80 (F := Ideal) q = q := by simp only [k0_pay80, shapeCast_self]
theorem pay20_eq (q : FVec Ideal S512x256 .bf16) : k0_pay20 (F := Ideal) q = q := by simp only [k0_pay20, shapeCast_self]
theorem pay29_eq (q : FVec Ideal S512x256 .bf16) : k0_pay29 (F := Ideal) q = q := by simp only [k0_pay29, shapeCast_self]
theorem pay36_eq (q : FVec Ideal S512x256 .bf16) : k0_pay36 (F := Ideal) q = q := by simp only [k0_pay36, shapeCast_self]
theorem pay49_eq (q : FVec Ideal S512x256 .bf16) : k0_pay49 (F := Ideal) q = q := by simp only [k0_pay49, shapeCast_self]
theorem pay58_eq (q : FVec Ideal S512x256 .bf16) : k0_pay58 (F := Ideal) q = q := by simp only [k0_pay58, shapeCast_self]
theorem pay71_eq (q : FVec Ideal S512x256 .bf16) : k0_pay71 (F := Ideal) q = q := by simp only [k0_pay71, shapeCast_self]
theorem pay13_eq (g : FVec Ideal S512x128 .f32) (o : FVec Ideal S512x128 .f32) : k0_pay13 (F := Ideal) g o = deltaB g o := by simp only [k0_pay13, shapeCast_self]; rfl
theorem pay42_eq (g : FVec Ideal S512x128 .f32) (o : FVec Ideal S512x128 .f32) : k0_pay42 (F := Ideal) g o = deltaB g o := by simp only [k0_pay42, shapeCast_self]; rfl
theorem pay64_eq (g : FVec Ideal S512x128 .f32) (o : FVec Ideal S512x128 .f32) : k0_pay64 (F := Ideal) g o = deltaB g o := by simp only [k0_pay64, shapeCast_self]; rfl
theorem pay81_eq (g : FVec Ideal S512x128 .f32) (o : FVec Ideal S512x128 .f32) : k0_pay81 (F := Ideal) g o = deltaB g o := by simp only [k0_pay81, shapeCast_self]; rfl
theorem pay21_eq (g : FVec Ideal S512x128 .f32) (o : FVec Ideal S512x128 .f32) : k0_pay21 (F := Ideal) g o = deltaB g o := by simp only [k0_pay21, shapeCast_self]; rfl
theorem pay50_eq (g : FVec Ideal S512x128 .f32) (o : FVec Ideal S512x128 .f32) : k0_pay50 (F := Ideal) g o = deltaB g o := by simp only [k0_pay50, shapeCast_self]; rfl
theorem pay72_eq (g : FVec Ideal S512x128 .f32) (o : FVec Ideal S512x128 .f32) : k0_pay72 (F := Ideal) g o = deltaB g o := by simp only [k0_pay72, shapeCast_self]; rfl
theorem pay37_eq (g : FVec Ideal S512x128 .f32) (o : FVec Ideal S512x128 .f32) : k0_pay37 (F := Ideal) g o = deltaB g o := by simp only [k0_pay37, shapeCast_self]; rfl
theorem pay15_eq (g : FVec Ideal S512x128 .f32) : k0_pay15 (F := Ideal) g = narrowB g := by simp only [k0_pay15, shapeCast_self]; rfl
theorem pay24_eq (g : FVec Ideal S512x128 .f32) : k0_pay24 (F := Ideal) g = narrowB g := by simp only [k0_pay24, shapeCast_self]; rfl
theorem pay31_eq (g : FVec Ideal S512x128 .f32) : k0_pay31 (F := Ideal) g = narrowB g := by simp only [k0_pay31, shapeCast_self]; rfl
theorem pay39_eq (g : FVec Ideal S512x128 .f32) : k0_pay39 (F := Ideal) g = narrowB g := by simp only [k0_pay39, shapeCast_self]; rfl
theorem pay44_eq (g : FVec Ideal S512x128 .f32) : k0_pay44 (F := Ideal) g = narrowB g := by simp only [k0_pay44, shapeCast_self]; rfl
theorem pay53_eq (g : FVec Ideal S512x128 .f32) : k0_pay53 (F := Ideal) g = narrowB g := by simp only [k0_pay53, shapeCast_self]; rfl
theorem pay60_eq (g : FVec Ideal S512x128 .f32) : k0_pay60 (F := Ideal) g = narrowB g := by simp only [k0_pay60, shapeCast_self]; rfl
theorem pay66_eq (g : FVec Ideal S512x128 .f32) : k0_pay66 (F := Ideal) g = narrowB g := by simp only [k0_pay66, shapeCast_self]; rfl
theorem pay75_eq (g : FVec Ideal S512x128 .f32) : k0_pay75 (F := Ideal) g = narrowB g := by simp only [k0_pay75, shapeCast_self]; rfl
theorem pay83_eq (g : FVec Ideal S512x128 .f32) : k0_pay83 (F := Ideal) g = narrowB g := by simp only [k0_pay83, shapeCast_self]; rfl
theorem pay14_eq (q : FVec Ideal S512x256 .bf16) (kf : FVec Ideal S512x256 .bf16) (l : FVec Ideal S512x128 .f32) : k0_pay14 (F := Ideal) q kf l = weightB (maskB (scoreB q kf)) l := by simp only [k0_pay14, pay12_eq, shapeCast_self]; rfl
theorem pay43_eq (q : FVec Ideal S512x256 .bf16) (kf : FVec Ideal S512x256 .bf16) (l : FVec Ideal S512x128 .f32) : k0_pay43 (F := Ideal) q kf l = weightB (maskB (scoreB q kf)) l := by simp only [k0_pay43, pay41_eq, shapeCast_self]; rfl
theorem pay65_eq (q : FVec Ideal S512x256 .bf16) (kf : FVec Ideal S512x256 .bf16) (l : FVec Ideal S512x128 .f32) : k0_pay65 (F := Ideal) q kf l = weightB (maskB (scoreB q kf)) l := by simp only [k0_pay65, pay63_eq, shapeCast_self]; rfl
theorem pay82_eq (q : FVec Ideal S512x256 .bf16) (kf : FVec Ideal S512x256 .bf16) (l : FVec Ideal S512x128 .f32) : k0_pay82 (F := Ideal) q kf l = weightB (maskB (scoreB q kf)) l := by simp only [k0_pay82, pay80_eq, shapeCast_self]; rfl
theorem pay16_eq (q : FVec Ideal S512x256 .bf16) (g : FVec Ideal S512x128 .f32) (kf : FVec Ideal S512x256 .bf16) (l : FVec Ideal S512x128 .f32) (a : FVec Ideal S512x128 .f32) : k0_pay16 (F := Ideal) q g kf l a = dvB (weightB (maskB (scoreB q kf)) l) g a := by simp only [k0_pay16, pay14_eq, pay15_eq, shapeCast_self]; rfl
theorem pay45_eq (q : FVec Ideal S512x256 .bf16) (g : FVec Ideal S512x128 .f32) (kf : FVec Ideal S512x256 .bf16) (l : FVec Ideal S512x128 .f32) (a : FVec Ideal S512x128 .f32) : k0_pay45 (F := Ideal) q g kf l a = dvB (weightB (maskB (scoreB q kf)) l) g a := by simp only [k0_pay45, pay43_eq, pay44_eq, shapeCast_self]; rfl
theorem pay67_eq (q : FVec Ideal S512x256 .bf16) (g : FVec Ideal S512x128 .f32) (kf : FVec Ideal S512x256 .bf16) (l : FVec Ideal S512x128 .f32) (a : FVec Ideal S512x128 .f32) : k0_pay67 (F := Ideal) q g kf l a = dvB (weightB (maskB (scoreB q kf)) l) g a := by simp only [k0_pay67, pay65_eq, pay66_eq, shapeCast_self]; rfl
theorem pay84_eq (q : FVec Ideal S512x256 .bf16) (g : FVec Ideal S512x128 .f32) (kf : FVec Ideal S512x256 .bf16) (l : FVec Ideal S512x128 .f32) (a : FVec Ideal S512x128 .f32) : k0_pay84 (F := Ideal) q g kf l a = dvB (weightB (maskB (scoreB q kf)) l) g a := by simp only [k0_pay84, pay82_eq, pay83_eq, shapeCast_self]; rfl
theorem pay17_eq (dl : FVec Ideal S512x1 .f32) (w : FVec Ideal S512x512 .f32) (h : FVec Ideal S512x128 .bf16) (vb : FVec Ideal S512x128 .bf16) (z : FVec Ideal S512x512 .f32) : k0_pay17 (F := Ideal) dl w h vb z = dsB dl w h vb z := by simp only [k0_pay17, shapeCast_self]; rfl
theorem pay46_eq (dl : FVec Ideal S512x1 .f32) (w : FVec Ideal S512x512 .f32) (h : FVec Ideal S512x128 .bf16) (vb : FVec Ideal S512x128 .bf16) (z : FVec Ideal S512x512 .f32) : k0_pay46 (F := Ideal) dl w h vb z = dsB dl w h vb z := by simp only [k0_pay46, shapeCast_self]; rfl
theorem pay68_eq (dl : FVec Ideal S512x1 .f32) (w : FVec Ideal S512x512 .f32) (h : FVec Ideal S512x128 .bf16) (vb : FVec Ideal S512x128 .bf16) (z : FVec Ideal S512x512 .f32) : k0_pay68 (F := Ideal) dl w h vb z = dsB dl w h vb z := by simp only [k0_pay68, shapeCast_self]; rfl
theorem pay7_eq (dl : FVec Ideal S512x1 .f32) (w : FVec Ideal S512x512 .f32) (h : FVec Ideal S512x128 .bf16) (vb : FVec Ideal S512x128 .bf16) (z : FVec Ideal S512x512 .f32) : k0_pay7 (F := Ideal) dl w h vb z = dsB dl w h vb z := by simp only [k0_pay7, shapeCast_self]; rfl
theorem pay18_eq (dl : FVec Ideal S512x1 .f32) (w : FVec Ideal S512x512 .f32) (h : FVec Ideal S512x128 .bf16) (vb : FVec Ideal S512x128 .bf16) (z : FVec Ideal S512x512 .f32) (b : FVec Ideal S512x256 .f32) (kf : FVec Ideal S512x256 .bf16) : k0_pay18 (F := Ideal) dl w h vb z b kf = dqB (dsB dl w h vb z) kf b := by simp only [k0_pay18, pay17_eq, shapeCast_self]; rfl
theorem pay47_eq (dl : FVec Ideal S512x1 .f32) (w : FVec Ideal S512x512 .f32) (h : FVec Ideal S512x128 .bf16) (vb : FVec Ideal S512x128 .bf16) (z : FVec Ideal S512x512 .f32) (b : FVec Ideal S512x256 .f32) (kf : FVec Ideal S512x256 .bf16) : k0_pay47 (F := Ideal) dl w h vb z b kf = dqB (dsB dl w h vb z) kf b := by simp only [k0_pay47, pay46_eq, shapeCast_self]; rfl
theorem pay69_eq (dl : FVec Ideal S512x1 .f32) (w : FVec Ideal S512x512 .f32) (h : FVec Ideal S512x128 .bf16) (vb : FVec Ideal S512x128 .bf16) (z : FVec Ideal S512x512 .f32) (b : FVec Ideal S512x256 .f32) (kf : FVec Ideal S512x256 .bf16) : k0_pay69 (F := Ideal) dl w h vb z b kf = dqB (dsB dl w h vb z) kf b := by simp only [k0_pay69, pay68_eq, shapeCast_self]; rfl
theorem pay8_eq (dl : FVec Ideal S512x1 .f32) (w : FVec Ideal S512x512 .f32) (h : FVec Ideal S512x128 .bf16) (vb : FVec Ideal S512x128 .bf16) (z : FVec Ideal S512x512 .f32) (b : FVec Ideal S512x256 .f32) (kf : FVec Ideal S512x256 .bf16) : k0_pay8 (F := Ideal) dl w h vb z b kf = dqB (dsB dl w h vb z) kf b := by simp only [k0_pay8, pay7_eq, shapeCast_self]; rfl
theorem pay19_eq (q : FVec Ideal S512x256 .bf16) (dl : FVec Ideal S512x1 .f32) (w : FVec Ideal S512x512 .f32) (h : FVec Ideal S512x128 .bf16) (vb : FVec Ideal S512x128 .bf16) (z : FVec Ideal S512x512 .f32) (b : FVec Ideal S512x256 .f32) : k0_pay19 (F := Ideal) q dl w h vb z b = dkB (dsB dl w h vb z) q b := by simp only [k0_pay19, pay17_eq, shapeCast_self]; rfl
theorem pay48_eq (q : FVec Ideal S512x256 .bf16) (dl : FVec Ideal S512x1 .f32) (w : FVec Ideal S512x512 .f32) (h : FVec Ideal S512x128 .bf16) (vb : FVec Ideal S512x128 .bf16) (z : FVec Ideal S512x512 .f32) (b : FVec Ideal S512x256 .f32) : k0_pay48 (F := Ideal) q dl w h vb z b = dkB (dsB dl w h vb z) q b := by simp only [k0_pay48, pay46_eq, shapeCast_self]; rfl
theorem pay70_eq (q : FVec Ideal S512x256 .bf16) (dl : FVec Ideal S512x1 .f32) (w : FVec Ideal S512x512 .f32) (h : FVec Ideal S512x128 .bf16) (vb : FVec Ideal S512x128 .bf16) (z : FVec Ideal S512x512 .f32) (b : FVec Ideal S512x256 .f32) : k0_pay70 (F := Ideal) q dl w h vb z b = dkB (dsB dl w h vb z) q b := by simp only [k0_pay70, pay68_eq, shapeCast_self]; rfl
theorem pay9_eq (q : FVec Ideal S512x256 .bf16) (dl : FVec Ideal S512x1 .f32) (w : FVec Ideal S512x512 .f32) (h : FVec Ideal S512x128 .bf16) (vb : FVec Ideal S512x128 .bf16) (z : FVec Ideal S512x512 .f32) (b : FVec Ideal S512x256 .f32) : k0_pay9 (F := Ideal) q dl w h vb z b = dkB (dsB dl w h vb z) q b := by simp only [k0_pay9, pay7_eq, shapeCast_self]; rfl
theorem pay22_eq (q : FVec Ideal S512x256 .bf16) (kf : FVec Ideal S512x256 .bf16) : k0_pay22 (F := Ideal) q kf = scoreB q kf := by simp only [k0_pay22, pay20_eq, shapeCast_self]; rfl
theorem pay51_eq (q : FVec Ideal S512x256 .bf16) (kf : FVec Ideal S512x256 .bf16) : k0_pay51 (F := Ideal) q kf = scoreB q kf := by simp only [k0_pay51, pay49_eq, shapeCast_self]; rfl
theorem pay73_eq (q : FVec Ideal S512x256 .bf16) (kf : FVec Ideal S512x256 .bf16) : k0_pay73 (F := Ideal) q kf = scoreB q kf := by simp only [k0_pay73, pay71_eq, shapeCast_self]; rfl
theorem pay23_eq (s : FVec Ideal S512x512 .f32) (l : FVec Ideal S512x128 .f32) : k0_pay23 (F := Ideal) s l = weightB s l := by simp only [k0_pay23, shapeCast_self]; rfl
theorem pay52_eq (s : FVec Ideal S512x512 .f32) (l : FVec Ideal S512x128 .f32) : k0_pay52 (F := Ideal) s l = weightB s l := by simp only [k0_pay52, shapeCast_self]; rfl
theorem pay74_eq (s : FVec Ideal S512x512 .f32) (l : FVec Ideal S512x128 .f32) : k0_pay74 (F := Ideal) s l = weightB s l := by simp only [k0_pay74, shapeCast_self]; rfl
theorem pay25_eq (g : FVec Ideal S512x128 .f32) (s : FVec Ideal S512x512 .f32) (l : FVec Ideal S512x128 .f32) (a : FVec Ideal S512x128 .f32) : k0_pay25 (F := Ideal) g s l a = dvB (weightB s l) g a := by simp only [k0_pay25, pay23_eq, pay24_eq, shapeCast_self]; rfl
theorem pay54_eq (g : FVec Ideal S512x128 .f32) (s : FVec Ideal S512x512 .f32) (l : FVec Ideal S512x128 .f32) (a : FVec Ideal S512x128 .f32) : k0_pay54 (F := Ideal) g s l a = dvB (weightB s l) g a := by simp only [k0_pay54, pay52_eq, pay53_eq, shapeCast_self]; rfl
theorem pay76_eq (g : FVec Ideal S512x128 .f32) (s : FVec Ideal S512x512 .f32) (l : FVec Ideal S512x128 .f32) (a : FVec Ideal S512x128 .f32) : k0_pay76 (F := Ideal) g s l a = dvB (weightB s l) g a := by simp only [k0_pay76, pay74_eq, pay75_eq, shapeCast_self]; rfl
theorem pay26_eq (g : FVec Ideal S512x128 .f32) (dl : FVec Ideal S512x1 .f32) (s : FVec Ideal S512x512 .f32) (l : FVec Ideal S512x128 .f32) (vb : FVec Ideal S512x128 .bf16) : k0_pay26 (F := Ideal) g dl s l vb = dsB dl (weightB s l) (narrowB g) vb zeroB := by simp only [k0_pay26, pay23_eq, pay24_eq, shapeCast_self]; rfl
theorem pay55_eq (g : FVec Ideal S512x128 .f32) (dl : FVec Ideal S512x1 .f32) (s : FVec Ideal S512x512 .f32) (l : FVec Ideal S512x128 .f32) (vb : FVec Ideal S512x128 .bf16) : k0_pay55 (F := Ideal) g dl s l vb = dsB dl (weightB s l) (narrowB g) vb zeroB := by simp only [k0_pay55, pay52_eq, pay53_eq, shapeCast_self]; rfl
theorem pay77_eq (g : FVec Ideal S512x128 .f32) (dl : FVec Ideal S512x1 .f32) (s : FVec Ideal S512x512 .f32) (l : FVec Ideal S512x128 .f32) (vb : FVec Ideal S512x128 .bf16) : k0_pay77 (F := Ideal) g dl s l vb = dsB dl (weightB s l) (narrowB g) vb zeroB := by simp only [k0_pay77, pay74_eq, pay75_eq, shapeCast_self]; rfl
theorem pay27_eq (g : FVec Ideal S512x128 .f32) (dl : FVec Ideal S512x1 .f32) (s : FVec Ideal S512x512 .f32) (l : FVec Ideal S512x128 .f32) (vb : FVec Ideal S512x128 .bf16) (b : FVec Ideal S512x256 .f32) (kf : FVec Ideal S512x256 .bf16) : k0_pay27 (F := Ideal) g dl s l vb b kf = dqB (dsB dl (weightB s l) (narrowB g) vb zeroB) kf b := by simp only [k0_pay27, pay26_eq, shapeCast_self]; rfl
theorem pay56_eq (g : FVec Ideal S512x128 .f32) (dl : FVec Ideal S512x1 .f32) (s : FVec Ideal S512x512 .f32) (l : FVec Ideal S512x128 .f32) (vb : FVec Ideal S512x128 .bf16) (b : FVec Ideal S512x256 .f32) (kf : FVec Ideal S512x256 .bf16) : k0_pay56 (F := Ideal) g dl s l vb b kf = dqB (dsB dl (weightB s l) (narrowB g) vb zeroB) kf b := by simp only [k0_pay56, pay55_eq, shapeCast_self]; rfl
theorem pay78_eq (g : FVec Ideal S512x128 .f32) (dl : FVec Ideal S512x1 .f32) (s : FVec Ideal S512x512 .f32) (l : FVec Ideal S512x128 .f32) (vb : FVec Ideal S512x128 .bf16) (b : FVec Ideal S512x256 .f32) (kf : FVec Ideal S512x256 .bf16) : k0_pay78 (F := Ideal) g dl s l vb b kf = dqB (dsB dl (weightB s l) (narrowB g) vb zeroB) kf b := by simp only [k0_pay78, pay77_eq, shapeCast_self]; rfl
theorem pay28_eq (q : FVec Ideal S512x256 .bf16) (g : FVec Ideal S512x128 .f32) (dl : FVec Ideal S512x1 .f32) (s : FVec Ideal S512x512 .f32) (l : FVec Ideal S512x128 .f32) (vb : FVec Ideal S512x128 .bf16) (b : FVec Ideal S512x256 .f32) : k0_pay28 (F := Ideal) q g dl s l vb b = dkB (dsB dl (weightB s l) (narrowB g) vb zeroB) q b := by simp only [k0_pay28, pay26_eq, shapeCast_self]; rfl
theorem pay57_eq (q : FVec Ideal S512x256 .bf16) (g : FVec Ideal S512x128 .f32) (dl : FVec Ideal S512x1 .f32) (s : FVec Ideal S512x512 .f32) (l : FVec Ideal S512x128 .f32) (vb : FVec Ideal S512x128 .bf16) (b : FVec Ideal S512x256 .f32) : k0_pay57 (F := Ideal) q g dl s l vb b = dkB (dsB dl (weightB s l) (narrowB g) vb zeroB) q b := by simp only [k0_pay57, pay55_eq, shapeCast_self]; rfl
theorem pay79_eq (q : FVec Ideal S512x256 .bf16) (g : FVec Ideal S512x128 .f32) (dl : FVec Ideal S512x1 .f32) (s : FVec Ideal S512x512 .f32) (l : FVec Ideal S512x128 .f32) (vb : FVec Ideal S512x128 .bf16) (b : FVec Ideal S512x256 .f32) : k0_pay79 (F := Ideal) q g dl s l vb b = dkB (dsB dl (weightB s l) (narrowB g) vb zeroB) q b := by simp only [k0_pay79, pay77_eq, shapeCast_self]; rfl
theorem pay30_eq (q : FVec Ideal S512x256 .bf16) (kf : FVec Ideal S512x256 .bf16) (l : FVec Ideal S512x128 .f32) : k0_pay30 (F := Ideal) q kf l = weightB (scoreB q kf) l := by simp only [k0_pay30, pay29_eq, shapeCast_self]; rfl
theorem pay59_eq (q : FVec Ideal S512x256 .bf16) (kf : FVec Ideal S512x256 .bf16) (l : FVec Ideal S512x128 .f32) : k0_pay59 (F := Ideal) q kf l = weightB (scoreB q kf) l := by simp only [k0_pay59, pay58_eq, shapeCast_self]; rfl
theorem pay38_eq (q : FVec Ideal S512x256 .bf16) (kf : FVec Ideal S512x256 .bf16) (l : FVec Ideal S512x128 .f32) : k0_pay38 (F := Ideal) q kf l = weightB (scoreB q kf) l := by simp only [k0_pay38, pay36_eq, shapeCast_self]; rfl
theorem pay32_eq (q : FVec Ideal S512x256 .bf16) (g : FVec Ideal S512x128 .f32) (kf : FVec Ideal S512x256 .bf16) (l : FVec Ideal S512x128 .f32) (a : FVec Ideal S512x128 .f32) : k0_pay32 (F := Ideal) q g kf l a = dvB (weightB (scoreB q kf) l) g a := by simp only [k0_pay32, pay30_eq, pay31_eq, shapeCast_self]; rfl
theorem pay61_eq (q : FVec Ideal S512x256 .bf16) (g : FVec Ideal S512x128 .f32) (kf : FVec Ideal S512x256 .bf16) (l : FVec Ideal S512x128 .f32) (a : FVec Ideal S512x128 .f32) : k0_pay61 (F := Ideal) q g kf l a = dvB (weightB (scoreB q kf) l) g a := by simp only [k0_pay61, pay59_eq, pay60_eq, shapeCast_self]; rfl
theorem pay40_eq (q : FVec Ideal S512x256 .bf16) (g : FVec Ideal S512x128 .f32) (kf : FVec Ideal S512x256 .bf16) (l : FVec Ideal S512x128 .f32) (a : FVec Ideal S512x128 .f32) : k0_pay40 (F := Ideal) q g kf l a = dvB (weightB (scoreB q kf) l) g a := by simp only [k0_pay40, pay38_eq, pay39_eq, shapeCast_self]; rfl
theorem pay33_eq (q : FVec Ideal S512x256 .bf16) (g : FVec Ideal S512x128 .f32) (o : FVec Ideal S512x128 .f32) (kf : FVec Ideal S512x256 .bf16) (l : FVec Ideal S512x128 .f32) (vb : FVec Ideal S512x128 .bf16) : k0_pay33 (F := Ideal) q g o kf l vb = dsB (deltaB g o) (weightB (scoreB q kf) l) (narrowB g) vb zeroB := by simp only [k0_pay33, pay30_eq, pay31_eq, shapeCast_self]; rfl
theorem pay62_eq (q : FVec Ideal S512x256 .bf16) (g : FVec Ideal S512x128 .f32) (o : FVec Ideal S512x128 .f32) (kf : FVec Ideal S512x256 .bf16) (l : FVec Ideal S512x128 .f32) (vb : FVec Ideal S512x128 .bf16) : k0_pay62 (F := Ideal) q g o kf l vb = dsB (deltaB g o) (weightB (scoreB q kf) l) (narrowB g) vb zeroB := by simp only [k0_pay62, pay59_eq, pay60_eq, shapeCast_self]; rfl
theorem pay34_eq (ds : FVec Ideal S512x512 .bf16) (b : FVec Ideal S512x256 .f32) (kf : FVec Ideal S512x256 .bf16) : k0_pay34 (F := Ideal) ds b kf = dqB ds kf b := by simp only [k0_pay34, shapeCast_self]; rfl
theorem pay5_eq (ds : FVec Ideal S512x512 .bf16) (b : FVec Ideal S512x256 .f32) (kf : FVec Ideal S512x256 .bf16) : k0_pay5 (F := Ideal) ds b kf = dqB ds kf b := by simp only [k0_pay5, shapeCast_self]; rfl
theorem pay35_eq (q : FVec Ideal S512x256 .bf16) (ds : FVec Ideal S512x512 .bf16) (b : FVec Ideal S512x256 .f32) : k0_pay35 (F := Ideal) q ds b = dkB ds q b := by simp only [k0_pay35, shapeCast_self]; rfl
theorem pay6_eq (q : FVec Ideal S512x256 .bf16) (ds : FVec Ideal S512x512 .bf16) (b : FVec Ideal S512x256 .f32) : k0_pay6 (F := Ideal) q ds b = dkB ds q b := by simp only [k0_pay6, shapeCast_self]; rfl
theorem pay1_eq (a : FVec Ideal S512x128 .f32) : k0_pay1 (F := Ideal) a = a := by simp only [k0_pay1, shapeCast_self]
theorem pay2_eq (dl : FVec Ideal S512x1 .f32) (w : FVec Ideal S512x512 .f32) (h : FVec Ideal S512x128 .bf16) (vb : FVec Ideal S512x128 .bf16) : k0_pay2 (F := Ideal) dl w h vb = dsB dl w h vb zeroB := by simp only [k0_pay2, shapeCast_self]; rfl
theorem pay3_eq (dl : FVec Ideal S512x1 .f32) (w : FVec Ideal S512x512 .f32) (h : FVec Ideal S512x128 .bf16) (vb : FVec Ideal S512x128 .bf16) (b : FVec Ideal S512x256 .f32) (kf : FVec Ideal S512x256 .bf16) : k0_pay3 (F := Ideal) dl w h vb b kf = dqB (dsB dl w h vb zeroB) kf b := by simp only [k0_pay3, pay2_eq, shapeCast_self]; rfl
theorem pay4_eq (q : FVec Ideal S512x256 .bf16) (dl : FVec Ideal S512x1 .f32) (w : FVec Ideal S512x512 .f32) (h : FVec Ideal S512x128 .bf16) (vb : FVec Ideal S512x128 .bf16) (b : FVec Ideal S512x256 .f32) : k0_pay4 (F := Ideal) q dl w h vb b = dkB (dsB dl w h vb zeroB) q b := by simp only [k0_pay4, pay2_eq, shapeCast_self]; rfl
theorem pay85_eq  : k0_pay85 (F := Ideal)  = zeroQ := by simp only [k0_pay85, shapeCast_self]; rfl
theorem pay86_eq (a : FVec Ideal S512x128 .f32) : k0_pay86 (F := Ideal) a = truncf .bf16 a bitsLt_bf16_f32 := by simp only [k0_pay86, shapeCast_self]
theorem pay87_eq (h : FVec Ideal S512x128 .bf16) : k0_pay87 (F := Ideal) h = h := by simp only [k0_pay87, shapeCast_self]
theorem pay88_eq (a : FVec Ideal S512x128 .f32) : k0_pay88 (F := Ideal) a = vbB a := by simp only [k0_pay88, shapeCast_self]; rfl
theorem pay89_eq  : k0_pay89 (F := Ideal)  = zeroK := by simp only [k0_pay89, shapeCast_self]; rfl
theorem pay90_eq  : k0_pay90 (F := Ideal)  = zeroV := by simp only [k0_pay90, shapeCast_self]; rfl

end Cert.KernelIdeal

end
-- ==== Proof.BlockValue.lean ====
module

public import proofs.«01_k».proof.Proof.Blocks
public import proofs.«01_k».proof.Proof.RefValue

/-!
# One block as real numbers

The operations of a block, at windows whose entries are the real quantities of `Inputs`.
-/

@[expose] public section

set_option maxRecDepth 16384

noncomputable section

namespace Cert.KernelIdeal

open Idealize.ShloMosaic Cert.Attention Gen Finset

theorem named_neg : Named.named (F := Ideal) κ "neg" (φ := .f32) 0xF149F2CA#32 = (⊥ : EReal) :=
  IdealRules.named_const.ideal_named_scalar _ _ _ _ rfl

variable (I : Inputs)

/-- The windows of head `h` and key block `j`. -/
structure Wins (h j : ℕ) (x0 : FVec Ideal S2048x256 .bf16) (x1 x2 : FVec Ideal S512x128 .f32) (x3 : FVec Ideal S512x128 .bf16) (x4 x5 x6 : FVec Ideal S2048x128 .f32) : Prop where
  q : ∀ (r : Fin 2048) (l : Fin 256), x0 (ix2 r l) = (I.qr r h l : EReal)
  kn : ∀ (r : Fin 512) (l : Fin 128), x1 (ix2 r l) = (I.kv (512 * j + r) h l : EReal)
  v : ∀ (r : Fin 512) (l : Fin 128), x2 (ix2 r l) = (I.kv (512 * j + r) h (128 + l) : EReal)
  kp : ∀ (r : Fin 512) (l : Fin 128), x3 (ix2 r l) = ((if (l : ℕ) < 64 then I.kp (512 * j + r) l else 0 : ℝ) : EReal)
  o : ∀ (r : Fin 2048) (l : Fin 128), x4 (ix2 r l) = (I.o r h l : EReal)
  g : ∀ (r : Fin 2048) (l : Fin 128), x5 (ix2 r l) = (I.g r (h * 128 + l) : EReal)
  lse : ∀ (r : Fin 2048) (l : Fin 128), x6 (ix2 r l) = ((I.mx h r + Real.log (I.L h r) : ℝ) : EReal)

/-- Products over 256 features, of which 64 are padding. -/
theorem sum_pad (h t u : ℕ) : ∑ d ∈ range 256, I.qr t h d * I.kk u h d = ∑ d ∈ range 192, I.qr t h d * I.kk u h d := by
  rw [show (256 : ℕ) = 192 + 64 from rfl, sum_range_add]
  refine add_eq_left.2 (sum_eq_zero fun x _ => ?_)
  rw [Inputs.kk, if_neg (by omega), if_neg (by omega), mul_zero]

variable {I} {h j : ℕ} {x0 : FVec Ideal S2048x256 .bf16} {x1 x2 : FVec Ideal S512x128 .f32} {x3 : FVec Ideal S512x128 .bf16} {x4 x5 x6 : FVec Ideal S2048x128 .f32}

theorem halves_at {m : ℕ} (e : EltTy) (a b : (⟨2, ![m, 128]⟩ : Shape).Idx → Elt Ideal e) (r : Fin m) (l : Fin 256) :
    halves e a b (ix2 r l) = if hl : l.val < 128 then a (ix2 r ⟨l, hl⟩) else b (ix2 r ⟨l - 128, by omega⟩) := by
  unfold halves
  rw [setCols_at, setCols_at]
  by_cases hl : l.val < 128
  · rw [dif_neg (by omega), dif_pos (by omega), dif_pos hl]; rfl
  · rw [dif_pos (by omega), dif_neg hl]

theorem kf_at (W : Wins I h j x0 x1 x2 x3 x4 x5 x6) (r : Fin 512) (l : Fin 256) : kfB x1 x3 (ix2 r l) = (I.kk (512 * j + r) h l : EReal) := by
  rw [show kfB x1 x3 = halves .bf16 (truncf .bf16 x1 bitsLt_bf16_f32) x3 from rfl, halves_at]
  unfold Inputs.kk
  by_cases hl : l.val < 128
  · rw [dif_pos hl, if_pos hl]
    exact W.kn r ⟨l, hl⟩
  · rw [dif_neg hl, if_neg hl, W.kp]
    by_cases h2 : l.val < 192
    · rw [if_pos h2, if_pos (by show l.val - 128 < 64; omega)]
    · rw [if_neg h2, if_neg (by show ¬ l.val - 128 < 64; omega)]

theorem score_at (W : Wins I h j x0 x1 x2 x3 x4 x5 x6) (hsc : I.sc = scale) (i : ℕ) (hi : 512 * i + 512 ≤ 2048) (r u : Fin 512) :
    scoreB (rowsOf (512 * i) 512 hi x0) (kfB x1 x3) (ix2 r u) = (I.S h (512 * i + r) (512 * j + u) : EReal) := by
  pointwise [scoreB, rowsOf_at, W.q, kf_at W, dot_S512x256_S512x256_S512x512_1_1_0_0_n_n, ofBits_scale, ← EReal.coe_mul]
  rw [coe_sum_fin 256 fun d => I.qr (512 * i + r) h d * I.kk (512 * j + u) h d, sum_pad, ← EReal.coe_mul, ← hsc]
  rfl

theorem weight_real {t u : ℕ} (ht : t < 2048) (hu : u ≤ t) :
    Ideal.exp ((I.S h t u : EReal) - ((I.mx h t + Real.log (I.L h t) : ℝ) : EReal)) = (I.y h t u : EReal) := by
  rw [← EReal.coe_sub, exp_coe, I.exp_sub_lse ht hu]

/-- The weights of a block under the diagonal. -/
theorem wOff_at (W : Wins I h j x0 x1 x2 x3 x4 x5 x6) (hsc : I.sc = scale) (i : ℕ) (hi : 512 * i + 512 ≤ 2048) (hij : j < i) (r u : Fin 512) :
    wOff (512 * i) hi x0 x1 x3 x6 (ix2 r u) = (I.y h (512 * i + r) (512 * j + u) : EReal) := by
  have hr := r.isLt
  have hu := u.isLt
  rw [← weight_real (by omega) (by omega)]
  pointwise [wOff, weightB, score_at W hsc i hi, rowsOf_at, W.lse]
  simp only [dite_eq_ite, ite_self]

theorem mask_at (s : FVec Ideal S512x512 .f32) (r u : Fin 512) : maskB s (ix2 r u) = if (u : ℕ) ≤ r then s (ix2 r u) else ⊥ := by
  pointwise [maskB, named_neg]
  have ht := r.isLt
  have hu := u.isLt
  have e : (BitVec.ofNat 32 u).sle (BitVec.ofNat 32 r) = decide ((u : ℕ) ≤ r) := by
    rw [BitVec.sle_eq_decide, BitVec.toInt_eq_toNat_of_lt (by simp; omega), BitVec.toInt_eq_toNat_of_lt (by simp; omega),
      BitVec.toNat_ofNat, BitVec.toNat_ofNat, Nat.mod_eq_of_lt (by omega), Nat.mod_eq_of_lt (by omega)]
    exact decide_eq_decide.2 Nat.cast_le
  have e0 : ∀ x : BitVec 32, IntOp.addi 0#32 x = x := BitVec.zero_add
  rw [e0, e0]
  unfold IntOp.cmpi Scalar.select
  simp only [e]
  by_cases h : (u : ℕ) ≤ r <;> simp [h]

/-- The weights of a block on the diagonal. -/
theorem wDiag_at (W : Wins I h j x0 x1 x2 x3 x4 x5 x6) (hsc : I.sc = scale) (hj : 512 * j + 512 ≤ 2048) (r u : Fin 512) :
    wDiag (512 * j) hj x0 x1 x3 x6 (ix2 r u) = (I.y h (512 * j + r) (512 * j + u) : EReal) := by
  have hr := r.isLt
  have hu := u.isLt
  pointwise [wDiag, weightB, mask_at, score_at W hsc j hj, rowsOf_at, W.lse]
  simp only [dite_eq_ite, ite_self]
  by_cases hur : (u : ℕ) ≤ r
  · rw [if_pos hur, weight_real (by omega) (by omega)]
  · rw [if_neg hur, I.y_of_lt (by omega), EReal.bot_sub, exp_bot]

/-- The scores' gradient. -/
theorem ds_at (W : Wins I h j x0 x1 x2 x3 x4 x5 x6) (hsc : I.sc = scale) (i : ℕ) (hi : 512 * i + 512 ≤ 2048) {w : FVec Ideal S512x512 .f32}
    (hw : ∀ r u : Fin 512, w (ix2 r u) = (I.y h (512 * i + r) (512 * j + u) : EReal)) (r u : Fin 512) :
    dsW (512 * i) hi w x2 x4 x5 (ix2 r u) = (I.ds h (512 * i + r) (512 * j + u) : EReal) := by
  pointwise [dsW, dsB, deltaB, narrowB, vbB, zeroB, hw, rowsOf_at, W.g, W.o, W.v, dot_S512x128_S512x128_S512x512_1_1_0_0_n_n, ofBits_scale, ← EReal.coe_mul]
  rw [coe_sum_fin 128 fun x => I.g (512 * i + r) (h * 128 + x) * I.kv (512 * j + u) h (128 + x),
    coe_sum_fin 128 fun x => I.g (512 * i + r) (h * 128 + x) * I.o (512 * i + r) h x, I.sum_g_mul_o, ← EReal.coe_sub, ← EReal.coe_mul, ← EReal.coe_mul, ← hsc]
  rfl

/-- A block added to the values' gradient. -/
theorem dv_at (W : Wins I h j x0 x1 x2 x3 x4 x5 x6) (i : ℕ) (hi : 512 * i + 512 ≤ 2048) {w : FVec Ideal S512x512 .f32}
    (hw : ∀ r u : Fin 512, w (ix2 r u) = (I.y h (512 * i + r) (512 * j + u) : EReal)) (acc : FVec Ideal S512x128 .f32) (u : Fin 512) (d : Fin 128) :
    dvB w (rowsOf (512 * i) 512 hi x5) acc (ix2 u d)
      = acc (ix2 u d) + ((∑ r ∈ range 512, I.g (512 * i + r) (h * 128 + d) * I.y h (512 * i + r) (512 * j + u) : ℝ) : EReal) := by
  pointwise [dvB, narrowB, hw, rowsOf_at, W.g, dot_S512x512_S512x128_S512x128_0_0_1_1_n_n, ← EReal.coe_mul]
  rw [coe_sum_fin 512 fun x => I.y h (512 * i + x) (512 * j + u) * I.g (512 * i + x) (h * 128 + d)]
  simp only [mul_comm]

/-- A block added to the keys' gradient. -/
theorem dk_at (W : Wins I h j x0 x1 x2 x3 x4 x5 x6) (i : ℕ) (hi : 512 * i + 512 ≤ 2048) {ds : FVec Ideal S512x512 .bf16}
    (hw : ∀ r u : Fin 512, ds (ix2 r u) = (I.ds h (512 * i + r) (512 * j + u) : EReal)) (acc : FVec Ideal S512x256 .f32) (u : Fin 512) (d : Fin 256) :
    dkB ds (rowsOf (512 * i) 512 hi x0) acc (ix2 u d)
      = acc (ix2 u d) + ((∑ r ∈ range 512, I.ds h (512 * i + r) (512 * j + u) * I.qr (512 * i + r) h d : ℝ) : EReal) := by
  pointwise [dkB, hw, rowsOf_at, W.q, dot_S512x512_S512x256_S512x256_0_0_1_1_n_n, ← EReal.coe_mul]
  rw [coe_sum_fin 512 fun x => I.ds h (512 * i + x) (512 * j + u) * I.qr (512 * i + x) h d]

/-- A block added to the queries' gradient. -/
theorem dq_at (W : Wins I h j x0 x1 x2 x3 x4 x5 x6) (i : ℕ) {ds : FVec Ideal S512x512 .bf16}
    (hw : ∀ r u : Fin 512, ds (ix2 r u) = (I.ds h (512 * i + r) (512 * j + u) : EReal)) (acc : FVec Ideal S512x256 .f32) (r : Fin 512) (d : Fin 256) :
    dqB ds (kfB x1 x3) acc (ix2 r d)
      = acc (ix2 r d) + ((∑ u ∈ range 512, I.ds h (512 * i + r) (512 * j + u) * I.kk (512 * j + u) h d : ℝ) : EReal) := by
  pointwise [dqB, hw, kf_at W, dot_S512x512_S512x256_S512x256_1_0_0_1_n_n, ← EReal.coe_mul]
  rw [coe_sum_fin 512 fun x => I.ds h (512 * i + r) (512 * j + x) * I.kk (512 * j + x) h d]

end Cert.KernelIdeal

end
-- ==== Proof.PointValue.lean ====
module

public import proofs.«01_k».proof.Proof.BlockValue

/-!
# One grid point as real numbers

The sums that a grid point's blocks add up to. A block over the diagonal adds nothing, so that the blocks on and under
the diagonal make the whole sum over the queries, and the whole sum over the keys once the last key block is done.
-/

@[expose] public section

set_option maxRecDepth 16384

noncomputable section

namespace Cert.KernelIdeal

open Idealize.ShloMosaic Cert.Attention Gen Finset

section
variable (I : Inputs) (h j : ℕ)

/-- What query block `i` adds to the values' gradient. -/
def dvP (u d i : ℕ) : ℝ := ∑ r ∈ range 512, I.g (512 * i + r) (h * 128 + d) * I.y h (512 * i + r) (512 * j + u)

/-- What query block `i` adds to the keys' gradient. -/
def dkP (u d i : ℕ) : ℝ := ∑ r ∈ range 512, I.ds h (512 * i + r) (512 * j + u) * I.qr (512 * i + r) h d

/-- What key block `j` adds to the queries' gradient. -/
def dqP (t d : ℕ) : ℝ := ∑ u ∈ range 512, I.ds h t (512 * j + u) * I.kk (512 * j + u) h d

theorem dv_blocks (u d : ℕ) : I.dv (512 * j + u) h d = 0 + dvP I h j u d 0 + dvP I h j u d 1 + dvP I h j u d 2 + dvP I h j u d 3 := by
  rw [Inputs.dv, Inputs.sum_blocks]
  simp only [sum_range_succ (n := 0), sum_range_succ (n := 1), sum_range_succ (n := 2), sum_range_succ (n := 3), range_zero, sum_empty]
  rfl

theorem dk_blocks (u d : ℕ) : I.dk (512 * j + u) h d = 0 + dkP I h j u d 0 + dkP I h j u d 1 + dkP I h j u d 2 + dkP I h j u d 3 := by
  rw [Inputs.dk, Inputs.sum_blocks]
  simp only [sum_range_succ (n := 0), sum_range_succ (n := 1), sum_range_succ (n := 2), sum_range_succ (n := 3), range_zero, sum_empty]
  rfl

theorem dq_blocks (t d : ℕ) : I.dq t h d = 0 + dqP I h 0 t d + dqP I h 1 t d + dqP I h 2 t d + dqP I h 3 t d := by
  rw [Inputs.dq, Inputs.sum_blocks]
  simp only [sum_range_succ (n := 0), sum_range_succ (n := 1), sum_range_succ (n := 2), sum_range_succ (n := 3), range_zero, sum_empty]
  rfl

theorem dvP_above {i : ℕ} (hij : i < j) (u d : ℕ) : dvP I h j u d i = 0 :=
  sum_eq_zero fun r hr => by rw [I.y_of_lt (by have := mem_range.1 hr; omega), mul_zero]

theorem dkP_above {i : ℕ} (hij : i < j) (u d : ℕ) : dkP I h j u d i = 0 :=
  sum_eq_zero fun r hr => by rw [I.ds_of_lt (by have := mem_range.1 hr; omega), zero_mul]

theorem dqP_above {t : ℕ} (ht : t < 512 * j) (d : ℕ) : dqP I h j t d = 0 :=
  sum_eq_zero fun u hu => by rw [I.ds_of_lt (by omega), zero_mul]
end

theorem zeroQ_at (r : Fin 2048) (l : Fin 256) : zeroQ (ix2 r l) = ((0 : ℝ) : EReal) := by
  pointwise [zeroQ]
  exact EReal.coe_zero.symm
theorem zeroK_at (r : Fin 512) (l : Fin 256) : zeroK (ix2 r l) = ((0 : ℝ) : EReal) := by
  pointwise [zeroK]
  exact EReal.coe_zero.symm
theorem zeroV_at (r : Fin 512) (l : Fin 128) : zeroV (ix2 r l) = ((0 : ℝ) : EReal) := by
  pointwise [zeroV]
  exact EReal.coe_zero.symm

variable {I : Inputs} {h j : ℕ} {x0 : FVec Ideal S2048x256 .bf16} {x1 x2 : FVec Ideal S512x128 .f32} {x3 : FVec Ideal S512x128 .bf16} {x4 x5 x6 : FVec Ideal S2048x128 .f32}

/-- The tables of the rotation's transpose. -/
structure Ropes (I : Inputs) (x7 x8 x9 : FVec Ideal S2048x128 .f32) : Prop where
  co : ∀ (t : Fin 2048) (l : Fin 128), x7 (ix2 t l) = ((if (l : ℕ) < 32 then I.co t l else if (l : ℕ) < 64 then I.co t (l - 32) else 0 : ℝ) : EReal)
  sa : ∀ (t : Fin 2048) (l : Fin 128), x8 (ix2 t l) = ((if (l : ℕ) < 32 then -I.si t l else 0 : ℝ) : EReal)
  sb : ∀ (t : Fin 2048) (l : Fin 128), x9 (ix2 t l) = ((if (l : ℕ) < 32 then 0 else if (l : ℕ) < 64 then I.si t (l - 32) else 0 : ℝ) : EReal)

/-- A block of rows of the queries' gradient, and the rows outside it. -/
theorem setRows_dq_at (W : Wins I h j x0 x1 x2 x3 x4 x5 x6) (i : ℕ) (hi : 512 * i + 512 ≤ 2048) {ds : FVec Ideal S512x512 .bf16}
    (hw : ∀ r u : Fin 512, ds (ix2 r u) = (I.ds h (512 * i + r) (512 * j + u) : EReal)) (base X : FVec Ideal S2048x256 .f32) (t : Fin 2048) (d : Fin 256) :
    setRows (512 * i) 512 (dqB ds (kfB x1 x3) (rowsOf (512 * i) 512 hi base)) X (ix2 t d)
      = if 512 * i ≤ t.val ∧ t.val < 512 * i + 512 then base (ix2 t d) + (dqP I h j t d : EReal) else X (ix2 t d) := by
  rw [setRows_at]
  by_cases ht : 512 * i ≤ t.val ∧ t.val < 512 * i + 512
  · rw [dif_pos ht, if_pos ht, dq_at W i hw, rowsOf_at]
    have e : 512 * i + (t.val - 512 * i) = t.val := by omega
    simp only [e, dqP]
  · rw [dif_neg ht, if_neg ht]

theorem dv_A (W : Wins I h 0 x0 x1 x2 x3 x4 x5 x6) (hsc : I.sc = scale) (u : Fin 512) (d : Fin 128) :
    (dvB (wOff (512 * 3) (by decide) x0 x1 x3 x6) (rowsOf (512 * 3) 512 (by decide) x5) (dvB (wOff (512 * 2) (by decide) x0 x1 x3 x6) (rowsOf (512 * 2) 512 (by decide) x5) (dvB (wOff (512 * 1) (by decide) x0 x1 x3 x6) (rowsOf (512 * 1) 512 (by decide) x5) (dvB (wDiag (512 * 0) (by decide) x0 x1 x3 x6) (rowsOf (512 * 0) 512 (by decide) x5) zeroV)))) (ix2 u d) = (I.dv (512 * 0 + u) h d : EReal) := by
  rw [dv_at W 3 (by decide) (wOff_at W hsc 3 (by decide) (by decide)), dv_at W 2 (by decide) (wOff_at W hsc 2 (by decide) (by decide)), dv_at W 1 (by decide) (wOff_at W hsc 1 (by decide) (by decide)), dv_at W 0 (by decide) (wDiag_at W hsc (by decide)), zeroV_at, ← EReal.coe_add, ← EReal.coe_add, ← EReal.coe_add, ← EReal.coe_add, dv_blocks]
  rfl

theorem dk_A (W : Wins I h 0 x0 x1 x2 x3 x4 x5 x6) (hsc : I.sc = scale) (u : Fin 512) (d : Fin 256) :
    (dkB (dsW (512 * 3) (by decide) (wOff (512 * 3) (by decide) x0 x1 x3 x6) x2 x4 x5) (rowsOf (512 * 3) 512 (by decide) x0) (dkB (dsW (512 * 2) (by decide) (wOff (512 * 2) (by decide) x0 x1 x3 x6) x2 x4 x5) (rowsOf (512 * 2) 512 (by decide) x0) (dkB (dsW (512 * 1) (by decide) (wOff (512 * 1) (by decide) x0 x1 x3 x6) x2 x4 x5) (rowsOf (512 * 1) 512 (by decide) x0) (dkB (dsW (512 * 0) (by decide) (wDiag (512 * 0) (by decide) x0 x1 x3 x6) x2 x4 x5) (rowsOf (512 * 0) 512 (by decide) x0) zeroK)))) (ix2 u d) = (I.dk (512 * 0 + u) h d : EReal) := by
  rw [dk_at W 3 (by decide) (ds_at W hsc 3 (by decide) (wOff_at W hsc 3 (by decide) (by decide))), dk_at W 2 (by decide) (ds_at W hsc 2 (by decide) (wOff_at W hsc 2 (by decide) (by decide))), dk_at W 1 (by decide) (ds_at W hsc 1 (by decide) (wOff_at W hsc 1 (by decide) (by decide))), dk_at W 0 (by decide) (ds_at W hsc 0 (by decide) (wDiag_at W hsc (by decide))), zeroK_at, ← EReal.coe_add, ← EReal.coe_add, ← EReal.coe_add, ← EReal.coe_add, dk_blocks]
  rfl

theorem dq_A (W : Wins I h 0 x0 x1 x2 x3 x4 x5 x6) (hsc : I.sc = scale) (t : Fin 2048) (d : Fin 256) :
    (setRows (512 * 3) 512 (dqB (dsW (512 * 3) (by decide) (wOff (512 * 3) (by decide) x0 x1 x3 x6) x2 x4 x5) (kfB x1 x3) (rowsOf (512 * 3) 512 (by decide) zeroQ)) (setRows (512 * 2) 512 (dqB (dsW (512 * 2) (by decide) (wOff (512 * 2) (by decide) x0 x1 x3 x6) x2 x4 x5) (kfB x1 x3) (rowsOf (512 * 2) 512 (by decide) zeroQ)) (setRows (512 * 1) 512 (dqB (dsW (512 * 1) (by decide) (wOff (512 * 1) (by decide) x0 x1 x3 x6) x2 x4 x5) (kfB x1 x3) (rowsOf (512 * 1) 512 (by decide) zeroQ)) (setRows (512 * 0) 512 (dqB (dsW (512 * 0) (by decide) (wDiag (512 * 0) (by decide) x0 x1 x3 x6) x2 x4 x5) (kfB x1 x3) (rowsOf (512 * 0) 512 (by decide) zeroQ)) zeroQ)))) (ix2 t d) = zeroQ (ix2 t d) + (dqP I h 0 t d : EReal) := by
  have ht := t.isLt
  rw [setRows_dq_at W 3 (by decide) (ds_at W hsc 3 (by decide) (wOff_at W hsc 3 (by decide) (by decide))), setRows_dq_at W 2 (by decide) (ds_at W hsc 2 (by decide) (wOff_at W hsc 2 (by decide) (by decide))), setRows_dq_at W 1 (by decide) (ds_at W hsc 1 (by decide) (wOff_at W hsc 1 (by decide) (by decide))), setRows_dq_at W 0 (by decide) (ds_at W hsc 0 (by decide) (wDiag_at W hsc (by decide)))]
  by_cases h3 : 512 * 3 ≤ t.val ∧ t.val < 512 * 3 + 512
  · rw [if_pos h3]
  rw [if_neg h3]
  by_cases h2 : 512 * 2 ≤ t.val ∧ t.val < 512 * 2 + 512
  · rw [if_pos h2]
  rw [if_neg h2]
  by_cases h1 : 512 * 1 ≤ t.val ∧ t.val < 512 * 1 + 512
  · rw [if_pos h1]
  rw [if_neg h1]
  by_cases h0 : 512 * 0 ≤ t.val ∧ t.val < 512 * 0 + 512
  · rw [if_pos h0]
  rw [if_neg h0]
  omega

theorem dv_B (W : Wins I h 1 x0 x1 x2 x3 x4 x5 x6) (hsc : I.sc = scale) (u : Fin 512) (d : Fin 128) :
    (dvB (wOff (512 * 3) (by decide) x0 x1 x3 x6) (rowsOf (512 * 3) 512 (by decide) x5) (dvB (wOff (512 * 2) (by decide) x0 x1 x3 x6) (rowsOf (512 * 2) 512 (by decide) x5) (dvB (wDiag (512 * 1) (by decide) x0 x1 x3 x6) (rowsOf (512 * 1) 512 (by decide) x5) zeroV))) (ix2 u d) = (I.dv (512 * 1 + u) h d : EReal) := by
  rw [dv_at W 3 (by decide) (wOff_at W hsc 3 (by decide) (by decide)), dv_at W 2 (by decide) (wOff_at W hsc 2 (by decide) (by decide)), dv_at W 1 (by decide) (wDiag_at W hsc (by decide)), zeroV_at, ← EReal.coe_add, ← EReal.coe_add, ← EReal.coe_add, dv_blocks, dvP_above I h 1 (i := 0) (by decide), add_zero]
  rfl

theorem dk_B (W : Wins I h 1 x0 x1 x2 x3 x4 x5 x6) (hsc : I.sc = scale) (u : Fin 512) (d : Fin 256) :
    (dkB (dsW (512 * 3) (by decide) (wOff (512 * 3) (by decide) x0 x1 x3 x6) x2 x4 x5) (rowsOf (512 * 3) 512 (by decide) x0) (dkB (dsW (512 * 2) (by decide) (wOff (512 * 2) (by decide) x0 x1 x3 x6) x2 x4 x5) (rowsOf (512 * 2) 512 (by decide) x0) (dkB (dsW (512 * 1) (by decide) (wDiag (512 * 1) (by decide) x0 x1 x3 x6) x2 x4 x5) (rowsOf (512 * 1) 512 (by decide) x0) zeroK))) (ix2 u d) = (I.dk (512 * 1 + u) h d : EReal) := by
  rw [dk_at W 3 (by decide) (ds_at W hsc 3 (by decide) (wOff_at W hsc 3 (by decide) (by decide))), dk_at W 2 (by decide) (ds_at W hsc 2 (by decide) (wOff_at W hsc 2 (by decide) (by decide))), dk_at W 1 (by decide) (ds_at W hsc 1 (by decide) (wDiag_at W hsc (by decide))), zeroK_at, ← EReal.coe_add, ← EReal.coe_add, ← EReal.coe_add, dk_blocks, dkP_above I h 1 (i := 0) (by decide), add_zero]
  rfl

theorem dq_B (W : Wins I h 1 x0 x1 x2 x3 x4 x5 x6) (hsc : I.sc = scale) (xs4 : FVec Ideal S2048x256 .f32) (t : Fin 2048) (d : Fin 256) :
    (setRows (512 * 3) 512 (dqB (dsW (512 * 3) (by decide) (wOff (512 * 3) (by decide) x0 x1 x3 x6) x2 x4 x5) (kfB x1 x3) (rowsOf (512 * 3) 512 (by decide) xs4)) (setRows (512 * 2) 512 (dqB (dsW (512 * 2) (by decide) (wOff (512 * 2) (by decide) x0 x1 x3 x6) x2 x4 x5) (kfB x1 x3) (rowsOf (512 * 2) 512 (by decide) xs4)) (setRows (512 * 1) 512 (dqB (dsW (512 * 1) (by decide) (wDiag (512 * 1) (by decide) x0 x1 x3 x6) x2 x4 x5) (kfB x1 x3) (rowsOf (512 * 1) 512 (by decide) xs4)) xs4))) (ix2 t d) = xs4 (ix2 t d) + (dqP I h 1 t d : EReal) := by
  have ht := t.isLt
  rw [setRows_dq_at W 3 (by decide) (ds_at W hsc 3 (by decide) (wOff_at W hsc 3 (by decide) (by decide))), setRows_dq_at W 2 (by decide) (ds_at W hsc 2 (by decide) (wOff_at W hsc 2 (by decide) (by decide))), setRows_dq_at W 1 (by decide) (ds_at W hsc 1 (by decide) (wDiag_at W hsc (by decide)))]
  by_cases h3 : 512 * 3 ≤ t.val ∧ t.val < 512 * 3 + 512
  · rw [if_pos h3]
  rw [if_neg h3]
  by_cases h2 : 512 * 2 ≤ t.val ∧ t.val < 512 * 2 + 512
  · rw [if_pos h2]
  rw [if_neg h2]
  by_cases h1 : 512 * 1 ≤ t.val ∧ t.val < 512 * 1 + 512
  · rw [if_pos h1]
  rw [if_neg h1]
  rw [dqP_above I h 1 (by omega), EReal.coe_zero, add_zero]

theorem dv_C (W : Wins I h 2 x0 x1 x2 x3 x4 x5 x6) (hsc : I.sc = scale) (u : Fin 512) (d : Fin 128) :
    (dvB (wOff (512 * 3) (by decide) x0 x1 x3 x6) (rowsOf (512 * 3) 512 (by decide) x5) (dvB (wDiag (512 * 2) (by decide) x0 x1 x3 x6) (rowsOf (512 * 2) 512 (by decide) x5) zeroV)) (ix2 u d) = (I.dv (512 * 2 + u) h d : EReal) := by
  rw [dv_at W 3 (by decide) (wOff_at W hsc 3 (by decide) (by decide)), dv_at W 2 (by decide) (wDiag_at W hsc (by decide)), zeroV_at, ← EReal.coe_add, ← EReal.coe_add, dv_blocks, dvP_above I h 2 (i := 0) (by decide), dvP_above I h 2 (i := 1) (by decide), add_zero, add_zero]
  rfl

theorem dk_C (W : Wins I h 2 x0 x1 x2 x3 x4 x5 x6) (hsc : I.sc = scale) (u : Fin 512) (d : Fin 256) :
    (dkB (dsW (512 * 3) (by decide) (wOff (512 * 3) (by decide) x0 x1 x3 x6) x2 x4 x5) (rowsOf (512 * 3) 512 (by decide) x0) (dkB (dsW (512 * 2) (by decide) (wDiag (512 * 2) (by decide) x0 x1 x3 x6) x2 x4 x5) (rowsOf (512 * 2) 512 (by decide) x0) zeroK)) (ix2 u d) = (I.dk (512 * 2 + u) h d : EReal) := by
  rw [dk_at W 3 (by decide) (ds_at W hsc 3 (by decide) (wOff_at W hsc 3 (by decide) (by decide))), dk_at W 2 (by decide) (ds_at W hsc 2 (by decide) (wDiag_at W hsc (by decide))), zeroK_at, ← EReal.coe_add, ← EReal.coe_add, dk_blocks, dkP_above I h 2 (i := 0) (by decide), dkP_above I h 2 (i := 1) (by decide), add_zero, add_zero]
  rfl

theorem dq_C (W : Wins I h 2 x0 x1 x2 x3 x4 x5 x6) (hsc : I.sc = scale) (xs4 : FVec Ideal S2048x256 .f32) (t : Fin 2048) (d : Fin 256) :
    (setRows (512 * 3) 512 (dqB (dsW (512 * 3) (by decide) (wOff (512 * 3) (by decide) x0 x1 x3 x6) x2 x4 x5) (kfB x1 x3) (rowsOf (512 * 3) 512 (by decide) xs4)) (setRows (512 * 2) 512 (dqB (dsW (512 * 2) (by decide) (wDiag (512 * 2) (by decide) x0 x1 x3 x6) x2 x4 x5) (kfB x1 x3) (rowsOf (512 * 2) 512 (by decide) xs4)) xs4)) (ix2 t d) = xs4 (ix2 t d) + (dqP I h 2 t d : EReal) := by
  have ht := t.isLt
  rw [setRows_dq_at W 3 (by decide) (ds_at W hsc 3 (by decide) (wOff_at W hsc 3 (by decide) (by decide))), setRows_dq_at W 2 (by decide) (ds_at W hsc 2 (by decide) (wDiag_at W hsc (by decide)))]
  by_cases h3 : 512 * 3 ≤ t.val ∧ t.val < 512 * 3 + 512
  · rw [if_pos h3]
  rw [if_neg h3]
  by_cases h2 : 512 * 2 ≤ t.val ∧ t.val < 512 * 2 + 512
  · rw [if_pos h2]
  rw [if_neg h2]
  rw [dqP_above I h 2 (by omega), EReal.coe_zero, add_zero]

theorem dv_D (W : Wins I h 3 x0 x1 x2 x3 x4 x5 x6) (hsc : I.sc = scale) (u : Fin 512) (d : Fin 128) :
    (dvB (wDiag (512 * 3) (by decide) x0 x1 x3 x6) (rowsOf (512 * 3) 512 (by decide) x5) zeroV) (ix2 u d) = (I.dv (512 * 3 + u) h d : EReal) := by
  rw [dv_at W 3 (by decide) (wDiag_at W hsc (by decide)), zeroV_at, ← EReal.coe_add, dv_blocks, dvP_above I h 3 (i := 0) (by decide), dvP_above I h 3 (i := 1) (by decide), dvP_above I h 3 (i := 2) (by decide), add_zero, add_zero, add_zero]
  rfl

theorem dk_D (W : Wins I h 3 x0 x1 x2 x3 x4 x5 x6) (hsc : I.sc = scale) (u : Fin 512) (d : Fin 256) :
    (dkB (dsW (512 * 3) (by decide) (wDiag (512 * 3) (by decide) x0 x1 x3 x6) x2 x4 x5) (rowsOf (512 * 3) 512 (by decide) x0) zeroK) (ix2 u d) = (I.dk (512 * 3 + u) h d : EReal) := by
  rw [dk_at W 3 (by decide) (ds_at W hsc 3 (by decide) (wDiag_at W hsc (by decide))), zeroK_at, ← EReal.coe_add, dk_blocks, dkP_above I h 3 (i := 0) (by decide), dkP_above I h 3 (i := 1) (by decide), dkP_above I h 3 (i := 2) (by decide), add_zero, add_zero, add_zero]
  rfl

theorem dq_D (W : Wins I h 3 x0 x1 x2 x3 x4 x5 x6) (hsc : I.sc = scale) (xs4 : FVec Ideal S2048x256 .f32) (t : Fin 2048) (d : Fin 256) :
    (setRows (512 * 3) 512 (dqB (dsW (512 * 3) (by decide) (wDiag (512 * 3) (by decide) x0 x1 x3 x6) x2 x4 x5) (kfB x1 x3) (rowsOf (512 * 3) 512 (by decide) xs4)) xs4) (ix2 t d) = xs4 (ix2 t d) + (dqP I h 3 t d : EReal) := by
  have ht := t.isLt
  rw [setRows_dq_at W 3 (by decide) (ds_at W hsc 3 (by decide) (wDiag_at W hsc (by decide)))]
  by_cases h3 : 512 * 3 ≤ t.val ∧ t.val < 512 * 3 + 512
  · rw [if_pos h3]
  rw [if_neg h3]
  rw [dqP_above I h 3 (by omega), EReal.coe_zero, add_zero]

/-- The two halves of the queries' gradient, the second one rotated back. -/
theorem rope_at {x7 x8 x9 : FVec Ideal S2048x128 .f32} (Rp : Ropes I x7 x8 x9) {DQ : FVec Ideal S2048x256 .f32}
    (hD : ∀ (t : Fin 2048) (d : Fin 256), DQ (ix2 t d) = (I.dq t h d : EReal)) (t : Fin 2048) (d : Fin 256) :
    halves .bf16 (k0_pay10 (F := Ideal) (colsOf 0 128 (by decide) DQ)) (k0_pay11 (F := Ideal) (colsOf 128 128 (by decide) DQ) x7 x8 x9) (ix2 t d) = (I.dqr t h d : EReal) := by
  have hd := d.isLt
  rw [halves_at]
  unfold Inputs.dqr
  by_cases h1 : d.val < 128
  · rw [dif_pos h1, if_pos h1]
    pointwise [k0_pay10, colsOf_at, hD]
  rw [dif_neg h1, if_neg h1]
  pointwise [k0_pay11, colsOf_at, hD, Rp.co, Rp.sa, Rp.sb]
  simp only [← EReal.coe_mul, ← EReal.coe_sub]
  refine congrArg _ ?_
  have e0 : 128 + (d.val - 128) = d.val := by omega
  by_cases h2 : d.val < 160
  · simp only [if_pos h2, if_pos (show d.val - 128 < 32 by omega), e0, show 128 + (d.val - 128 + 128 - 96) % 128 = d.val + 32 by omega]
    ring
  by_cases h3 : d.val < 192
  · simp only [if_neg h2, if_pos h3, if_neg (show ¬d.val - 128 < 32 by omega), if_pos (show d.val - 128 < 64 by omega), e0,
      show 128 + (d.val - 128 + 128 - 32) % 128 = d.val - 32 by omega, show d.val - 128 - 32 = d.val - 160 by omega]
    ring
  · simp only [if_neg h2, if_neg h3, if_neg (show ¬d.val - 128 < 32 by omega), if_neg (show ¬d.val - 128 < 64 by omega)]
    ring

end Cert.KernelIdeal

end
-- ==== Proof.Windows.lean ====
module

public import proofs.«01_k».proof.Proof.HostValue
public import proofs.«01_k».proof.Proof.PointValue
public import Idealize.ShloMosaic.Lib.Pipeline.ValueKit.Point

/-!
# What the kernel's windows hold

At point `t` the head is `t / 4` and the block of keys `t % 4`.
-/

@[expose] public section

set_option maxRecDepth 16384

noncomputable section

namespace Cert.KernelIdeal

open Idealize.ShloMosaic Idealize.ShloMosaic.TcCoe Idealize.SL.Sem Cert.Attention Gen Finset

/-- The blocks that the windows read at a point. -/
theorem index_at (t : Fin cfg0.N) : (win0_0.index t = ![0, t.val / 4] ∧ win0_1.index t = ![t.val % 4, 2 * (t.val / 4)]
    ∧ win0_2.index t = ![t.val % 4, 2 * (t.val / 4) + 1] ∧ win0_3.index t = ![t.val % 4, 0] ∧ win0_4.index t = ![0, t.val / 4])
    ∧ win0_5.index t = ![0, t.val / 4] ∧ win0_6.index t = ![0, t.val / 4] ∧ win0_7.index t = ![0, 0] ∧ win0_8.index t = ![0, 0] ∧ win0_9.index t = ![0, 0] := by
  revert t
  decide +kernel

variable (m : (ℓ : Loc nD τ sig) → Buf (Elt Ideal) ℓ) (c : Dev nD)

theorem N_eq : cfg0.N = 32 := by decide +kernel

theorem window0_at (t : Fin cfg0.N) (r : Fin 2048) (l : Fin 256) : (iblk m c 0 t : FVec Ideal S2048x256 .bf16) (ix2 r l)
    = V m c main_v61 (ix2 (⟨r.val, by omega⟩ : Fin 2048) (⟨256 * (t.val / 4) + l.val, by have ht : t.val < 32 := N_eq ▸ t.isLt; omega⟩ : Fin 2048)) := by
  blk_ext [iblk, (index_at t).1.1]

theorem window1_at (t : Fin cfg0.N) (r : Fin 512) (l : Fin 128) : (iblk m c 1 t : FVec Ideal S512x128 .f32) (ix2 r l)
    = V m c main_v70 (ix2 (⟨512 * (t.val % 4) + r.val, by omega⟩ : Fin 2048) (⟨256 * (t.val / 4) + l.val, by have ht : t.val < 32 := N_eq ▸ t.isLt; omega⟩ : Fin 2048)) := by
  blk_ext [iblk, (index_at t).1.2.1]

theorem window2_at (t : Fin cfg0.N) (r : Fin 512) (l : Fin 128) : (iblk m c 2 t : FVec Ideal S512x128 .f32) (ix2 r l)
    = V m c main_v70 (ix2 (⟨512 * (t.val % 4) + r.val, by omega⟩ : Fin 2048) (⟨256 * (t.val / 4) + 128 + l.val, by have ht : t.val < 32 := N_eq ▸ t.isLt; omega⟩ : Fin 2048)) := by
  blk_ext [iblk, (index_at t).1.2.2.1]

theorem window3_at (t : Fin cfg0.N) (r : Fin 512) (l : Fin 128) : (iblk m c 3 t : FVec Ideal S512x128 .bf16) (ix2 r l)
    = V m c main_v63 (ix2 (⟨512 * (t.val % 4) + r.val, by omega⟩ : Fin 2048) (⟨l.val, by have ht : t.val < 32 := N_eq ▸ t.isLt; omega⟩ : Fin 128)) := by
  blk_ext [iblk, (index_at t).1.2.2.2.1]

theorem window4_at (t : Fin cfg0.N) (r : Fin 2048) (l : Fin 128) : (iblk m c 4 t : FVec Ideal S2048x128 .f32) (ix2 r l)
    = V m c main_v46 (ix2 (⟨r.val, by omega⟩ : Fin 2048) (⟨128 * (t.val / 4) + l.val, by have ht : t.val < 32 := N_eq ▸ t.isLt; omega⟩ : Fin 1024)) := by
  blk_ext [iblk, (index_at t).1.2.2.2.2]

theorem window5_at (t : Fin cfg0.N) (r : Fin 2048) (l : Fin 128) : (iblk m c 5 t : FVec Ideal S2048x128 .f32) (ix2 r l)
    = V m c main_arg5 (ix2 (⟨r.val, by omega⟩ : Fin 2048) (⟨128 * (t.val / 4) + l.val, by have ht : t.val < 32 := N_eq ▸ t.isLt; omega⟩ : Fin 1024)) := by
  blk_ext [iblk, (index_at t).2.1]

theorem read6 (X : FVec Ideal S2048x1024 .f32) (t : Fin cfg0.N) (r : Fin 2048) (l : Fin 128) :
    (((cfg0.win 6).blk t).view.read (Elt Ideal) X : FVec Ideal S2048x128 .f32) (ix2 r l) = X (ix2 (⟨r.val, by omega⟩ : Fin 2048) (⟨128 * (t.val / 4) + l.val, by have ht : t.val < 32 := N_eq ▸ t.isLt; omega⟩ : Fin 1024)) := by
  blk_ext [(index_at t).2.2.1]

theorem iblk6 (t : Fin cfg0.N) : iblk m c 6 t = ((cfg0.win 6).blk t).view.read (Elt Ideal) (V m c (Pipeline.arrRef spec0 6)) := by rw [iblk]

theorem window6_at (t : Fin cfg0.N) (r : Fin 2048) (l : Fin 128) : (iblk m c 6 t : FVec Ideal S2048x128 .f32) (ix2 r l)
    = V m c main_v58 (ix2 (⟨r.val, by omega⟩ : Fin 2048) (⟨128 * (t.val / 4) + l.val, by have ht : t.val < 32 := N_eq ▸ t.isLt; omega⟩ : Fin 1024)) := by
  rw [iblk6]
  exact read6 (V m c main_v58) t r l

theorem window7_at (t : Fin cfg0.N) (r : Fin 2048) (l : Fin 128) : (iblk m c 7 t : FVec Ideal S2048x128 .f32) (ix2 r l)
    = V m c main_v66 (ix2 (⟨r.val, by omega⟩ : Fin 2048) (⟨l.val, by have ht : t.val < 32 := N_eq ▸ t.isLt; omega⟩ : Fin 128)) := by
  blk_ext [iblk, (index_at t).2.2.2.1]

theorem window8_at (t : Fin cfg0.N) (r : Fin 2048) (l : Fin 128) : (iblk m c 8 t : FVec Ideal S2048x128 .f32) (ix2 r l)
    = V m c main_v68 (ix2 (⟨r.val, by omega⟩ : Fin 2048) (⟨l.val, by have ht : t.val < 32 := N_eq ▸ t.isLt; omega⟩ : Fin 128)) := by
  blk_ext [iblk, (index_at t).2.2.2.2.1]

theorem window9_at (t : Fin cfg0.N) (r : Fin 2048) (l : Fin 128) : (iblk m c 9 t : FVec Ideal S2048x128 .f32) (ix2 r l)
    = V m c main_v69 (ix2 (⟨r.val, by omega⟩ : Fin 2048) (⟨l.val, by have ht : t.val < 32 := N_eq ▸ t.isLt; omega⟩ : Fin 128)) := by
  blk_ext [iblk, (index_at t).2.2.2.2.2]

/-- The arguments as real functions. -/
def args : Inputs := inputs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

variable (H : Reals (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
include H

/-- The windows of a point, by the arguments. -/
theorem wins (t : Fin cfg0.N) : Wins (args m c) (t.val / 4) (t.val % 4) (iblk m c 0 t) (iblk m c 1 t) (iblk m c 2 t) (iblk m c 3 t) (iblk m c 4 t) (iblk m c 5 t) (iblk m c 6 t) where
  q r l := by
    rw [window0_at, V_v61, hostQ_at H]
    have hl := l.isLt
    have e1 : (256 * (t.val / 4) + l.val) / 256 = t.val / 4 := by omega
    have e2 : (256 * (t.val / 4) + l.val) % 256 = l.val := by omega
    simp only [e1, e2, args]
  kn r l := by
    rw [window1_at, V_v70, hostKv_at H]
    have hl := l.isLt
    have e1 : (256 * (t.val / 4) + l.val) / 256 = t.val / 4 := by omega
    have e2 : (256 * (t.val / 4) + l.val) % 256 = l.val := by omega
    simp only [e1, e2, args]
  v r l := by
    rw [window2_at, V_v70, hostKv_at H]
    have hl := l.isLt
    have e1 : (256 * (t.val / 4) + 128 + l.val) / 256 = t.val / 4 := by omega
    have e2 : (256 * (t.val / 4) + 128 + l.val) % 256 = 128 + l.val := by omega
    simp only [e1, e2, args]
  kp r l := by
    rw [window3_at, V_v63, hostKp_at H]
    rfl
  o r l := by
    rw [window4_at, V_v46, v63_at H]
    have hl := l.isLt
    have e1 : (128 * (t.val / 4) + l.val) / 128 = t.val / 4 := by omega
    have e2 : (128 * (t.val / 4) + l.val) % 128 = l.val := by omega
    simp only [e1, e2, args]
  g r l := by
    rw [window5_at, V_main_arg5, g_at H]
    simp only [args, Nat.mul_comm 128]
  lse r l := by
    rw [window6_at, V_v58, hostLse_at H]
    have hl := l.isLt
    have e1 : (128 * (t.val / 4) + l.val) / 128 = t.val / 4 := by omega
    simp only [e1, args]

/-- The tables of the rotation, by the arguments. -/
theorem ropes (t : Fin cfg0.N) : Ropes (args m c) (iblk m c 7 t) (iblk m c 8 t) (iblk m c 9 t) where
  co r l := by
    rw [window7_at, V_v66, hostCo_at H]
    rfl
  sa r l := by
    rw [window8_at, V_v68, hostSa_at H]
    rfl
  sb r l := by
    rw [window9_at, V_v69, hostSb_at H]
    rfl

end Cert.KernelIdeal
end
-- ==== Proof.Open.lean ====
module

public import proofs.«01_k».proof.Proof.Blocks

/-!
# What one grid point leaves

The contents of the three output windows and of the carried queries' gradient after each kind of grid point, in the
operations of one block.
-/

@[expose] public section

set_option maxRecDepth 16384

noncomputable section

namespace Cert.KernelIdeal

open Cert.KernelIdeal Gen Idealize.ShloMosaic Idealize.SL.Sem Idealize.ShloMosaic.Pipeline Cert.Attention

theorem read_carried (x : Vec Ideal S2048x256 .f32) :
    View.read (Elt Ideal) (View.whole cc0_scratch4) ((Memref.isWhole_whole cc0_scratch4).unread x) = x :=
  (Memref.isWhole_whole cc0_scratch4).read_unread x

theorem out_A_11 (c : Dev nD) (t : Fin cfg0.N) (hc0 : cond0_0 (grid0.coords t)) (hc1 : cond0_1 (grid0.coords t)) (hc2 : ¬cond0_2 (grid0.coords t)) (hc3 : ¬cond0_3 (grid0.coords t)) (hc4 : ¬cond0_4 (grid0.coords t)) (hc5 : ¬cond0_5 (grid0.coords t))
    (x0 : Vec Ideal S2048x256 .bf16) (x1 : Vec Ideal S512x128 .f32) (x2 : Vec Ideal S512x128 .f32) (x3 : Vec Ideal S512x128 .bf16) (x4 : Vec Ideal S2048x128 .f32) (x5 : Vec Ideal S2048x128 .f32) (x6 : Vec Ideal S2048x128 .f32) (x7 : Vec Ideal S2048x128 .f32) (x8 : Vec Ideal S2048x128 .f32) (x9 : Vec Ideal S2048x128 .f32) :
    out0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
      scM0_0 (Memref.isWhole_whole _) scM0_1 (Memref.isWhole_whole _) scM0_2 (Memref.isWhole_whole _) scM0_3 (Memref.isWhole_whole _) scM0_4 (Memref.isWhole_whole _) hc0 hc1 hc2 hc3 hc4 hc5 x0 x1 x2 x3 x4 x5 x6 x7 x8 x9 = halves .f32 (colsOf 0 128 (by decide) (dkB (dsW (512 * 3) (by decide) (wOff (512 * 3) (by decide) x0 x1 x3 x6) x2 x4 x5) (rowsOf (512 * 3) 512 (by decide) x0) (dkB (dsW (512 * 2) (by decide) (wOff (512 * 2) (by decide) x0 x1 x3 x6) x2 x4 x5) (rowsOf (512 * 2) 512 (by decide) x0) (dkB (dsW (512 * 1) (by decide) (wOff (512 * 1) (by decide) x0 x1 x3 x6) x2 x4 x5) (rowsOf (512 * 1) 512 (by decide) x0) (dkB (dsW (512 * 0) (by decide) (wDiag (512 * 0) (by decide) x0 x1 x3 x6) x2 x4 x5) (rowsOf (512 * 0) 512 (by decide) x0) zeroK))))) (dvB (wOff (512 * 3) (by decide) x0 x1 x3 x6) (rowsOf (512 * 3) 512 (by decide) x5) (dvB (wOff (512 * 2) (by decide) x0 x1 x3 x6) (rowsOf (512 * 2) 512 (by decide) x5) (dvB (wOff (512 * 1) (by decide) x0 x1 x3 x6) (rowsOf (512 * 1) 512 (by decide) x5) (dvB (wDiag (512 * 0) (by decide) x0 x1 x3 x6) (rowsOf (512 * 0) 512 (by decide) x5) zeroV)))) := by
  unfold out0_A_11
  rw [View.read_writes_eq_canon _ _ _ (cover0_A_11 c _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, Memref.IsWhole.read_unread, readCov_ld, View.canon_cons, read_writes_cons, overlay_whole, ld_whole]
  simp (disch := decide) only [overlay_rows, overlay_cols, ld_rows, ld_cols, rowsOf_setRows_disjoint, read_carried, pay12_eq, pay41_eq, pay63_eq, pay80_eq, pay20_eq, pay29_eq, pay36_eq, pay49_eq, pay58_eq, pay71_eq, pay13_eq, pay42_eq, pay64_eq, pay81_eq, pay21_eq, pay50_eq, pay72_eq, pay37_eq, pay15_eq, pay24_eq, pay31_eq, pay39_eq, pay44_eq, pay53_eq, pay60_eq, pay66_eq, pay75_eq, pay83_eq, pay14_eq, pay43_eq, pay65_eq, pay82_eq, pay16_eq, pay45_eq, pay67_eq, pay84_eq, pay17_eq, pay46_eq, pay68_eq, pay7_eq, pay18_eq, pay47_eq, pay69_eq, pay8_eq, pay19_eq, pay48_eq, pay70_eq, pay9_eq, pay22_eq, pay51_eq, pay73_eq, pay23_eq, pay52_eq, pay74_eq, pay25_eq, pay54_eq, pay76_eq, pay26_eq, pay55_eq, pay77_eq, pay27_eq, pay56_eq, pay78_eq, pay28_eq, pay57_eq, pay79_eq, pay30_eq, pay59_eq, pay38_eq, pay32_eq, pay61_eq, pay40_eq, pay33_eq, pay62_eq, pay34_eq, pay5_eq, pay35_eq, pay6_eq, pay1_eq, pay2_eq, pay3_eq, pay4_eq, pay85_eq, pay86_eq, pay87_eq, pay88_eq, pay89_eq, pay90_eq]
  rfl

theorem out_A_12 (c : Dev nD) (t : Fin cfg0.N) (hc0 : cond0_0 (grid0.coords t)) (hc1 : cond0_1 (grid0.coords t)) (hc2 : ¬cond0_2 (grid0.coords t)) (hc3 : ¬cond0_3 (grid0.coords t)) (hc4 : ¬cond0_4 (grid0.coords t)) (hc5 : ¬cond0_5 (grid0.coords t))
    (x0 : Vec Ideal S2048x256 .bf16) (x1 : Vec Ideal S512x128 .f32) (x2 : Vec Ideal S512x128 .f32) (x3 : Vec Ideal S512x128 .bf16) (x4 : Vec Ideal S2048x128 .f32) (x5 : Vec Ideal S2048x128 .f32) (x6 : Vec Ideal S2048x128 .f32) (x7 : Vec Ideal S2048x128 .f32) (x8 : Vec Ideal S2048x128 .f32) (x9 : Vec Ideal S2048x128 .f32) :
    out0_A_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
      scM0_0 (Memref.isWhole_whole _) scM0_1 (Memref.isWhole_whole _) scM0_2 (Memref.isWhole_whole _) scM0_3 (Memref.isWhole_whole _) scM0_4 (Memref.isWhole_whole _) hc0 hc1 hc2 hc3 hc4 hc5 x0 x1 x2 x3 x4 x5 x6 x7 x8 x9 = colsOf 128 128 (by decide) (dkB (dsW (512 * 3) (by decide) (wOff (512 * 3) (by decide) x0 x1 x3 x6) x2 x4 x5) (rowsOf (512 * 3) 512 (by decide) x0) (dkB (dsW (512 * 2) (by decide) (wOff (512 * 2) (by decide) x0 x1 x3 x6) x2 x4 x5) (rowsOf (512 * 2) 512 (by decide) x0) (dkB (dsW (512 * 1) (by decide) (wOff (512 * 1) (by decide) x0 x1 x3 x6) x2 x4 x5) (rowsOf (512 * 1) 512 (by decide) x0) (dkB (dsW (512 * 0) (by decide) (wDiag (512 * 0) (by decide) x0 x1 x3 x6) x2 x4 x5) (rowsOf (512 * 0) 512 (by decide) x0) zeroK)))) := by
  unfold out0_A_12
  rw [View.read_writes_eq_canon _ _ _ (cover0_A_12 c _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, Memref.IsWhole.read_unread, readCov_ld, View.canon_cons, read_writes_cons, overlay_whole, ld_whole]
  simp (disch := decide) only [overlay_rows, overlay_cols, ld_rows, ld_cols, rowsOf_setRows_disjoint, read_carried, pay12_eq, pay41_eq, pay63_eq, pay80_eq, pay20_eq, pay29_eq, pay36_eq, pay49_eq, pay58_eq, pay71_eq, pay13_eq, pay42_eq, pay64_eq, pay81_eq, pay21_eq, pay50_eq, pay72_eq, pay37_eq, pay15_eq, pay24_eq, pay31_eq, pay39_eq, pay44_eq, pay53_eq, pay60_eq, pay66_eq, pay75_eq, pay83_eq, pay14_eq, pay43_eq, pay65_eq, pay82_eq, pay16_eq, pay45_eq, pay67_eq, pay84_eq, pay17_eq, pay46_eq, pay68_eq, pay7_eq, pay18_eq, pay47_eq, pay69_eq, pay8_eq, pay19_eq, pay48_eq, pay70_eq, pay9_eq, pay22_eq, pay51_eq, pay73_eq, pay23_eq, pay52_eq, pay74_eq, pay25_eq, pay54_eq, pay76_eq, pay26_eq, pay55_eq, pay77_eq, pay27_eq, pay56_eq, pay78_eq, pay28_eq, pay57_eq, pay79_eq, pay30_eq, pay59_eq, pay38_eq, pay32_eq, pay61_eq, pay40_eq, pay33_eq, pay62_eq, pay34_eq, pay5_eq, pay35_eq, pay6_eq, pay1_eq, pay2_eq, pay3_eq, pay4_eq, pay85_eq, pay86_eq, pay87_eq, pay88_eq, pay89_eq, pay90_eq]
  rfl

theorem sout_A (c : Dev nD) (t : Fin cfg0.N) (hc0 : cond0_0 (grid0.coords t)) (hc1 : cond0_1 (grid0.coords t)) (hc2 : ¬cond0_2 (grid0.coords t)) (hc3 : ¬cond0_3 (grid0.coords t)) (hc4 : ¬cond0_4 (grid0.coords t)) (hc5 : ¬cond0_5 (grid0.coords t))
    (x0 : Vec Ideal S2048x256 .bf16) (x1 : Vec Ideal S512x128 .f32) (x2 : Vec Ideal S512x128 .f32) (x3 : Vec Ideal S512x128 .bf16) (x4 : Vec Ideal S2048x128 .f32) (x5 : Vec Ideal S2048x128 .f32) (x6 : Vec Ideal S2048x128 .f32) (x7 : Vec Ideal S2048x128 .f32) (x8 : Vec Ideal S2048x128 .f32) (x9 : Vec Ideal S2048x128 .f32) :
    sout0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
      scM0_0 (Memref.isWhole_whole _) scM0_1 (Memref.isWhole_whole _) scM0_2 (Memref.isWhole_whole _) scM0_3 (Memref.isWhole_whole _) scM0_4 (Memref.isWhole_whole _) hc0 hc1 hc2 hc3 hc4 hc5 x0 x1 x2 x3 x4 x5 x6 x7 x8 x9 = (setRows (512 * 3) 512 (dqB (dsW (512 * 3) (by decide) (wOff (512 * 3) (by decide) x0 x1 x3 x6) x2 x4 x5) (kfB x1 x3) (rowsOf (512 * 3) 512 (by decide) zeroQ)) (setRows (512 * 2) 512 (dqB (dsW (512 * 2) (by decide) (wOff (512 * 2) (by decide) x0 x1 x3 x6) x2 x4 x5) (kfB x1 x3) (rowsOf (512 * 2) 512 (by decide) zeroQ)) (setRows (512 * 1) 512 (dqB (dsW (512 * 1) (by decide) (wOff (512 * 1) (by decide) x0 x1 x3 x6) x2 x4 x5) (kfB x1 x3) (rowsOf (512 * 1) 512 (by decide) zeroQ)) (setRows (512 * 0) 512 (dqB (dsW (512 * 0) (by decide) (wDiag (512 * 0) (by decide) x0 x1 x3 x6) x2 x4 x5) (kfB x1 x3) (rowsOf (512 * 0) 512 (by decide) zeroQ)) zeroQ)))) := by
  unfold sout0_A_4
  rw [View.read_writes_eq_canon _ _ _ (scover0_A_4 c _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, Memref.IsWhole.read_unread, readCov_ld, View.canon_cons, read_writes_cons, overlay_whole, ld_whole]
  simp (disch := decide) only [overlay_rows, overlay_cols, ld_rows, ld_cols, rowsOf_setRows_disjoint, read_carried, pay12_eq, pay41_eq, pay63_eq, pay80_eq, pay20_eq, pay29_eq, pay36_eq, pay49_eq, pay58_eq, pay71_eq, pay13_eq, pay42_eq, pay64_eq, pay81_eq, pay21_eq, pay50_eq, pay72_eq, pay37_eq, pay15_eq, pay24_eq, pay31_eq, pay39_eq, pay44_eq, pay53_eq, pay60_eq, pay66_eq, pay75_eq, pay83_eq, pay14_eq, pay43_eq, pay65_eq, pay82_eq, pay16_eq, pay45_eq, pay67_eq, pay84_eq, pay17_eq, pay46_eq, pay68_eq, pay7_eq, pay18_eq, pay47_eq, pay69_eq, pay8_eq, pay19_eq, pay48_eq, pay70_eq, pay9_eq, pay22_eq, pay51_eq, pay73_eq, pay23_eq, pay52_eq, pay74_eq, pay25_eq, pay54_eq, pay76_eq, pay26_eq, pay55_eq, pay77_eq, pay27_eq, pay56_eq, pay78_eq, pay28_eq, pay57_eq, pay79_eq, pay30_eq, pay59_eq, pay38_eq, pay32_eq, pay61_eq, pay40_eq, pay33_eq, pay62_eq, pay34_eq, pay5_eq, pay35_eq, pay6_eq, pay1_eq, pay2_eq, pay3_eq, pay4_eq, pay85_eq, pay86_eq, pay87_eq, pay88_eq, pay89_eq, pay90_eq]
  rfl

theorem out_B_11 (c : Dev nD) (t : Fin cfg0.N) (hc0 : ¬cond0_0 (grid0.coords t)) (hc1 : ¬cond0_1 (grid0.coords t)) (hc2 : cond0_2 (grid0.coords t)) (hc3 : ¬cond0_3 (grid0.coords t)) (hc4 : ¬cond0_4 (grid0.coords t)) (hc5 : ¬cond0_5 (grid0.coords t))
    (x0 : Vec Ideal S2048x256 .bf16) (x1 : Vec Ideal S512x128 .f32) (x2 : Vec Ideal S512x128 .f32) (x3 : Vec Ideal S512x128 .bf16) (x4 : Vec Ideal S2048x128 .f32) (x5 : Vec Ideal S2048x128 .f32) (x6 : Vec Ideal S2048x128 .f32) (x7 : Vec Ideal S2048x128 .f32) (x8 : Vec Ideal S2048x128 .f32) (x9 : Vec Ideal S2048x128 .f32) (xs4 : Vec Ideal S2048x256 .f32) :
    out0_B_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
      scM0_0 (Memref.isWhole_whole _) scM0_1 (Memref.isWhole_whole _) scM0_2 (Memref.isWhole_whole _) scM0_3 (Memref.isWhole_whole _) scM0_4 (Memref.isWhole_whole _) hc0 hc1 hc2 hc3 hc4 hc5 x0 x1 x2 x3 x4 x5 x6 x7 x8 x9 xs4 = halves .f32 (colsOf 0 128 (by decide) (dkB (dsW (512 * 3) (by decide) (wOff (512 * 3) (by decide) x0 x1 x3 x6) x2 x4 x5) (rowsOf (512 * 3) 512 (by decide) x0) (dkB (dsW (512 * 2) (by decide) (wOff (512 * 2) (by decide) x0 x1 x3 x6) x2 x4 x5) (rowsOf (512 * 2) 512 (by decide) x0) (dkB (dsW (512 * 1) (by decide) (wDiag (512 * 1) (by decide) x0 x1 x3 x6) x2 x4 x5) (rowsOf (512 * 1) 512 (by decide) x0) zeroK)))) (dvB (wOff (512 * 3) (by decide) x0 x1 x3 x6) (rowsOf (512 * 3) 512 (by decide) x5) (dvB (wOff (512 * 2) (by decide) x0 x1 x3 x6) (rowsOf (512 * 2) 512 (by decide) x5) (dvB (wDiag (512 * 1) (by decide) x0 x1 x3 x6) (rowsOf (512 * 1) 512 (by decide) x5) zeroV))) := by
  unfold out0_B_11
  rw [View.read_writes_eq_canon _ _ _ (cover0_B_11 c _ _ _ _ _ _ _ _ _ _ _ _ _ _ _ _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, Memref.IsWhole.read_unread, readCov_ld, View.canon_cons, read_writes_cons, overlay_whole, ld_whole]
  simp (disch := decide) only [overlay_rows, overlay_cols, ld_rows, ld_cols, rowsOf_setRows_disjoint, read_carried, pay12_eq, pay41_eq, pay63_eq, pay80_eq, pay20_eq, pay29_eq, pay36_eq, pay49_eq, pay58_eq, pay71_eq, pay13_eq, pay42_eq, pay64_eq, pay81_eq, pay21_eq, pay50_eq, pay72_eq, pay37_eq, pay15_eq, pay24_eq, pay31_eq, pay39_eq, pay44_eq, pay53_eq, pay60_eq, pay66_eq, pay75_eq, pay83_eq, pay14_eq, pay43_eq, pay65_eq, pay82_eq, pay16_eq, pay45_eq, pay67_eq, pay84_eq, pay17_eq, pay46_eq, pay68_eq, pay7_eq, pay18_eq, pay47_eq, pay69_eq, pay8_eq, pay19_eq, pay48_eq, pay70_eq, pay9_eq, pay22_eq, pay51_eq, pay73_eq, pay23_eq, pay52_eq, pay74_eq, pay25_eq, pay54_eq, pay76_eq, pay26_eq, pay55_eq, pay77_eq, pay27_eq, pay56_eq, pay78_eq, pay28_eq, pay57_eq, pay79_eq, pay30_eq, pay59_eq, pay38_eq, pay32_eq, pay61_eq, pay40_eq, pay33_eq, pay62_eq, pay34_eq, pay5_eq, pay35_eq, pay6_eq, pay1_eq, pay2_eq, pay3_eq, pay4_eq, pay85_eq, pay86_eq, pay87_eq, pay88_eq, pay89_eq, pay90_eq]
  rfl

theorem out_B_12 (c : Dev nD) (t : Fin cfg0.N) (hc0 : ¬cond0_0 (grid0.coords t)) (hc1 : ¬cond0_1 (grid0.coords t)) (hc2 : cond0_2 (grid0.coords t)) (hc3 : ¬cond0_3 (grid0.coords t)) (hc4 : ¬cond0_4 (grid0.coords t)) (hc5 : ¬cond0_5 (grid0.coords t))
    (x0 : Vec Ideal S2048x256 .bf16) (x1 : Vec Ideal S512x128 .f32) (x2 : Vec Ideal S512x128 .f32) (x3 : Vec Ideal S512x128 .bf16) (x4 : Vec Ideal S2048x128 .f32) (x5 : Vec Ideal S2048x128 .f32) (x6 : Vec Ideal S2048x128 .f32) (x7 : Vec Ideal S2048x128 .f32) (x8 : Vec Ideal S2048x128 .f32) (x9 : Vec Ideal S2048x128 .f32) (xs4 : Vec Ideal S2048x256 .f32) :
    out0_B_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
      scM0_0 (Memref.isWhole_whole _) scM0_1 (Memref.isWhole_whole _) scM0_2 (Memref.isWhole_whole _) scM0_3 (Memref.isWhole_whole _) scM0_4 (Memref.isWhole_whole _) hc0 hc1 hc2 hc3 hc4 hc5 x0 x1 x2 x3 x4 x5 x6 x7 x8 x9 xs4 = colsOf 128 128 (by decide) (dkB (dsW (512 * 3) (by decide) (wOff (512 * 3) (by decide) x0 x1 x3 x6) x2 x4 x5) (rowsOf (512 * 3) 512 (by decide) x0) (dkB (dsW (512 * 2) (by decide) (wOff (512 * 2) (by decide) x0 x1 x3 x6) x2 x4 x5) (rowsOf (512 * 2) 512 (by decide) x0) (dkB (dsW (512 * 1) (by decide) (wDiag (512 * 1) (by decide) x0 x1 x3 x6) x2 x4 x5) (rowsOf (512 * 1) 512 (by decide) x0) zeroK))) := by
  unfold out0_B_12
  rw [View.read_writes_eq_canon _ _ _ (cover0_B_12 c _ _ _ _ _ _ _ _ _ _ _ _ _ _ _ _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, Memref.IsWhole.read_unread, readCov_ld, View.canon_cons, read_writes_cons, overlay_whole, ld_whole]
  simp (disch := decide) only [overlay_rows, overlay_cols, ld_rows, ld_cols, rowsOf_setRows_disjoint, read_carried, pay12_eq, pay41_eq, pay63_eq, pay80_eq, pay20_eq, pay29_eq, pay36_eq, pay49_eq, pay58_eq, pay71_eq, pay13_eq, pay42_eq, pay64_eq, pay81_eq, pay21_eq, pay50_eq, pay72_eq, pay37_eq, pay15_eq, pay24_eq, pay31_eq, pay39_eq, pay44_eq, pay53_eq, pay60_eq, pay66_eq, pay75_eq, pay83_eq, pay14_eq, pay43_eq, pay65_eq, pay82_eq, pay16_eq, pay45_eq, pay67_eq, pay84_eq, pay17_eq, pay46_eq, pay68_eq, pay7_eq, pay18_eq, pay47_eq, pay69_eq, pay8_eq, pay19_eq, pay48_eq, pay70_eq, pay9_eq, pay22_eq, pay51_eq, pay73_eq, pay23_eq, pay52_eq, pay74_eq, pay25_eq, pay54_eq, pay76_eq, pay26_eq, pay55_eq, pay77_eq, pay27_eq, pay56_eq, pay78_eq, pay28_eq, pay57_eq, pay79_eq, pay30_eq, pay59_eq, pay38_eq, pay32_eq, pay61_eq, pay40_eq, pay33_eq, pay62_eq, pay34_eq, pay5_eq, pay35_eq, pay6_eq, pay1_eq, pay2_eq, pay3_eq, pay4_eq, pay85_eq, pay86_eq, pay87_eq, pay88_eq, pay89_eq, pay90_eq]
  rfl

theorem sout_B (c : Dev nD) (t : Fin cfg0.N) (hc0 : ¬cond0_0 (grid0.coords t)) (hc1 : ¬cond0_1 (grid0.coords t)) (hc2 : cond0_2 (grid0.coords t)) (hc3 : ¬cond0_3 (grid0.coords t)) (hc4 : ¬cond0_4 (grid0.coords t)) (hc5 : ¬cond0_5 (grid0.coords t))
    (x0 : Vec Ideal S2048x256 .bf16) (x1 : Vec Ideal S512x128 .f32) (x2 : Vec Ideal S512x128 .f32) (x3 : Vec Ideal S512x128 .bf16) (x4 : Vec Ideal S2048x128 .f32) (x5 : Vec Ideal S2048x128 .f32) (x6 : Vec Ideal S2048x128 .f32) (x7 : Vec Ideal S2048x128 .f32) (x8 : Vec Ideal S2048x128 .f32) (x9 : Vec Ideal S2048x128 .f32) (xs4 : Vec Ideal S2048x256 .f32) :
    sout0_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
      scM0_0 (Memref.isWhole_whole _) scM0_1 (Memref.isWhole_whole _) scM0_2 (Memref.isWhole_whole _) scM0_3 (Memref.isWhole_whole _) scM0_4 (Memref.isWhole_whole _) hc0 hc1 hc2 hc3 hc4 hc5 x0 x1 x2 x3 x4 x5 x6 x7 x8 x9 xs4 = (setRows (512 * 3) 512 (dqB (dsW (512 * 3) (by decide) (wOff (512 * 3) (by decide) x0 x1 x3 x6) x2 x4 x5) (kfB x1 x3) (rowsOf (512 * 3) 512 (by decide) xs4)) (setRows (512 * 2) 512 (dqB (dsW (512 * 2) (by decide) (wOff (512 * 2) (by decide) x0 x1 x3 x6) x2 x4 x5) (kfB x1 x3) (rowsOf (512 * 2) 512 (by decide) xs4)) (setRows (512 * 1) 512 (dqB (dsW (512 * 1) (by decide) (wDiag (512 * 1) (by decide) x0 x1 x3 x6) x2 x4 x5) (kfB x1 x3) (rowsOf (512 * 1) 512 (by decide) xs4)) xs4))) := by
  unfold sout0_B_4
  unfold kernelRun0_B
  dsimp only
  sl_unfold_words
  simp only [View.readAt_eq_ld, Memref.IsWhole.read_unread, readCov_ld, View.canon_cons, read_writes_cons, overlay_whole, ld_whole, View.writes_nil]
  simp (disch := decide) only [overlay_rows, overlay_cols, ld_rows, ld_cols, rowsOf_setRows_disjoint, read_carried, pay12_eq, pay41_eq, pay63_eq, pay80_eq, pay20_eq, pay29_eq, pay36_eq, pay49_eq, pay58_eq, pay71_eq, pay13_eq, pay42_eq, pay64_eq, pay81_eq, pay21_eq, pay50_eq, pay72_eq, pay37_eq, pay15_eq, pay24_eq, pay31_eq, pay39_eq, pay44_eq, pay53_eq, pay60_eq, pay66_eq, pay75_eq, pay83_eq, pay14_eq, pay43_eq, pay65_eq, pay82_eq, pay16_eq, pay45_eq, pay67_eq, pay84_eq, pay17_eq, pay46_eq, pay68_eq, pay7_eq, pay18_eq, pay47_eq, pay69_eq, pay8_eq, pay19_eq, pay48_eq, pay70_eq, pay9_eq, pay22_eq, pay51_eq, pay73_eq, pay23_eq, pay52_eq, pay74_eq, pay25_eq, pay54_eq, pay76_eq, pay26_eq, pay55_eq, pay77_eq, pay27_eq, pay56_eq, pay78_eq, pay28_eq, pay57_eq, pay79_eq, pay30_eq, pay59_eq, pay38_eq, pay32_eq, pay61_eq, pay40_eq, pay33_eq, pay62_eq, pay34_eq, pay5_eq, pay35_eq, pay6_eq, pay1_eq, pay2_eq, pay3_eq, pay4_eq, pay85_eq, pay86_eq, pay87_eq, pay88_eq, pay89_eq, pay90_eq]
  rfl

theorem out_C_11 (c : Dev nD) (t : Fin cfg0.N) (hc0 : ¬cond0_0 (grid0.coords t)) (hc1 : ¬cond0_1 (grid0.coords t)) (hc2 : ¬cond0_2 (grid0.coords t)) (hc3 : cond0_3 (grid0.coords t)) (hc4 : ¬cond0_4 (grid0.coords t)) (hc5 : ¬cond0_5 (grid0.coords t))
    (x0 : Vec Ideal S2048x256 .bf16) (x1 : Vec Ideal S512x128 .f32) (x2 : Vec Ideal S512x128 .f32) (x3 : Vec Ideal S512x128 .bf16) (x4 : Vec Ideal S2048x128 .f32) (x5 : Vec Ideal S2048x128 .f32) (x6 : Vec Ideal S2048x128 .f32) (x7 : Vec Ideal S2048x128 .f32) (x8 : Vec Ideal S2048x128 .f32) (x9 : Vec Ideal S2048x128 .f32) (xs4 : Vec Ideal S2048x256 .f32) :
    out0_C_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
      scM0_0 (Memref.isWhole_whole _) scM0_1 (Memref.isWhole_whole _) scM0_2 (Memref.isWhole_whole _) scM0_3 (Memref.isWhole_whole _) scM0_4 (Memref.isWhole_whole _) hc0 hc1 hc2 hc3 hc4 hc5 x0 x1 x2 x3 x4 x5 x6 x7 x8 x9 xs4 = halves .f32 (colsOf 0 128 (by decide) (dkB (dsW (512 * 3) (by decide) (wOff (512 * 3) (by decide) x0 x1 x3 x6) x2 x4 x5) (rowsOf (512 * 3) 512 (by decide) x0) (dkB (dsW (512 * 2) (by decide) (wDiag (512 * 2) (by decide) x0 x1 x3 x6) x2 x4 x5) (rowsOf (512 * 2) 512 (by decide) x0) zeroK))) (dvB (wOff (512 * 3) (by decide) x0 x1 x3 x6) (rowsOf (512 * 3) 512 (by decide) x5) (dvB (wDiag (512 * 2) (by decide) x0 x1 x3 x6) (rowsOf (512 * 2) 512 (by decide) x5) zeroV)) := by
  unfold out0_C_11
  rw [View.read_writes_eq_canon _ _ _ (cover0_C_11 c _ _ _ _ _ _ _ _ _ _ _ _ _ _ _ _ _ _ _ _ _ _ _ _ _ _ _ _ _ _ _ _ _ _ _ _ _ _ _ _ _ _ _ _ _ _ _ _ _ _ _ _ _ _)]
  unfold kernelRun0_C
  dsimp only
  sl_unfold_words
  simp only [View.readAt_eq_ld, Memref.IsWhole.read_unread, readCov_ld, View.canon_cons, read_writes_cons, overlay_whole, ld_whole]
  simp (disch := decide) only [overlay_rows, overlay_cols, ld_rows, ld_cols, rowsOf_setRows_disjoint, read_carried, shapeCast_self, pay12_eq, pay41_eq, pay63_eq, pay80_eq, pay20_eq, pay29_eq, pay36_eq, pay49_eq, pay58_eq, pay71_eq, pay13_eq, pay42_eq, pay64_eq, pay81_eq, pay21_eq, pay50_eq, pay72_eq, pay37_eq, pay15_eq, pay24_eq, pay31_eq, pay39_eq, pay44_eq, pay53_eq, pay60_eq, pay66_eq, pay75_eq, pay83_eq, pay14_eq, pay43_eq, pay65_eq, pay82_eq, pay16_eq, pay45_eq, pay67_eq, pay84_eq, pay17_eq, pay46_eq, pay68_eq, pay7_eq, pay18_eq, pay47_eq, pay69_eq, pay8_eq, pay19_eq, pay48_eq, pay70_eq, pay9_eq, pay22_eq, pay51_eq, pay73_eq, pay23_eq, pay52_eq, pay74_eq, pay25_eq, pay54_eq, pay76_eq, pay26_eq, pay55_eq, pay77_eq, pay27_eq, pay56_eq, pay78_eq, pay28_eq, pay57_eq, pay79_eq, pay30_eq, pay59_eq, pay38_eq, pay32_eq, pay61_eq, pay40_eq, pay33_eq, pay62_eq, pay34_eq, pay5_eq, pay35_eq, pay6_eq, pay1_eq, pay2_eq, pay3_eq, pay4_eq, pay85_eq, pay86_eq, pay87_eq, pay88_eq, pay89_eq, pay90_eq]
  rfl

theorem out_C_12 (c : Dev nD) (t : Fin cfg0.N) (hc0 : ¬cond0_0 (grid0.coords t)) (hc1 : ¬cond0_1 (grid0.coords t)) (hc2 : ¬cond0_2 (grid0.coords t)) (hc3 : cond0_3 (grid0.coords t)) (hc4 : ¬cond0_4 (grid0.coords t)) (hc5 : ¬cond0_5 (grid0.coords t))
    (x0 : Vec Ideal S2048x256 .bf16) (x1 : Vec Ideal S512x128 .f32) (x2 : Vec Ideal S512x128 .f32) (x3 : Vec Ideal S512x128 .bf16) (x4 : Vec Ideal S2048x128 .f32) (x5 : Vec Ideal S2048x128 .f32) (x6 : Vec Ideal S2048x128 .f32) (x7 : Vec Ideal S2048x128 .f32) (x8 : Vec Ideal S2048x128 .f32) (x9 : Vec Ideal S2048x128 .f32) (xs4 : Vec Ideal S2048x256 .f32) :
    out0_C_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
      scM0_0 (Memref.isWhole_whole _) scM0_1 (Memref.isWhole_whole _) scM0_2 (Memref.isWhole_whole _) scM0_3 (Memref.isWhole_whole _) scM0_4 (Memref.isWhole_whole _) hc0 hc1 hc2 hc3 hc4 hc5 x0 x1 x2 x3 x4 x5 x6 x7 x8 x9 xs4 = colsOf 128 128 (by decide) (dkB (dsW (512 * 3) (by decide) (wOff (512 * 3) (by decide) x0 x1 x3 x6) x2 x4 x5) (rowsOf (512 * 3) 512 (by decide) x0) (dkB (dsW (512 * 2) (by decide) (wDiag (512 * 2) (by decide) x0 x1 x3 x6) x2 x4 x5) (rowsOf (512 * 2) 512 (by decide) x0) zeroK)) := by
  unfold out0_C_12
  rw [View.read_writes_eq_canon _ _ _ (cover0_C_12 c _ _ _ _ _ _ _ _ _ _ _ _ _ _ _ _ _ _ _ _ _ _ _ _ _ _ _ _ _ _ _ _ _ _ _ _ _ _ _ _ _ _ _ _ _ _ _ _ _ _ _ _ _ _)]
  unfold kernelRun0_C
  dsimp only
  sl_unfold_words
  simp only [View.readAt_eq_ld, Memref.IsWhole.read_unread, readCov_ld, View.canon_cons, read_writes_cons, overlay_whole, ld_whole]
  simp (disch := decide) only [overlay_rows, overlay_cols, ld_rows, ld_cols, rowsOf_setRows_disjoint, read_carried, shapeCast_self, pay12_eq, pay41_eq, pay63_eq, pay80_eq, pay20_eq, pay29_eq, pay36_eq, pay49_eq, pay58_eq, pay71_eq, pay13_eq, pay42_eq, pay64_eq, pay81_eq, pay21_eq, pay50_eq, pay72_eq, pay37_eq, pay15_eq, pay24_eq, pay31_eq, pay39_eq, pay44_eq, pay53_eq, pay60_eq, pay66_eq, pay75_eq, pay83_eq, pay14_eq, pay43_eq, pay65_eq, pay82_eq, pay16_eq, pay45_eq, pay67_eq, pay84_eq, pay17_eq, pay46_eq, pay68_eq, pay7_eq, pay18_eq, pay47_eq, pay69_eq, pay8_eq, pay19_eq, pay48_eq, pay70_eq, pay9_eq, pay22_eq, pay51_eq, pay73_eq, pay23_eq, pay52_eq, pay74_eq, pay25_eq, pay54_eq, pay76_eq, pay26_eq, pay55_eq, pay77_eq, pay27_eq, pay56_eq, pay78_eq, pay28_eq, pay57_eq, pay79_eq, pay30_eq, pay59_eq, pay38_eq, pay32_eq, pay61_eq, pay40_eq, pay33_eq, pay62_eq, pay34_eq, pay5_eq, pay35_eq, pay6_eq, pay1_eq, pay2_eq, pay3_eq, pay4_eq, pay85_eq, pay86_eq, pay87_eq, pay88_eq, pay89_eq, pay90_eq]
  rfl

theorem sout_C (c : Dev nD) (t : Fin cfg0.N) (hc0 : ¬cond0_0 (grid0.coords t)) (hc1 : ¬cond0_1 (grid0.coords t)) (hc2 : ¬cond0_2 (grid0.coords t)) (hc3 : cond0_3 (grid0.coords t)) (hc4 : ¬cond0_4 (grid0.coords t)) (hc5 : ¬cond0_5 (grid0.coords t))
    (x0 : Vec Ideal S2048x256 .bf16) (x1 : Vec Ideal S512x128 .f32) (x2 : Vec Ideal S512x128 .f32) (x3 : Vec Ideal S512x128 .bf16) (x4 : Vec Ideal S2048x128 .f32) (x5 : Vec Ideal S2048x128 .f32) (x6 : Vec Ideal S2048x128 .f32) (x7 : Vec Ideal S2048x128 .f32) (x8 : Vec Ideal S2048x128 .f32) (x9 : Vec Ideal S2048x128 .f32) (xs4 : Vec Ideal S2048x256 .f32) :
    sout0_C_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
      scM0_0 (Memref.isWhole_whole _) scM0_1 (Memref.isWhole_whole _) scM0_2 (Memref.isWhole_whole _) scM0_3 (Memref.isWhole_whole _) scM0_4 (Memref.isWhole_whole _) hc0 hc1 hc2 hc3 hc4 hc5 x0 x1 x2 x3 x4 x5 x6 x7 x8 x9 xs4 = (setRows (512 * 3) 512 (dqB (dsW (512 * 3) (by decide) (wOff (512 * 3) (by decide) x0 x1 x3 x6) x2 x4 x5) (kfB x1 x3) (rowsOf (512 * 3) 512 (by decide) xs4)) (setRows (512 * 2) 512 (dqB (dsW (512 * 2) (by decide) (wDiag (512 * 2) (by decide) x0 x1 x3 x6) x2 x4 x5) (kfB x1 x3) (rowsOf (512 * 2) 512 (by decide) xs4)) xs4)) := by
  unfold sout0_C_4
  unfold kernelRun0_C
  dsimp only
  sl_unfold_words
  simp only [View.readAt_eq_ld, Memref.IsWhole.read_unread, readCov_ld, View.canon_cons, read_writes_cons, overlay_whole, ld_whole, View.writes_nil]
  simp (disch := decide) only [overlay_rows, overlay_cols, ld_rows, ld_cols, rowsOf_setRows_disjoint, read_carried, shapeCast_self, pay12_eq, pay41_eq, pay63_eq, pay80_eq, pay20_eq, pay29_eq, pay36_eq, pay49_eq, pay58_eq, pay71_eq, pay13_eq, pay42_eq, pay64_eq, pay81_eq, pay21_eq, pay50_eq, pay72_eq, pay37_eq, pay15_eq, pay24_eq, pay31_eq, pay39_eq, pay44_eq, pay53_eq, pay60_eq, pay66_eq, pay75_eq, pay83_eq, pay14_eq, pay43_eq, pay65_eq, pay82_eq, pay16_eq, pay45_eq, pay67_eq, pay84_eq, pay17_eq, pay46_eq, pay68_eq, pay7_eq, pay18_eq, pay47_eq, pay69_eq, pay8_eq, pay19_eq, pay48_eq, pay70_eq, pay9_eq, pay22_eq, pay51_eq, pay73_eq, pay23_eq, pay52_eq, pay74_eq, pay25_eq, pay54_eq, pay76_eq, pay26_eq, pay55_eq, pay77_eq, pay27_eq, pay56_eq, pay78_eq, pay28_eq, pay57_eq, pay79_eq, pay30_eq, pay59_eq, pay38_eq, pay32_eq, pay61_eq, pay40_eq, pay33_eq, pay62_eq, pay34_eq, pay5_eq, pay35_eq, pay6_eq, pay1_eq, pay2_eq, pay3_eq, pay4_eq, pay85_eq, pay86_eq, pay87_eq, pay88_eq, pay89_eq, pay90_eq]
  rfl

theorem out_D_11 (c : Dev nD) (t : Fin cfg0.N) (hc0 : ¬cond0_0 (grid0.coords t)) (hc1 : ¬cond0_1 (grid0.coords t)) (hc2 : ¬cond0_2 (grid0.coords t)) (hc3 : ¬cond0_3 (grid0.coords t)) (hc4 : cond0_4 (grid0.coords t)) (hc5 : cond0_5 (grid0.coords t))
    (x0 : Vec Ideal S2048x256 .bf16) (x1 : Vec Ideal S512x128 .f32) (x2 : Vec Ideal S512x128 .f32) (x3 : Vec Ideal S512x128 .bf16) (x4 : Vec Ideal S2048x128 .f32) (x5 : Vec Ideal S2048x128 .f32) (x6 : Vec Ideal S2048x128 .f32) (x7 : Vec Ideal S2048x128 .f32) (x8 : Vec Ideal S2048x128 .f32) (x9 : Vec Ideal S2048x128 .f32) (xs4 : Vec Ideal S2048x256 .f32) :
    out0_D_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
      scM0_0 (Memref.isWhole_whole _) scM0_1 (Memref.isWhole_whole _) scM0_2 (Memref.isWhole_whole _) scM0_3 (Memref.isWhole_whole _) scM0_4 (Memref.isWhole_whole _) hc0 hc1 hc2 hc3 hc4 hc5 x0 x1 x2 x3 x4 x5 x6 x7 x8 x9 xs4 = halves .f32 (colsOf 0 128 (by decide) (dkB (dsW (512 * 3) (by decide) (wDiag (512 * 3) (by decide) x0 x1 x3 x6) x2 x4 x5) (rowsOf (512 * 3) 512 (by decide) x0) zeroK)) (dvB (wDiag (512 * 3) (by decide) x0 x1 x3 x6) (rowsOf (512 * 3) 512 (by decide) x5) zeroV) := by
  unfold out0_D_11
  rw [View.read_writes_eq_canon _ _ _ (cover0_D_11 c _ _ _ _ _ _ _ _ _ _ _ _ _ _ _ _ _ _ _ _ _ _ _ _ _ _ _ _ _ _ _ _ _ _ _ _ _ _ _ _ _ _ _ _ _ _ _ _ _ _ _ _ _ _)]
  unfold kernelRun0_D
  dsimp only
  sl_unfold_words
  simp only [View.readAt_eq_ld, Memref.IsWhole.read_unread, readCov_ld, View.canon_cons, read_writes_cons, overlay_whole, ld_whole]
  simp (disch := decide) only [overlay_rows, overlay_cols, ld_rows, ld_cols, rowsOf_setRows_disjoint, read_carried, pay12_eq, pay41_eq, pay63_eq, pay80_eq, pay20_eq, pay29_eq, pay36_eq, pay49_eq, pay58_eq, pay71_eq, pay13_eq, pay42_eq, pay64_eq, pay81_eq, pay21_eq, pay50_eq, pay72_eq, pay37_eq, pay15_eq, pay24_eq, pay31_eq, pay39_eq, pay44_eq, pay53_eq, pay60_eq, pay66_eq, pay75_eq, pay83_eq, pay14_eq, pay43_eq, pay65_eq, pay82_eq, pay16_eq, pay45_eq, pay67_eq, pay84_eq, pay17_eq, pay46_eq, pay68_eq, pay7_eq, pay18_eq, pay47_eq, pay69_eq, pay8_eq, pay19_eq, pay48_eq, pay70_eq, pay9_eq, pay22_eq, pay51_eq, pay73_eq, pay23_eq, pay52_eq, pay74_eq, pay25_eq, pay54_eq, pay76_eq, pay26_eq, pay55_eq, pay77_eq, pay27_eq, pay56_eq, pay78_eq, pay28_eq, pay57_eq, pay79_eq, pay30_eq, pay59_eq, pay38_eq, pay32_eq, pay61_eq, pay40_eq, pay33_eq, pay62_eq, pay34_eq, pay5_eq, pay35_eq, pay6_eq, pay1_eq, pay2_eq, pay3_eq, pay4_eq, pay85_eq, pay86_eq, pay87_eq, pay88_eq, pay89_eq, pay90_eq]
  rfl

theorem out_D_12 (c : Dev nD) (t : Fin cfg0.N) (hc0 : ¬cond0_0 (grid0.coords t)) (hc1 : ¬cond0_1 (grid0.coords t)) (hc2 : ¬cond0_2 (grid0.coords t)) (hc3 : ¬cond0_3 (grid0.coords t)) (hc4 : cond0_4 (grid0.coords t)) (hc5 : cond0_5 (grid0.coords t))
    (x0 : Vec Ideal S2048x256 .bf16) (x1 : Vec Ideal S512x128 .f32) (x2 : Vec Ideal S512x128 .f32) (x3 : Vec Ideal S512x128 .bf16) (x4 : Vec Ideal S2048x128 .f32) (x5 : Vec Ideal S2048x128 .f32) (x6 : Vec Ideal S2048x128 .f32) (x7 : Vec Ideal S2048x128 .f32) (x8 : Vec Ideal S2048x128 .f32) (x9 : Vec Ideal S2048x128 .f32) (xs4 : Vec Ideal S2048x256 .f32) :
    out0_D_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
      scM0_0 (Memref.isWhole_whole _) scM0_1 (Memref.isWhole_whole _) scM0_2 (Memref.isWhole_whole _) scM0_3 (Memref.isWhole_whole _) scM0_4 (Memref.isWhole_whole _) hc0 hc1 hc2 hc3 hc4 hc5 x0 x1 x2 x3 x4 x5 x6 x7 x8 x9 xs4 = colsOf 128 128 (by decide) (dkB (dsW (512 * 3) (by decide) (wDiag (512 * 3) (by decide) x0 x1 x3 x6) x2 x4 x5) (rowsOf (512 * 3) 512 (by decide) x0) zeroK) := by
  unfold out0_D_12
  rw [View.read_writes_eq_canon _ _ _ (cover0_D_12 c _ _ _ _ _ _ _ _ _ _ _ _ _ _ _ _ _ _ _ _ _ _ _ _ _ _ _ _ _ _ _ _ _ _ _ _ _ _ _ _ _ _ _ _ _ _ _ _ _ _ _ _ _ _)]
  unfold kernelRun0_D
  dsimp only
  sl_unfold_words
  simp only [View.readAt_eq_ld, Memref.IsWhole.read_unread, readCov_ld, View.canon_cons, read_writes_cons, overlay_whole, ld_whole]
  simp (disch := decide) only [overlay_rows, overlay_cols, ld_rows, ld_cols, rowsOf_setRows_disjoint, read_carried, pay12_eq, pay41_eq, pay63_eq, pay80_eq, pay20_eq, pay29_eq, pay36_eq, pay49_eq, pay58_eq, pay71_eq, pay13_eq, pay42_eq, pay64_eq, pay81_eq, pay21_eq, pay50_eq, pay72_eq, pay37_eq, pay15_eq, pay24_eq, pay31_eq, pay39_eq, pay44_eq, pay53_eq, pay60_eq, pay66_eq, pay75_eq, pay83_eq, pay14_eq, pay43_eq, pay65_eq, pay82_eq, pay16_eq, pay45_eq, pay67_eq, pay84_eq, pay17_eq, pay46_eq, pay68_eq, pay7_eq, pay18_eq, pay47_eq, pay69_eq, pay8_eq, pay19_eq, pay48_eq, pay70_eq, pay9_eq, pay22_eq, pay51_eq, pay73_eq, pay23_eq, pay52_eq, pay74_eq, pay25_eq, pay54_eq, pay76_eq, pay26_eq, pay55_eq, pay77_eq, pay27_eq, pay56_eq, pay78_eq, pay28_eq, pay57_eq, pay79_eq, pay30_eq, pay59_eq, pay38_eq, pay32_eq, pay61_eq, pay40_eq, pay33_eq, pay62_eq, pay34_eq, pay5_eq, pay35_eq, pay6_eq, pay1_eq, pay2_eq, pay3_eq, pay4_eq, pay85_eq, pay86_eq, pay87_eq, pay88_eq, pay89_eq, pay90_eq]
  rfl

theorem sout_D (c : Dev nD) (t : Fin cfg0.N) (hc0 : ¬cond0_0 (grid0.coords t)) (hc1 : ¬cond0_1 (grid0.coords t)) (hc2 : ¬cond0_2 (grid0.coords t)) (hc3 : ¬cond0_3 (grid0.coords t)) (hc4 : cond0_4 (grid0.coords t)) (hc5 : cond0_5 (grid0.coords t))
    (x0 : Vec Ideal S2048x256 .bf16) (x1 : Vec Ideal S512x128 .f32) (x2 : Vec Ideal S512x128 .f32) (x3 : Vec Ideal S512x128 .bf16) (x4 : Vec Ideal S2048x128 .f32) (x5 : Vec Ideal S2048x128 .f32) (x6 : Vec Ideal S2048x128 .f32) (x7 : Vec Ideal S2048x128 .f32) (x8 : Vec Ideal S2048x128 .f32) (x9 : Vec Ideal S2048x128 .f32) (xs4 : Vec Ideal S2048x256 .f32) :
    sout0_D_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
      scM0_0 (Memref.isWhole_whole _) scM0_1 (Memref.isWhole_whole _) scM0_2 (Memref.isWhole_whole _) scM0_3 (Memref.isWhole_whole _) scM0_4 (Memref.isWhole_whole _) hc0 hc1 hc2 hc3 hc4 hc5 x0 x1 x2 x3 x4 x5 x6 x7 x8 x9 xs4 = (setRows (512 * 3) 512 (dqB (dsW (512 * 3) (by decide) (wDiag (512 * 3) (by decide) x0 x1 x3 x6) x2 x4 x5) (kfB x1 x3) (rowsOf (512 * 3) 512 (by decide) xs4)) xs4) := by
  unfold sout0_D_4
  unfold kernelRun0_D
  dsimp only
  sl_unfold_words
  simp only [View.readAt_eq_ld, Memref.IsWhole.read_unread, readCov_ld, View.canon_cons, read_writes_cons, overlay_whole, ld_whole, View.writes_nil]
  simp (disch := decide) only [overlay_rows, overlay_cols, ld_rows, ld_cols, rowsOf_setRows_disjoint, read_carried, pay12_eq, pay41_eq, pay63_eq, pay80_eq, pay20_eq, pay29_eq, pay36_eq, pay49_eq, pay58_eq, pay71_eq, pay13_eq, pay42_eq, pay64_eq, pay81_eq, pay21_eq, pay50_eq, pay72_eq, pay37_eq, pay15_eq, pay24_eq, pay31_eq, pay39_eq, pay44_eq, pay53_eq, pay60_eq, pay66_eq, pay75_eq, pay83_eq, pay14_eq, pay43_eq, pay65_eq, pay82_eq, pay16_eq, pay45_eq, pay67_eq, pay84_eq, pay17_eq, pay46_eq, pay68_eq, pay7_eq, pay18_eq, pay47_eq, pay69_eq, pay8_eq, pay19_eq, pay48_eq, pay70_eq, pay9_eq, pay22_eq, pay51_eq, pay73_eq, pay23_eq, pay52_eq, pay74_eq, pay25_eq, pay54_eq, pay76_eq, pay26_eq, pay55_eq, pay77_eq, pay27_eq, pay56_eq, pay78_eq, pay28_eq, pay57_eq, pay79_eq, pay30_eq, pay59_eq, pay38_eq, pay32_eq, pay61_eq, pay40_eq, pay33_eq, pay62_eq, pay34_eq, pay5_eq, pay35_eq, pay6_eq, pay1_eq, pay2_eq, pay3_eq, pay4_eq, pay85_eq, pay86_eq, pay87_eq, pay88_eq, pay89_eq, pay90_eq]
  rfl

theorem out_D_10 (c : Dev nD) (t : Fin cfg0.N) (hc0 : ¬cond0_0 (grid0.coords t)) (hc1 : ¬cond0_1 (grid0.coords t)) (hc2 : ¬cond0_2 (grid0.coords t)) (hc3 : ¬cond0_3 (grid0.coords t)) (hc4 : cond0_4 (grid0.coords t)) (hc5 : cond0_5 (grid0.coords t))
    (x0 : Vec Ideal S2048x256 .bf16) (x1 : Vec Ideal S512x128 .f32) (x2 : Vec Ideal S512x128 .f32) (x3 : Vec Ideal S512x128 .bf16) (x4 : Vec Ideal S2048x128 .f32) (x5 : Vec Ideal S2048x128 .f32) (x6 : Vec Ideal S2048x128 .f32) (x7 : Vec Ideal S2048x128 .f32) (x8 : Vec Ideal S2048x128 .f32) (x9 : Vec Ideal S2048x128 .f32) (xs4 : Vec Ideal S2048x256 .f32) :
    out0_D_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
      scM0_0 (Memref.isWhole_whole _) scM0_1 (Memref.isWhole_whole _) scM0_2 (Memref.isWhole_whole _) scM0_3 (Memref.isWhole_whole _) scM0_4 (Memref.isWhole_whole _) hc0 hc1 hc2 hc3 hc4 hc5 x0 x1 x2 x3 x4 x5 x6 x7 x8 x9 xs4 = halves .bf16 (k0_pay10 (colsOf 0 128 (by decide) (setRows (512 * 3) 512 (dqB (dsW (512 * 3) (by decide) (wDiag (512 * 3) (by decide) x0 x1 x3 x6) x2 x4 x5) (kfB x1 x3) (rowsOf (512 * 3) 512 (by decide) xs4)) xs4))) (k0_pay11 (colsOf 128 128 (by decide) (setRows (512 * 3) 512 (dqB (dsW (512 * 3) (by decide) (wDiag (512 * 3) (by decide) x0 x1 x3 x6) x2 x4 x5) (kfB x1 x3) (rowsOf (512 * 3) 512 (by decide) xs4)) xs4)) x7 x8 x9) := by
  unfold out0_D_10
  rw [View.read_writes_eq_canon _ _ _ (cover0_D_10 c _ _ _ _ _ _ _ _ _ _ _ _ _ _ _ _ _ _ _ _ _ _ _ _ _ _ _ _ _ _ _ _ _ _ _ _ _ _ _ _ _ _ _ _ _ _ _ _ _ _ _ _ _ _)]
  unfold kernelRun0_D
  dsimp only
  sl_unfold_words
  simp only [View.readAt_eq_ld, Memref.IsWhole.read_unread, readCov_ld, View.canon_cons, read_writes_cons, overlay_whole, ld_whole, View.writes_nil]
  simp (disch := decide) only [overlay_rows, overlay_cols, ld_rows, ld_cols, rowsOf_setRows_disjoint, read_carried, pay12_eq, pay41_eq, pay63_eq, pay80_eq, pay20_eq, pay29_eq, pay36_eq, pay49_eq, pay58_eq, pay71_eq, pay13_eq, pay42_eq, pay64_eq, pay81_eq, pay21_eq, pay50_eq, pay72_eq, pay37_eq, pay15_eq, pay24_eq, pay31_eq, pay39_eq, pay44_eq, pay53_eq, pay60_eq, pay66_eq, pay75_eq, pay83_eq, pay14_eq, pay43_eq, pay65_eq, pay82_eq, pay16_eq, pay45_eq, pay67_eq, pay84_eq, pay17_eq, pay46_eq, pay68_eq, pay7_eq, pay18_eq, pay47_eq, pay69_eq, pay8_eq, pay19_eq, pay48_eq, pay70_eq, pay9_eq, pay22_eq, pay51_eq, pay73_eq, pay23_eq, pay52_eq, pay74_eq, pay25_eq, pay54_eq, pay76_eq, pay26_eq, pay55_eq, pay77_eq, pay27_eq, pay56_eq, pay78_eq, pay28_eq, pay57_eq, pay79_eq, pay30_eq, pay59_eq, pay38_eq, pay32_eq, pay61_eq, pay40_eq, pay33_eq, pay62_eq, pay34_eq, pay5_eq, pay35_eq, pay6_eq, pay1_eq, pay2_eq, pay3_eq, pay4_eq, pay85_eq, pay86_eq, pay87_eq, pay88_eq, pay89_eq, pay90_eq]
  rfl

end Cert.KernelIdeal

end
-- ==== Proof.Fold.lean ====
module

public import proofs.«01_k».proof.Proof.Windows
public import proofs.«01_k».proof.Proof.Open

/-!
# The grid, point by point

What the three output blocks and the carried gradient of the queries hold after each point.
-/

@[expose] public section

set_option maxRecDepth 16384

noncomputable section

namespace Cert.KernelIdeal

open Idealize.ShloMosaic Idealize.ShloMosaic.TcCoe Idealize.SL.Sem Cert.Attention Gen Finset
open Value (stAt0 stAt0_A stAt0_B stAt0_C stAt0_D junk0)

/-- The gradient of the queries over the first `j + 1` blocks of keys. -/
def carried (I : Inputs) (h : ℕ) : ℕ → ℕ → ℕ → ℝ
  | 0, t, d => 0 + dqP I h 0 t d
  | j + 1, t, d => carried I h j t d + dqP I h (j + 1) t d

theorem carried_all (I : Inputs) (h t d : ℕ) : carried I h 3 t d = I.dq t h d := (dq_blocks I h t d).symm

/-- The output blocks and the carried array, after point `n`. -/
structure Holds (I : Inputs) (n : ℕ) (s : Vec Ideal S2048x256 .bf16 × Vec Ideal S512x256 .f32 × Vec Ideal S512x128 .f32 × Vec Ideal S2048x256 .f32) : Prop where
  kv : ∀ (u : Fin 512) (d : Fin 256), s.2.1 (ix2 u d) = (I.dkv (512 * (n % 4) + u) (n / 4) d : EReal)
  kp : ∀ (u : Fin 512) (l : Fin 128), s.2.2.1 (ix2 u l) = (I.dk (512 * (n % 4) + u) (n / 4) (128 + l) : EReal)
  sum : ∀ (t : Fin 2048) (d : Fin 256), s.2.2.2 (ix2 t d) = (carried I (n / 4) (n % 4) t d : EReal)
  q : n % 4 = 3 → ∀ (t : Fin 2048) (d : Fin 256), s.1 (ix2 t d) = (I.dqr t (n / 4) d : EReal)

/-- A block of the keys' and values' gradient, from its two halves. -/
theorem dkv_halves (I : Inputs) (h k : ℕ) (DK : FVec Ideal S512x256 .f32) (DV : FVec Ideal S512x128 .f32)
    (hk : ∀ (u : Fin 512) (d : Fin 256), DK (ix2 u d) = (I.dk (k + u) h d : EReal)) (hv : ∀ (u : Fin 512) (d : Fin 128), DV (ix2 u d) = (I.dv (k + u) h d : EReal))
    (u : Fin 512) (d : Fin 256) : halves .f32 (colsOf 0 128 (by decide) DK) DV (ix2 u d) = (I.dkv (k + u) h d : EReal) := by
  rw [halves_at, Inputs.dkv]
  by_cases hd : d.val < 128
  · rw [dif_pos hd, if_pos hd, colsOf_at, hk]
    simp only [Nat.zero_add]
  · rw [dif_neg hd, if_neg hd, hv]

/-- The second half of a block of the keys' gradient. -/
theorem dk_half (I : Inputs) (h k : ℕ) (DK : FVec Ideal S512x256 .f32) (hk : ∀ (u : Fin 512) (d : Fin 256), DK (ix2 u d) = (I.dk (k + u) h d : EReal))
    (u : Fin 512) (l : Fin 128) : colsOf 128 128 (by decide) DK (ix2 u l) = (I.dk (k + u) h (128 + l) : EReal) := by
  rw [colsOf_at, hk]

variable (m : (ℓ : Loc nD τ sig) → Buf (Elt Ideal) ℓ) (c : Dev nD)
variable (H : Reals (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
include H

omit H in
theorem args_sc : (args m c).sc = scale := inputs_sc _ _ _ _ _ _

theorem holds_A (t : Fin cfg0.N) (ht : t.val % 4 = 0) (acc : Vec Ideal S2048x256 .bf16 × Vec Ideal S512x256 .f32 × Vec Ideal S512x128 .f32 × Vec Ideal S2048x256 .f32) :
    Holds (args m c) t.val (stAt0 m c t.val t.isLt acc) := by
  have W := wins m c H t
  rw [ht] at W
  rw [stAt0_A m c t acc (by omega) (by omega) (by omega) (by omega) (by omega) (by omega)]
  constructor
  · intro u d
    dsimp only
    rw [out_A_11, ht]
    exact dkv_halves _ _ _ _ _ (dk_A W (args_sc m c)) (dv_A W (args_sc m c)) u d
  · intro u l
    dsimp only
    rw [out_A_12, ht]
    exact dk_half _ _ _ _ (dk_A W (args_sc m c)) u l
  · intro r d
    dsimp only
    rw [sout_A, ht, dq_A W (args_sc m c), zeroQ_at, ← EReal.coe_add]
    rfl
  · intro h
    omega

theorem holds_B (t : Fin cfg0.N) (ht : t.val % 4 = 1) (acc : Vec Ideal S2048x256 .bf16 × Vec Ideal S512x256 .f32 × Vec Ideal S512x128 .f32 × Vec Ideal S2048x256 .f32)
    (hacc : ∀ (r : Fin 2048) (d : Fin 256), acc.2.2.2 (ix2 r d) = (carried (args m c) (t.val / 4) 0 r d : EReal)) :
    Holds (args m c) t.val (stAt0 m c t.val t.isLt acc) := by
  have W := wins m c H t
  rw [ht] at W
  rw [stAt0_B m c t acc (by omega) (by omega) (by omega) (by omega) (by omega) (by omega)]
  constructor
  · intro u d
    dsimp only
    rw [out_B_11, ht]
    exact dkv_halves _ _ _ _ _ (dk_B W (args_sc m c)) (dv_B W (args_sc m c)) u d
  · intro u l
    dsimp only
    rw [out_B_12, ht]
    exact dk_half _ _ _ _ (dk_B W (args_sc m c)) u l
  · intro r d
    dsimp only
    rw [sout_B, ht, dq_B W (args_sc m c), hacc, ← EReal.coe_add]
    rfl
  · intro h
    omega

theorem holds_C (t : Fin cfg0.N) (ht : t.val % 4 = 2) (acc : Vec Ideal S2048x256 .bf16 × Vec Ideal S512x256 .f32 × Vec Ideal S512x128 .f32 × Vec Ideal S2048x256 .f32)
    (hacc : ∀ (r : Fin 2048) (d : Fin 256), acc.2.2.2 (ix2 r d) = (carried (args m c) (t.val / 4) 1 r d : EReal)) :
    Holds (args m c) t.val (stAt0 m c t.val t.isLt acc) := by
  have W := wins m c H t
  rw [ht] at W
  rw [stAt0_C m c t acc (by omega) (by omega) (by omega) (by omega) (by omega) (by omega)]
  constructor
  · intro u d
    dsimp only
    rw [out_C_11, ht]
    exact dkv_halves _ _ _ _ _ (dk_C W (args_sc m c)) (dv_C W (args_sc m c)) u d
  · intro u l
    dsimp only
    rw [out_C_12, ht]
    exact dk_half _ _ _ _ (dk_C W (args_sc m c)) u l
  · intro r d
    dsimp only
    rw [sout_C, ht, dq_C W (args_sc m c), hacc, ← EReal.coe_add]
    rfl
  · intro h
    omega

theorem holds_D (t : Fin cfg0.N) (ht : t.val % 4 = 3) (acc : Vec Ideal S2048x256 .bf16 × Vec Ideal S512x256 .f32 × Vec Ideal S512x128 .f32 × Vec Ideal S2048x256 .f32)
    (hacc : ∀ (r : Fin 2048) (d : Fin 256), acc.2.2.2 (ix2 r d) = (carried (args m c) (t.val / 4) 2 r d : EReal)) :
    Holds (args m c) t.val (stAt0 m c t.val t.isLt acc) := by
  have W := wins m c H t
  rw [ht] at W
  rw [stAt0_D m c t acc (by omega) (by omega) (by omega) (by omega) (by omega) (by omega)]
  constructor
  · intro u d
    dsimp only
    rw [out_D_11, ht]
    exact dkv_halves _ _ _ _ _ (dk_D W (args_sc m c)) (dv_D W (args_sc m c)) u d
  · intro u l
    dsimp only
    rw [out_D_12, ht]
    exact dk_half _ _ _ _ (dk_D W (args_sc m c)) u l
  · intro r d
    dsimp only
    rw [sout_D, ht, dq_D W (args_sc m c), hacc, ← EReal.coe_add]
    rfl
  · intro _ r d
    dsimp only
    rw [out_D_10]
    refine rope_at (ropes m c H t) (fun r d => ?_) r d
    rw [dq_D W (args_sc m c), hacc, ← EReal.coe_add, ← carried_all]
    rfl

/-- Every point of the sweep. -/
theorem holds : ∀ (n : ℕ) (hn : 0 + n < cfg0.N), Holds (args m c) n (Pipeline.accAt (fun n h => stAt0 m c n h junk0) (stAt0 m c) 0 n hn)
  | 0, hn => by
    rw [Pipeline.accAt_zero]
    exact holds_A m c H ⟨0, hn⟩ rfl junk0
  | n + 1, hn => by
    rw [Pipeline.accAt_succ]
    have ih := holds n (Nat.lt_of_succ_lt hn)
    generalize Pipeline.accAt (fun n h => stAt0 m c n h junk0) (stAt0 m c) 0 n (Nat.lt_of_succ_lt hn) = acc at ih
    have e : 0 + (n + 1) = n + 1 := Nat.zero_add _
    have hn' : n + 1 < cfg0.N := e ▸ hn
    have key : Holds (args m c) (n + 1) (stAt0 m c (n + 1) hn' acc) := by
      have h4 : (n + 1) % 4 = 0 ∨ (n + 1) % 4 = 1 ∨ (n + 1) % 4 = 2 ∨ (n + 1) % 4 = 3 := by omega
      have hs : (n + 1) % 4 ≠ 0 → ∀ (r : Fin 2048) (d : Fin 256), acc.2.2.2 (ix2 r d) = (carried (args m c) ((n + 1) / 4) ((n + 1) % 4 - 1) r d : EReal) := fun h r d => by
        rw [ih.sum, show n / 4 = (n + 1) / 4 by omega, show n % 4 = (n + 1) % 4 - 1 by omega]
      rcases h4 with h | h | h | h
      · exact holds_A m c H ⟨n + 1, hn'⟩ h acc
      · exact holds_B m c H ⟨n + 1, hn'⟩ h acc fun r d => by have := hs (by omega) r d; rw [h] at this; exact this
      · exact holds_C m c H ⟨n + 1, hn'⟩ h acc fun r d => by have := hs (by omega) r d; rw [h] at this; exact this
      · exact holds_D m c H ⟨n + 1, hn'⟩ h acc fun r d => by have := hs (by omega) r d; rw [h] at this; exact this
    convert key using 2

end Cert.KernelIdeal
end
-- ==== Proof.Results.lean ====
module

public import proofs.«01_k».proof.Proof.Fold
public import proofs.«01_k».proof.Proof.Gen.ReferenceIdeal.Read

/-!
# The three results

The kernel's three arrays, read off the grid's points, are the reference's three arrays.
-/

@[expose] public section

set_option maxRecDepth 16384

noncomputable section

namespace Cert.KernelIdeal

open Idealize.ShloMosaic Idealize.ShloMosaic.TcCoe Idealize.SL.Sem Cert.Attention Gen Finset
open Value (stAt0 junk0 G10 G11 G12 pt10Of pt11Of pt12Of loc10Of loc11Of loc12Of)

theorem loc10_at (t c : Fin 2048) : loc10Of (ix2 t c) = ix2 (t : Fin 2048) (⟨c % 256, Nat.mod_lt _ (by decide)⟩ : Fin 256) := by
  funext a
  match a with
  | ⟨0, _⟩ => exact Fin.ext (Nat.mod_eq_of_lt t.isLt)
  | ⟨1, _⟩ => rfl

theorem loc11_at (u c : Fin 2048) :
    loc11Of (ix2 u c) = ix2 (⟨u % 512, Nat.mod_lt _ (by decide)⟩ : Fin 512) (⟨c % 256, Nat.mod_lt _ (by decide)⟩ : Fin 256) := by
  funext a
  match a with
  | ⟨0, _⟩ => rfl
  | ⟨1, _⟩ => rfl

theorem loc12_at (u : Fin 2048) (c : Fin 1024) :
    loc12Of (ix2 u c) = ix2 (⟨u % 512, Nat.mod_lt _ (by decide)⟩ : Fin 512) (⟨c % 128, Nat.mod_lt _ (by decide)⟩ : Fin 128) := by
  funext a
  match a with
  | ⟨0, _⟩ => rfl
  | ⟨1, _⟩ => rfl

theorem pt10_at (t c : Fin 2048) : pt10Of (ix2 t c) = 4 * (c / 256) + 3 := by
  show 4 * (8 * (t.val / 2048 - 0) + 1 * (c.val / 256 - 0)) + 3 = _
  have := t.isLt
  omega

theorem pt11_at (u c : Fin 2048) : pt11Of (ix2 u c) = u / 512 + 4 * (c / 256) := by
  show 1 * (u.val / 512 - 0) + 4 * (c.val / 256 - 0) = _
  omega

theorem pt12_at (u : Fin 2048) (c : Fin 1024) : pt12Of (ix2 u c) = u / 512 + 4 * (c / 128) := by
  show 1 * (u.val / 512 - 0) + 4 * (c.val / 128 - 0) = _
  omega

/-- The gradient of the keys is zero past the 192 numbers of a head. -/
theorem dk_past (I : Inputs) (u h d : ℕ) (hd : 192 ≤ d) : I.dk u h d = 0 := by
  unfold Inputs.dk
  refine Finset.sum_eq_zero fun t _ => ?_
  unfold Inputs.qr
  rw [if_neg (by omega), if_neg (by omega), if_neg (by omega), mul_zero]

variable (m : (ℓ : Loc nD τ sig) → Buf (Elt Ideal) ℓ) (c : Dev nD)
variable (H : Reals (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
include H

/-- The gradient of the queries. -/
theorem result_q : G10 m c = ReferenceIdeal.Read.val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  obtain ⟨t, d, rfl⟩ : ∃ (t d : Fin 2048), i = ix2 t d := ⟨i 0, i 1, (ix2_eta i).symm⟩
  have hp := pt10_at t d
  have hd := d.isLt
  have hN := N_eq
  unfold G10
  rw [dif_pos (by omega), loc10_at, v116_at H, (holds m c H (pt10Of (ix2 t d)) (by omega)).q (by omega)]
  have h1 : pt10Of (ix2 t d) / 4 = d / 256 := by omega
  rw [h1]
  rfl

/-- The gradient of the keys' first halves and of the values. -/
theorem result_kv : G11 m c = ReferenceIdeal.Read.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  obtain ⟨u, d, rfl⟩ : ∃ (u d : Fin 2048), i = ix2 u d := ⟨i 0, i 1, (ix2_eta i).symm⟩
  have hp := pt11_at u d
  have hd := d.isLt
  have hu := u.isLt
  have hN := N_eq
  unfold G11
  rw [dif_pos (by omega), loc11_at, v117_at H, (holds m c H (pt11Of (ix2 u d)) (by omega)).kv]
  have h1 : pt11Of (ix2 u d) / 4 = d / 256 := by omega
  have h2 : 512 * (pt11Of (ix2 u d) % 4) + u % 512 = u := by omega
  dsimp only
  rw [h1, h2]
  rfl

/-- The gradient of the keys' second halves. -/
theorem result_kp : G12 m c = ReferenceIdeal.Read.val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  obtain ⟨u, d, rfl⟩ : ∃ (u : Fin 2048) (d : Fin 1024), i = ix2 u d := ⟨i 0, i 1, (ix2_eta i).symm⟩
  have hp := pt12_at u d
  have hd := d.isLt
  have hu := u.isLt
  have hN := N_eq
  unfold G12
  rw [dif_pos (by omega), loc12_at, v115_at H, (holds m c H (pt12Of (ix2 u d)) (by omega)).kp]
  have h1 : pt12Of (ix2 u d) / 4 = d / 128 := by omega
  have h2 : 512 * (pt12Of (ix2 u d) % 4) + u % 512 = u := by omega
  dsimp only
  rw [h1, h2]
  by_cases h3 : (d : ℕ) % 128 < 64
  · rw [if_pos h3]
    rfl
  · rw [if_neg h3, dk_past _ _ _ _ (by omega)]

end Cert.KernelIdeal

end
-- ==== Proof.Finite.lean ====
module

public import proofs.«01_k».proof.Defs
public import proofs.«01_k».proof.Proof.RefValue
public import Idealize.ShloMosaic.Lib.ReduceAll

/-!
# What the precondition says

Every number of the six arguments is a real number.
-/

@[expose] public section

set_option maxRecDepth 16384

noncomputable section

namespace Cert.Attention

open Idealize.ShloMosaic Idealize.SL.Sem

theorem ofBits_inf : Ideal.ofBits .f32 0x7F800000#32 = ⊤ := by simp [Ideal.ofBits, Ideal.ieee]

/-- An extended real whose absolute value is below infinity is a real number. -/
theorem real_of_abs_lt (x : EReal) (h : Ideal.cmp .olt (max x (-x)) (Ideal.ofBits .f32 0x7F800000#32) = 1#1) : ∃ r : ℝ, x = r := by
  rw [ofBits_inf] at h
  have h' : max x (-x) < ⊤ := by
    by_contra hn
    simp [Ideal.cmp, hn] at h
  induction x with
  | bot => simp at h'
  | top => simp at h'
  | coe r => exact ⟨r, rfl⟩

/-- An array whose finiteness word is 1 is of real numbers. -/
theorem reals_of_all {s : Shape} {axes : List (Fin s.rank)} (x : FVec Ideal s .f32) (hb : Pre_finite.S_.BroadcastsInDim s ![])
    (hr : s.ReducesTo axes Pre_finite.S_) (hu : 0 < Pre_finite.S_.numel) (j : Pre_finite.S_.Idx)
    (e : Host.reduce IntOp.andi (cmpf .olt (Host.absf x) (broadcastInDim s ![] hb (constant Pre_finite.S_ .f32 0x7F800000#32))) (constantI Pre_finite.S_ 1 1#1) hr hu j = 1#1) :
    ∀ i, ∃ r : ℝ, x i = r := fun i => by
  haveI : Subsingleton Pre_finite.S_.Idx := ⟨fun a b => funext fun k => k.elim0⟩
  exact real_of_abs_lt _ (Host.reduce_andi_all _ _ hr hu j e i)

/-- The precondition: the six arguments are of real numbers. -/
theorem reals_of_pre [Pre_finite.Facts] (x0 : FVec Ideal Pre_finite.S2048x8x192 .f32) (x1 : FVec Ideal Pre_finite.S2048x8x256 .f32) (x2 : FVec Ideal Pre_finite.S2048x64 .f32)
    (x3 x4 : FVec Ideal Pre_finite.S2048x32 .f32) (x5 : FVec Ideal Pre_finite.S2048x1024 .f32)
    (h : Pre_finite.fn (F := Ideal) x0 x1 x2 x3 x4 x5 = fun _ => 1#1) : Reals x0 x1 x2 x3 x4 x5 := by
  have e := congrFun h (fun k => k.elim0)
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨reals_of_all x0 _ _ _ _ e0, reals_of_all x1 _ _ _ _ e1, reals_of_all x2 _ _ _ _ e2, reals_of_all x3 _ _ _ _ e3,
    reals_of_all x4 _ _ _ _ e4, reals_of_all x5 _ _ _ _ e5⟩

end Cert.Attention

end
-- ==== Proof.DownGrad.lean ====
module

public import proofs.«01_k».proof.Proof.Gen.Kernel2Ideal.Value
public import proofs.«01_k».proof.Proof.Gen.Reference2Ideal.Read
public import proofs.«01_k».proof.Proof.RefValue
public import Idealize.ShloMosaic.Lib.Pipeline.ValueKit.Point
public import Idealize.ShloMosaic.Lib.StableHlo.ReadAt

/-!
# The gradients through the down product and the gate

At point `t` the rows are those of block `t / 8` of 1024 and the columns those of slab `t % 8` of 704.  The kernel multiplies the
cotangent by the weights and the product by the saved derivatives of the activations.
-/

@[expose] public section

set_option maxRecDepth 16384

noncomputable section

namespace Cert.Kernel2Ideal

open Idealize.ShloMosaic Idealize.ShloMosaic.TcCoe Idealize.SL.Sem Gen Finset
open Reference2Ideal.Read (val_main_v0_2 val_main_v0_1 val_main_v0_0 val_main_v3 val_main_v4 val_main_v5 val_main_v6 val_main_v7 val_main_v8 val_main_v9 val_main_v10
  val_main_v11 val_main_v12 val_main_call0_v0 val_main_call0_v1 val_main_call0_v2 val_main_call0_v3 val_main_call0_v4 val_main_call0_v6 val_main_call0_v7
  val_main_call0_cst val_main_call0_cst_0 val_main_call0_cst_1 val_main_call1_v0 val_main_call1_v1 val_main_call1_v2)

/-- The blocks that the windows read at a point. -/
theorem index_at (t : Fin cfg0.N) : win0_0.index t = ![t.val / 8, 0] ∧ win0_1.index t = ![t.val % 8, 0, 0] ∧ win0_2.index t = ![t.val % 8, t.val / 8, 0]
    ∧ win0_3.index t = ![t.val % 8, t.val / 8, 0] ∧ win0_5.index t = ![t.val % 8, t.val / 8, 0] ∧ win0_6.index t = ![t.val % 8, t.val / 8, 0] := by
  revert t
  decide +kernel

theorem N_eq : cfg0.N = 16 := by decide +kernel

theorem flush_at (t : Fin cfg0.N) : (cfg0.win 5).flush t = true ∧ (cfg0.win 6).flush t = true := by
  revert t
  decide +kernel

/-- The rows of a point's block. -/
abbrev rowAt (t : Fin cfg0.N) (r : Fin 1024) : Fin 2048 := ⟨1024 * (t.val / 8) + r.val, by have ht : t.val < 16 := N_eq ▸ t.isLt; omega⟩

/-- The slab of a point. -/
abbrev slabAt (t : Fin cfg0.N) : Fin 8 := ⟨t.val % 8, Nat.mod_lt _ (by decide)⟩

variable (m : (ℓ : Loc nD τ sig) → Buf (Elt Ideal) ℓ) (c : Dev nD)

/-- A matrix cut into eight slabs of 704 columns. -/
def slabs (x : FVec Ideal S2048x5632 .f32) : FVec Ideal S8x2048x704 .f32 :=
  transpose S8x2048x704 [1, 0, 2] (shapeCast S2048x8x704 x shapeCasts_S2048x5632_S2048x8x704) transposes_S2048x8x704_S8x2048x704_1_0_2

theorem slabs_at (x : FVec Ideal S2048x5632 .f32) (s : Fin 8) (r : Fin 2048) (f : Fin 704) :
    slabs x (ix3 s r f) = x (ix2 r (⟨s.val * 704 + f.val, by omega⟩ : Fin 5632)) := by
  pointwise [slabs]

/-- The weights cut into eight slabs of 704 rows. -/
def rowSlabs (w : FVec Ideal S5632x2048 .f32) : FVec Ideal S8x704x2048 .bf16 :=
  truncf .bf16 (shapeCast S8x704x2048 w shapeCasts_S5632x2048_S8x704x2048) bitsLt_bf16_f32

theorem rowSlabs_at (w : FVec Ideal S5632x2048 .f32) (s : Fin 8) (f : Fin 704) (d : Fin 2048) :
    rowSlabs w (ix3 s f d) = w (ix2 (⟨s.val * 704 + f.val, by omega⟩ : Fin 5632) d) := by
  pointwise [rowSlabs]

/-- The saved derivative of the activations by the gate. -/
def dGate (g u : FVec Ideal S2048x5632 .f32) : FVec Ideal S2048x5632 .f32 :=
  mulf u (mulf (val_main_v0_2 (F := Ideal) g) (addf (val_main_call0_v6 (F := Ideal)) (mulf g (subf (val_main_call0_v6 (F := Ideal)) (val_main_v0_2 (F := Ideal) g)))))

theorem V_v14 : V (F := Ideal) m c main_v14 = (m ((c : Thread nD τ).loc main_arg3) : FVec Ideal S2048x2048 .f32) := by
  unfold_abbrev_sides
  after_reads_simp
  rfl

theorem V_v16 : V (F := Ideal) m c main_v16 = rowSlabs (m ((c : Thread nD τ).loc main_arg2)) := by
  unfold_abbrev_sides
  after_reads_simp
  rfl

theorem V_v18 : V (F := Ideal) m c main_v18 = slabs (dGate (m ((c : Thread nD τ).loc main_arg0)) (m ((c : Thread nD τ).loc main_arg1))) := by
  unfold_abbrev_sides
  after_reads_simp
  rfl

theorem V_v20 : V (F := Ideal) m c main_v20 = slabs (val_main_v0_0 (F := Ideal) (m ((c : Thread nD τ).loc main_arg0))) := by
  unfold_abbrev_sides
  after_reads_simp
  rfl

theorem window0_at (t : Fin cfg0.N) (r : Fin 1024) (d : Fin 2048) : (iblk m c 0 t : FVec Ideal S1024x2048 .bf16) (ix2 r d) = V m c main_v14 (ix2 (rowAt t r) d) := by
  blk_ext [iblk, (index_at t).1]

theorem window1_at (t : Fin cfg0.N) (f : Fin 704) (d : Fin 2048) : (iblk m c 1 t : FVec Ideal S1x704x2048 .bf16) (ix3 (0 : Fin 1) f d)
    = V m c main_v16 (ix3 (slabAt t) f d) := by
  blk_ext [iblk, (index_at t).2.1]

theorem window2_at (t : Fin cfg0.N) (r : Fin 1024) (f : Fin 704) : (iblk m c 2 t : FVec Ideal S1x1024x704 .f32) (ix3 (0 : Fin 1) r f)
    = V m c main_v18 (ix3 (slabAt t) (rowAt t r) f) := by
  blk_ext [iblk, (index_at t).2.2.1]

theorem window3_at (t : Fin cfg0.N) (r : Fin 1024) (f : Fin 704) : (iblk m c 3 t : FVec Ideal S1x1024x704 .f32) (ix3 (0 : Fin 1) r f)
    = V m c main_v20 (ix3 (slabAt t) (rowAt t r) f) := by
  blk_ext [iblk, (index_at t).2.2.2.1]

/-- An entry of the product of the cotangent's rows and a slab of the weights. -/
def dact (x : FVec Ideal S1024x2048 .bf16) (w : FVec Ideal S1x704x2048 .bf16) (r : Fin 1024) (f : Fin 704) : EReal :=
  ∑ d : Fin 2048, x (ix2 r d) * w (ix3 (0 : Fin 1) f d)

/-- The kernel's two blocks. -/
theorem pay2_at (x : FVec Ideal S1024x2048 .bf16) (w : FVec Ideal S1x704x2048 .bf16) (p : FVec Ideal S1x1024x704 .f32) (r : Fin 1024) (f : Fin 704) :
    k0_pay2 (F := Ideal) x w p (ix3 (0 : Fin 1) r f) = dact x w r f * p (ix3 (0 : Fin 1) r f) := by
  pointwise [dact, k0_pay2, k0_pay1, dot_S1024x2048_S704x2048_S1024x704_1_1_0_0_n_n]

theorem pay3_at (x : FVec Ideal S1024x2048 .bf16) (w : FVec Ideal S1x704x2048 .bf16) (p : FVec Ideal S1x1024x704 .f32) (r : Fin 1024) (f : Fin 704) :
    k0_pay3 (F := Ideal) x w p (ix3 (0 : Fin 1) r f) = dact x w r f * p (ix3 (0 : Fin 1) r f) := by
  pointwise [dact, k0_pay3, k0_pay1, dot_S1024x2048_S704x2048_S1024x704_1_1_0_0_n_n]

/-- The reference's product of the cotangent and the weights. -/
theorem v3_at (w : FVec Ideal S5632x2048 .f32) (x : FVec Ideal S2048x2048 .f32) (r : Fin 2048) (k : Fin 5632) :
    val_main_v3 (F := Ideal) w x (ix2 r k) = ∑ d : Fin 2048, x (ix2 r d) * w (ix2 k d) := by
  pointwise [val_main_v3, Reference2Ideal.dot_S2048x2048_S5632x2048_S2048x5632_1_1_0_0_n_n]

theorem v12_at (g : FVec Ideal S2048x5632 .f32) (w : FVec Ideal S5632x2048 .f32) (x : FVec Ideal S2048x2048 .f32) (s : Fin 8) (r : Fin 2048) (f : Fin 704) :
    val_main_v12 (F := Ideal) g w x (ix3 s r f)
      = val_main_v0_0 (F := Ideal) g (ix2 r (⟨s.val * 704 + f.val, by omega⟩ : Fin 5632)) * val_main_v3 (F := Ideal) w x (ix2 r (⟨s.val * 704 + f.val, by omega⟩ : Fin 5632)) := by
  pointwise [val_main_v12, val_main_v11, val_main_v10, val_main_v4]

theorem v9_at (g u : FVec Ideal S2048x5632 .f32) (w : FVec Ideal S5632x2048 .f32) (x : FVec Ideal S2048x2048 .f32) (s : Fin 8) (r : Fin 2048) (f : Fin 704) :
    val_main_v9 (F := Ideal) g u w x (ix3 s r f) = val_main_v6 (F := Ideal) g u w x (ix2 r (⟨s.val * 704 + f.val, by omega⟩ : Fin 5632)) := by
  pointwise [val_main_v9, val_main_v8, val_main_v7]

/-- The four arguments are of real numbers. -/
structure Reals (g u : FVec Ideal S2048x5632 .f32) (w : FVec Ideal S5632x2048 .f32) (x : FVec Ideal S2048x2048 .f32) : Prop where
  g : ∀ i, ∃ r : ℝ, g i = r
  u : ∀ i, ∃ r : ℝ, u i = r
  w : ∀ i, ∃ r : ℝ, w i = r
  x : ∀ i, ∃ r : ℝ, x i = r

/-- A logistic value of a real number is real. -/
theorem sigmoid_real (g : FVec Ideal S2048x5632 .f32) (hg : ∀ i, ∃ r : ℝ, g i = r) (r : Fin 2048) (k : Fin 5632) : ∃ s : ℝ, val_main_v0_2 (F := Ideal) g (ix2 r k) = s := by
  obtain ⟨a, ha⟩ := hg (ix2 r k)
  refine ⟨1 / (1 + Real.exp (-a)), ?_⟩
  pointwise [val_main_v0_2, val_main_call0_v4, val_main_call0_v3, val_main_call0_v2, val_main_call0_v1, val_main_call0_v0, val_main_call0_cst, val_main_call0_cst_0,
    ha, Attention.ofBits_one]
  rw [← EReal.coe_neg, Attention.exp_coe, ← EReal.coe_add, Attention.div_coe_coe (by positivity)]

/-- A product of real matrices is real. -/
theorem product_real (w : FVec Ideal S5632x2048 .f32) (x : FVec Ideal S2048x2048 .f32) (hw : ∀ i, ∃ r : ℝ, w i = r) (hx : ∀ i, ∃ r : ℝ, x i = r)
    (r : Fin 2048) (k : Fin 5632) : ∃ s : ℝ, val_main_v3 (F := Ideal) w x (ix2 r k) = s := by
  choose a ha using hw
  choose b hb using hx
  refine ⟨∑ d : Fin 2048, b (ix2 r d) * a (ix2 k d), ?_⟩
  rw [v3_at, ← Attention.coe_sum]
  refine sum_congr rfl fun d _ => ?_
  rw [ha, hb, EReal.coe_mul]

/-- The derivative of the gate, of real arguments: the kernel's saved factor is the reference's sum of two terms. -/
theorem gate_at {g u : FVec Ideal S2048x5632 .f32} {w : FVec Ideal S5632x2048 .f32} {x : FVec Ideal S2048x2048 .f32} (H : Reals g u w x) (r : Fin 2048) (k : Fin 5632) :
    val_main_v3 (F := Ideal) w x (ix2 r k) * dGate g u (ix2 r k) = val_main_v6 (F := Ideal) g u w x (ix2 r k) := by
  obtain ⟨a, ha⟩ := H.g (ix2 r k)
  obtain ⟨b, hb⟩ := H.u (ix2 r k)
  obtain ⟨s, hs⟩ := sigmoid_real g H.g r k
  obtain ⟨p, hp⟩ := product_real w x H.w H.x r k
  pointwise [dGate, val_main_v6, val_main_call1_v2, val_main_call1_v1, val_main_call1_v0, val_main_v5, val_main_v0_1, val_main_call0_v7, val_main_call0_v6, val_main_call0_cst_1,
    ha, hb, hs, hp, Attention.ofBits_one]
  simp only [← EReal.coe_mul, ← EReal.coe_add, ← EReal.coe_sub]
  congr 1
  ring

/-- What the kernel leaves in a block. -/
theorem out5_eq (x0 : FVec Ideal S1024x2048 .bf16) (x1 : FVec Ideal S1x704x2048 .bf16) (x2 x3 : FVec Ideal S1x1024x704 .f32) (x4 : FVec Ideal S8x128 .f32) :
    out0_5 (F := Ideal) x0 x1 x2 x3 x4 = k0_pay2 (F := Ideal) x0 x1 x2 := by
  unfold out0_5
  rw [View.canon_unit_zero (funext fun a => by fin_cases a <;> rfl), View.ld_unit_zero (funext fun a => by fin_cases a <;> rfl),
    View.ld_unit_zero (funext fun a => by fin_cases a <;> rfl), View.ld_unit_zero (funext fun a => by fin_cases a <;> rfl)]

theorem out6_eq (x0 : FVec Ideal S1024x2048 .bf16) (x1 : FVec Ideal S1x704x2048 .bf16) (x2 x3 : FVec Ideal S1x1024x704 .f32) (x4 : FVec Ideal S8x128 .f32) :
    out0_6 (F := Ideal) x0 x1 x2 x3 x4 = k0_pay3 (F := Ideal) x0 x1 x3 := by
  unfold out0_6
  rw [View.canon_unit_zero (funext fun a => by fin_cases a <;> rfl), View.ld_unit_zero (funext fun a => by fin_cases a <;> rfl),
    View.ld_unit_zero (funext fun a => by fin_cases a <;> rfl), View.ld_unit_zero (funext fun a => by fin_cases a <;> rfl)]

/-- A block of a result. -/
theorem read5 (X : FVec Ideal S8x2048x704 .bf16) (t : Fin cfg0.N) (r : Fin 1024) (f : Fin 704) :
    (((cfg0.win 5).blk t).view.read (Elt Ideal) X : FVec Ideal S1x1024x704 .bf16) (ix3 (0 : Fin 1) r f) = X (ix3 (slabAt t) (rowAt t r) f) := by
  blk_ext [(index_at t).2.2.2.2.1]

theorem read6 (X : FVec Ideal S8x2048x704 .bf16) (t : Fin cfg0.N) (r : Fin 1024) (f : Fin 704) :
    (((cfg0.win 6).blk t).view.read (Elt Ideal) X : FVec Ideal S1x1024x704 .bf16) (ix3 (0 : Fin 1) r f) = X (ix3 (slabAt t) (rowAt t r) f) := by
  blk_ext [(index_at t).2.2.2.2.2]

theorem mem5 (t : Fin cfg0.N) (i : S8x2048x704.Idx) (h : t.val = 8 * ((i 1).val / 1024) + (i 0).val) : i ∈ ((cfg0.win 5).blk t).view.set := by
  show i ∈ ((View.whole main_v22_0).slice (win0_5.rect t)).set
  rw [View.set_slice_whole, Rect.mem_set_unit]
  have h0 : (i 0).val < 8 := (i 0).isLt
  have h1 : (i 1).val < 2048 := (i 1).isLt
  have h2 : (i 2).val < 704 := (i 2).isLt
  intro a
  match a with
  | ⟨0, _⟩ =>
    show win0_5.index t (0 : Fin 3) * 1 ≤ (i 0).val ∧ (i 0).val < win0_5.index t (0 : Fin 3) * 1 + 1
    rw [(index_at t).2.2.2.2.1]; show t.val % 8 * 1 ≤ _ ∧ _ < t.val % 8 * 1 + 1; omega
  | ⟨1, _⟩ =>
    show win0_5.index t (1 : Fin 3) * 1024 ≤ (i 1).val ∧ (i 1).val < win0_5.index t (1 : Fin 3) * 1024 + 1024
    rw [(index_at t).2.2.2.2.1]; show t.val / 8 * 1024 ≤ _ ∧ _ < t.val / 8 * 1024 + 1024; omega
  | ⟨2, _⟩ =>
    show win0_5.index t (2 : Fin 3) * 704 ≤ (i 2).val ∧ (i 2).val < win0_5.index t (2 : Fin 3) * 704 + 704
    rw [(index_at t).2.2.2.2.1]; show 0 * 704 ≤ _ ∧ _ < 0 * 704 + 704; omega

theorem mem6 (t : Fin cfg0.N) (i : S8x2048x704.Idx) (h : t.val = 8 * ((i 1).val / 1024) + (i 0).val) : i ∈ ((cfg0.win 6).blk t).view.set := by
  show i ∈ ((View.whole main_v22_1).slice (win0_6.rect t)).set
  rw [View.set_slice_whole, Rect.mem_set_unit]
  have h0 : (i 0).val < 8 := (i 0).isLt
  have h1 : (i 1).val < 2048 := (i 1).isLt
  have h2 : (i 2).val < 704 := (i 2).isLt
  intro a
  match a with
  | ⟨0, _⟩ =>
    show win0_6.index t (0 : Fin 3) * 1 ≤ (i 0).val ∧ (i 0).val < win0_6.index t (0 : Fin 3) * 1 + 1
    rw [(index_at t).2.2.2.2.2]; show t.val % 8 * 1 ≤ _ ∧ _ < t.val % 8 * 1 + 1; omega
  | ⟨1, _⟩ =>
    show win0_6.index t (1 : Fin 3) * 1024 ≤ (i 1).val ∧ (i 1).val < win0_6.index t (1 : Fin 3) * 1024 + 1024
    rw [(index_at t).2.2.2.2.2]; show t.val / 8 * 1024 ≤ _ ∧ _ < t.val / 8 * 1024 + 1024; omega
  | ⟨2, _⟩ =>
    show win0_6.index t (2 : Fin 3) * 704 ≤ (i 2).val ∧ (i 2).val < win0_6.index t (2 : Fin 3) * 704 + 704
    rw [(index_at t).2.2.2.2.2]; show 0 * 704 ≤ _ ∧ _ < 0 * 704 + 704; omega

/-- The product of the windows is the reference's. -/
theorem product_at (t : Fin cfg0.N) (r : Fin 1024) (f : Fin 704) :
    dact (iblk m c 0 t) (iblk m c 1 t) r f
      = val_main_v3 (F := Ideal) (m ((c : Thread nD τ).loc main_arg2)) (m ((c : Thread nD τ).loc main_arg3)) (ix2 (rowAt t r) (⟨(slabAt t).val * 704 + f.val, by have := (slabAt t).isLt; omega⟩ : Fin 5632)) := by
  rw [v3_at]
  unfold dact
  refine sum_congr rfl fun d _ => ?_
  rw [window0_at, window1_at, V_v14, V_v16, rowSlabs_at]

theorem point6 (t : Fin cfg0.N) (r : Fin 1024) (f : Fin 704) :
    k0_pay3 (F := Ideal) (iblk m c 0 t) (iblk m c 1 t) (iblk m c 3 t) (ix3 (0 : Fin 1) r f) = (((cfg0.win 6).blk t).view.read (Elt Ideal)
    (val_main_v12 (F := Ideal) (m ((c : Thread nD τ).loc main_arg0)) (m ((c : Thread nD τ).loc main_arg2)) (m ((c : Thread nD τ).loc main_arg3))) : FVec Ideal S1x1024x704 .bf16) (ix3 (0 : Fin 1) r f) := by
  rw [read6, pay3_at, v12_at, product_at, window3_at, V_v20, slabs_at, mul_comm]

theorem block6 (t : Fin cfg0.N) : (dats m 0 c).flushed 6 t = ((cfg0.win 6).blk t).view.read (Elt Ideal)
    (val_main_v12 (F := Ideal) (m ((c : Thread nD τ).loc main_arg0)) (m ((c : Thread nD τ).loc main_arg2)) (m ((c : Thread nD τ).loc main_arg3))) := by
  rw [Value.flushed6, out6_eq]
  funext y
  obtain ⟨r, f, rfl⟩ : ∃ (r : Fin 1024) (f : Fin 704), y = ix3 (0 : Fin 1) r f := ⟨y 1, y 2, by
    funext a
    match a with
    | ⟨0, _⟩ => exact Subsingleton.elim (α := Fin 1) _ _
    | ⟨1, _⟩ => rfl
    | ⟨2, _⟩ => rfl⟩
  exact point6 m c t r f

/-- The gradient of the up product. -/
theorem result_up : (dats m 0 c).arrAt 6 cfg0.N
    = val_main_v12 (F := Ideal) (m ((c : Thread nD τ).loc main_arg0)) (m ((c : Thread nD τ).loc main_arg2)) (m ((c : Thread nD τ).loc main_arg3)) :=
  (dats m 0 c).arrAt_eq_of_cover 6 _ (fun t _ => block6 m c t) (fun i =>
    have h0 : (i 0).val < 8 := (i 0).isLt
    have h1 : (i 1).val < 2048 := (i 1).isLt
    ⟨⟨8 * ((i 1).val / 1024) + (i 0).val, by rw [N_eq]; omega⟩, (flush_at _).2, mem6 _ i rfl⟩)

variable (H : Reals (m ((c : Thread nD τ).loc main_arg0)) (m ((c : Thread nD τ).loc main_arg1)) (m ((c : Thread nD τ).loc main_arg2)) (m ((c : Thread nD τ).loc main_arg3)))
include H

theorem point5 (t : Fin cfg0.N) (r : Fin 1024) (f : Fin 704) :
    k0_pay2 (F := Ideal) (iblk m c 0 t) (iblk m c 1 t) (iblk m c 2 t) (ix3 (0 : Fin 1) r f) = (((cfg0.win 5).blk t).view.read (Elt Ideal)
    (val_main_v9 (F := Ideal) (m ((c : Thread nD τ).loc main_arg0)) (m ((c : Thread nD τ).loc main_arg1)) (m ((c : Thread nD τ).loc main_arg2)) (m ((c : Thread nD τ).loc main_arg3))) : FVec Ideal S1x1024x704 .bf16) (ix3 (0 : Fin 1) r f) := by
  rw [read5, pay2_at, v9_at, product_at, window2_at, V_v18, slabs_at, gate_at H]

theorem block5 (t : Fin cfg0.N) : (dats m 0 c).flushed 5 t = ((cfg0.win 5).blk t).view.read (Elt Ideal)
    (val_main_v9 (F := Ideal) (m ((c : Thread nD τ).loc main_arg0)) (m ((c : Thread nD τ).loc main_arg1)) (m ((c : Thread nD τ).loc main_arg2)) (m ((c : Thread nD τ).loc main_arg3))) := by
  rw [Value.flushed5, out5_eq]
  funext y
  obtain ⟨r, f, rfl⟩ : ∃ (r : Fin 1024) (f : Fin 704), y = ix3 (0 : Fin 1) r f := ⟨y 1, y 2, by
    funext a
    match a with
    | ⟨0, _⟩ => exact Subsingleton.elim (α := Fin 1) _ _
    | ⟨1, _⟩ => rfl
    | ⟨2, _⟩ => rfl⟩
  exact point5 m c H t r f

/-- The gradient of the gate's product. -/
theorem result_gate : (dats m 0 c).arrAt 5 cfg0.N
    = val_main_v9 (F := Ideal) (m ((c : Thread nD τ).loc main_arg0)) (m ((c : Thread nD τ).loc main_arg1)) (m ((c : Thread nD τ).loc main_arg2)) (m ((c : Thread nD τ).loc main_arg3)) :=
  (dats m 0 c).arrAt_eq_of_cover 5 _ (fun t _ => block5 m c H t) (fun i =>
    have h0 : (i 0).val < 8 := (i 0).isLt
    have h1 : (i 1).val < 2048 := (i 1).isLt
    ⟨⟨8 * ((i 1).val / 1024) + (i 0).val, by rw [N_eq]; omega⟩, (flush_at _).1, mem5 _ i rfl⟩)

end Cert.Kernel2Ideal

end
-- ==== Proof.Finite2.lean ====
module

public import proofs.«01_k».proof.Pre_finite2
public import proofs.«01_k».proof.Proof.Finite
public import proofs.«01_k».proof.Proof.DownGrad

/-!
# The precondition of the gradients through the down product

The predicate says that every number of the four arguments is below infinity.
-/

@[expose] public section

noncomputable section

namespace Cert.Attention

open Idealize.ShloMosaic Idealize.SL.Sem

/-- The precondition: the four arguments are of real numbers. -/
theorem reals_of_pre2 [Pre_finite2.Facts] (x0 x1 : FVec Ideal Pre_finite2.S2048x5632 .f32) (x2 : FVec Ideal Pre_finite2.S5632x2048 .f32)
    (x3 : FVec Ideal Pre_finite2.S2048x2048 .f32)
    (h : Pre_finite2.fn (F := Ideal) x0 x1 x2 x3 = fun _ => 1#1) : Kernel2Ideal.Reals x0 x1 x2 x3 := by
  have e := congrFun h (fun k => k.elim0)
  obtain ⟨e, e3⟩ := IntOp.andi_eq_one.1 e
  obtain ⟨e, e2⟩ := IntOp.andi_eq_one.1 e
  obtain ⟨e0, e1⟩ := IntOp.andi_eq_one.1 e
  exact ⟨reals_of_all x0 _ _ _ _ e0, reals_of_all x1 _ _ _ _ e1, reals_of_all x2 _ _ _ _ e2, reals_of_all x3 _ _ _ _ e3⟩

end Cert.Attention

end
-- ==== Proof.UpWeights.lean ====
module

public import proofs.«01_k».proof.Proof.Gen.Kernel3Ideal.Value
public import proofs.«01_k».proof.Proof.Gen.Reference3Ideal.Read
public import Idealize.ShloMosaic.Lib.Pipeline.ValueKit.Point
public import Idealize.ShloMosaic.Lib.StableHlo.ReadAt

/-!
# The gradients of the gate's and the up product's weights

At point `t` the kernel multiplies the columns `704 t, …, 704 t + 703` of a cotangent, transposed, by the layer's input.
-/

@[expose] public section

set_option maxRecDepth 16384

noncomputable section

namespace Cert.Kernel3Ideal

open Idealize.ShloMosaic Idealize.ShloMosaic.TcCoe Idealize.SL.Sem Gen Finset

/-- The blocks that the windows read at a point. -/
theorem index_at (t : Fin cfg0.N) : win0_0.index t = ![t.val, 0, 0] ∧ win0_1.index t = ![t.val, 0, 0] ∧ win0_2.index t = ![0, 0]
    ∧ win0_3.index t = ![t.val, 0, 0] ∧ win0_4.index t = ![t.val, 0, 0] := by
  revert t
  decide +kernel

theorem N_eq : cfg0.N = 8 := by decide +kernel

theorem flush_at (t : Fin cfg0.N) : (cfg0.win 3).flush t = true ∧ (cfg0.win 4).flush t = true := by
  revert t
  decide +kernel

variable (m : (ℓ : Loc nD τ sig) → Buf (Elt Ideal) ℓ) (c : Dev nD)

/-- A matrix cut into eight slabs of 704 columns. -/
def slabs (x : FVec Ideal S2048x5632 .f32) : FVec Ideal S8x2048x704 .bf16 :=
  truncf .bf16 (transpose S8x2048x704 [1, 0, 2] (shapeCast S2048x8x704 x shapeCasts_S2048x5632_S2048x8x704) transposes_S2048x8x704_S8x2048x704_1_0_2) bitsLt_bf16_f32

theorem slabs_at (x : FVec Ideal S2048x5632 .f32) (s : Fin 8) (r : Fin 2048) (f : Fin 704) :
    slabs x (ix3 s r f) = x (ix2 r (⟨s.val * 704 + f.val, by omega⟩ : Fin 5632)) := by
  pointwise [slabs]

theorem V_v2 : V (F := Ideal) m c main_v2 = slabs (m ((c : Thread nD τ).loc main_arg0)) := by
  unfold_abbrev_sides
  after_reads_simp
  rfl

theorem V_v5 : V (F := Ideal) m c main_v5 = slabs (m ((c : Thread nD τ).loc main_arg1)) := by
  unfold_abbrev_sides
  after_reads_simp
  rfl

theorem V_v6 : V (F := Ideal) m c main_v6 = (m ((c : Thread nD τ).loc main_arg2) : FVec Ideal S2048x2048 .f32) := by
  unfold_abbrev_sides
  after_reads_simp
  rfl

theorem window0_at (t : Fin cfg0.N) (r : Fin 2048) (f : Fin 704) : (iblk m c 0 t : FVec Ideal S1x2048x704 .bf16) (ix3 (0 : Fin 1) r f)
    = V m c main_v2 (ix3 (⟨t.val, by have ht : t.val < 8 := N_eq ▸ t.isLt; omega⟩ : Fin 8) r f) := by
  blk_ext [iblk, (index_at t).1]

theorem window1_at (t : Fin cfg0.N) (r : Fin 2048) (f : Fin 704) : (iblk m c 1 t : FVec Ideal S1x2048x704 .bf16) (ix3 (0 : Fin 1) r f)
    = V m c main_v5 (ix3 (⟨t.val, by have ht : t.val < 8 := N_eq ▸ t.isLt; omega⟩ : Fin 8) r f) := by
  blk_ext [iblk, (index_at t).2.1]

theorem window2_at (t : Fin cfg0.N) (r d : Fin 2048) : (iblk m c 2 t : FVec Ideal S2048x2048 .bf16) (ix2 r d) = V m c main_v6 (ix2 r d) := by
  blk_ext [iblk, (index_at t).2.2.1]

/-- The kernel's product of a slab and the layer's input. -/
theorem pay1_at (x : FVec Ideal S1x2048x704 .bf16) (h : FVec Ideal S2048x2048 .bf16) (f : Fin 704) (d : Fin 2048) :
    k0_pay1 x h (ix3 (0 : Fin 1) f d) = ∑ r : Fin 2048, x (ix3 (0 : Fin 1) r f) * h (ix2 r d) := by
  pointwise [k0_pay1, dot_S2048x704_S2048x2048_S704x2048_0_0_1_1_n_n]

theorem pay2_at (x : FVec Ideal S1x2048x704 .bf16) (h : FVec Ideal S2048x2048 .bf16) (f : Fin 704) (d : Fin 2048) :
    k0_pay2 x h (ix3 (0 : Fin 1) f d) = ∑ r : Fin 2048, x (ix3 (0 : Fin 1) r f) * h (ix2 r d) := by
  pointwise [k0_pay2, dot_S2048x704_S2048x2048_S704x2048_0_0_1_1_n_n]

/-- The reference's weight gradients. -/
theorem v9_at (x : FVec Ideal S2048x5632 .f32) (h : FVec Ideal S2048x2048 .f32) (s : Fin 8) (f : Fin 704) (d : Fin 2048) :
    Reference3Ideal.Read.val_main_v9 (F := Ideal) x h (ix3 s f d) = ∑ r : Fin 2048, x (ix2 r (⟨s.val * 704 + f.val, by omega⟩ : Fin 5632)) * h (ix2 r d) := by
  pointwise [Reference3Ideal.Read.val_main_v9, Reference3Ideal.Read.val_main_v8, Reference3Ideal.Read.val_main_v7, Reference3Ideal.Read.val_main_v6,
    Reference3Ideal.Read.val_main_v5, Reference3Ideal.dot_S2048x5632_S2048x2048_S5632x2048_0_0_1_1_n_n]

theorem v12_at (x : FVec Ideal S2048x5632 .f32) (h : FVec Ideal S2048x2048 .f32) (s : Fin 8) (f : Fin 704) (d : Fin 2048) :
    Reference3Ideal.Read.val_main_v12 (F := Ideal) x h (ix3 s f d) = ∑ r : Fin 2048, x (ix2 r (⟨s.val * 704 + f.val, by omega⟩ : Fin 5632)) * h (ix2 r d) := by
  pointwise [Reference3Ideal.Read.val_main_v12, Reference3Ideal.Read.val_main_v11, Reference3Ideal.Read.val_main_v10, Reference3Ideal.Read.val_main_v4,
    Reference3Ideal.Read.val_main_v3, Reference3Ideal.dot_S2048x5632_S2048x2048_S5632x2048_0_0_1_1_n_n]

/-- What the kernel leaves in a block. -/
theorem out3_eq (x0 x1 : FVec Ideal S1x2048x704 .bf16) (x2 : FVec Ideal S2048x2048 .bf16) : out0_3 (F := Ideal) x0 x1 x2 = k0_pay1 (F := Ideal) x0 x2 := by
  unfold out0_3
  rw [View.canon_unit_zero (funext fun a => by fin_cases a <;> rfl), View.ld_unit_zero (funext fun a => by fin_cases a <;> rfl),
    View.ld_unit_zero (funext fun a => by fin_cases a <;> rfl)]

theorem out4_eq (x0 x1 : FVec Ideal S1x2048x704 .bf16) (x2 : FVec Ideal S2048x2048 .bf16) : out0_4 (F := Ideal) x0 x1 x2 = k0_pay2 (F := Ideal) x1 x2 := by
  unfold out0_4
  rw [View.canon_unit_zero (funext fun a => by fin_cases a <;> rfl), View.ld_unit_zero (funext fun a => by fin_cases a <;> rfl),
    View.ld_unit_zero (funext fun a => by fin_cases a <;> rfl)]

/-- A block of a result. -/
theorem read3 (X : FVec Ideal S8x704x2048 .bf16) (t : Fin cfg0.N) (f : Fin 704) (d : Fin 2048) :
    (((cfg0.win 3).blk t).view.read (Elt Ideal) X : FVec Ideal S1x704x2048 .bf16) (ix3 (0 : Fin 1) f d)
      = X (ix3 (⟨t.val, by have ht : t.val < 8 := N_eq ▸ t.isLt; omega⟩ : Fin 8) f d) := by
  blk_ext [(index_at t).2.2.2.1]

theorem read4 (X : FVec Ideal S8x704x2048 .bf16) (t : Fin cfg0.N) (f : Fin 704) (d : Fin 2048) :
    (((cfg0.win 4).blk t).view.read (Elt Ideal) X : FVec Ideal S1x704x2048 .bf16) (ix3 (0 : Fin 1) f d)
      = X (ix3 (⟨t.val, by have ht : t.val < 8 := N_eq ▸ t.isLt; omega⟩ : Fin 8) f d) := by
  blk_ext [(index_at t).2.2.2.2]

theorem mem3 (t : Fin cfg0.N) (i : S8x704x2048.Idx) (h : (i 0).val = t.val) : i ∈ ((cfg0.win 3).blk t).view.set := by
  show i ∈ ((View.whole main_v7_0).slice (win0_3.rect t)).set
  rw [View.set_slice_whole, Rect.mem_set_unit]
  have h1 : (i 1).val < 704 := (i 1).isLt
  have h2 : (i 2).val < 2048 := (i 2).isLt
  intro a
  match a with
  | ⟨0, _⟩ =>
    show win0_3.index t (0 : Fin 3) * 1 ≤ (i 0).val ∧ (i 0).val < win0_3.index t (0 : Fin 3) * 1 + 1
    rw [(index_at t).2.2.2.1]; show t.val * 1 ≤ _ ∧ _ < t.val * 1 + 1; omega
  | ⟨1, _⟩ =>
    show win0_3.index t (1 : Fin 3) * 704 ≤ (i 1).val ∧ (i 1).val < win0_3.index t (1 : Fin 3) * 704 + 704
    rw [(index_at t).2.2.2.1]; show 0 * 704 ≤ _ ∧ _ < 0 * 704 + 704; omega
  | ⟨2, _⟩ =>
    show win0_3.index t (2 : Fin 3) * 2048 ≤ (i 2).val ∧ (i 2).val < win0_3.index t (2 : Fin 3) * 2048 + 2048
    rw [(index_at t).2.2.2.1]; show 0 * 2048 ≤ _ ∧ _ < 0 * 2048 + 2048; omega

theorem mem4 (t : Fin cfg0.N) (i : S8x704x2048.Idx) (h : (i 0).val = t.val) : i ∈ ((cfg0.win 4).blk t).view.set := by
  show i ∈ ((View.whole main_v7_1).slice (win0_4.rect t)).set
  rw [View.set_slice_whole, Rect.mem_set_unit]
  have h1 : (i 1).val < 704 := (i 1).isLt
  have h2 : (i 2).val < 2048 := (i 2).isLt
  intro a
  match a with
  | ⟨0, _⟩ =>
    show win0_4.index t (0 : Fin 3) * 1 ≤ (i 0).val ∧ (i 0).val < win0_4.index t (0 : Fin 3) * 1 + 1
    rw [(index_at t).2.2.2.2]; show t.val * 1 ≤ _ ∧ _ < t.val * 1 + 1; omega
  | ⟨1, _⟩ =>
    show win0_4.index t (1 : Fin 3) * 704 ≤ (i 1).val ∧ (i 1).val < win0_4.index t (1 : Fin 3) * 704 + 704
    rw [(index_at t).2.2.2.2]; show 0 * 704 ≤ _ ∧ _ < 0 * 704 + 704; omega
  | ⟨2, _⟩ =>
    show win0_4.index t (2 : Fin 3) * 2048 ≤ (i 2).val ∧ (i 2).val < win0_4.index t (2 : Fin 3) * 2048 + 2048
    rw [(index_at t).2.2.2.2]; show 0 * 2048 ≤ _ ∧ _ < 0 * 2048 + 2048; omega

theorem point3 (t : Fin cfg0.N) (f : Fin 704) (d : Fin 2048) :
    k0_pay1 (F := Ideal) (iblk m c 0 t) (iblk m c 2 t) (ix3 (0 : Fin 1) f d) = (((cfg0.win 3).blk t).view.read (Elt Ideal)
    (Reference3Ideal.Read.val_main_v9 (F := Ideal) (m ((c : Thread nD τ).loc main_arg0)) (m ((c : Thread nD τ).loc main_arg2))) : FVec Ideal S1x704x2048 .bf16) (ix3 (0 : Fin 1) f d) := by
  rw [read3, pay1_at, v9_at]
  refine sum_congr rfl fun r _ => ?_
  rw [window0_at, window2_at, V_v2, V_v6, slabs_at]

theorem block3 (t : Fin cfg0.N) : (dats m 0 c).flushed 3 t = ((cfg0.win 3).blk t).view.read (Elt Ideal)
    (Reference3Ideal.Read.val_main_v9 (F := Ideal) (m ((c : Thread nD τ).loc main_arg0)) (m ((c : Thread nD τ).loc main_arg2))) := by
  rw [Value.flushed3, out3_eq]
  funext y
  obtain ⟨f, d, rfl⟩ : ∃ (f : Fin 704) (d : Fin 2048), y = ix3 (0 : Fin 1) f d := ⟨y 1, y 2, by
    funext a
    match a with
    | ⟨0, _⟩ => exact Subsingleton.elim (α := Fin 1) _ _
    | ⟨1, _⟩ => rfl
    | ⟨2, _⟩ => rfl⟩
  exact point3 m c t f d

theorem point4 (t : Fin cfg0.N) (f : Fin 704) (d : Fin 2048) :
    k0_pay2 (F := Ideal) (iblk m c 1 t) (iblk m c 2 t) (ix3 (0 : Fin 1) f d) = (((cfg0.win 4).blk t).view.read (Elt Ideal)
    (Reference3Ideal.Read.val_main_v12 (F := Ideal) (m ((c : Thread nD τ).loc main_arg1)) (m ((c : Thread nD τ).loc main_arg2))) : FVec Ideal S1x704x2048 .bf16) (ix3 (0 : Fin 1) f d) := by
  rw [read4, pay2_at, v12_at]
  refine sum_congr rfl fun r _ => ?_
  rw [window1_at, window2_at, V_v5, V_v6, slabs_at]

theorem block4 (t : Fin cfg0.N) : (dats m 0 c).flushed 4 t = ((cfg0.win 4).blk t).view.read (Elt Ideal)
    (Reference3Ideal.Read.val_main_v12 (F := Ideal) (m ((c : Thread nD τ).loc main_arg1)) (m ((c : Thread nD τ).loc main_arg2))) := by
  rw [Value.flushed4, out4_eq]
  funext y
  obtain ⟨f, d, rfl⟩ : ∃ (f : Fin 704) (d : Fin 2048), y = ix3 (0 : Fin 1) f d := ⟨y 1, y 2, by
    funext a
    match a with
    | ⟨0, _⟩ => exact Subsingleton.elim (α := Fin 1) _ _
    | ⟨1, _⟩ => rfl
    | ⟨2, _⟩ => rfl⟩
  exact point4 m c t f d

/-- The gradient of the gate's weights. -/
theorem result_gate : (dats m 0 c).arrAt 3 cfg0.N
    = Reference3Ideal.Read.val_main_v9 (F := Ideal) (m ((c : Thread nD τ).loc main_arg0)) (m ((c : Thread nD τ).loc main_arg2)) :=
  (dats m 0 c).arrAt_eq_of_cover 3 _ (fun t _ => block3 m c t) (fun i =>
    ⟨⟨(i 0).val, by rw [N_eq]; exact (i 0).isLt⟩, (flush_at _).1, mem3 _ i rfl⟩)

/-- The gradient of the up product's weights. -/
theorem result_up : (dats m 0 c).arrAt 4 cfg0.N
    = Reference3Ideal.Read.val_main_v12 (F := Ideal) (m ((c : Thread nD τ).loc main_arg1)) (m ((c : Thread nD τ).loc main_arg2)) :=
  (dats m 0 c).arrAt_eq_of_cover 4 _ (fun t _ => block4 m c t) (fun i =>
    ⟨⟨(i 0).val, by rw [N_eq]; exact (i 0).isLt⟩, (flush_at _).2, mem4 _ i rfl⟩)

end Cert.Kernel3Ideal

end
-- ==== Proof.DownWeights.lean ====
module

public import proofs.«01_k».proof.Proof.Gen.Kernel4Ideal.Value
public import proofs.«01_k».proof.Proof.Gen.Reference4Ideal.Read
public import Idealize.ShloMosaic.Lib.Pipeline.ValueKit.Point
public import Idealize.ShloMosaic.Lib.StableHlo.ReadAt

/-!
# The gradient of the down product's weights

At point `t` the kernel multiplies the columns `704 t, …, 704 t + 703` of the activations, transposed, by the layer's cotangent.
-/

@[expose] public section

set_option maxRecDepth 16384

noncomputable section

namespace Cert.Kernel4Ideal

open Idealize.ShloMosaic Idealize.ShloMosaic.TcCoe Idealize.SL.Sem Gen Finset

/-- The blocks that the windows read at a point. -/
theorem index_at (t : Fin cfg0.N) : win0_0.index t = ![t.val, 0, 0] ∧ win0_1.index t = ![0, 0] ∧ win0_2.index t = ![t.val, 0, 0] := by
  revert t
  decide +kernel

theorem N_eq : cfg0.N = 8 := by decide +kernel

theorem flush_at (t : Fin cfg0.N) : (cfg0.win 2).flush t = true := by
  revert t
  decide +kernel

variable (m : (ℓ : Loc nD τ sig) → Buf (Elt Ideal) ℓ) (c : Dev nD)

/-- A matrix cut into eight slabs of 704 columns. -/
def slabs (x : FVec Ideal S2048x5632 .f32) : FVec Ideal S8x2048x704 .bf16 :=
  truncf .bf16 (transpose S8x2048x704 [1, 0, 2] (shapeCast S2048x8x704 x shapeCasts_S2048x5632_S2048x8x704) transposes_S2048x8x704_S8x2048x704_1_0_2) bitsLt_bf16_f32

theorem slabs_at (x : FVec Ideal S2048x5632 .f32) (s : Fin 8) (r : Fin 2048) (f : Fin 704) :
    slabs x (ix3 s r f) = x (ix2 r (⟨s.val * 704 + f.val, by omega⟩ : Fin 5632)) := by
  pointwise [slabs]

/-- The activations that the host hands over are the reference's. -/
theorem V_v10 : V (F := Ideal) m c main_v10
    = slabs (Reference4Ideal.Read.val_main_v2 (F := Ideal) (m ((c : Thread nD τ).loc main_arg0)) (m ((c : Thread nD τ).loc main_arg1))) := by
  unfold_abbrev_sides
  after_reads_simp
  rfl

theorem V_v11 : V (F := Ideal) m c main_v11 = (m ((c : Thread nD τ).loc main_arg2) : FVec Ideal S2048x2048 .f32) := by
  unfold_abbrev_sides
  after_reads_simp
  rfl

theorem window0_at (t : Fin cfg0.N) (r : Fin 2048) (f : Fin 704) : (iblk m c 0 t : FVec Ideal S1x2048x704 .bf16) (ix3 (0 : Fin 1) r f)
    = V m c main_v10 (ix3 (⟨t.val, by have ht : t.val < 8 := N_eq ▸ t.isLt; omega⟩ : Fin 8) r f) := by
  blk_ext [iblk, (index_at t).1]

theorem window1_at (t : Fin cfg0.N) (r d : Fin 2048) : (iblk m c 1 t : FVec Ideal S2048x2048 .bf16) (ix2 r d) = V m c main_v11 (ix2 r d) := by
  blk_ext [iblk, (index_at t).2.1]

/-- The kernel's product of a slab and the layer's cotangent. -/
theorem pay1_at (x : FVec Ideal S1x2048x704 .bf16) (h : FVec Ideal S2048x2048 .bf16) (f : Fin 704) (d : Fin 2048) :
    k0_pay1 (F := Ideal) x h (ix3 (0 : Fin 1) f d) = ∑ r : Fin 2048, x (ix3 (0 : Fin 1) r f) * h (ix2 r d) := by
  pointwise [k0_pay1, dot_S2048x704_S2048x2048_S704x2048_0_0_1_1_n_n]

/-- The reference's weight gradient. -/
theorem v7_at (g u : FVec Ideal S2048x5632 .f32) (h : FVec Ideal S2048x2048 .f32) (s : Fin 8) (f : Fin 704) (d : Fin 2048) :
    Reference4Ideal.Read.val_main_v7 (F := Ideal) g u h (ix3 s f d)
      = ∑ r : Fin 2048, h (ix2 r d) * Reference4Ideal.Read.val_main_v2 (F := Ideal) g u (ix2 r (⟨s.val * 704 + f.val, by omega⟩ : Fin 5632)) := by
  pointwise [Reference4Ideal.Read.val_main_v7, Reference4Ideal.Read.val_main_v6, Reference4Ideal.Read.val_main_v5, Reference4Ideal.Read.val_main_v4,
    Reference4Ideal.dot_S2048x2048_S2048x5632_S2048x5632_0_0_1_1_n_n]

/-- What the kernel leaves in a block. -/
theorem out2_eq (x0 : FVec Ideal S1x2048x704 .bf16) (x1 : FVec Ideal S2048x2048 .bf16) : out0_2 (F := Ideal) x0 x1 = k0_pay1 (F := Ideal) x0 x1 := by
  unfold out0_2
  rw [View.canon_unit_zero (funext fun a => by fin_cases a <;> rfl), View.ld_unit_zero (funext fun a => by fin_cases a <;> rfl),
    View.ld_unit_zero (funext fun a => by fin_cases a <;> rfl)]

/-- A block of the result. -/
theorem read2 (X : FVec Ideal S8x704x2048 .bf16) (t : Fin cfg0.N) (f : Fin 704) (d : Fin 2048) :
    (((cfg0.win 2).blk t).view.read (Elt Ideal) X : FVec Ideal S1x704x2048 .bf16) (ix3 (0 : Fin 1) f d)
      = X (ix3 (⟨t.val, by have ht : t.val < 8 := N_eq ▸ t.isLt; omega⟩ : Fin 8) f d) := by
  blk_ext [(index_at t).2.2]

theorem mem2 (t : Fin cfg0.N) (i : S8x704x2048.Idx) (h : (i 0).val = t.val) : i ∈ ((cfg0.win 2).blk t).view.set := by
  show i ∈ ((View.whole main_v12).slice (win0_2.rect t)).set
  rw [View.set_slice_whole, Rect.mem_set_unit]
  have h1 : (i 1).val < 704 := (i 1).isLt
  have h2 : (i 2).val < 2048 := (i 2).isLt
  intro a
  match a with
  | ⟨0, _⟩ =>
    show win0_2.index t (0 : Fin 3) * 1 ≤ (i 0).val ∧ (i 0).val < win0_2.index t (0 : Fin 3) * 1 + 1
    rw [(index_at t).2.2]; show t.val * 1 ≤ _ ∧ _ < t.val * 1 + 1; omega
  | ⟨1, _⟩ =>
    show win0_2.index t (1 : Fin 3) * 704 ≤ (i 1).val ∧ (i 1).val < win0_2.index t (1 : Fin 3) * 704 + 704
    rw [(index_at t).2.2]; show 0 * 704 ≤ _ ∧ _ < 0 * 704 + 704; omega
  | ⟨2, _⟩ =>
    show win0_2.index t (2 : Fin 3) * 2048 ≤ (i 2).val ∧ (i 2).val < win0_2.index t (2 : Fin 3) * 2048 + 2048
    rw [(index_at t).2.2]; show 0 * 2048 ≤ _ ∧ _ < 0 * 2048 + 2048; omega

theorem point2 (t : Fin cfg0.N) (f : Fin 704) (d : Fin 2048) :
    k0_pay1 (F := Ideal) (iblk m c 0 t) (iblk m c 1 t) (ix3 (0 : Fin 1) f d) = (((cfg0.win 2).blk t).view.read (Elt Ideal)
    (Reference4Ideal.Read.val_main_v7 (F := Ideal) (m ((c : Thread nD τ).loc main_arg0)) (m ((c : Thread nD τ).loc main_arg1)) (m ((c : Thread nD τ).loc main_arg2))) : FVec Ideal S1x704x2048 .bf16) (ix3 (0 : Fin 1) f d) := by
  rw [read2, pay1_at, v7_at]
  refine sum_congr rfl fun r _ => ?_
  rw [window0_at, window1_at, V_v10, V_v11, slabs_at, mul_comm]

theorem block2 (t : Fin cfg0.N) : (dats m 0 c).flushed 2 t = ((cfg0.win 2).blk t).view.read (Elt Ideal)
    (Reference4Ideal.Read.val_main_v7 (F := Ideal) (m ((c : Thread nD τ).loc main_arg0)) (m ((c : Thread nD τ).loc main_arg1)) (m ((c : Thread nD τ).loc main_arg2))) := by
  rw [Value.flushed2, out2_eq]
  funext y
  obtain ⟨f, d, rfl⟩ : ∃ (f : Fin 704) (d : Fin 2048), y = ix3 (0 : Fin 1) f d := ⟨y 1, y 2, by
    funext a
    match a with
    | ⟨0, _⟩ => exact Subsingleton.elim (α := Fin 1) _ _
    | ⟨1, _⟩ => rfl
    | ⟨2, _⟩ => rfl⟩
  exact point2 m c t f d

/-- The gradient of the down product's weights. -/
theorem result_down : (dats m 0 c).arrAt 2 cfg0.N
    = Reference4Ideal.Read.val_main_v7 (F := Ideal) (m ((c : Thread nD τ).loc main_arg0)) (m ((c : Thread nD τ).loc main_arg1)) (m ((c : Thread nD τ).loc main_arg2)) :=
  (dats m 0 c).arrAt_eq_of_cover 2 _ (fun t _ => block2 m c t) (fun i =>
    ⟨⟨(i 0).val, by rw [N_eq]; exact (i 0).isLt⟩, flush_at _, mem2 _ i rfl⟩)

end Cert.Kernel4Ideal

end
-- ==== Proof.InputGrad.lean ====
module

public import proofs.«01_k».proof.Proof.Gen.Kernel5Ideal.Value
public import proofs.«01_k».proof.Proof.Gen.Reference5Ideal.Read
public import proofs.«01_k».proof.Proof.Sums
public import Idealize.ShloMosaic.Lib.Pipeline.ValueKit.Point
public import Idealize.ShloMosaic.Lib.StableHlo.ReadAt

/-!
# The gradient through the input product

At a point the kernel multiplies 1024 rows of the padded cotangent by 512 columns of the padded weights.
-/

@[expose] public section

set_option maxRecDepth 16384

noncomputable section

namespace Cert.Kernel5Ideal

open Idealize.ShloMosaic Idealize.ShloMosaic.TcCoe Idealize.SL.Sem Gen Finset

/-- The blocks that the windows read at a point. -/
theorem index_at (t : Fin cfg0.N) : win0_0.index t = ![t.val / 4, 0] ∧ win0_1.index t = ![0, t.val % 4] ∧ win0_2.index t = ![t.val / 4, t.val % 4] := by
  revert t
  decide +kernel

theorem N_eq : cfg0.N = 8 := by decide +kernel

theorem flush_at (t : Fin cfg0.N) : (cfg0.win 2).flush t = true := by
  revert t
  decide +kernel

/-- A row of the point's block, in the whole result. -/
abbrev rowAt (t : Fin cfg0.N) (r : Fin 1024) : Fin 2048 := ⟨t.val / 4 * 1024 + r.val, by have ht : t.val < 8 := N_eq ▸ t.isLt; omega⟩

/-- A column of the point's block, in the whole result. -/
abbrev colAt (t : Fin cfg0.N) (d : Fin 512) : Fin 2048 := ⟨t.val % 4 * 512 + d.val, by have ht : t.val < 8 := N_eq ▸ t.isLt; omega⟩

variable (m : (ℓ : Loc nD τ sig) → Buf (Elt Ideal) ℓ) (c : Dev nD)

/-- The cotangent with 64 columns of zeros behind. -/
def left (x : FVec Ideal S2048x3392 .f32) : FVec Ideal S2048x3456 .bf16 :=
  truncf .bf16 (pad S2048x3456 ![0, 0] ![0, 64] ![0, 0] x (sitofp .f32 (constantI S_ 32 0#32)) pads_S2048x3392_S2048x3456_000_0640 h_S_) bitsLt_bf16_f32

theorem left_at (x : FVec Ideal S2048x3392 .f32) (r : Fin 2048) (k : Fin 3456) :
    left x (ix2 r k) = if h : k.val < 3392 then x (ix2 r (⟨k.val, h⟩ : Fin 3392)) else 0 := by
  pointwise [left]
  by_cases h : k.val < 3392
  · rw [dif_pos h, dif_pos h]
  · rw [dif_neg h, dif_neg h, Padding.sitofp_zero]

/-- The weights transposed, with 64 rows of zeros below. -/
def right (w : FVec Ideal S2048x3392 .f32) : FVec Ideal S3456x2048 .bf16 :=
  truncf .bf16 (pad S3456x2048 ![0, 0] ![64, 0] ![0, 0] (transpose S3392x2048 [1, 0] w transposes_S2048x3392_S3392x2048_1_0) (sitofp .f32 (constantI S_ 32 0#32))
    pads_S3392x2048_S3456x2048_0640_000 h_S_) bitsLt_bf16_f32

theorem right_at (w : FVec Ideal S2048x3392 .f32) (k : Fin 3456) (r : Fin 2048) :
    right w (ix2 k r) = if h : k.val < 3392 then w (ix2 r (⟨k.val, h⟩ : Fin 3392)) else 0 := by
  pointwise [right]
  by_cases h : k.val < 3392
  · rw [dif_pos h, dif_pos h]
  · rw [dif_neg h, dif_neg h, Padding.sitofp_zero]

theorem V_v1 : V (F := Ideal) m c main_v1 = left (m ((c : Thread nD τ).loc main_arg0)) := by
  unfold_abbrev_sides
  after_reads_simp
  simp -implicitDefEqProofs only [StableHlo.TRef.ofBuf_toBuf, StableHlo.TRef.toBuf, StableHlo.TRef.ofBuf, cast_cast, cast_eq]
  clean_types
  rfl

theorem V_v4 : V (F := Ideal) m c main_v4 = right (m ((c : Thread nD τ).loc main_arg1)) := by
  unfold_abbrev_sides
  after_reads_simp
  simp -implicitDefEqProofs only [StableHlo.TRef.ofBuf_toBuf, StableHlo.TRef.toBuf, StableHlo.TRef.ofBuf, cast_cast, cast_eq]
  clean_types
  rfl

theorem window0_at (t : Fin cfg0.N) (r : Fin 1024) (k : Fin 3456) : (iblk m c 0 t : FVec Ideal S1024x3456 .bf16) (ix2 r k)
    = V m c main_v1 (ix2 (rowAt t r) k) := by
  blk_ext [iblk, (index_at t).1]

theorem window1_at (t : Fin cfg0.N) (k : Fin 3456) (d : Fin 512) : (iblk m c 1 t : FVec Ideal S3456x512 .bf16) (ix2 k d)
    = V m c main_v4 (ix2 k (colAt t d)) := by
  blk_ext [iblk, (index_at t).2.1]

/-- The kernel's product of two blocks. -/
theorem pay_at (x : FVec Ideal S1024x3456 .bf16) (y : FVec Ideal S3456x512 .bf16) (r : Fin 1024) (d : Fin 512) :
    k0_pay1 (F := Ideal) x y (ix2 r d) = ∑ k : Fin 3456, x (ix2 r k) * y (ix2 k d) := by
  pointwise [k0_pay1, dot_S1024x3456_S3456x512_S1024x512_1_0_0_1_n_n]

/-- What the kernel leaves in a block. -/
theorem out_eq (x : FVec Ideal S1024x3456 .bf16) (y : FVec Ideal S3456x512 .bf16) : out0_2 (F := Ideal) x y = k0_pay1 (F := Ideal) x y := by
  unfold out0_2
  rw [View.canon_unit_zero (funext fun a => by fin_cases a <;> rfl), View.ld_unit_zero (funext fun a => by fin_cases a <;> rfl),
    View.ld_unit_zero (funext fun a => by fin_cases a <;> rfl)]

/-- A block of the result. -/
theorem read_at (X : FVec Ideal S2048x2048 .f32) (t : Fin cfg0.N) (r : Fin 1024) (d : Fin 512) :
    (((cfg0.win 2).blk t).view.read (Elt Ideal) X : FVec Ideal S1024x512 .f32) (ix2 r d) = X (ix2 (rowAt t r) (colAt t d)) := by
  blk_ext [(index_at t).2.2]

theorem mem_at (t : Fin cfg0.N) (i : S2048x2048.Idx) (h : t.val = 4 * ((i 0).val / 1024) + (i 1).val / 512) : i ∈ ((cfg0.win 2).blk t).view.set := by
  show i ∈ ((View.whole main_v5).slice (win0_2.rect t)).set
  rw [View.set_slice_whole, Rect.mem_set_unit]
  have h0 : (i 0).val < 2048 := (i 0).isLt
  have h1 : (i 1).val < 2048 := (i 1).isLt
  intro a
  match a with
  | ⟨0, _⟩ =>
    show win0_2.index t (0 : Fin 2) * 1024 ≤ (i 0).val ∧ (i 0).val < win0_2.index t (0 : Fin 2) * 1024 + 1024
    rw [(index_at t).2.2]; show t.val / 4 * 1024 ≤ _ ∧ _ < t.val / 4 * 1024 + 1024; omega
  | ⟨1, _⟩ =>
    show win0_2.index t (1 : Fin 2) * 512 ≤ (i 1).val ∧ (i 1).val < win0_2.index t (1 : Fin 2) * 512 + 512
    rw [(index_at t).2.2]; show t.val % 4 * 512 ≤ _ ∧ _ < t.val % 4 * 512 + 512; omega

/-- The reference's product. -/
theorem ref_at (x : FVec Ideal S2048x3392 .f32) (w : FVec Ideal S2048x3392 .f32) (i : Fin 2048) (j : Fin 2048) :
    Reference5Ideal.Read.val_main_v2 (F := Ideal) x w (ix2 i j) = ∑ k : Fin 3456, left x (ix2 i k) * right w (ix2 k j) := by
  pointwise [Reference5Ideal.Read.val_main_v2, Reference5Ideal.dot_S2048x3392_S2048x3392_S2048x2048_1_1_0_0_n_n]
  symm
  refine Padding.sum_pad (n := 3392) (p := 64) _ _ (fun k => ?_) (fun k => ?_)
  · rw [left_at, right_at, dif_pos (show (k.castAdd 64).val < 3392 from k.isLt), dif_pos (show (k.castAdd 64).val < 3392 from k.isLt)]
    rfl
  · rw [left_at, dif_neg (show ¬ (k.natAdd 3392).val < 3392 from by simp), zero_mul]

theorem point_at (t : Fin cfg0.N) (r : Fin 1024) (d : Fin 512) :
    k0_pay1 (F := Ideal) (iblk m c 0 t) (iblk m c 1 t) (ix2 r d) = (((cfg0.win 2).blk t).view.read (Elt Ideal)
    (Reference5Ideal.Read.val_main_v2 (F := Ideal) (m ((c : Thread nD τ).loc main_arg0)) (m ((c : Thread nD τ).loc main_arg1))) : FVec Ideal S1024x512 .f32) (ix2 r d) := by
  rw [read_at, pay_at, ref_at]
  refine sum_congr rfl fun k _ => ?_
  rw [window0_at, window1_at, V_v1, V_v4]

theorem block_at (t : Fin cfg0.N) : (dats m 0 c).flushed 2 t = ((cfg0.win 2).blk t).view.read (Elt Ideal)
    (Reference5Ideal.Read.val_main_v2 (F := Ideal) (m ((c : Thread nD τ).loc main_arg0)) (m ((c : Thread nD τ).loc main_arg1))) := by
  rw [Value.flushed2, out_eq]
  funext y
  obtain ⟨r, d, rfl⟩ : ∃ (r : Fin 1024) (d : Fin 512), y = ix2 r d := ⟨y 0, y 1, by
    funext a
    match a with
    | ⟨0, _⟩ => rfl
    | ⟨1, _⟩ => rfl⟩
  exact point_at m c t r d

/-- The gradient through the input product: the kernel's result is the reference's. -/
theorem result : (dats m 0 c).arrAt 2 cfg0.N
    = Reference5Ideal.Read.val_main_v2 (F := Ideal) (m ((c : Thread nD τ).loc main_arg0)) (m ((c : Thread nD τ).loc main_arg1)) :=
  (dats m 0 c).arrAt_eq_of_cover 2 _ (fun t _ => block_at m c t) (fun i =>
    have h0 : (i 0).val < 2048 := (i 0).isLt
    have h1 : (i 1).val < 2048 := (i 1).isLt
    ⟨⟨4 * ((i 0).val / 1024) + (i 1).val / 512, by rw [N_eq]; omega⟩, flush_at _, mem_at _ i rfl⟩)

end Cert.Kernel5Ideal

end
-- ==== Proof.InputWeights.lean ====
module

public import proofs.«01_k».proof.Proof.Gen.Kernel6Ideal.Value
public import proofs.«01_k».proof.Proof.Gen.Reference6Ideal.Read
public import proofs.«01_k».proof.Proof.Sums
public import Idealize.ShloMosaic.Lib.Pipeline.ValueKit.Point
public import Idealize.ShloMosaic.Lib.StableHlo.ReadAt

/-!
# The gradient of the input product's weights

At a point the kernel multiplies the padded cotangent, transposed, by 256 columns of the input.
-/

@[expose] public section

set_option maxRecDepth 16384

noncomputable section

namespace Cert.Kernel6Ideal

open Idealize.ShloMosaic Idealize.ShloMosaic.TcCoe Idealize.SL.Sem Gen Finset

/-- The blocks that the windows read at a point. -/
theorem index_at (t : Fin cfg0.N) : win0_0.index t = ![0, t.val / 8] ∧ win0_1.index t = ![0, t.val % 8] ∧ win0_2.index t = ![t.val / 8, t.val % 8] := by
  revert t
  decide +kernel

theorem N_eq : cfg0.N = 8 := by decide +kernel

theorem flush_at (t : Fin cfg0.N) : (cfg0.win 2).flush t = true := by
  revert t
  decide +kernel

/-- A row of the point's block, in the whole result. -/
abbrev rowAt (t : Fin cfg0.N) (r : Fin 3456) : Fin 3456 := ⟨t.val / 8 * 3456 + r.val, by have ht : t.val < 8 := N_eq ▸ t.isLt; omega⟩

/-- A column of the point's block, in the whole result. -/
abbrev colAt (t : Fin cfg0.N) (d : Fin 256) : Fin 2048 := ⟨t.val % 8 * 256 + d.val, by have ht : t.val < 8 := N_eq ▸ t.isLt; omega⟩

variable (m : (ℓ : Loc nD τ sig) → Buf (Elt Ideal) ℓ) (c : Dev nD)

/-- The cotangent with 64 columns of zeros behind. -/
def left (x : FVec Ideal S2048x3392 .f32) : FVec Ideal S2048x3456 .bf16 :=
  truncf .bf16 (pad S2048x3456 ![0, 0] ![0, 64] ![0, 0] x (sitofp .f32 (constantI S_ 32 0#32)) pads_S2048x3392_S2048x3456_000_0640 h_S_) bitsLt_bf16_f32

theorem left_at (x : FVec Ideal S2048x3392 .f32) (r : Fin 2048) (k : Fin 3456) :
    left x (ix2 r k) = if h : k.val < 3392 then x (ix2 r (⟨k.val, h⟩ : Fin 3392)) else 0 := by
  pointwise [left]
  by_cases h : k.val < 3392
  · rw [dif_pos h, dif_pos h]
  · rw [dif_neg h, dif_neg h, Padding.sitofp_zero]

theorem V_v1 : V (F := Ideal) m c main_v1 = left (m ((c : Thread nD τ).loc main_arg0)) := by
  unfold_abbrev_sides
  after_reads_simp
  simp -implicitDefEqProofs only [StableHlo.TRef.ofBuf_toBuf, StableHlo.TRef.toBuf, StableHlo.TRef.ofBuf, cast_cast, cast_eq]
  clean_types
  rfl

theorem V_v2 : V (F := Ideal) m c main_v2 = (m ((c : Thread nD τ).loc main_arg1) : FVec Ideal S2048x2048 .f32) := by
  unfold_abbrev_sides
  after_reads_simp
  rfl

theorem window0_at (t : Fin cfg0.N) (k : Fin 2048) (r : Fin 3456) : (iblk m c 0 t : FVec Ideal S2048x3456 .bf16) (ix2 k r)
    = V m c main_v1 (ix2 k (rowAt t r)) := by
  blk_ext [iblk, (index_at t).1]

theorem window1_at (t : Fin cfg0.N) (k : Fin 2048) (d : Fin 256) : (iblk m c 1 t : FVec Ideal S2048x256 .bf16) (ix2 k d)
    = V m c main_v2 (ix2 k (colAt t d)) := by
  blk_ext [iblk, (index_at t).2.1]

/-- The kernel's product of two blocks. -/
theorem pay_at (x : FVec Ideal S2048x3456 .bf16) (y : FVec Ideal S2048x256 .bf16) (r : Fin 3456) (d : Fin 256) :
    k0_pay1 (F := Ideal) x y (ix2 r d) = ∑ k : Fin 2048, x (ix2 k r) * y (ix2 k d) := by
  pointwise [k0_pay1, dot_S2048x3456_S2048x256_S3456x256_0_0_1_1_n_n]

/-- What the kernel leaves in a block. -/
theorem out_eq (x : FVec Ideal S2048x3456 .bf16) (y : FVec Ideal S2048x256 .bf16) : out0_2 (F := Ideal) x y = k0_pay1 (F := Ideal) x y := by
  unfold out0_2
  rw [View.canon_unit_zero (funext fun a => by fin_cases a <;> rfl), View.ld_unit_zero (funext fun a => by fin_cases a <;> rfl),
    View.ld_unit_zero (funext fun a => by fin_cases a <;> rfl)]

/-- A block of the result. -/
theorem read_at (X : FVec Ideal S3456x2048 .bf16) (t : Fin cfg0.N) (r : Fin 3456) (d : Fin 256) :
    (((cfg0.win 2).blk t).view.read (Elt Ideal) X : FVec Ideal S3456x256 .bf16) (ix2 r d) = X (ix2 (rowAt t r) (colAt t d)) := by
  blk_ext [(index_at t).2.2]

theorem mem_at (t : Fin cfg0.N) (i : S3456x2048.Idx) (h : t.val = 8 * ((i 0).val / 3456) + (i 1).val / 256) : i ∈ ((cfg0.win 2).blk t).view.set := by
  show i ∈ ((View.whole main_v3).slice (win0_2.rect t)).set
  rw [View.set_slice_whole, Rect.mem_set_unit]
  have h0 : (i 0).val < 3456 := (i 0).isLt
  have h1 : (i 1).val < 2048 := (i 1).isLt
  intro a
  match a with
  | ⟨0, _⟩ =>
    show win0_2.index t (0 : Fin 2) * 3456 ≤ (i 0).val ∧ (i 0).val < win0_2.index t (0 : Fin 2) * 3456 + 3456
    rw [(index_at t).2.2]; show t.val / 8 * 3456 ≤ _ ∧ _ < t.val / 8 * 3456 + 3456; omega
  | ⟨1, _⟩ =>
    show win0_2.index t (1 : Fin 2) * 256 ≤ (i 1).val ∧ (i 1).val < win0_2.index t (1 : Fin 2) * 256 + 256
    rw [(index_at t).2.2]; show t.val % 8 * 256 ≤ _ ∧ _ < t.val % 8 * 256 + 256; omega

/-- The reference's product. -/
theorem ref_at (x : FVec Ideal S2048x3392 .f32) (y : FVec Ideal S2048x2048 .f32) (i : Fin 3456) (j : Fin 2048) :
    Reference6Ideal.Read.val_main_v6 (F := Ideal) x y (ix2 i j) = ∑ k : Fin 2048, left x (ix2 k i) * y (ix2 k j) := by
  pointwise [Reference6Ideal.Read.val_main_v6, Reference6Ideal.Read.val_main_v5, Reference6Ideal.Read.val_main_v4, Reference6Ideal.Read.val_main_v3, Reference6Ideal.Read.val_main_v2, Reference6Ideal.Read.val_main_call0_v0, Reference6Ideal.Read.val_main_c, Reference6Ideal.dot_S2048x3392_S2048x2048_S3392x2048_0_0_1_1_n_n]
  by_cases h : i.val < 3392
  · rw [dif_pos h]
    refine sum_congr rfl fun k _ => ?_
    rw [left_at, dif_pos h]
  · rw [dif_neg h, Padding.sitofp_zero]
    refine (sum_eq_zero fun k _ => ?_).symm
    rw [left_at, dif_neg h, zero_mul]

theorem point_at (t : Fin cfg0.N) (r : Fin 3456) (d : Fin 256) :
    k0_pay1 (F := Ideal) (iblk m c 0 t) (iblk m c 1 t) (ix2 r d) = (((cfg0.win 2).blk t).view.read (Elt Ideal)
    (Reference6Ideal.Read.val_main_v6 (F := Ideal) (m ((c : Thread nD τ).loc main_arg0)) (m ((c : Thread nD τ).loc main_arg1))) : FVec Ideal S3456x256 .bf16) (ix2 r d) := by
  rw [read_at, pay_at, ref_at]
  refine sum_congr rfl fun k _ => ?_
  rw [window0_at, window1_at, V_v1, V_v2]

theorem block_at (t : Fin cfg0.N) : (dats m 0 c).flushed 2 t = ((cfg0.win 2).blk t).view.read (Elt Ideal)
    (Reference6Ideal.Read.val_main_v6 (F := Ideal) (m ((c : Thread nD τ).loc main_arg0)) (m ((c : Thread nD τ).loc main_arg1))) := by
  rw [Value.flushed2, out_eq]
  funext y
  obtain ⟨r, d, rfl⟩ : ∃ (r : Fin 3456) (d : Fin 256), y = ix2 r d := ⟨y 0, y 1, by
    funext a
    match a with
    | ⟨0, _⟩ => rfl
    | ⟨1, _⟩ => rfl⟩
  exact point_at m c t r d

/-- The gradient of the input product's weights: the kernel's result is the reference's. -/
theorem result : (dats m 0 c).arrAt 2 cfg0.N
    = Reference6Ideal.Read.val_main_v6 (F := Ideal) (m ((c : Thread nD τ).loc main_arg0)) (m ((c : Thread nD τ).loc main_arg1)) :=
  (dats m 0 c).arrAt_eq_of_cover 2 _ (fun t _ => block_at m c t) (fun i =>
    have h0 : (i 0).val < 3456 := (i 0).isLt
    have h1 : (i 1).val < 2048 := (i 1).isLt
    ⟨⟨8 * ((i 0).val / 3456) + (i 1).val / 256, by rw [N_eq]; omega⟩, flush_at _, mem_at _ i rfl⟩)

end Cert.Kernel6Ideal

end
-- ==== Proof.MixGrad.lean ====
module

public import proofs.«01_k».proof.Proof.Gen.Kernel7Ideal.Value
public import proofs.«01_k».proof.Proof.Gen.Reference7Ideal.Read
public import proofs.«01_k».proof.Proof.Sums
public import Idealize.ShloMosaic.Lib.Pipeline.ValueKit.Point
public import Idealize.ShloMosaic.Lib.StableHlo.ReadAt

/-!
# The gradient through the product behind the two groups of heads

At a point the kernel multiplies 1024 rows of the cotangent by 1024 rows of the weights.
-/

@[expose] public section

set_option maxRecDepth 16384

noncomputable section

namespace Cert.Kernel7Ideal

open Idealize.ShloMosaic Idealize.ShloMosaic.TcCoe Idealize.SL.Sem Gen Finset

/-- The blocks that the windows read at a point. -/
theorem index_at (t : Fin cfg0.N) : win0_0.index t = ![t.val / 2, 0] ∧ win0_1.index t = ![t.val % 2, 0] ∧ win0_2.index t = ![t.val / 2, t.val % 2] := by
  revert t
  decide +kernel

theorem N_eq : cfg0.N = 4 := by decide +kernel

theorem flush_at (t : Fin cfg0.N) : (cfg0.win 2).flush t = true := by
  revert t
  decide +kernel

/-- A row of the point's block, in the whole result. -/
abbrev rowAt (t : Fin cfg0.N) (r : Fin 1024) : Fin 2048 := ⟨t.val / 2 * 1024 + r.val, by have ht : t.val < 4 := N_eq ▸ t.isLt; omega⟩

/-- A column of the point's block, in the whole result. -/
abbrev colAt (t : Fin cfg0.N) (d : Fin 1024) : Fin 2048 := ⟨t.val % 2 * 1024 + d.val, by have ht : t.val < 4 := N_eq ▸ t.isLt; omega⟩

variable (m : (ℓ : Loc nD τ sig) → Buf (Elt Ideal) ℓ) (c : Dev nD)

theorem V_v0 : V (F := Ideal) m c main_v0 = (m ((c : Thread nD τ).loc main_arg0) : FVec Ideal S2048x2048 .f32) := by
  unfold_abbrev_sides
  after_reads_simp
  rfl

theorem V_v1 : V (F := Ideal) m c main_v1 = (m ((c : Thread nD τ).loc main_arg1) : FVec Ideal S2048x2048 .f32) := by
  unfold_abbrev_sides
  after_reads_simp
  rfl

theorem window0_at (t : Fin cfg0.N) (r : Fin 1024) (k : Fin 2048) : (iblk m c 0 t : FVec Ideal S1024x2048 .bf16) (ix2 r k)
    = V m c main_v0 (ix2 (rowAt t r) k) := by
  blk_ext [iblk, (index_at t).1]

theorem window1_at (t : Fin cfg0.N) (d : Fin 1024) (k : Fin 2048) : (iblk m c 1 t : FVec Ideal S1024x2048 .bf16) (ix2 d k)
    = V m c main_v1 (ix2 (colAt t d) k) := by
  blk_ext [iblk, (index_at t).2.1]

/-- The kernel's product of two blocks. -/
theorem pay_at (x : FVec Ideal S1024x2048 .bf16) (y : FVec Ideal S1024x2048 .bf16) (r : Fin 1024) (d : Fin 1024) :
    k0_pay1 (F := Ideal) x y (ix2 r d) = ∑ k : Fin 2048, x (ix2 r k) * y (ix2 d k) := by
  pointwise [k0_pay1, dot_S1024x2048_S1024x2048_S1024x1024_1_1_0_0_n_n]

/-- What the kernel leaves in a block. -/
theorem out_eq (x : FVec Ideal S1024x2048 .bf16) (y : FVec Ideal S1024x2048 .bf16) : out0_2 (F := Ideal) x y = k0_pay1 (F := Ideal) x y := by
  unfold out0_2
  rw [View.canon_unit_zero (funext fun a => by fin_cases a <;> rfl), View.ld_unit_zero (funext fun a => by fin_cases a <;> rfl),
    View.ld_unit_zero (funext fun a => by fin_cases a <;> rfl)]

/-- A block of the result. -/
theorem read_at (X : FVec Ideal S2048x2048 .f32) (t : Fin cfg0.N) (r : Fin 1024) (d : Fin 1024) :
    (((cfg0.win 2).blk t).view.read (Elt Ideal) X : FVec Ideal S1024x1024 .f32) (ix2 r d) = X (ix2 (rowAt t r) (colAt t d)) := by
  blk_ext [(index_at t).2.2]

theorem mem_at (t : Fin cfg0.N) (i : S2048x2048.Idx) (h : t.val = 2 * ((i 0).val / 1024) + (i 1).val / 1024) : i ∈ ((cfg0.win 2).blk t).view.set := by
  show i ∈ ((View.whole main_v2).slice (win0_2.rect t)).set
  rw [View.set_slice_whole, Rect.mem_set_unit]
  have h0 : (i 0).val < 2048 := (i 0).isLt
  have h1 : (i 1).val < 2048 := (i 1).isLt
  intro a
  match a with
  | ⟨0, _⟩ =>
    show win0_2.index t (0 : Fin 2) * 1024 ≤ (i 0).val ∧ (i 0).val < win0_2.index t (0 : Fin 2) * 1024 + 1024
    rw [(index_at t).2.2]; show t.val / 2 * 1024 ≤ _ ∧ _ < t.val / 2 * 1024 + 1024; omega
  | ⟨1, _⟩ =>
    show win0_2.index t (1 : Fin 2) * 1024 ≤ (i 1).val ∧ (i 1).val < win0_2.index t (1 : Fin 2) * 1024 + 1024
    rw [(index_at t).2.2]; show t.val % 2 * 1024 ≤ _ ∧ _ < t.val % 2 * 1024 + 1024; omega

/-- The reference's product. -/
theorem ref_at (x : FVec Ideal S2048x2048 .f32) (w : FVec Ideal S2048x2048 .f32) (i : Fin 2048) (j : Fin 2048) :
    Reference7Ideal.Read.val_main_v2 (F := Ideal) x w (ix2 i j) = ∑ k : Fin 2048, x (ix2 i k) * w (ix2 j k) := by
  pointwise [Reference7Ideal.Read.val_main_v2, Reference7Ideal.dot_S2048x2048_S2048x2048_S2048x2048_1_1_0_0_n_n]

theorem point_at (t : Fin cfg0.N) (r : Fin 1024) (d : Fin 1024) :
    k0_pay1 (F := Ideal) (iblk m c 0 t) (iblk m c 1 t) (ix2 r d) = (((cfg0.win 2).blk t).view.read (Elt Ideal)
    (Reference7Ideal.Read.val_main_v2 (F := Ideal) (m ((c : Thread nD τ).loc main_arg0)) (m ((c : Thread nD τ).loc main_arg1))) : FVec Ideal S1024x1024 .f32) (ix2 r d) := by
  rw [read_at, pay_at, ref_at]
  refine sum_congr rfl fun k _ => ?_
  rw [window0_at, window1_at, V_v0, V_v1]

theorem block_at (t : Fin cfg0.N) : (dats m 0 c).flushed 2 t = ((cfg0.win 2).blk t).view.read (Elt Ideal)
    (Reference7Ideal.Read.val_main_v2 (F := Ideal) (m ((c : Thread nD τ).loc main_arg0)) (m ((c : Thread nD τ).loc main_arg1))) := by
  rw [Value.flushed2, out_eq]
  funext y
  obtain ⟨r, d, rfl⟩ : ∃ (r : Fin 1024) (d : Fin 1024), y = ix2 r d := ⟨y 0, y 1, by
    funext a
    match a with
    | ⟨0, _⟩ => rfl
    | ⟨1, _⟩ => rfl⟩
  exact point_at m c t r d

/-- The gradient through the product behind the two groups of heads: the kernel's result is the reference's. -/
theorem result : (dats m 0 c).arrAt 2 cfg0.N
    = Reference7Ideal.Read.val_main_v2 (F := Ideal) (m ((c : Thread nD τ).loc main_arg0)) (m ((c : Thread nD τ).loc main_arg1)) :=
  (dats m 0 c).arrAt_eq_of_cover 2 _ (fun t _ => block_at m c t) (fun i =>
    have h0 : (i 0).val < 2048 := (i 0).isLt
    have h1 : (i 1).val < 2048 := (i 1).isLt
    ⟨⟨2 * ((i 0).val / 1024) + (i 1).val / 1024, by rw [N_eq]; omega⟩, flush_at _, mem_at _ i rfl⟩)

end Cert.Kernel7Ideal

end
-- ==== Proof.MixWeights.lean ====
module

public import proofs.«01_k».proof.Proof.Gen.Kernel8Ideal.Value
public import proofs.«01_k».proof.Proof.Gen.Reference8Ideal.Read
public import proofs.«01_k».proof.Proof.Sums
public import Idealize.ShloMosaic.Lib.Pipeline.ValueKit.Point
public import Idealize.ShloMosaic.Lib.StableHlo.ReadAt

/-!
# The gradient of the output product's weights

At a point the kernel multiplies 1024 columns of the input, transposed, by 1024 columns of the cotangent.
-/

@[expose] public section

set_option maxRecDepth 16384

noncomputable section

namespace Cert.Kernel8Ideal

open Idealize.ShloMosaic Idealize.ShloMosaic.TcCoe Idealize.SL.Sem Gen Finset

/-- The blocks that the windows read at a point. -/
theorem index_at (t : Fin cfg0.N) : win0_0.index t = ![0, t.val / 2] ∧ win0_1.index t = ![0, t.val % 2] ∧ win0_2.index t = ![t.val / 2, t.val % 2] := by
  revert t
  decide +kernel

theorem N_eq : cfg0.N = 4 := by decide +kernel

theorem flush_at (t : Fin cfg0.N) : (cfg0.win 2).flush t = true := by
  revert t
  decide +kernel

/-- A row of the point's block, in the whole result. -/
abbrev rowAt (t : Fin cfg0.N) (r : Fin 1024) : Fin 2048 := ⟨t.val / 2 * 1024 + r.val, by have ht : t.val < 4 := N_eq ▸ t.isLt; omega⟩

/-- A column of the point's block, in the whole result. -/
abbrev colAt (t : Fin cfg0.N) (d : Fin 1024) : Fin 2048 := ⟨t.val % 2 * 1024 + d.val, by have ht : t.val < 4 := N_eq ▸ t.isLt; omega⟩

variable (m : (ℓ : Loc nD τ sig) → Buf (Elt Ideal) ℓ) (c : Dev nD)

theorem V_v0 : V (F := Ideal) m c main_v0 = (m ((c : Thread nD τ).loc main_arg1) : FVec Ideal S2048x2048 .f32) := by
  unfold_abbrev_sides
  after_reads_simp
  rfl

theorem V_v1 : V (F := Ideal) m c main_v1 = (m ((c : Thread nD τ).loc main_arg0) : FVec Ideal S2048x2048 .f32) := by
  unfold_abbrev_sides
  after_reads_simp
  rfl

theorem window0_at (t : Fin cfg0.N) (k : Fin 2048) (r : Fin 1024) : (iblk m c 0 t : FVec Ideal S2048x1024 .bf16) (ix2 k r)
    = V m c main_v0 (ix2 k (rowAt t r)) := by
  blk_ext [iblk, (index_at t).1]

theorem window1_at (t : Fin cfg0.N) (k : Fin 2048) (d : Fin 1024) : (iblk m c 1 t : FVec Ideal S2048x1024 .bf16) (ix2 k d)
    = V m c main_v1 (ix2 k (colAt t d)) := by
  blk_ext [iblk, (index_at t).2.1]

/-- The kernel's product of two blocks. -/
theorem pay_at (x : FVec Ideal S2048x1024 .bf16) (y : FVec Ideal S2048x1024 .bf16) (r : Fin 1024) (d : Fin 1024) :
    k0_pay1 (F := Ideal) x y (ix2 r d) = ∑ k : Fin 2048, x (ix2 k r) * y (ix2 k d) := by
  pointwise [k0_pay1, dot_S2048x1024_S2048x1024_S1024x1024_0_0_1_1_n_n]

/-- What the kernel leaves in a block. -/
theorem out_eq (x : FVec Ideal S2048x1024 .bf16) (y : FVec Ideal S2048x1024 .bf16) : out0_2 (F := Ideal) x y = k0_pay1 (F := Ideal) x y := by
  unfold out0_2
  rw [View.canon_unit_zero (funext fun a => by fin_cases a <;> rfl), View.ld_unit_zero (funext fun a => by fin_cases a <;> rfl),
    View.ld_unit_zero (funext fun a => by fin_cases a <;> rfl)]

/-- A block of the result. -/
theorem read_at (X : FVec Ideal S2048x2048 .bf16) (t : Fin cfg0.N) (r : Fin 1024) (d : Fin 1024) :
    (((cfg0.win 2).blk t).view.read (Elt Ideal) X : FVec Ideal S1024x1024 .bf16) (ix2 r d) = X (ix2 (rowAt t r) (colAt t d)) := by
  blk_ext [(index_at t).2.2]

theorem mem_at (t : Fin cfg0.N) (i : S2048x2048.Idx) (h : t.val = 2 * ((i 0).val / 1024) + (i 1).val / 1024) : i ∈ ((cfg0.win 2).blk t).view.set := by
  show i ∈ ((View.whole main_v2).slice (win0_2.rect t)).set
  rw [View.set_slice_whole, Rect.mem_set_unit]
  have h0 : (i 0).val < 2048 := (i 0).isLt
  have h1 : (i 1).val < 2048 := (i 1).isLt
  intro a
  match a with
  | ⟨0, _⟩ =>
    show win0_2.index t (0 : Fin 2) * 1024 ≤ (i 0).val ∧ (i 0).val < win0_2.index t (0 : Fin 2) * 1024 + 1024
    rw [(index_at t).2.2]; show t.val / 2 * 1024 ≤ _ ∧ _ < t.val / 2 * 1024 + 1024; omega
  | ⟨1, _⟩ =>
    show win0_2.index t (1 : Fin 2) * 1024 ≤ (i 1).val ∧ (i 1).val < win0_2.index t (1 : Fin 2) * 1024 + 1024
    rw [(index_at t).2.2]; show t.val % 2 * 1024 ≤ _ ∧ _ < t.val % 2 * 1024 + 1024; omega

/-- The reference's product. -/
theorem ref_at (x : FVec Ideal S2048x2048 .f32) (h : FVec Ideal S2048x2048 .f32) (i : Fin 2048) (j : Fin 2048) :
    Reference8Ideal.Read.val_main_v4 (F := Ideal) x h (ix2 i j) = ∑ k : Fin 2048, x (ix2 k j) * h (ix2 k i) := by
  pointwise [Reference8Ideal.Read.val_main_v4, Reference8Ideal.Read.val_main_v3, Reference8Ideal.Read.val_main_v2, Reference8Ideal.dot_S2048x2048_S2048x2048_S2048x2048_0_0_1_1_n_n]

theorem point_at (t : Fin cfg0.N) (r : Fin 1024) (d : Fin 1024) :
    k0_pay1 (F := Ideal) (iblk m c 0 t) (iblk m c 1 t) (ix2 r d) = (((cfg0.win 2).blk t).view.read (Elt Ideal)
    (Reference8Ideal.Read.val_main_v4 (F := Ideal) (m ((c : Thread nD τ).loc main_arg0)) (m ((c : Thread nD τ).loc main_arg1))) : FVec Ideal S1024x1024 .bf16) (ix2 r d) := by
  rw [read_at, pay_at, ref_at]
  refine sum_congr rfl fun k _ => ?_
  rw [window0_at, window1_at, V_v0, V_v1, mul_comm]

theorem block_at (t : Fin cfg0.N) : (dats m 0 c).flushed 2 t = ((cfg0.win 2).blk t).view.read (Elt Ideal)
    (Reference8Ideal.Read.val_main_v4 (F := Ideal) (m ((c : Thread nD τ).loc main_arg0)) (m ((c : Thread nD τ).loc main_arg1))) := by
  rw [Value.flushed2, out_eq]
  funext y
  obtain ⟨r, d, rfl⟩ : ∃ (r : Fin 1024) (d : Fin 1024), y = ix2 r d := ⟨y 0, y 1, by
    funext a
    match a with
    | ⟨0, _⟩ => rfl
    | ⟨1, _⟩ => rfl⟩
  exact point_at m c t r d

/-- The gradient of the output product's weights: the kernel's result is the reference's. -/
theorem result : (dats m 0 c).arrAt 2 cfg0.N
    = Reference8Ideal.Read.val_main_v4 (F := Ideal) (m ((c : Thread nD τ).loc main_arg0)) (m ((c : Thread nD τ).loc main_arg1)) :=
  (dats m 0 c).arrAt_eq_of_cover 2 _ (fun t _ => block_at m c t) (fun i =>
    have h0 : (i 0).val < 2048 := (i 0).isLt
    have h1 : (i 1).val < 2048 := (i 1).isLt
    ⟨⟨2 * ((i 0).val / 1024) + (i 1).val / 1024, by rw [N_eq]; omega⟩, flush_at _, mem_at _ i rfl⟩)

end Cert.Kernel8Ideal

end
-- ==== Proof.QueryGrad.lean ====
module

public import proofs.«01_k».proof.Proof.Gen.Kernel9Ideal.Value
public import proofs.«01_k».proof.Proof.Gen.Reference9Ideal.Read
public import proofs.«01_k».proof.Proof.Sums
public import Idealize.ShloMosaic.Lib.Pipeline.ValueKit.Point
public import Idealize.ShloMosaic.Lib.StableHlo.ReadAt

/-!
# The gradient through the query product

At a point the kernel multiplies 512 rows of the padded cotangent by the padded weights.
-/

@[expose] public section

set_option maxRecDepth 16384

noncomputable section

namespace Cert.Kernel9Ideal

open Idealize.ShloMosaic Idealize.ShloMosaic.TcCoe Idealize.SL.Sem Gen Finset

/-- The blocks that the windows read at a point. -/
theorem index_at (t : Fin cfg0.N) : win0_0.index t = ![t.val / 1, 0] ∧ win0_1.index t = ![0, t.val % 1] ∧ win0_2.index t = ![t.val / 1, t.val % 1] := by
  revert t
  decide +kernel

theorem N_eq : cfg0.N = 4 := by decide +kernel

theorem flush_at (t : Fin cfg0.N) : (cfg0.win 2).flush t = true := by
  revert t
  decide +kernel

/-- A row of the point's block, in the whole result. -/
abbrev rowAt (t : Fin cfg0.N) (r : Fin 512) : Fin 2048 := ⟨t.val / 1 * 512 + r.val, by have ht : t.val < 4 := N_eq ▸ t.isLt; omega⟩

/-- A column of the point's block, in the whole result. -/
abbrev colAt (t : Fin cfg0.N) (d : Fin 768) : Fin 768 := ⟨t.val % 1 * 768 + d.val, by have ht : t.val < 4 := N_eq ▸ t.isLt; omega⟩

variable (m : (ℓ : Loc nD τ sig) → Buf (Elt Ideal) ℓ) (c : Dev nD)

/-- The cotangent with every head padded to 256 columns. -/
def left (x : FVec Ideal S2048x1536 .f32) : FVec Ideal S2048x2048 .bf16 :=
  truncf .bf16 (shapeCast S2048x2048 (pad S2048x8x256 ![0, 0, 0] ![0, 0, 64] ![0, 0, 0] (shapeCast S2048x8x192 x shapeCasts_S2048x1536_S2048x8x192) (sitofp .f32 (constantI S_ 32 0#32))
    pads_S2048x8x192_S2048x8x256_000_000_0640 h_S_) shapeCasts_S2048x8x256_S2048x2048) bitsLt_bf16_f32

theorem left_at (x : FVec Ideal S2048x1536 .f32) (r k : Fin 2048) :
    left x (ix2 r k) = if h : k.val % 256 < 192 then x (ix2 r (⟨k.val / 256 * 192 + k.val % 256, by omega⟩ : Fin 1536)) else 0 := by
  pointwise [left]
  have hk := k.isLt
  by_cases h : k.val % 256 < 192
  · rw [dif_pos ⟨by omega, h⟩, dif_pos h]
  · rw [dif_neg (fun e => h e.2), dif_neg h, Padding.sitofp_zero]

/-- The weights transposed, with every head padded to 256 rows. -/
def right (w : FVec Ideal S768x1536 .f32) : FVec Ideal S2048x768 .bf16 :=
  truncf .bf16 (shapeCast S2048x768 (pad S8x256x768 ![0, 0, 0] ![0, 64, 0] ![0, 0, 0]
    (shapeCast S8x192x768 (transpose S1536x768 [1, 0] w transposes_S768x1536_S1536x768_1_0) shapeCasts_S1536x768_S8x192x768) (sitofp .f32 (constantI S_ 32 0#32))
    pads_S8x192x768_S8x256x768_000_0640_000 h_S_) shapeCasts_S8x256x768_S2048x768) bitsLt_bf16_f32

theorem right_at (w : FVec Ideal S768x1536 .f32) (k : Fin 2048) (r : Fin 768) :
    right w (ix2 k r) = if h : k.val % 256 < 192 then w (ix2 r (⟨k.val / 256 * 192 + k.val % 256, by omega⟩ : Fin 1536)) else 0 := by
  pointwise [right]
  have hk := k.isLt
  by_cases h : k.val % 256 < 192
  · rw [dif_pos ⟨by omega, h⟩, dif_pos h]
  · rw [dif_neg (fun e => h e.2), dif_neg h, Padding.sitofp_zero]

theorem V_v3 : V (F := Ideal) m c main_v3 = left (m ((c : Thread nD τ).loc main_arg0)) := by
  unfold_abbrev_sides
  after_reads_simp
  simp -implicitDefEqProofs only [StableHlo.TRef.ofBuf_toBuf, StableHlo.TRef.toBuf, StableHlo.TRef.ofBuf, cast_cast, cast_eq]
  clean_types
  rfl

theorem V_v8 : V (F := Ideal) m c main_v8 = right (m ((c : Thread nD τ).loc main_arg1)) := by
  unfold_abbrev_sides
  after_reads_simp
  simp -implicitDefEqProofs only [StableHlo.TRef.ofBuf_toBuf, StableHlo.TRef.toBuf, StableHlo.TRef.ofBuf, cast_cast, cast_eq]
  clean_types
  rfl

theorem window0_at (t : Fin cfg0.N) (r : Fin 512) (k : Fin 2048) : (iblk m c 0 t : FVec Ideal S512x2048 .bf16) (ix2 r k)
    = V m c main_v3 (ix2 (rowAt t r) k) := by
  blk_ext [iblk, (index_at t).1]

theorem window1_at (t : Fin cfg0.N) (k : Fin 2048) (d : Fin 768) : (iblk m c 1 t : FVec Ideal S2048x768 .bf16) (ix2 k d)
    = V m c main_v8 (ix2 k (colAt t d)) := by
  blk_ext [iblk, (index_at t).2.1]

/-- The kernel's product of two blocks. -/
theorem pay_at (x : FVec Ideal S512x2048 .bf16) (y : FVec Ideal S2048x768 .bf16) (r : Fin 512) (d : Fin 768) :
    k0_pay1 (F := Ideal) x y (ix2 r d) = ∑ k : Fin 2048, x (ix2 r k) * y (ix2 k d) := by
  pointwise [k0_pay1, dot_S512x2048_S2048x768_S512x768_1_0_0_1_n_n]

/-- What the kernel leaves in a block. -/
theorem out_eq (x : FVec Ideal S512x2048 .bf16) (y : FVec Ideal S2048x768 .bf16) : out0_2 (F := Ideal) x y = k0_pay1 (F := Ideal) x y := by
  unfold out0_2
  rw [View.canon_unit_zero (funext fun a => by fin_cases a <;> rfl), View.ld_unit_zero (funext fun a => by fin_cases a <;> rfl),
    View.ld_unit_zero (funext fun a => by fin_cases a <;> rfl)]

/-- A block of the result. -/
theorem read_at (X : FVec Ideal S2048x768 .f32) (t : Fin cfg0.N) (r : Fin 512) (d : Fin 768) :
    (((cfg0.win 2).blk t).view.read (Elt Ideal) X : FVec Ideal S512x768 .f32) (ix2 r d) = X (ix2 (rowAt t r) (colAt t d)) := by
  blk_ext [(index_at t).2.2]

theorem mem_at (t : Fin cfg0.N) (i : S2048x768.Idx) (h : t.val = 1 * ((i 0).val / 512) + (i 1).val / 768) : i ∈ ((cfg0.win 2).blk t).view.set := by
  show i ∈ ((View.whole main_v9).slice (win0_2.rect t)).set
  rw [View.set_slice_whole, Rect.mem_set_unit]
  have h0 : (i 0).val < 2048 := (i 0).isLt
  have h1 : (i 1).val < 768 := (i 1).isLt
  intro a
  match a with
  | ⟨0, _⟩ =>
    show win0_2.index t (0 : Fin 2) * 512 ≤ (i 0).val ∧ (i 0).val < win0_2.index t (0 : Fin 2) * 512 + 512
    rw [(index_at t).2.2]; show t.val / 1 * 512 ≤ _ ∧ _ < t.val / 1 * 512 + 512; omega
  | ⟨1, _⟩ =>
    show win0_2.index t (1 : Fin 2) * 768 ≤ (i 1).val ∧ (i 1).val < win0_2.index t (1 : Fin 2) * 768 + 768
    rw [(index_at t).2.2]; show t.val % 1 * 768 ≤ _ ∧ _ < t.val % 1 * 768 + 768; omega

/-- The reference's product. -/
theorem ref_at (x : FVec Ideal S2048x1536 .f32) (w : FVec Ideal S768x1536 .f32) (i : Fin 2048) (j : Fin 768) :
    Reference9Ideal.Read.val_main_v2 (F := Ideal) x w (ix2 i j) = ∑ k : Fin 2048, left x (ix2 i k) * right w (ix2 k j) := by
  pointwise [Reference9Ideal.Read.val_main_v2, Reference9Ideal.dot_S2048x1536_S768x1536_S2048x768_1_1_0_0_n_n]
  symm
  refine Padding.sum_pad_groups (a := 8) (n := 192) (p := 64) _ _ (fun a k => ?_) (fun a k => ?_)
  · have e : (finProdFinEquiv (a, k.castAdd 64)).val = k.val + (192 + 64) * a.val := rfl
    have e' : (finProdFinEquiv (a, k)).val = k.val + 192 * a.val := rfl
    have hk := k.isLt
    rw [left_at, right_at, dif_pos (show (finProdFinEquiv (a, k.castAdd 64)).val % 256 < 192 by omega),
      dif_pos (show (finProdFinEquiv (a, k.castAdd 64)).val % 256 < 192 by omega)]
    congr 3 <;> exact Fin.ext (by simp only [e, e']; omega)
  · have e : (finProdFinEquiv (a, k.natAdd 192)).val = 192 + k.val + (192 + 64) * a.val := rfl
    have hk := k.isLt
    rw [left_at, dif_neg (show ¬ (finProdFinEquiv (a, k.natAdd 192)).val % 256 < 192 by omega), zero_mul]

theorem point_at (t : Fin cfg0.N) (r : Fin 512) (d : Fin 768) :
    k0_pay1 (F := Ideal) (iblk m c 0 t) (iblk m c 1 t) (ix2 r d) = (((cfg0.win 2).blk t).view.read (Elt Ideal)
    (Reference9Ideal.Read.val_main_v2 (F := Ideal) (m ((c : Thread nD τ).loc main_arg0)) (m ((c : Thread nD τ).loc main_arg1))) : FVec Ideal S512x768 .f32) (ix2 r d) := by
  rw [read_at, pay_at, ref_at]
  refine sum_congr rfl fun k _ => ?_
  rw [window0_at, window1_at, V_v3, V_v8]

theorem block_at (t : Fin cfg0.N) : (dats m 0 c).flushed 2 t = ((cfg0.win 2).blk t).view.read (Elt Ideal)
    (Reference9Ideal.Read.val_main_v2 (F := Ideal) (m ((c : Thread nD τ).loc main_arg0)) (m ((c : Thread nD τ).loc main_arg1))) := by
  rw [Value.flushed2, out_eq]
  funext y
  obtain ⟨r, d, rfl⟩ : ∃ (r : Fin 512) (d : Fin 768), y = ix2 r d := ⟨y 0, y 1, by
    funext a
    match a with
    | ⟨0, _⟩ => rfl
    | ⟨1, _⟩ => rfl⟩
  exact point_at m c t r d

/-- The gradient through the query product: the kernel's result is the reference's. -/
theorem result : (dats m 0 c).arrAt 2 cfg0.N
    = Reference9Ideal.Read.val_main_v2 (F := Ideal) (m ((c : Thread nD τ).loc main_arg0)) (m ((c : Thread nD τ).loc main_arg1)) :=
  (dats m 0 c).arrAt_eq_of_cover 2 _ (fun t _ => block_at m c t) (fun i =>
    have h0 : (i 0).val < 2048 := (i 0).isLt
    have h1 : (i 1).val < 768 := (i 1).isLt
    ⟨⟨1 * ((i 0).val / 512) + (i 1).val / 768, by rw [N_eq]; omega⟩, flush_at _, mem_at _ i rfl⟩)

end Cert.Kernel9Ideal

end
-- ==== Proof.QueryWeights.lean ====
module

public import proofs.«01_k».proof.Proof.Gen.Kernel10Ideal.Value
public import proofs.«01_k».proof.Proof.Gen.Reference10Ideal.Read
public import proofs.«01_k».proof.Proof.Sums
public import Idealize.ShloMosaic.Lib.Pipeline.ValueKit.Point
public import Idealize.ShloMosaic.Lib.StableHlo.ReadAt

/-!
# The gradient of the query product's weights

At a point the kernel multiplies 512 columns of the padded cotangent, transposed, by the latent.
-/

@[expose] public section

set_option maxRecDepth 16384

noncomputable section

namespace Cert.Kernel10Ideal

open Idealize.ShloMosaic Idealize.ShloMosaic.TcCoe Idealize.SL.Sem Gen Finset

/-- The blocks that the windows read at a point. -/
theorem index_at (t : Fin cfg0.N) : win0_0.index t = ![0, t.val / 1] ∧ win0_1.index t = ![0, t.val % 1] ∧ win0_2.index t = ![t.val / 1, t.val % 1] := by
  revert t
  decide +kernel

theorem N_eq : cfg0.N = 4 := by decide +kernel

theorem flush_at (t : Fin cfg0.N) : (cfg0.win 2).flush t = true := by
  revert t
  decide +kernel

/-- A row of the point's block, in the whole result. -/
abbrev rowAt (t : Fin cfg0.N) (r : Fin 512) : Fin 2048 := ⟨t.val / 1 * 512 + r.val, by have ht : t.val < 4 := N_eq ▸ t.isLt; omega⟩

/-- A column of the point's block, in the whole result. -/
abbrev colAt (t : Fin cfg0.N) (d : Fin 768) : Fin 768 := ⟨t.val % 1 * 768 + d.val, by have ht : t.val < 4 := N_eq ▸ t.isLt; omega⟩

variable (m : (ℓ : Loc nD τ sig) → Buf (Elt Ideal) ℓ) (c : Dev nD)

/-- The cotangent with every head padded to 256 columns. -/
def left (x : FVec Ideal S2048x1536 .f32) : FVec Ideal S2048x2048 .bf16 :=
  truncf .bf16 (shapeCast S2048x2048 (pad S2048x8x256 ![0, 0, 0] ![0, 0, 64] ![0, 0, 0] (shapeCast S2048x8x192 x shapeCasts_S2048x1536_S2048x8x192) (sitofp .f32 (constantI S_ 32 0#32))
    pads_S2048x8x192_S2048x8x256_000_000_0640 h_S_) shapeCasts_S2048x8x256_S2048x2048) bitsLt_bf16_f32

theorem left_at (x : FVec Ideal S2048x1536 .f32) (r k : Fin 2048) :
    left x (ix2 r k) = if h : k.val % 256 < 192 then x (ix2 r (⟨k.val / 256 * 192 + k.val % 256, by omega⟩ : Fin 1536)) else 0 := by
  pointwise [left]
  have hk := k.isLt
  by_cases h : k.val % 256 < 192
  · rw [dif_pos ⟨by omega, h⟩, dif_pos h]
  · rw [dif_neg (fun e => h e.2), dif_neg h, Padding.sitofp_zero]

theorem V_v3 : V (F := Ideal) m c main_v3 = left (m ((c : Thread nD τ).loc main_arg0)) := by
  unfold_abbrev_sides
  after_reads_simp
  simp -implicitDefEqProofs only [StableHlo.TRef.ofBuf_toBuf, StableHlo.TRef.toBuf, StableHlo.TRef.ofBuf, cast_cast, cast_eq]
  clean_types
  rfl

theorem V_v4 : V (F := Ideal) m c main_v4 = (m ((c : Thread nD τ).loc main_arg1) : FVec Ideal S2048x768 .f32) := by
  unfold_abbrev_sides
  after_reads_simp
  rfl

/-- The reference's product before the padding. -/
theorem v4_at (x : FVec Ideal S2048x1536 .f32) (y : FVec Ideal S2048x768 .f32) (i : Fin 1536) (j : Fin 768) :
    Reference10Ideal.Read.val_main_v4 (F := Ideal) x y (ix2 i j) = ∑ k : Fin 2048, x (ix2 k i) * y (ix2 k j) := by
  pointwise [Reference10Ideal.Read.val_main_v4, Reference10Ideal.Read.val_main_v3, Reference10Ideal.Read.val_main_v2, Reference10Ideal.dot_S2048x1536_S2048x768_S1536x768_0_0_1_1_n_n]

theorem window0_at (t : Fin cfg0.N) (k : Fin 2048) (r : Fin 512) : (iblk m c 0 t : FVec Ideal S2048x512 .bf16) (ix2 k r)
    = V m c main_v3 (ix2 k (rowAt t r)) := by
  blk_ext [iblk, (index_at t).1]

theorem window1_at (t : Fin cfg0.N) (k : Fin 2048) (d : Fin 768) : (iblk m c 1 t : FVec Ideal S2048x768 .bf16) (ix2 k d)
    = V m c main_v4 (ix2 k (colAt t d)) := by
  blk_ext [iblk, (index_at t).2.1]

/-- The kernel's product of two blocks. -/
theorem pay_at (x : FVec Ideal S2048x512 .bf16) (y : FVec Ideal S2048x768 .bf16) (r : Fin 512) (d : Fin 768) :
    k0_pay1 (F := Ideal) x y (ix2 r d) = ∑ k : Fin 2048, x (ix2 k r) * y (ix2 k d) := by
  pointwise [k0_pay1, dot_S2048x512_S2048x768_S512x768_0_0_1_1_n_n]

/-- What the kernel leaves in a block. -/
theorem out_eq (x : FVec Ideal S2048x512 .bf16) (y : FVec Ideal S2048x768 .bf16) : out0_2 (F := Ideal) x y = k0_pay1 (F := Ideal) x y := by
  unfold out0_2
  rw [View.canon_unit_zero (funext fun a => by fin_cases a <;> rfl), View.ld_unit_zero (funext fun a => by fin_cases a <;> rfl),
    View.ld_unit_zero (funext fun a => by fin_cases a <;> rfl)]

/-- A block of the result. -/
theorem read_at (X : FVec Ideal S2048x768 .bf16) (t : Fin cfg0.N) (r : Fin 512) (d : Fin 768) :
    (((cfg0.win 2).blk t).view.read (Elt Ideal) X : FVec Ideal S512x768 .bf16) (ix2 r d) = X (ix2 (rowAt t r) (colAt t d)) := by
  blk_ext [(index_at t).2.2]

theorem mem_at (t : Fin cfg0.N) (i : S2048x768.Idx) (h : t.val = 1 * ((i 0).val / 512) + (i 1).val / 768) : i ∈ ((cfg0.win 2).blk t).view.set := by
  show i ∈ ((View.whole main_v5).slice (win0_2.rect t)).set
  rw [View.set_slice_whole, Rect.mem_set_unit]
  have h0 : (i 0).val < 2048 := (i 0).isLt
  have h1 : (i 1).val < 768 := (i 1).isLt
  intro a
  match a with
  | ⟨0, _⟩ =>
    show win0_2.index t (0 : Fin 2) * 512 ≤ (i 0).val ∧ (i 0).val < win0_2.index t (0 : Fin 2) * 512 + 512
    rw [(index_at t).2.2]; show t.val / 1 * 512 ≤ _ ∧ _ < t.val / 1 * 512 + 512; omega
  | ⟨1, _⟩ =>
    show win0_2.index t (1 : Fin 2) * 768 ≤ (i 1).val ∧ (i 1).val < win0_2.index t (1 : Fin 2) * 768 + 768
    rw [(index_at t).2.2]; show t.val % 1 * 768 ≤ _ ∧ _ < t.val % 1 * 768 + 768; omega

/-- The reference's product. -/
theorem ref_at (x : FVec Ideal S2048x1536 .f32) (y : FVec Ideal S2048x768 .f32) (i : Fin 2048) (j : Fin 768) :
    Reference10Ideal.Read.val_main_v8 (F := Ideal) x y (ix2 i j) = ∑ k : Fin 2048, left x (ix2 k i) * y (ix2 k j) := by
  pointwise [Reference10Ideal.Read.val_main_v8, Reference10Ideal.Read.val_main_v7, Reference10Ideal.Read.val_main_v6, Reference10Ideal.Read.val_main_v5, Reference10Ideal.Read.val_main_call0_v0, Reference10Ideal.Read.val_main_c, v4_at]
  have hk := i.isLt
  by_cases h : i.val % 256 < 192
  · rw [dif_pos ⟨by omega, h⟩]
    refine sum_congr rfl fun k _ => ?_
    rw [left_at, dif_pos h]
  · rw [dif_neg (fun e => h e.2), Padding.sitofp_zero]
    refine (sum_eq_zero fun k _ => ?_).symm
    rw [left_at, dif_neg h, zero_mul]

theorem point_at (t : Fin cfg0.N) (r : Fin 512) (d : Fin 768) :
    k0_pay1 (F := Ideal) (iblk m c 0 t) (iblk m c 1 t) (ix2 r d) = (((cfg0.win 2).blk t).view.read (Elt Ideal)
    (Reference10Ideal.Read.val_main_v8 (F := Ideal) (m ((c : Thread nD τ).loc main_arg0)) (m ((c : Thread nD τ).loc main_arg1))) : FVec Ideal S512x768 .bf16) (ix2 r d) := by
  rw [read_at, pay_at, ref_at]
  refine sum_congr rfl fun k _ => ?_
  rw [window0_at, window1_at, V_v3, V_v4]

theorem block_at (t : Fin cfg0.N) : (dats m 0 c).flushed 2 t = ((cfg0.win 2).blk t).view.read (Elt Ideal)
    (Reference10Ideal.Read.val_main_v8 (F := Ideal) (m ((c : Thread nD τ).loc main_arg0)) (m ((c : Thread nD τ).loc main_arg1))) := by
  rw [Value.flushed2, out_eq]
  funext y
  obtain ⟨r, d, rfl⟩ : ∃ (r : Fin 512) (d : Fin 768), y = ix2 r d := ⟨y 0, y 1, by
    funext a
    match a with
    | ⟨0, _⟩ => rfl
    | ⟨1, _⟩ => rfl⟩
  exact point_at m c t r d

/-- The gradient of the query product's weights: the kernel's result is the reference's. -/
theorem result : (dats m 0 c).arrAt 2 cfg0.N
    = Reference10Ideal.Read.val_main_v8 (F := Ideal) (m ((c : Thread nD τ).loc main_arg0)) (m ((c : Thread nD τ).loc main_arg1)) :=
  (dats m 0 c).arrAt_eq_of_cover 2 _ (fun t _ => block_at m c t) (fun i =>
    have h0 : (i 0).val < 2048 := (i 0).isLt
    have h1 : (i 1).val < 768 := (i 1).isLt
    ⟨⟨1 * ((i 0).val / 512) + (i 1).val / 768, by rw [N_eq]; omega⟩, flush_at _, mem_at _ i rfl⟩)

end Cert.Kernel10Ideal

end
-- ==== Proof.KeyValueGrad.lean ====
module

public import proofs.«01_k».proof.Proof.Gen.Kernel11Ideal.Value
public import proofs.«01_k».proof.Proof.Gen.Reference11Ideal.Read
public import proofs.«01_k».proof.Proof.Sums
public import Idealize.ShloMosaic.Lib.Pipeline.ValueKit.Point
public import Idealize.ShloMosaic.Lib.StableHlo.ReadAt

/-!
# The gradient through the key and value product

At a point the kernel multiplies 512 rows of the cotangent by the weights.
-/

@[expose] public section

set_option maxRecDepth 16384

noncomputable section

namespace Cert.Kernel11Ideal

open Idealize.ShloMosaic Idealize.ShloMosaic.TcCoe Idealize.SL.Sem Gen Finset

/-- The blocks that the windows read at a point. -/
theorem index_at (t : Fin cfg0.N) : win0_0.index t = ![t.val / 1, 0] ∧ win0_1.index t = ![t.val % 1, 0] ∧ win0_2.index t = ![t.val / 1, t.val % 1] := by
  revert t
  decide +kernel

theorem N_eq : cfg0.N = 4 := by decide +kernel

theorem flush_at (t : Fin cfg0.N) : (cfg0.win 2).flush t = true := by
  revert t
  decide +kernel

/-- A row of the point's block, in the whole result. -/
abbrev rowAt (t : Fin cfg0.N) (r : Fin 512) : Fin 2048 := ⟨t.val / 1 * 512 + r.val, by have ht : t.val < 4 := N_eq ▸ t.isLt; omega⟩

/-- A column of the point's block, in the whole result. -/
abbrev colAt (t : Fin cfg0.N) (d : Fin 512) : Fin 512 := ⟨t.val % 1 * 512 + d.val, by have ht : t.val < 4 := N_eq ▸ t.isLt; omega⟩

variable (m : (ℓ : Loc nD τ sig) → Buf (Elt Ideal) ℓ) (c : Dev nD)

theorem V_arg0 : V (F := Ideal) m c main_arg0 = (m ((c : Thread nD τ).loc main_arg0) : FVec Ideal S2048x2048 .f32) := by
  unfold_abbrev_sides
  after_reads_simp

theorem V_v0 : V (F := Ideal) m c main_v0 = (m ((c : Thread nD τ).loc main_arg1) : FVec Ideal S512x2048 .f32) := by
  unfold_abbrev_sides
  after_reads_simp
  rfl

theorem window0_at (t : Fin cfg0.N) (r : Fin 512) (k : Fin 2048) : (iblk m c 0 t : FVec Ideal S512x2048 .f32) (ix2 r k)
    = V m c main_arg0 (ix2 (rowAt t r) k) := by
  blk_ext [iblk, (index_at t).1]

theorem window1_at (t : Fin cfg0.N) (d : Fin 512) (k : Fin 2048) : (iblk m c 1 t : FVec Ideal S512x2048 .bf16) (ix2 d k)
    = V m c main_v0 (ix2 (colAt t d) k) := by
  blk_ext [iblk, (index_at t).2.1]

/-- The kernel's product of two blocks. -/
theorem pay_at (x : FVec Ideal S512x2048 .f32) (y : FVec Ideal S512x2048 .bf16) (r : Fin 512) (d : Fin 512) :
    k0_pay1 (F := Ideal) x y (ix2 r d) = ∑ k : Fin 2048, x (ix2 r k) * y (ix2 d k) := by
  pointwise [k0_pay1, dot_S512x2048_S512x2048_S512x512_1_1_0_0_n_n]

/-- What the kernel leaves in a block. -/
theorem out_eq (x : FVec Ideal S512x2048 .f32) (y : FVec Ideal S512x2048 .bf16) : out0_2 (F := Ideal) x y = k0_pay1 (F := Ideal) x y := by
  unfold out0_2
  rw [View.canon_unit_zero (funext fun a => by fin_cases a <;> rfl), View.ld_unit_zero (funext fun a => by fin_cases a <;> rfl),
    View.ld_unit_zero (funext fun a => by fin_cases a <;> rfl)]

/-- A block of the result. -/
theorem read_at (X : FVec Ideal S2048x512 .f32) (t : Fin cfg0.N) (r : Fin 512) (d : Fin 512) :
    (((cfg0.win 2).blk t).view.read (Elt Ideal) X : FVec Ideal S512x512 .f32) (ix2 r d) = X (ix2 (rowAt t r) (colAt t d)) := by
  blk_ext [(index_at t).2.2]

theorem mem_at (t : Fin cfg0.N) (i : S2048x512.Idx) (h : t.val = 1 * ((i 0).val / 512) + (i 1).val / 512) : i ∈ ((cfg0.win 2).blk t).view.set := by
  show i ∈ ((View.whole main_v1).slice (win0_2.rect t)).set
  rw [View.set_slice_whole, Rect.mem_set_unit]
  have h0 : (i 0).val < 2048 := (i 0).isLt
  have h1 : (i 1).val < 512 := (i 1).isLt
  intro a
  match a with
  | ⟨0, _⟩ =>
    show win0_2.index t (0 : Fin 2) * 512 ≤ (i 0).val ∧ (i 0).val < win0_2.index t (0 : Fin 2) * 512 + 512
    rw [(index_at t).2.2]; show t.val / 1 * 512 ≤ _ ∧ _ < t.val / 1 * 512 + 512; omega
  | ⟨1, _⟩ =>
    show win0_2.index t (1 : Fin 2) * 512 ≤ (i 1).val ∧ (i 1).val < win0_2.index t (1 : Fin 2) * 512 + 512
    rw [(index_at t).2.2]; show t.val % 1 * 512 ≤ _ ∧ _ < t.val % 1 * 512 + 512; omega

/-- The reference's product. -/
theorem ref_at (x : FVec Ideal S2048x2048 .f32) (w : FVec Ideal S512x2048 .f32) (i : Fin 2048) (j : Fin 512) :
    Reference11Ideal.Read.val_main_v2 (F := Ideal) x w (ix2 i j) = ∑ k : Fin 2048, x (ix2 i k) * w (ix2 j k) := by
  pointwise [Reference11Ideal.Read.val_main_v2, Reference11Ideal.dot_S2048x2048_S512x2048_S2048x512_1_1_0_0_n_n]

theorem point_at (t : Fin cfg0.N) (r : Fin 512) (d : Fin 512) :
    k0_pay1 (F := Ideal) (iblk m c 0 t) (iblk m c 1 t) (ix2 r d) = (((cfg0.win 2).blk t).view.read (Elt Ideal)
    (Reference11Ideal.Read.val_main_v2 (F := Ideal) (m ((c : Thread nD τ).loc main_arg0)) (m ((c : Thread nD τ).loc main_arg1))) : FVec Ideal S512x512 .f32) (ix2 r d) := by
  rw [read_at, pay_at, ref_at]
  refine sum_congr rfl fun k _ => ?_
  rw [window0_at, window1_at, V_arg0, V_v0]

theorem block_at (t : Fin cfg0.N) : (dats m 0 c).flushed 2 t = ((cfg0.win 2).blk t).view.read (Elt Ideal)
    (Reference11Ideal.Read.val_main_v2 (F := Ideal) (m ((c : Thread nD τ).loc main_arg0)) (m ((c : Thread nD τ).loc main_arg1))) := by
  rw [Value.flushed2, out_eq]
  funext y
  obtain ⟨r, d, rfl⟩ : ∃ (r : Fin 512) (d : Fin 512), y = ix2 r d := ⟨y 0, y 1, by
    funext a
    match a with
    | ⟨0, _⟩ => rfl
    | ⟨1, _⟩ => rfl⟩
  exact point_at m c t r d

/-- The gradient through the key and value product: the kernel's result is the reference's. -/
theorem result : (dats m 0 c).arrAt 2 cfg0.N
    = Reference11Ideal.Read.val_main_v2 (F := Ideal) (m ((c : Thread nD τ).loc main_arg0)) (m ((c : Thread nD τ).loc main_arg1)) :=
  (dats m 0 c).arrAt_eq_of_cover 2 _ (fun t _ => block_at m c t) (fun i =>
    have h0 : (i 0).val < 2048 := (i 0).isLt
    have h1 : (i 1).val < 512 := (i 1).isLt
    ⟨⟨1 * ((i 0).val / 512) + (i 1).val / 512, by rw [N_eq]; omega⟩, flush_at _, mem_at _ i rfl⟩)

end Cert.Kernel11Ideal

end
-- ==== Proof.KeyValueWeights.lean ====
module

public import proofs.«01_k».proof.Proof.Gen.Kernel12Ideal.Value
public import proofs.«01_k».proof.Proof.Gen.Reference12Ideal.Read
public import proofs.«01_k».proof.Proof.Sums
public import Idealize.ShloMosaic.Lib.Pipeline.ValueKit.Point
public import Idealize.ShloMosaic.Lib.StableHlo.ReadAt

/-!
# The gradient of the key and value product's weights

At a point the kernel multiplies the latent, transposed, by 512 columns of the cotangent.
-/

@[expose] public section

set_option maxRecDepth 16384

noncomputable section

namespace Cert.Kernel12Ideal

open Idealize.ShloMosaic Idealize.ShloMosaic.TcCoe Idealize.SL.Sem Gen Finset

/-- The blocks that the windows read at a point. -/
theorem index_at (t : Fin cfg0.N) : win0_0.index t = ![0, t.val / 4] ∧ win0_1.index t = ![0, t.val % 4] ∧ win0_2.index t = ![t.val / 4, t.val % 4] := by
  revert t
  decide +kernel

theorem N_eq : cfg0.N = 4 := by decide +kernel

theorem flush_at (t : Fin cfg0.N) : (cfg0.win 2).flush t = true := by
  revert t
  decide +kernel

/-- A row of the point's block, in the whole result. -/
abbrev rowAt (t : Fin cfg0.N) (r : Fin 512) : Fin 512 := ⟨t.val / 4 * 512 + r.val, by have ht : t.val < 4 := N_eq ▸ t.isLt; omega⟩

/-- A column of the point's block, in the whole result. -/
abbrev colAt (t : Fin cfg0.N) (d : Fin 512) : Fin 2048 := ⟨t.val % 4 * 512 + d.val, by have ht : t.val < 4 := N_eq ▸ t.isLt; omega⟩

variable (m : (ℓ : Loc nD τ sig) → Buf (Elt Ideal) ℓ) (c : Dev nD)

theorem V_v0 : V (F := Ideal) m c main_v0 = (m ((c : Thread nD τ).loc main_arg1) : FVec Ideal S2048x512 .f32) := by
  unfold_abbrev_sides
  after_reads_simp
  rfl

theorem V_arg0 : V (F := Ideal) m c main_arg0 = (m ((c : Thread nD τ).loc main_arg0) : FVec Ideal S2048x2048 .f32) := by
  unfold_abbrev_sides
  after_reads_simp

theorem window0_at (t : Fin cfg0.N) (k : Fin 2048) (r : Fin 512) : (iblk m c 0 t : FVec Ideal S2048x512 .bf16) (ix2 k r)
    = V m c main_v0 (ix2 k (rowAt t r)) := by
  blk_ext [iblk, (index_at t).1]

theorem window1_at (t : Fin cfg0.N) (k : Fin 2048) (d : Fin 512) : (iblk m c 1 t : FVec Ideal S2048x512 .f32) (ix2 k d)
    = V m c main_arg0 (ix2 k (colAt t d)) := by
  blk_ext [iblk, (index_at t).2.1]

/-- The kernel's product of two blocks. -/
theorem pay_at (x : FVec Ideal S2048x512 .bf16) (y : FVec Ideal S2048x512 .f32) (r : Fin 512) (d : Fin 512) :
    k0_pay1 (F := Ideal) x y (ix2 r d) = ∑ k : Fin 2048, x (ix2 k r) * y (ix2 k d) := by
  pointwise [k0_pay1, dot_S2048x512_S2048x512_S512x512_0_0_1_1_n_n]

/-- What the kernel leaves in a block. -/
theorem out_eq (x : FVec Ideal S2048x512 .bf16) (y : FVec Ideal S2048x512 .f32) : out0_2 (F := Ideal) x y = k0_pay1 (F := Ideal) x y := by
  unfold out0_2
  rw [View.canon_unit_zero (funext fun a => by fin_cases a <;> rfl), View.ld_unit_zero (funext fun a => by fin_cases a <;> rfl),
    View.ld_unit_zero (funext fun a => by fin_cases a <;> rfl)]

/-- A block of the result. -/
theorem read_at (X : FVec Ideal S512x2048 .bf16) (t : Fin cfg0.N) (r : Fin 512) (d : Fin 512) :
    (((cfg0.win 2).blk t).view.read (Elt Ideal) X : FVec Ideal S512x512 .bf16) (ix2 r d) = X (ix2 (rowAt t r) (colAt t d)) := by
  blk_ext [(index_at t).2.2]

theorem mem_at (t : Fin cfg0.N) (i : S512x2048.Idx) (h : t.val = 4 * ((i 0).val / 512) + (i 1).val / 512) : i ∈ ((cfg0.win 2).blk t).view.set := by
  show i ∈ ((View.whole main_v1).slice (win0_2.rect t)).set
  rw [View.set_slice_whole, Rect.mem_set_unit]
  have h0 : (i 0).val < 512 := (i 0).isLt
  have h1 : (i 1).val < 2048 := (i 1).isLt
  intro a
  match a with
  | ⟨0, _⟩ =>
    show win0_2.index t (0 : Fin 2) * 512 ≤ (i 0).val ∧ (i 0).val < win0_2.index t (0 : Fin 2) * 512 + 512
    rw [(index_at t).2.2]; show t.val / 4 * 512 ≤ _ ∧ _ < t.val / 4 * 512 + 512; omega
  | ⟨1, _⟩ =>
    show win0_2.index t (1 : Fin 2) * 512 ≤ (i 1).val ∧ (i 1).val < win0_2.index t (1 : Fin 2) * 512 + 512
    rw [(index_at t).2.2]; show t.val % 4 * 512 ≤ _ ∧ _ < t.val % 4 * 512 + 512; omega

/-- The reference's product. -/
theorem ref_at (x : FVec Ideal S2048x2048 .f32) (h : FVec Ideal S2048x512 .f32) (i : Fin 512) (j : Fin 2048) :
    Reference12Ideal.Read.val_main_v4 (F := Ideal) x h (ix2 i j) = ∑ k : Fin 2048, x (ix2 k j) * h (ix2 k i) := by
  pointwise [Reference12Ideal.Read.val_main_v4, Reference12Ideal.Read.val_main_v3, Reference12Ideal.Read.val_main_v2, Reference12Ideal.dot_S2048x2048_S2048x512_S2048x512_0_0_1_1_n_n]

theorem point_at (t : Fin cfg0.N) (r : Fin 512) (d : Fin 512) :
    k0_pay1 (F := Ideal) (iblk m c 0 t) (iblk m c 1 t) (ix2 r d) = (((cfg0.win 2).blk t).view.read (Elt Ideal)
    (Reference12Ideal.Read.val_main_v4 (F := Ideal) (m ((c : Thread nD τ).loc main_arg0)) (m ((c : Thread nD τ).loc main_arg1))) : FVec Ideal S512x512 .bf16) (ix2 r d) := by
  rw [read_at, pay_at, ref_at]
  refine sum_congr rfl fun k _ => ?_
  rw [window0_at, window1_at, V_v0, V_arg0, mul_comm]

theorem block_at (t : Fin cfg0.N) : (dats m 0 c).flushed 2 t = ((cfg0.win 2).blk t).view.read (Elt Ideal)
    (Reference12Ideal.Read.val_main_v4 (F := Ideal) (m ((c : Thread nD τ).loc main_arg0)) (m ((c : Thread nD τ).loc main_arg1))) := by
  rw [Value.flushed2, out_eq]
  funext y
  obtain ⟨r, d, rfl⟩ : ∃ (r : Fin 512) (d : Fin 512), y = ix2 r d := ⟨y 0, y 1, by
    funext a
    match a with
    | ⟨0, _⟩ => rfl
    | ⟨1, _⟩ => rfl⟩
  exact point_at m c t r d

/-- The gradient of the key and value product's weights: the kernel's result is the reference's. -/
theorem result : (dats m 0 c).arrAt 2 cfg0.N
    = Reference12Ideal.Read.val_main_v4 (F := Ideal) (m ((c : Thread nD τ).loc main_arg0)) (m ((c : Thread nD τ).loc main_arg1)) :=
  (dats m 0 c).arrAt_eq_of_cover 2 _ (fun t _ => block_at m c t) (fun i =>
    have h0 : (i 0).val < 512 := (i 0).isLt
    have h1 : (i 1).val < 2048 := (i 1).isLt
    ⟨⟨4 * ((i 0).val / 512) + (i 1).val / 512, by rw [N_eq]; omega⟩, flush_at _, mem_at _ i rfl⟩)

end Cert.Kernel12Ideal

end
-- ==== Proof.Input.lean ====
module

public import proofs.«01_k».proof.Proof.Gen.Kernel13Ideal.Value
public import proofs.«01_k».proof.Proof.Gen.Reference13Ideal.Read
public import proofs.«01_k».proof.Proof.Sums
public import Idealize.ShloMosaic.Lib.Pipeline.ValueKit.Point
public import Idealize.ShloMosaic.Lib.StableHlo.ReadAt

/-!
# The input product

At a point the kernel multiplies the input by 384 rows of the padded weights.
-/

@[expose] public section

set_option maxRecDepth 16384

noncomputable section

namespace Cert.Kernel13Ideal

open Idealize.ShloMosaic Idealize.ShloMosaic.TcCoe Idealize.SL.Sem Gen Finset

/-- The blocks that the windows read at a point. -/
theorem index_at (t : Fin cfg0.N) : win0_0.index t = ![t.val / 9, 0] ∧ win0_1.index t = ![t.val % 9, 0] ∧ win0_2.index t = ![t.val / 9, t.val % 9] := by
  revert t
  decide +kernel

theorem N_eq : cfg0.N = 9 := by decide +kernel

theorem flush_at (t : Fin cfg0.N) : (cfg0.win 2).flush t = true := by
  revert t
  decide +kernel

/-- A row of the point's block, in the whole result. -/
abbrev rowAt (t : Fin cfg0.N) (r : Fin 2048) : Fin 2048 := ⟨t.val / 9 * 2048 + r.val, by have ht : t.val < 9 := N_eq ▸ t.isLt; omega⟩

/-- A column of the point's block, in the whole result. -/
abbrev colAt (t : Fin cfg0.N) (d : Fin 384) : Fin 3456 := ⟨t.val % 9 * 384 + d.val, by have ht : t.val < 9 := N_eq ▸ t.isLt; omega⟩

variable (m : (ℓ : Loc nD τ sig) → Buf (Elt Ideal) ℓ) (c : Dev nD)

/-- The weights transposed, with 64 rows of zeros below. -/
def right (w : FVec Ideal S2048x3392 .f32) : FVec Ideal S3456x2048 .bf16 :=
  truncf .bf16 (pad S3456x2048 ![0, 0] ![64, 0] ![0, 0] (transpose S3392x2048 [1, 0] w transposes_S2048x3392_S3392x2048_1_0) (sitofp .f32 (constantI S_ 32 0#32))
    pads_S3392x2048_S3456x2048_0640_000 h_S_) bitsLt_bf16_f32

theorem right_at (w : FVec Ideal S2048x3392 .f32) (k : Fin 3456) (r : Fin 2048) :
    right w (ix2 k r) = if h : k.val < 3392 then w (ix2 r (⟨k.val, h⟩ : Fin 3392)) else 0 := by
  pointwise [right]
  by_cases h : k.val < 3392
  · rw [dif_pos h, dif_pos h]
  · rw [dif_neg h, dif_neg h, Padding.sitofp_zero]

theorem V_v0 : V (F := Ideal) m c main_v0 = (m ((c : Thread nD τ).loc main_arg0) : FVec Ideal S2048x2048 .f32) := by
  unfold_abbrev_sides
  after_reads_simp
  rfl

theorem V_v3 : V (F := Ideal) m c main_v3 = right (m ((c : Thread nD τ).loc main_arg1)) := by
  unfold_abbrev_sides
  after_reads_simp
  simp -implicitDefEqProofs only [StableHlo.TRef.ofBuf_toBuf, StableHlo.TRef.toBuf, StableHlo.TRef.ofBuf, cast_cast, cast_eq]
  clean_types
  rfl

theorem window0_at (t : Fin cfg0.N) (r : Fin 2048) (k : Fin 2048) : (iblk m c 0 t : FVec Ideal S2048x2048 .bf16) (ix2 r k)
    = V m c main_v0 (ix2 (rowAt t r) k) := by
  blk_ext [iblk, (index_at t).1]

theorem window1_at (t : Fin cfg0.N) (d : Fin 384) (k : Fin 2048) : (iblk m c 1 t : FVec Ideal S384x2048 .bf16) (ix2 d k)
    = V m c main_v3 (ix2 (colAt t d) k) := by
  blk_ext [iblk, (index_at t).2.1]

/-- The kernel's product of two blocks. -/
theorem pay_at (x : FVec Ideal S2048x2048 .bf16) (y : FVec Ideal S384x2048 .bf16) (r : Fin 2048) (d : Fin 384) :
    k0_pay1 (F := Ideal) x y (ix2 r d) = ∑ k : Fin 2048, x (ix2 r k) * y (ix2 d k) := by
  pointwise [k0_pay1, dot_S2048x2048_S384x2048_S2048x384_1_1_0_0_n_n]

/-- What the kernel leaves in a block. -/
theorem out_eq (x : FVec Ideal S2048x2048 .bf16) (y : FVec Ideal S384x2048 .bf16) : out0_2 (F := Ideal) x y = k0_pay1 (F := Ideal) x y := by
  unfold out0_2
  rw [View.canon_unit_zero (funext fun a => by fin_cases a <;> rfl), View.ld_unit_zero (funext fun a => by fin_cases a <;> rfl),
    View.ld_unit_zero (funext fun a => by fin_cases a <;> rfl)]

/-- A block of the result. -/
theorem read_at (X : FVec Ideal S2048x3456 .f32) (t : Fin cfg0.N) (r : Fin 2048) (d : Fin 384) :
    (((cfg0.win 2).blk t).view.read (Elt Ideal) X : FVec Ideal S2048x384 .f32) (ix2 r d) = X (ix2 (rowAt t r) (colAt t d)) := by
  blk_ext [(index_at t).2.2]

theorem mem_at (t : Fin cfg0.N) (i : S2048x3456.Idx) (h : t.val = 9 * ((i 0).val / 2048) + (i 1).val / 384) : i ∈ ((cfg0.win 2).blk t).view.set := by
  show i ∈ ((View.whole main_v4).slice (win0_2.rect t)).set
  rw [View.set_slice_whole, Rect.mem_set_unit]
  have h0 : (i 0).val < 2048 := (i 0).isLt
  have h1 : (i 1).val < 3456 := (i 1).isLt
  intro a
  match a with
  | ⟨0, _⟩ =>
    show win0_2.index t (0 : Fin 2) * 2048 ≤ (i 0).val ∧ (i 0).val < win0_2.index t (0 : Fin 2) * 2048 + 2048
    rw [(index_at t).2.2]; show t.val / 9 * 2048 ≤ _ ∧ _ < t.val / 9 * 2048 + 2048; omega
  | ⟨1, _⟩ =>
    show win0_2.index t (1 : Fin 2) * 384 ≤ (i 1).val ∧ (i 1).val < win0_2.index t (1 : Fin 2) * 384 + 384
    rw [(index_at t).2.2]; show t.val % 9 * 384 ≤ _ ∧ _ < t.val % 9 * 384 + 384; omega

/-- The reference's product. -/
theorem ref_at (y : FVec Ideal S2048x2048 .f32) (w : FVec Ideal S2048x3392 .f32) (i : Fin 2048) (j : Fin 3456) :
    Reference13Ideal.Read.val_main_v1 (F := Ideal) y w (ix2 i j) = ∑ k : Fin 2048, y (ix2 i k) * right w (ix2 j k) := by
  pointwise [Reference13Ideal.Read.val_main_v1, Reference13Ideal.Read.val_main_v0, Reference13Ideal.Read.val_main_call0_v0, Reference13Ideal.Read.val_main_c, Reference13Ideal.dot_S2048x2048_S2048x3392_S2048x3392_1_0_0_1_n_n]
  by_cases h : j.val < 3392
  · rw [dif_pos h]
    refine sum_congr rfl fun k _ => ?_
    rw [right_at, dif_pos h]
  · rw [dif_neg h, Padding.sitofp_zero]
    refine (sum_eq_zero fun k _ => ?_).symm
    rw [right_at, dif_neg h, mul_zero]

theorem point_at (t : Fin cfg0.N) (r : Fin 2048) (d : Fin 384) :
    k0_pay1 (F := Ideal) (iblk m c 0 t) (iblk m c 1 t) (ix2 r d) = (((cfg0.win 2).blk t).view.read (Elt Ideal)
    (Reference13Ideal.Read.val_main_v1 (F := Ideal) (m ((c : Thread nD τ).loc main_arg0)) (m ((c : Thread nD τ).loc main_arg1))) : FVec Ideal S2048x384 .f32) (ix2 r d) := by
  rw [read_at, pay_at, ref_at]
  refine sum_congr rfl fun k _ => ?_
  rw [window0_at, window1_at, V_v0, V_v3]

theorem block_at (t : Fin cfg0.N) : (dats m 0 c).flushed 2 t = ((cfg0.win 2).blk t).view.read (Elt Ideal)
    (Reference13Ideal.Read.val_main_v1 (F := Ideal) (m ((c : Thread nD τ).loc main_arg0)) (m ((c : Thread nD τ).loc main_arg1))) := by
  rw [Value.flushed2, out_eq]
  funext y
  obtain ⟨r, d, rfl⟩ : ∃ (r : Fin 2048) (d : Fin 384), y = ix2 r d := ⟨y 0, y 1, by
    funext a
    match a with
    | ⟨0, _⟩ => rfl
    | ⟨1, _⟩ => rfl⟩
  exact point_at m c t r d

/-- The input product: the kernel's result is the reference's. -/
theorem result : (dats m 0 c).arrAt 2 cfg0.N
    = Reference13Ideal.Read.val_main_v1 (F := Ideal) (m ((c : Thread nD τ).loc main_arg0)) (m ((c : Thread nD τ).loc main_arg1)) :=
  (dats m 0 c).arrAt_eq_of_cover 2 _ (fun t _ => block_at m c t) (fun i =>
    have h0 : (i 0).val < 2048 := (i 0).isLt
    have h1 : (i 1).val < 3456 := (i 1).isLt
    ⟨⟨9 * ((i 0).val / 2048) + (i 1).val / 384, by rw [N_eq]; omega⟩, flush_at _, mem_at _ i rfl⟩)

end Cert.Kernel13Ideal

end
-- ==== Proof.Query.lean ====
module

public import proofs.«01_k».proof.Proof.Gen.Kernel14Ideal.Value
public import proofs.«01_k».proof.Proof.Gen.Reference14Ideal.Read
public import proofs.«01_k».proof.Proof.Sums
public import Idealize.ShloMosaic.Lib.Pipeline.ValueKit.Point
public import Idealize.ShloMosaic.Lib.StableHlo.ReadAt

/-!
# The query product

At a point the kernel multiplies the latent by 512 rows of the padded weights.
-/

@[expose] public section

set_option maxRecDepth 16384

noncomputable section

namespace Cert.Kernel14Ideal

open Idealize.ShloMosaic Idealize.ShloMosaic.TcCoe Idealize.SL.Sem Gen Finset

/-- The blocks that the windows read at a point. -/
theorem index_at (t : Fin cfg0.N) : win0_0.index t = ![t.val / 4, 0] ∧ win0_1.index t = ![t.val % 4, 0] ∧ win0_2.index t = ![t.val / 4, t.val % 4] := by
  revert t
  decide +kernel

theorem N_eq : cfg0.N = 4 := by decide +kernel

theorem flush_at (t : Fin cfg0.N) : (cfg0.win 2).flush t = true := by
  revert t
  decide +kernel

/-- A row of the point's block, in the whole result. -/
abbrev rowAt (t : Fin cfg0.N) (r : Fin 2048) : Fin 2048 := ⟨t.val / 4 * 2048 + r.val, by have ht : t.val < 4 := N_eq ▸ t.isLt; omega⟩

/-- A column of the point's block, in the whole result. -/
abbrev colAt (t : Fin cfg0.N) (d : Fin 512) : Fin 2048 := ⟨t.val % 4 * 512 + d.val, by have ht : t.val < 4 := N_eq ▸ t.isLt; omega⟩

variable (m : (ℓ : Loc nD τ sig) → Buf (Elt Ideal) ℓ) (c : Dev nD)

/-- The weights transposed, with every head padded to 256 rows. -/
def right (w : FVec Ideal S768x1536 .f32) : FVec Ideal S2048x768 .bf16 :=
  truncf .bf16 (shapeCast S2048x768 (pad S8x256x768 ![0, 0, 0] ![0, 64, 0] ![0, 0, 0]
    (shapeCast S8x192x768 (transpose S1536x768 [1, 0] w transposes_S768x1536_S1536x768_1_0) shapeCasts_S1536x768_S8x192x768) (sitofp .f32 (constantI S_ 32 0#32))
    pads_S8x192x768_S8x256x768_000_0640_000 h_S_) shapeCasts_S8x256x768_S2048x768) bitsLt_bf16_f32

theorem right_at (w : FVec Ideal S768x1536 .f32) (k : Fin 2048) (r : Fin 768) :
    right w (ix2 k r) = if h : k.val % 256 < 192 then w (ix2 r (⟨k.val / 256 * 192 + k.val % 256, by omega⟩ : Fin 1536)) else 0 := by
  pointwise [right]
  have hk := k.isLt
  by_cases h : k.val % 256 < 192
  · rw [dif_pos ⟨by omega, h⟩, dif_pos h]
  · rw [dif_neg (fun e => h e.2), dif_neg h, Padding.sitofp_zero]

theorem V_v0 : V (F := Ideal) m c main_v0 = (m ((c : Thread nD τ).loc main_arg0) : FVec Ideal S2048x768 .f32) := by
  unfold_abbrev_sides
  after_reads_simp
  rfl

theorem V_v5 : V (F := Ideal) m c main_v5 = right (m ((c : Thread nD τ).loc main_arg1)) := by
  unfold_abbrev_sides
  after_reads_simp
  simp -implicitDefEqProofs only [StableHlo.TRef.ofBuf_toBuf, StableHlo.TRef.toBuf, StableHlo.TRef.ofBuf, cast_cast, cast_eq]
  clean_types
  rfl

theorem window0_at (t : Fin cfg0.N) (r : Fin 2048) (k : Fin 768) : (iblk m c 0 t : FVec Ideal S2048x768 .bf16) (ix2 r k)
    = V m c main_v0 (ix2 (rowAt t r) k) := by
  blk_ext [iblk, (index_at t).1]

theorem window1_at (t : Fin cfg0.N) (d : Fin 512) (k : Fin 768) : (iblk m c 1 t : FVec Ideal S512x768 .bf16) (ix2 d k)
    = V m c main_v5 (ix2 (colAt t d) k) := by
  blk_ext [iblk, (index_at t).2.1]

/-- The kernel's product of two blocks. -/
theorem pay_at (x : FVec Ideal S2048x768 .bf16) (y : FVec Ideal S512x768 .bf16) (r : Fin 2048) (d : Fin 512) :
    k0_pay1 (F := Ideal) x y (ix2 r d) = ∑ k : Fin 768, x (ix2 r k) * y (ix2 d k) := by
  pointwise [k0_pay1, dot_S2048x768_S512x768_S2048x512_1_1_0_0_n_n]

/-- What the kernel leaves in a block. -/
theorem out_eq (x : FVec Ideal S2048x768 .bf16) (y : FVec Ideal S512x768 .bf16) : out0_2 (F := Ideal) x y = k0_pay1 (F := Ideal) x y := by
  unfold out0_2
  rw [View.canon_unit_zero (funext fun a => by fin_cases a <;> rfl), View.ld_unit_zero (funext fun a => by fin_cases a <;> rfl),
    View.ld_unit_zero (funext fun a => by fin_cases a <;> rfl)]

/-- A block of the result. -/
theorem read_at (X : FVec Ideal S2048x2048 .f32) (t : Fin cfg0.N) (r : Fin 2048) (d : Fin 512) :
    (((cfg0.win 2).blk t).view.read (Elt Ideal) X : FVec Ideal S2048x512 .f32) (ix2 r d) = X (ix2 (rowAt t r) (colAt t d)) := by
  blk_ext [(index_at t).2.2]

theorem mem_at (t : Fin cfg0.N) (i : S2048x2048.Idx) (h : t.val = 4 * ((i 0).val / 2048) + (i 1).val / 512) : i ∈ ((cfg0.win 2).blk t).view.set := by
  show i ∈ ((View.whole main_v6).slice (win0_2.rect t)).set
  rw [View.set_slice_whole, Rect.mem_set_unit]
  have h0 : (i 0).val < 2048 := (i 0).isLt
  have h1 : (i 1).val < 2048 := (i 1).isLt
  intro a
  match a with
  | ⟨0, _⟩ =>
    show win0_2.index t (0 : Fin 2) * 2048 ≤ (i 0).val ∧ (i 0).val < win0_2.index t (0 : Fin 2) * 2048 + 2048
    rw [(index_at t).2.2]; show t.val / 4 * 2048 ≤ _ ∧ _ < t.val / 4 * 2048 + 2048; omega
  | ⟨1, _⟩ =>
    show win0_2.index t (1 : Fin 2) * 512 ≤ (i 1).val ∧ (i 1).val < win0_2.index t (1 : Fin 2) * 512 + 512
    rw [(index_at t).2.2]; show t.val % 4 * 512 ≤ _ ∧ _ < t.val % 4 * 512 + 512; omega

/-- The reference's product. -/
theorem ref_at (y : FVec Ideal S2048x768 .f32) (w : FVec Ideal S768x1536 .f32) (i : Fin 2048) (j : Fin 2048) :
    Reference14Ideal.Read.val_main_v3 (F := Ideal) y w (ix2 i j) = ∑ k : Fin 768, y (ix2 i k) * right w (ix2 j k) := by
  pointwise [Reference14Ideal.Read.val_main_v3, Reference14Ideal.Read.val_main_v2, Reference14Ideal.Read.val_main_v1, Reference14Ideal.Read.val_main_v0, Reference14Ideal.Read.val_main_call0_v0, Reference14Ideal.Read.val_main_c, Reference14Ideal.dot_S2048x768_S768x1536_S2048x1536_1_0_0_1_n_n]
  have hk := j.isLt
  by_cases h : j.val % 256 < 192
  · rw [dif_pos ⟨by omega, h⟩]
    refine sum_congr rfl fun k _ => ?_
    rw [right_at, dif_pos h]
  · rw [dif_neg (fun e => h e.2), Padding.sitofp_zero]
    refine (sum_eq_zero fun k _ => ?_).symm
    rw [right_at, dif_neg h, mul_zero]

theorem point_at (t : Fin cfg0.N) (r : Fin 2048) (d : Fin 512) :
    k0_pay1 (F := Ideal) (iblk m c 0 t) (iblk m c 1 t) (ix2 r d) = (((cfg0.win 2).blk t).view.read (Elt Ideal)
    (Reference14Ideal.Read.val_main_v3 (F := Ideal) (m ((c : Thread nD τ).loc main_arg0)) (m ((c : Thread nD τ).loc main_arg1))) : FVec Ideal S2048x512 .f32) (ix2 r d) := by
  rw [read_at, pay_at, ref_at]
  refine sum_congr rfl fun k _ => ?_
  rw [window0_at, window1_at, V_v0, V_v5]

theorem block_at (t : Fin cfg0.N) : (dats m 0 c).flushed 2 t = ((cfg0.win 2).blk t).view.read (Elt Ideal)
    (Reference14Ideal.Read.val_main_v3 (F := Ideal) (m ((c : Thread nD τ).loc main_arg0)) (m ((c : Thread nD τ).loc main_arg1))) := by
  rw [Value.flushed2, out_eq]
  funext y
  obtain ⟨r, d, rfl⟩ : ∃ (r : Fin 2048) (d : Fin 512), y = ix2 r d := ⟨y 0, y 1, by
    funext a
    match a with
    | ⟨0, _⟩ => rfl
    | ⟨1, _⟩ => rfl⟩
  exact point_at m c t r d

/-- The query product: the kernel's result is the reference's. -/
theorem result : (dats m 0 c).arrAt 2 cfg0.N
    = Reference14Ideal.Read.val_main_v3 (F := Ideal) (m ((c : Thread nD τ).loc main_arg0)) (m ((c : Thread nD τ).loc main_arg1)) :=
  (dats m 0 c).arrAt_eq_of_cover 2 _ (fun t _ => block_at m c t) (fun i =>
    have h0 : (i 0).val < 2048 := (i 0).isLt
    have h1 : (i 1).val < 2048 := (i 1).isLt
    ⟨⟨4 * ((i 0).val / 2048) + (i 1).val / 512, by rw [N_eq]; omega⟩, flush_at _, mem_at _ i rfl⟩)

end Cert.Kernel14Ideal

end
-- ==== Proof.KeyValue.lean ====
module

public import proofs.«01_k».proof.Proof.Gen.Kernel15Ideal.Value
public import proofs.«01_k».proof.Proof.Gen.Reference15Ideal.Read
public import proofs.«01_k».proof.Proof.Sums
public import Idealize.ShloMosaic.Lib.Pipeline.ValueKit.Point
public import Idealize.ShloMosaic.Lib.StableHlo.ReadAt

/-!
# The key and value product

At a point the kernel multiplies the latent by 512 columns of the weights.
-/

@[expose] public section

set_option maxRecDepth 16384

noncomputable section

namespace Cert.Kernel15Ideal

open Idealize.ShloMosaic Idealize.ShloMosaic.TcCoe Idealize.SL.Sem Gen Finset

/-- The blocks that the windows read at a point. -/
theorem index_at (t : Fin cfg0.N) : win0_0.index t = ![t.val / 4, 0] ∧ win0_1.index t = ![0, t.val % 4] ∧ win0_2.index t = ![t.val / 4, t.val % 4] := by
  revert t
  decide +kernel

theorem N_eq : cfg0.N = 4 := by decide +kernel

theorem flush_at (t : Fin cfg0.N) : (cfg0.win 2).flush t = true := by
  revert t
  decide +kernel

/-- A row of the point's block, in the whole result. -/
abbrev rowAt (t : Fin cfg0.N) (r : Fin 2048) : Fin 2048 := ⟨t.val / 4 * 2048 + r.val, by have ht : t.val < 4 := N_eq ▸ t.isLt; omega⟩

/-- A column of the point's block, in the whole result. -/
abbrev colAt (t : Fin cfg0.N) (d : Fin 512) : Fin 2048 := ⟨t.val % 4 * 512 + d.val, by have ht : t.val < 4 := N_eq ▸ t.isLt; omega⟩

variable (m : (ℓ : Loc nD τ sig) → Buf (Elt Ideal) ℓ) (c : Dev nD)

theorem V_v0 : V (F := Ideal) m c main_v0 = (m ((c : Thread nD τ).loc main_arg0) : FVec Ideal S2048x512 .f32) := by
  unfold_abbrev_sides
  after_reads_simp
  rfl

theorem V_v1 : V (F := Ideal) m c main_v1 = (m ((c : Thread nD τ).loc main_arg1) : FVec Ideal S512x2048 .f32) := by
  unfold_abbrev_sides
  after_reads_simp
  rfl

theorem window0_at (t : Fin cfg0.N) (r : Fin 2048) (k : Fin 512) : (iblk m c 0 t : FVec Ideal S2048x512 .bf16) (ix2 r k)
    = V m c main_v0 (ix2 (rowAt t r) k) := by
  blk_ext [iblk, (index_at t).1]

theorem window1_at (t : Fin cfg0.N) (k : Fin 512) (d : Fin 512) : (iblk m c 1 t : FVec Ideal S512x512 .bf16) (ix2 k d)
    = V m c main_v1 (ix2 k (colAt t d)) := by
  blk_ext [iblk, (index_at t).2.1]

/-- The kernel's product of two blocks. -/
theorem pay_at (x : FVec Ideal S2048x512 .bf16) (y : FVec Ideal S512x512 .bf16) (r : Fin 2048) (d : Fin 512) :
    k0_pay1 (F := Ideal) x y (ix2 r d) = ∑ k : Fin 512, x (ix2 r k) * y (ix2 k d) := by
  pointwise [k0_pay1, dot_S2048x512_S512x512_S2048x512_1_0_0_1_n_n]

/-- What the kernel leaves in a block. -/
theorem out_eq (x : FVec Ideal S2048x512 .bf16) (y : FVec Ideal S512x512 .bf16) : out0_2 (F := Ideal) x y = k0_pay1 (F := Ideal) x y := by
  unfold out0_2
  rw [View.canon_unit_zero (funext fun a => by fin_cases a <;> rfl), View.ld_unit_zero (funext fun a => by fin_cases a <;> rfl),
    View.ld_unit_zero (funext fun a => by fin_cases a <;> rfl)]

/-- A block of the result. -/
theorem read_at (X : FVec Ideal S2048x2048 .f32) (t : Fin cfg0.N) (r : Fin 2048) (d : Fin 512) :
    (((cfg0.win 2).blk t).view.read (Elt Ideal) X : FVec Ideal S2048x512 .f32) (ix2 r d) = X (ix2 (rowAt t r) (colAt t d)) := by
  blk_ext [(index_at t).2.2]

theorem mem_at (t : Fin cfg0.N) (i : S2048x2048.Idx) (h : t.val = 4 * ((i 0).val / 2048) + (i 1).val / 512) : i ∈ ((cfg0.win 2).blk t).view.set := by
  show i ∈ ((View.whole main_v2).slice (win0_2.rect t)).set
  rw [View.set_slice_whole, Rect.mem_set_unit]
  have h0 : (i 0).val < 2048 := (i 0).isLt
  have h1 : (i 1).val < 2048 := (i 1).isLt
  intro a
  match a with
  | ⟨0, _⟩ =>
    show win0_2.index t (0 : Fin 2) * 2048 ≤ (i 0).val ∧ (i 0).val < win0_2.index t (0 : Fin 2) * 2048 + 2048
    rw [(index_at t).2.2]; show t.val / 4 * 2048 ≤ _ ∧ _ < t.val / 4 * 2048 + 2048; omega
  | ⟨1, _⟩ =>
    show win0_2.index t (1 : Fin 2) * 512 ≤ (i 1).val ∧ (i 1).val < win0_2.index t (1 : Fin 2) * 512 + 512
    rw [(index_at t).2.2]; show t.val % 4 * 512 ≤ _ ∧ _ < t.val % 4 * 512 + 512; omega

/-- The reference's product. -/
theorem ref_at (h : FVec Ideal S2048x512 .f32) (w : FVec Ideal S512x2048 .f32) (i : Fin 2048) (j : Fin 2048) :
    Reference15Ideal.Read.val_main_v0 (F := Ideal) h w (ix2 i j) = ∑ k : Fin 512, h (ix2 i k) * w (ix2 k j) := by
  pointwise [Reference15Ideal.Read.val_main_v0, Reference15Ideal.dot_S2048x512_S512x2048_S2048x2048_1_0_0_1_n_n]

theorem point_at (t : Fin cfg0.N) (r : Fin 2048) (d : Fin 512) :
    k0_pay1 (F := Ideal) (iblk m c 0 t) (iblk m c 1 t) (ix2 r d) = (((cfg0.win 2).blk t).view.read (Elt Ideal)
    (Reference15Ideal.Read.val_main_v0 (F := Ideal) (m ((c : Thread nD τ).loc main_arg0)) (m ((c : Thread nD τ).loc main_arg1))) : FVec Ideal S2048x512 .f32) (ix2 r d) := by
  rw [read_at, pay_at, ref_at]
  refine sum_congr rfl fun k _ => ?_
  rw [window0_at, window1_at, V_v0, V_v1]

theorem block_at (t : Fin cfg0.N) : (dats m 0 c).flushed 2 t = ((cfg0.win 2).blk t).view.read (Elt Ideal)
    (Reference15Ideal.Read.val_main_v0 (F := Ideal) (m ((c : Thread nD τ).loc main_arg0)) (m ((c : Thread nD τ).loc main_arg1))) := by
  rw [Value.flushed2, out_eq]
  funext y
  obtain ⟨r, d, rfl⟩ : ∃ (r : Fin 2048) (d : Fin 512), y = ix2 r d := ⟨y 0, y 1, by
    funext a
    match a with
    | ⟨0, _⟩ => rfl
    | ⟨1, _⟩ => rfl⟩
  exact point_at m c t r d

/-- The key and value product: the kernel's result is the reference's. -/
theorem result : (dats m 0 c).arrAt 2 cfg0.N
    = Reference15Ideal.Read.val_main_v0 (F := Ideal) (m ((c : Thread nD τ).loc main_arg0)) (m ((c : Thread nD τ).loc main_arg1)) :=
  (dats m 0 c).arrAt_eq_of_cover 2 _ (fun t _ => block_at m c t) (fun i =>
    have h0 : (i 0).val < 2048 := (i 0).isLt
    have h1 : (i 1).val < 2048 := (i 1).isLt
    ⟨⟨4 * ((i 0).val / 2048) + (i 1).val / 512, by rw [N_eq]; omega⟩, flush_at _, mem_at _ i rfl⟩)

end Cert.Kernel15Ideal

end
-- ==== Proof.Mix.lean ====
module

public import proofs.«01_k».proof.Proof.Gen.Kernel16Ideal.Value
public import proofs.«01_k».proof.Proof.Gen.Reference16Ideal.Read
public import proofs.«01_k».proof.Proof.Sums
public import Idealize.ShloMosaic.Lib.Pipeline.ValueKit.Point
public import Idealize.ShloMosaic.Lib.StableHlo.ReadAt

/-!
# The product behind the two groups of heads

At a point the kernel multiplies 1024 rows of the input by 1024 columns of the weights.
-/

@[expose] public section

set_option maxRecDepth 16384

noncomputable section

namespace Cert.Kernel16Ideal

open Idealize.ShloMosaic Idealize.ShloMosaic.TcCoe Idealize.SL.Sem Gen Finset

/-- The blocks that the windows read at a point. -/
theorem index_at (t : Fin cfg0.N) : win0_0.index t = ![t.val / 2, 0] ∧ win0_1.index t = ![0, t.val % 2] ∧ win0_2.index t = ![t.val / 2, t.val % 2] := by
  revert t
  decide +kernel

theorem N_eq : cfg0.N = 4 := by decide +kernel

theorem flush_at (t : Fin cfg0.N) : (cfg0.win 2).flush t = true := by
  revert t
  decide +kernel

/-- A row of the point's block, in the whole result. -/
abbrev rowAt (t : Fin cfg0.N) (r : Fin 1024) : Fin 2048 := ⟨t.val / 2 * 1024 + r.val, by have ht : t.val < 4 := N_eq ▸ t.isLt; omega⟩

/-- A column of the point's block, in the whole result. -/
abbrev colAt (t : Fin cfg0.N) (d : Fin 1024) : Fin 2048 := ⟨t.val % 2 * 1024 + d.val, by have ht : t.val < 4 := N_eq ▸ t.isLt; omega⟩

variable (m : (ℓ : Loc nD τ sig) → Buf (Elt Ideal) ℓ) (c : Dev nD)

theorem V_v0 : V (F := Ideal) m c main_v0 = (m ((c : Thread nD τ).loc main_arg0) : FVec Ideal S2048x2048 .f32) := by
  unfold_abbrev_sides
  after_reads_simp
  rfl

theorem V_v1 : V (F := Ideal) m c main_v1 = (m ((c : Thread nD τ).loc main_arg1) : FVec Ideal S2048x2048 .f32) := by
  unfold_abbrev_sides
  after_reads_simp
  rfl

theorem window0_at (t : Fin cfg0.N) (r : Fin 1024) (k : Fin 2048) : (iblk m c 0 t : FVec Ideal S1024x2048 .bf16) (ix2 r k)
    = V m c main_v0 (ix2 (rowAt t r) k) := by
  blk_ext [iblk, (index_at t).1]

theorem window1_at (t : Fin cfg0.N) (k : Fin 2048) (d : Fin 1024) : (iblk m c 1 t : FVec Ideal S2048x1024 .bf16) (ix2 k d)
    = V m c main_v1 (ix2 k (colAt t d)) := by
  blk_ext [iblk, (index_at t).2.1]

/-- The kernel's product of two blocks. -/
theorem pay_at (x : FVec Ideal S1024x2048 .bf16) (y : FVec Ideal S2048x1024 .bf16) (r : Fin 1024) (d : Fin 1024) :
    k0_pay1 (F := Ideal) x y (ix2 r d) = ∑ k : Fin 2048, x (ix2 r k) * y (ix2 k d) := by
  pointwise [k0_pay1, dot_S1024x2048_S2048x1024_S1024x1024_1_0_0_1_n_n]

/-- What the kernel leaves in a block. -/
theorem out_eq (x : FVec Ideal S1024x2048 .bf16) (y : FVec Ideal S2048x1024 .bf16) : out0_2 (F := Ideal) x y = k0_pay1 (F := Ideal) x y := by
  unfold out0_2
  rw [View.canon_unit_zero (funext fun a => by fin_cases a <;> rfl), View.ld_unit_zero (funext fun a => by fin_cases a <;> rfl),
    View.ld_unit_zero (funext fun a => by fin_cases a <;> rfl)]

/-- A block of the result. -/
theorem read_at (X : FVec Ideal S2048x2048 .f32) (t : Fin cfg0.N) (r : Fin 1024) (d : Fin 1024) :
    (((cfg0.win 2).blk t).view.read (Elt Ideal) X : FVec Ideal S1024x1024 .f32) (ix2 r d) = X (ix2 (rowAt t r) (colAt t d)) := by
  blk_ext [(index_at t).2.2]

theorem mem_at (t : Fin cfg0.N) (i : S2048x2048.Idx) (h : t.val = 2 * ((i 0).val / 1024) + (i 1).val / 1024) : i ∈ ((cfg0.win 2).blk t).view.set := by
  show i ∈ ((View.whole main_v2).slice (win0_2.rect t)).set
  rw [View.set_slice_whole, Rect.mem_set_unit]
  have h0 : (i 0).val < 2048 := (i 0).isLt
  have h1 : (i 1).val < 2048 := (i 1).isLt
  intro a
  match a with
  | ⟨0, _⟩ =>
    show win0_2.index t (0 : Fin 2) * 1024 ≤ (i 0).val ∧ (i 0).val < win0_2.index t (0 : Fin 2) * 1024 + 1024
    rw [(index_at t).2.2]; show t.val / 2 * 1024 ≤ _ ∧ _ < t.val / 2 * 1024 + 1024; omega
  | ⟨1, _⟩ =>
    show win0_2.index t (1 : Fin 2) * 1024 ≤ (i 1).val ∧ (i 1).val < win0_2.index t (1 : Fin 2) * 1024 + 1024
    rw [(index_at t).2.2]; show t.val % 2 * 1024 ≤ _ ∧ _ < t.val % 2 * 1024 + 1024; omega

/-- The reference's product. -/
theorem ref_at (h : FVec Ideal S2048x2048 .f32) (w : FVec Ideal S2048x2048 .f32) (i : Fin 2048) (j : Fin 2048) :
    Reference16Ideal.Read.val_main_v0 (F := Ideal) h w (ix2 i j) = ∑ k : Fin 2048, h (ix2 i k) * w (ix2 k j) := by
  pointwise [Reference16Ideal.Read.val_main_v0, Reference16Ideal.dot_S2048x2048_S2048x2048_S2048x2048_1_0_0_1_n_n]

theorem point_at (t : Fin cfg0.N) (r : Fin 1024) (d : Fin 1024) :
    k0_pay1 (F := Ideal) (iblk m c 0 t) (iblk m c 1 t) (ix2 r d) = (((cfg0.win 2).blk t).view.read (Elt Ideal)
    (Reference16Ideal.Read.val_main_v0 (F := Ideal) (m ((c : Thread nD τ).loc main_arg0)) (m ((c : Thread nD τ).loc main_arg1))) : FVec Ideal S1024x1024 .f32) (ix2 r d) := by
  rw [read_at, pay_at, ref_at]
  refine sum_congr rfl fun k _ => ?_
  rw [window0_at, window1_at, V_v0, V_v1]

theorem block_at (t : Fin cfg0.N) : (dats m 0 c).flushed 2 t = ((cfg0.win 2).blk t).view.read (Elt Ideal)
    (Reference16Ideal.Read.val_main_v0 (F := Ideal) (m ((c : Thread nD τ).loc main_arg0)) (m ((c : Thread nD τ).loc main_arg1))) := by
  rw [Value.flushed2, out_eq]
  funext y
  obtain ⟨r, d, rfl⟩ : ∃ (r : Fin 1024) (d : Fin 1024), y = ix2 r d := ⟨y 0, y 1, by
    funext a
    match a with
    | ⟨0, _⟩ => rfl
    | ⟨1, _⟩ => rfl⟩
  exact point_at m c t r d

/-- The product behind the two groups of heads: the kernel's result is the reference's. -/
theorem result : (dats m 0 c).arrAt 2 cfg0.N
    = Reference16Ideal.Read.val_main_v0 (F := Ideal) (m ((c : Thread nD τ).loc main_arg0)) (m ((c : Thread nD τ).loc main_arg1)) :=
  (dats m 0 c).arrAt_eq_of_cover 2 _ (fun t _ => block_at m c t) (fun i =>
    have h0 : (i 0).val < 2048 := (i 0).isLt
    have h1 : (i 1).val < 2048 := (i 1).isLt
    ⟨⟨2 * ((i 0).val / 1024) + (i 1).val / 1024, by rw [N_eq]; omega⟩, flush_at _, mem_at _ i rfl⟩)

end Cert.Kernel16Ideal

end
-- ==== Proof.lean ====
module

public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.NormGrad
public import proofs.«01_k».proof.Proof.FinalGrad
public import proofs.«01_k».proof.Proof.MiddleGrad
public import proofs.«01_k».proof.Proof.FirstNorm
public import proofs.«01_k».proof.Proof.MiddleNorms
public import proofs.«01_k».proof.Proof.MixNorms
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Results
public import proofs.«01_k».proof.Proof.Finite
public import proofs.«01_k».proof.Proof.Finite2
public import proofs.«01_k».proof.Proof.UpWeights
public import proofs.«01_k».proof.Proof.DownWeights
public import proofs.«01_k».proof.Proof.InputGrad
public import proofs.«01_k».proof.Proof.InputWeights
public import proofs.«01_k».proof.Proof.MixGrad
public import proofs.«01_k».proof.Proof.MixWeights
public import proofs.«01_k».proof.Proof.QueryGrad
public import proofs.«01_k».proof.Proof.QueryWeights
public import proofs.«01_k».proof.Proof.KeyValueGrad
public import proofs.«01_k».proof.Proof.KeyValueWeights
public import proofs.«01_k».proof.Proof.Input
public import proofs.«01_k».proof.Proof.Query
public import proofs.«01_k».proof.Proof.KeyValue
public import proofs.«01_k».proof.Proof.Mix
public import Idealize.ShloMosaic.Adequacy
public import Idealize.ShloMosaic.Init

@[expose] public section

noncomputable section

namespace Cert.Proof

open Idealize.ShloMosaic Idealize.ShloMosaic.TcCoe Idealize.SL.Sem Cert.Attention

/-- The shapes the precondition's predicate names. -/
theorem facts_finite : Cert.Pre_finite.Facts where
  bcast_S_S2048x8x192 := by decide
  reducesTo_S2048x8x192_S_d0_1_2 := by decide
  h_S_ := by decide
  bcast_S_S2048x8x256 := by decide
  reducesTo_S2048x8x256_S_d0_1_2 := by decide
  bcast_S_S2048x64 := by decide
  reducesTo_S2048x64_S_d0_1 := by decide
  bcast_S_S2048x32 := by decide
  reducesTo_S2048x32_S_d0_1 := by decide
  bcast_S_S2048x1024 := by decide
  reducesTo_S2048x1024_S_d0_1 := by decide

/-- The reference runs and leaves its arguments; it declares no semaphore. -/
theorem frame_reference : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

attribute [local instance] facts_finite

/-- The kernel's three gradients are the reference's. -/
theorem algebraic : Cert.algebraic_KernelIdeal_ReferenceIdeal_pre_finite := by
  intro m ρ m' ρ' hpre hag
  refine ⟨fun c => Cert.KernelIdeal.Value.G10 m c, fun c => Cert.KernelIdeal.Value.G11 m c, fun c => Cert.KernelIdeal.Value.G12 m c,
    Cert.KernelIdeal.Value.run m ρ, (θ_run Cert.ReferenceIdeal.defs _ _).mono (fun r h c => ?_) (Cert.ReferenceIdeal.Value.run (F := Ideal) m' ρ')⟩
  have H := reals_of_pre _ _ _ _ _ _ (hpre c)
  obtain ⟨a0, a1, a2, a3, a4, a5⟩ := hag c
  obtain ⟨hq, hkv, hkp, hargs⟩ := h c
  refine ⟨hq.trans ?_, hkv.trans ?_, hkp.trans ?_, hargs⟩
  · refine (Cert.ReferenceIdeal.Read.val_main_v116_eq (StableHlo.launchContents m' c)).trans ?_
    refine Eq.trans ?_ (Cert.KernelIdeal.result_q m c H).symm
    exact congr (congr (congr (congr (congr (congrArg _ a0) a1) a2) a3) a4) a5
  · refine (Cert.ReferenceIdeal.Read.val_main_v117_eq (StableHlo.launchContents m' c)).trans ?_
    refine Eq.trans ?_ (Cert.KernelIdeal.result_kv m c H).symm
    exact congr (congr (congr (congr (congr (congrArg _ a0) a1) a2) a3) a4) a5
  · refine (Cert.ReferenceIdeal.Read.val_main_v115_eq (StableHlo.launchContents m' c)).trans ?_
    refine Eq.trans ?_ (Cert.KernelIdeal.result_kp m c H).symm
    exact congr (congr (congr (congr (congr (congrArg _ a0) a1) a2) a3) a4) a5

/-- The shapes the second precondition's predicate names. -/
theorem facts_finite2 : Cert.Pre_finite2.Facts where
  bcast_S_S2048x5632 := by decide
  reducesTo_S2048x5632_S_d0_1 := by decide
  h_S_ := by decide
  bcast_S_S5632x2048 := by decide
  reducesTo_S5632x2048_S_d0_1 := by decide
  bcast_S_S2048x2048 := by decide
  reducesTo_S2048x2048_S_d0_1 := by decide

attribute [local instance] facts_finite2

theorem frame_reference2 : Cert.quiescent_Reference2Ideal := fun m ρ _ =>
  (θ_run Cert.Reference2Ideal.defs _ _).mono
    (fun r h => ⟨fun c => (h c).2.2, Idealize.ShloMosaic.sem_eq_zero_of_no_sems (by decide) r.2⟩)
    (Cert.Reference2Ideal.Value.run (F := Ideal) m ρ)

theorem frame_reference3 : Cert.quiescent_Reference3Ideal := fun m ρ _ =>
  (θ_run Cert.Reference3Ideal.defs _ _).mono
    (fun r h => ⟨fun c => (h c).2.2, Idealize.ShloMosaic.sem_eq_zero_of_no_sems (by decide) r.2⟩)
    (Cert.Reference3Ideal.Value.run (F := Ideal) m ρ)

theorem frame_reference4 : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- The gradients through the down product and the gate. -/
theorem algebraic2 : Cert.algebraic_Kernel2Ideal_Reference2Ideal_pre_finite2 := by
  intro m ρ m' ρ' hpre hag
  refine ⟨_, _, Cert.Kernel2Ideal.Value.run_blocks m ρ, (θ_run Cert.Reference2Ideal.defs _ _).mono (fun r h c => ?_) (Cert.Reference2Ideal.Value.run (F := Ideal) m' ρ')⟩
  have H := reals_of_pre2 _ _ _ _ (hpre c)
  obtain ⟨a0, a1, a2, a3⟩ := hag c
  obtain ⟨hg, hu, hargs⟩ := h c
  refine ⟨hg.trans ?_, hu.trans ?_, hargs⟩
  · refine (Cert.Reference2Ideal.Read.val_main_v9_eq (F := Ideal) _ _ _ _).trans ?_
    refine Eq.trans ?_ (Cert.Kernel2Ideal.result_gate m c H).symm
    exact congr (congr (congr (congrArg _ a0) a1) a2) a3
  · refine (Cert.Reference2Ideal.Read.val_main_v12_eq (F := Ideal) _ _ _).trans ?_
    refine Eq.trans ?_ (Cert.Kernel2Ideal.result_up m c).symm
    exact congr (congr (congrArg _ a0) a2) a3

/-- The gradients of the gate's and the up product's weights. -/
theorem algebraic3 : Cert.algebraic_Kernel3Ideal_Reference3Ideal := by
  intro m ρ m' ρ' _ hag
  refine ⟨_, _, Cert.Kernel3Ideal.Value.run_blocks m ρ, (θ_run Cert.Reference3Ideal.defs _ _).mono (fun r h c => ?_) (Cert.Reference3Ideal.Value.run (F := Ideal) m' ρ')⟩
  obtain ⟨a0, a1, a2⟩ := hag c
  obtain ⟨hg, hu, hargs⟩ := h c
  refine ⟨hg.trans ?_, hu.trans ?_, hargs⟩
  · refine (Cert.Reference3Ideal.Read.val_main_v9_eq (F := Ideal) _ _).trans ?_
    refine Eq.trans ?_ (Cert.Kernel3Ideal.result_gate m c).symm
    exact congr (congrArg _ a0) a2
  · refine (Cert.Reference3Ideal.Read.val_main_v12_eq (F := Ideal) _ _).trans ?_
    refine Eq.trans ?_ (Cert.Kernel3Ideal.result_up m c).symm
    exact congr (congrArg _ a1) a2

/-- The gradient of the down product's weights. -/
theorem algebraic4 : Cert.algebraic_Kernel4Ideal_Reference4Ideal := by
  intro m ρ m' ρ' _ hag
  refine ⟨_, Cert.Kernel4Ideal.Value.run_blocks m ρ, (θ_run Cert.Reference4Ideal.defs _ _).mono (fun r h c => ?_) (Cert.Reference4Ideal.Value.run (F := Ideal) m' ρ')⟩
  obtain ⟨a0, a1, a2⟩ := hag c
  obtain ⟨hd, hargs⟩ := h c
  refine ⟨hd.trans ?_, hargs⟩
  refine (Cert.Reference4Ideal.Read.val_main_v7_eq (F := Ideal) _ _ _).trans ?_
  refine Eq.trans ?_ (Cert.Kernel4Ideal.result_down m c).symm
  exact congr (congr (congrArg _ a0) a1) a2

theorem frame_reference5 : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- The gradient through the input product. -/
theorem algebraic5 : Cert.algebraic_Kernel5Ideal_Reference5Ideal := by
  intro m ρ m' ρ' _ hag
  refine ⟨_, Cert.Kernel5Ideal.Value.run_blocks m ρ, (θ_run Cert.Reference5Ideal.defs _ _).mono (fun r h c => ?_) (Cert.Reference5Ideal.Value.run (F := Ideal) m' ρ')⟩
  obtain ⟨a0, a1⟩ := hag c
  obtain ⟨hd, hargs⟩ := h c
  refine ⟨hd.trans ?_, hargs⟩
  refine (Cert.Reference5Ideal.Read.val_main_v2_eq (F := Ideal) _ _).trans ?_
  refine Eq.trans ?_ (Cert.Kernel5Ideal.result m c).symm
  exact congr (congrArg _ a0) a1

theorem frame_reference6 : Cert.quiescent_Reference6Ideal := fun m ρ _ =>
  (θ_run Cert.Reference6Ideal.defs _ _).mono
    (fun r h => ⟨fun c => (h c).2, Idealize.ShloMosaic.sem_eq_zero_of_no_sems (by decide) r.2⟩)
    (Cert.Reference6Ideal.Value.run (F := Ideal) m ρ)

/-- The gradient of the input product's weights. -/
theorem algebraic6 : Cert.algebraic_Kernel6Ideal_Reference6Ideal := by
  intro m ρ m' ρ' _ hag
  refine ⟨_, Cert.Kernel6Ideal.Value.run_blocks m ρ, (θ_run Cert.Reference6Ideal.defs _ _).mono (fun r h c => ?_) (Cert.Reference6Ideal.Value.run (F := Ideal) m' ρ')⟩
  obtain ⟨a0, a1⟩ := hag c
  obtain ⟨hd, hargs⟩ := h c
  refine ⟨hd.trans ?_, hargs⟩
  refine (Cert.Reference6Ideal.Read.val_main_v6_eq (F := Ideal) _ _).trans ?_
  refine Eq.trans ?_ (Cert.Kernel6Ideal.result m c).symm
  exact congr (congrArg _ a0) a1

theorem frame_reference7 : Cert.quiescent_Reference7Ideal := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)

/-- The gradient through the output product. -/
theorem algebraic7 : Cert.algebraic_Kernel7Ideal_Reference7Ideal := by
  intro m ρ m' ρ' _ hag
  refine ⟨_, Cert.Kernel7Ideal.Value.run_blocks m ρ, (θ_run Cert.Reference7Ideal.defs _ _).mono (fun r h c => ?_) (Cert.Reference7Ideal.Value.run (F := Ideal) m' ρ')⟩
  obtain ⟨a0, a1⟩ := hag c
  obtain ⟨hd, hargs⟩ := h c
  refine ⟨hd.trans ?_, hargs⟩
  refine (Cert.Reference7Ideal.Read.val_main_v2_eq (F := Ideal) _ _).trans ?_
  refine Eq.trans ?_ (Cert.Kernel7Ideal.result m c).symm
  exact congr (congrArg _ a0) a1

theorem frame_reference8 : Cert.quiescent_Reference8Ideal := fun m ρ _ =>
  (θ_run Cert.Reference8Ideal.defs _ _).mono
    (fun r h => ⟨fun c => (h c).2, Idealize.ShloMosaic.sem_eq_zero_of_no_sems (by decide) r.2⟩)
    (Cert.Reference8Ideal.Value.run (F := Ideal) m ρ)

/-- The gradient of the output product's weights. -/
theorem algebraic8 : Cert.algebraic_Kernel8Ideal_Reference8Ideal := by
  intro m ρ m' ρ' _ hag
  refine ⟨_, Cert.Kernel8Ideal.Value.run_blocks m ρ, (θ_run Cert.Reference8Ideal.defs _ _).mono (fun r h c => ?_) (Cert.Reference8Ideal.Value.run (F := Ideal) m' ρ')⟩
  obtain ⟨a0, a1⟩ := hag c
  obtain ⟨hd, hargs⟩ := h c
  refine ⟨hd.trans ?_, hargs⟩
  refine (Cert.Reference8Ideal.Read.val_main_v4_eq (F := Ideal) _ _).trans ?_
  refine Eq.trans ?_ (Cert.Kernel8Ideal.result m c).symm
  exact congr (congrArg _ a0) a1

theorem frame_reference9 : Cert.quiescent_Reference9Ideal := fun m ρ _ =>
  (θ_run Cert.Reference9Ideal.defs _ _).mono
    (fun r h => ⟨fun c => (h c).2, Idealize.ShloMosaic.sem_eq_zero_of_no_sems (by decide) r.2⟩)
    (Cert.Reference9Ideal.Value.run (F := Ideal) m ρ)

/-- The gradient through the query product. -/
theorem algebraic9 : Cert.algebraic_Kernel9Ideal_Reference9Ideal := by
  intro m ρ m' ρ' _ hag
  refine ⟨_, Cert.Kernel9Ideal.Value.run_blocks m ρ, (θ_run Cert.Reference9Ideal.defs _ _).mono (fun r h c => ?_) (Cert.Reference9Ideal.Value.run (F := Ideal) m' ρ')⟩
  obtain ⟨a0, a1⟩ := hag c
  obtain ⟨hd, hargs⟩ := h c
  refine ⟨hd.trans ?_, hargs⟩
  refine (Cert.Reference9Ideal.Read.val_main_v2_eq (F := Ideal) _ _).trans ?_
  refine Eq.trans ?_ (Cert.Kernel9Ideal.result m c).symm
  exact congr (congrArg _ a0) a1

theorem frame_reference10 : Cert.quiescent_Reference10Ideal := fun m ρ _ =>
  (θ_run Cert.Reference10Ideal.defs _ _).mono
    (fun r h => ⟨fun c => (h c).2, Idealize.ShloMosaic.sem_eq_zero_of_no_sems (by decide) r.2⟩)
    (Cert.Reference10Ideal.Value.run (F := Ideal) m ρ)

/-- The gradient of the query product's weights. -/
theorem algebraic10 : Cert.algebraic_Kernel10Ideal_Reference10Ideal := by
  intro m ρ m' ρ' _ hag
  refine ⟨_, Cert.Kernel10Ideal.Value.run_blocks m ρ, (θ_run Cert.Reference10Ideal.defs _ _).mono (fun r h c => ?_) (Cert.Reference10Ideal.Value.run (F := Ideal) m' ρ')⟩
  obtain ⟨a0, a1⟩ := hag c
  obtain ⟨hd, hargs⟩ := h c
  refine ⟨hd.trans ?_, hargs⟩
  refine (Cert.Reference10Ideal.Read.val_main_v8_eq (F := Ideal) _ _).trans ?_
  refine Eq.trans ?_ (Cert.Kernel10Ideal.result m c).symm
  exact congr (congrArg _ a0) a1

theorem frame_reference11 : Cert.quiescent_Reference11Ideal := fun m ρ _ =>
  (θ_run Cert.Reference11Ideal.defs _ _).mono
    (fun r h => ⟨fun c => (h c).2, Idealize.ShloMosaic.sem_eq_zero_of_no_sems (by decide) r.2⟩)
    (Cert.Reference11Ideal.Value.run (F := Ideal) m ρ)

/-- The gradient through the key and value product. -/
theorem algebraic11 : Cert.algebraic_Kernel11Ideal_Reference11Ideal := by
  intro m ρ m' ρ' _ hag
  refine ⟨_, Cert.Kernel11Ideal.Value.run_blocks m ρ, (θ_run Cert.Reference11Ideal.defs _ _).mono (fun r h c => ?_) (Cert.Reference11Ideal.Value.run (F := Ideal) m' ρ')⟩
  obtain ⟨a0, a1⟩ := hag c
  obtain ⟨hd, hargs⟩ := h c
  refine ⟨hd.trans ?_, hargs⟩
  refine (Cert.Reference11Ideal.Read.val_main_v2_eq (F := Ideal) _ _).trans ?_
  refine Eq.trans ?_ (Cert.Kernel11Ideal.result m c).symm
  exact congr (congrArg _ a0) a1

theorem frame_reference12 : Cert.quiescent_Reference12Ideal := fun m ρ _ =>
  (θ_run Cert.Reference12Ideal.defs _ _).mono
    (fun r h => ⟨fun c => (h c).2, Idealize.ShloMosaic.sem_eq_zero_of_no_sems (by decide) r.2⟩)
    (Cert.Reference12Ideal.Value.run (F := Ideal) m ρ)

/-- The gradient of the key and value product's weights. -/
theorem algebraic12 : Cert.algebraic_Kernel12Ideal_Reference12Ideal := by
  intro m ρ m' ρ' _ hag
  refine ⟨_, Cert.Kernel12Ideal.Value.run_blocks m ρ, (θ_run Cert.Reference12Ideal.defs _ _).mono (fun r h c => ?_) (Cert.Reference12Ideal.Value.run (F := Ideal) m' ρ')⟩
  obtain ⟨a0, a1⟩ := hag c
  obtain ⟨hd, hargs⟩ := h c
  refine ⟨hd.trans ?_, hargs⟩
  refine (Cert.Reference12Ideal.Read.val_main_v4_eq (F := Ideal) _ _).trans ?_
  refine Eq.trans ?_ (Cert.Kernel12Ideal.result m c).symm
  exact congr (congrArg _ a0) a1

theorem frame_reference13 : Cert.quiescent_Reference13Ideal := fun m ρ _ =>
  (θ_run Cert.Reference13Ideal.defs _ _).mono
    (fun r h => ⟨fun c => (h c).2, Idealize.ShloMosaic.sem_eq_zero_of_no_sems (by decide) r.2⟩)
    (Cert.Reference13Ideal.Value.run (F := Ideal) m ρ)

/-- The input product. -/
theorem algebraic13 : Cert.algebraic_Kernel13Ideal_Reference13Ideal := by
  intro m ρ m' ρ' _ hag
  refine ⟨_, Cert.Kernel13Ideal.Value.run_blocks m ρ, (θ_run Cert.Reference13Ideal.defs _ _).mono (fun r h c => ?_) (Cert.Reference13Ideal.Value.run (F := Ideal) m' ρ')⟩
  obtain ⟨a0, a1⟩ := hag c
  obtain ⟨hd, hargs⟩ := h c
  refine ⟨hd.trans ?_, hargs⟩
  refine (Cert.Reference13Ideal.Read.val_main_v1_eq (F := Ideal) _ _).trans ?_
  refine Eq.trans ?_ (Cert.Kernel13Ideal.result m c).symm
  exact congr (congrArg _ a0) a1

theorem frame_reference14 : Cert.quiescent_Reference14Ideal := fun m ρ _ =>
  (θ_run Cert.Reference14Ideal.defs _ _).mono
    (fun r h => ⟨fun c => (h c).2, Idealize.ShloMosaic.sem_eq_zero_of_no_sems (by decide) r.2⟩)
    (Cert.Reference14Ideal.Value.run (F := Ideal) m ρ)

/-- The query product. -/
theorem algebraic14 : Cert.algebraic_Kernel14Ideal_Reference14Ideal := by
  intro m ρ m' ρ' _ hag
  refine ⟨_, Cert.Kernel14Ideal.Value.run_blocks m ρ, (θ_run Cert.Reference14Ideal.defs _ _).mono (fun r h c => ?_) (Cert.Reference14Ideal.Value.run (F := Ideal) m' ρ')⟩
  obtain ⟨a0, a1⟩ := hag c
  obtain ⟨hd, hargs⟩ := h c
  refine ⟨hd.trans ?_, hargs⟩
  refine (Cert.Reference14Ideal.Read.val_main_v3_eq (F := Ideal) _ _).trans ?_
  refine Eq.trans ?_ (Cert.Kernel14Ideal.result m c).symm
  exact congr (congrArg _ a0) a1

theorem frame_reference15 : Cert.quiescent_Reference15Ideal := fun m ρ _ =>
  (θ_run Cert.Reference15Ideal.defs _ _).mono
    (fun r h => ⟨fun c => (h c).2, Idealize.ShloMosaic.sem_eq_zero_of_no_sems (by decide) r.2⟩)
    (Cert.Reference15Ideal.Value.run (F := Ideal) m ρ)

/-- The key and value product. -/
theorem algebraic15 : Cert.algebraic_Kernel15Ideal_Reference15Ideal := by
  intro m ρ m' ρ' _ hag
  refine ⟨_, Cert.Kernel15Ideal.Value.run_blocks m ρ, (θ_run Cert.Reference15Ideal.defs _ _).mono (fun r h c => ?_) (Cert.Reference15Ideal.Value.run (F := Ideal) m' ρ')⟩
  obtain ⟨a0, a1⟩ := hag c
  obtain ⟨hd, hargs⟩ := h c
  refine ⟨hd.trans ?_, hargs⟩
  refine (Cert.Reference15Ideal.Read.val_main_v0_eq (F := Ideal) _ _).trans ?_
  refine Eq.trans ?_ (Cert.Kernel15Ideal.result m c).symm
  exact congr (congrArg _ a0) a1

theorem frame_reference16 : Cert.quiescent_Reference16Ideal := fun m ρ _ =>
  (θ_run Cert.Reference16Ideal.defs _ _).mono
    (fun r h => ⟨fun c => (h c).2, Idealize.ShloMosaic.sem_eq_zero_of_no_sems (by decide) r.2⟩)
    (Cert.Reference16Ideal.Value.run (F := Ideal) m ρ)

/-- The output product. -/
theorem algebraic16 : Cert.algebraic_Kernel16Ideal_Reference16Ideal := by
  intro m ρ m' ρ' _ hag
  refine ⟨_, Cert.Kernel16Ideal.Value.run_blocks m ρ, (θ_run Cert.Reference16Ideal.defs _ _).mono (fun r h c => ?_) (Cert.Reference16Ideal.Value.run (F := Ideal) m' ρ')⟩
  obtain ⟨a0, a1⟩ := hag c
  obtain ⟨hd, hargs⟩ := h c
  refine ⟨hd.trans ?_, hargs⟩
  refine (Cert.Reference16Ideal.Read.val_main_v0_eq (F := Ideal) _ _).trans ?_
  refine Eq.trans ?_ (Cert.Kernel16Ideal.result m c).symm
  exact congr (congrArg _ a0) a1

theorem frame_reference17 : Cert.quiescent_Reference17Ideal := fun m ρ _ =>
  (θ_run Cert.Reference17Ideal.defs _ _).mono
    (fun r h => ⟨fun c => (h c).2.2, Idealize.ShloMosaic.sem_eq_zero_of_no_sems (by decide) r.2⟩)
    (Cert.Reference17Ideal.Value.run (F := Ideal) m ρ)

/-- The gradient through the first norm. -/
theorem algebraic17 : Cert.algebraic_Kernel17Ideal_Reference17Ideal := by
  intro m ρ m' ρ' _ hag
  refine ⟨_, _, Cert.Kernel17Ideal.Value.run_blocks m ρ, (θ_run Cert.Reference17Ideal.defs _ _).mono (fun r h c => ?_) (Cert.Reference17Ideal.Value.run (F := Ideal) m' ρ')⟩
  obtain ⟨a0, a1, a2, a3⟩ := hag c
  obtain ⟨h0, h1, hargs⟩ := h c
  refine ⟨h0.trans ?_, h1.trans ?_, hargs⟩
  · refine (Cert.Reference17Ideal.Read.val_main_v36_eq (F := Ideal) _ _ _ _).trans ?_
    refine Eq.trans ?_ (Cert.Kernel17Ideal.result_rows m c).symm
    exact congr (congr (congr (congrArg _ a0) a1) a2) a3
  · refine (Cert.Reference17Ideal.Read.val_main_v37_eq (F := Ideal) _ _).trans ?_
    refine Eq.trans ?_ (Cert.Kernel17Ideal.result_gain m c).symm
    exact congr (congrArg _ a1) a2

theorem frame_reference18 : Cert.quiescent_Reference18Ideal := fun m ρ _ =>
  (θ_run Cert.Reference18Ideal.defs _ _).mono
    (fun r h => ⟨fun c => (h c).2.2.2.2, Idealize.ShloMosaic.sem_eq_zero_of_no_sems (by decide) r.2⟩)
    (Cert.Reference18Ideal.Value.run (F := Ideal) m ρ)

/-- The loss, its gradients by the residual and through the last norm, and that norm's gain's. -/
theorem algebraic18 : Cert.algebraic_Kernel18Ideal_Reference18Ideal := by
  intro m ρ m' ρ' _ hag
  refine ⟨_, _, _, _, Cert.Kernel18Ideal.Value.run_blocks m ρ, (θ_run Cert.Reference18Ideal.defs _ _).mono (fun r h c => ?_) (Cert.Reference18Ideal.Value.run (F := Ideal) m' ρ')⟩
  obtain ⟨a0, a1, a2, a3, a4⟩ := hag c
  obtain ⟨h0, h1, h2, h3, hargs⟩ := h c
  refine ⟨h0.trans ?_, h1.trans ?_, h2.trans ?_, h3.trans ?_, hargs⟩
  · refine (Cert.Reference18Ideal.Read.val_main_v53_eq (F := Ideal) _ _ _ _ _).trans ?_
    refine Eq.trans ?_ (Cert.Kernel18Ideal.result_loss m c).symm
    exact congr (congr (congr (congr (congrArg _ a0) a1) a2) a3) a4
  · refine (Cert.Reference18Ideal.Read.val_main_v32_eq (F := Ideal) _ _ _ _ _).trans ?_
    refine Eq.trans ?_ (Cert.Kernel18Ideal.result_cot m c).symm
    exact congr (congr (congr (congr (congrArg _ a0) a1) a2) a3) a4
  · refine (Cert.Reference18Ideal.Read.val_main_v54_eq (F := Ideal) m' c).trans ?_
    refine Eq.trans ?_ (Cert.Kernel18Ideal.result_rows m c).symm
    exact congr (congr (congr (congr (congrArg _ a0) a1) a2) a3) a4
  · refine (Cert.Reference18Ideal.Read.val_main_v55_eq (F := Ideal) _ _ _ _ _).trans ?_
    refine Eq.trans ?_ (Cert.Kernel18Ideal.result_gain m c).symm
    exact congr (congr (congr (congr (congrArg _ a0) a1) a2) a3) a4

theorem frame_reference19 : Cert.quiescent_Reference19Ideal := fun m ρ _ =>
  (θ_run Cert.Reference19Ideal.defs _ _).mono
    (fun r h => ⟨fun c => (h c).2.2.2.2, Idealize.ShloMosaic.sem_eq_zero_of_no_sems (by decide) r.2⟩)
    (Cert.Reference19Ideal.Value.run (F := Ideal) m ρ)

/-- The gradients through the two norms between the mixing and the feed-forward. -/
theorem algebraic19 : Cert.algebraic_Kernel19Ideal_Reference19Ideal := by
  intro m ρ m' ρ' _ hag
  refine ⟨_, _, _, _, Cert.Kernel19Ideal.Value.run_blocks m ρ, (θ_run Cert.Reference19Ideal.defs _ _).mono (fun r h c => ?_) (Cert.Reference19Ideal.Value.run (F := Ideal) m' ρ')⟩
  obtain ⟨a0, a1, a2, a3, a4, a5⟩ := hag c
  obtain ⟨h0, h1, h2, h3, hargs⟩ := h c
  refine ⟨h0.trans ?_, h1.trans ?_, h2.trans ?_, h3.trans ?_, hargs⟩
  · refine (Cert.Reference19Ideal.Read.val_main_v53_eq (F := Ideal) m' c).trans ?_
    refine Eq.trans ?_ (Cert.Kernel19Ideal.result_mid m c).symm
    exact congr (congr (congr (congr (congr (congrArg _ a0) a1) a2) a3) a4) a5
  · refine (Cert.Reference19Ideal.Read.val_main_v75_eq (F := Ideal) m' c).trans ?_
    refine Eq.trans ?_ (Cert.Kernel19Ideal.result_rows m c).symm
    exact congr (congr (congr (congr (congr (congrArg _ a0) a1) a2) a3) a4) a5
  · refine (Cert.Reference19Ideal.Read.val_main_v76_eq (F := Ideal) _ _ _ _).trans ?_
    refine Eq.trans ?_ (Cert.Kernel19Ideal.result_second m c).symm
    exact congr (congr (congr (congrArg _ a1) a2) a3) a4
  · refine (Cert.Reference19Ideal.Read.val_main_v77_eq (F := Ideal) m' c).trans ?_
    refine Eq.trans ?_ (Cert.Kernel19Ideal.result_first m c).symm
    exact congr (congr (congr (congr (congr (congrArg _ a0) a1) a2) a3) a4) a5

theorem frame_reference20 : Cert.quiescent_Reference20Ideal := fun m ρ _ =>
  (θ_run Cert.Reference20Ideal.defs _ _).mono
    (fun r h => ⟨fun c => (h c).2, Idealize.ShloMosaic.sem_eq_zero_of_no_sems (by decide) r.2⟩)
    (Cert.Reference20Ideal.Value.run (F := Ideal) m ρ)

/-- The first norm. -/
theorem algebraic20 : Cert.algebraic_Kernel20Ideal_Reference20Ideal := by
  intro m ρ m' ρ' _ hag
  refine ⟨_, Cert.Kernel20Ideal.Value.run_blocks m ρ, (θ_run Cert.Reference20Ideal.defs _ _).mono (fun r h c => ?_) (Cert.Reference20Ideal.Value.run (F := Ideal) m' ρ')⟩
  obtain ⟨a0, a1⟩ := hag c
  obtain ⟨h0, hargs⟩ := h c
  refine ⟨h0.trans ?_, hargs⟩
  · refine (Cert.Reference20Ideal.Read.val_main_v13_eq (F := Ideal) _ _).trans ?_
    refine Eq.trans ?_ (Cert.Kernel20Ideal.result m c).symm
    exact congr (congrArg _ a0) a1

theorem frame_reference21 : Cert.quiescent_Reference21Ideal := fun m ρ _ =>
  (θ_run Cert.Reference21Ideal.defs _ _).mono
    (fun r h => ⟨fun c => (h c).2.2, Idealize.ShloMosaic.sem_eq_zero_of_no_sems (by decide) r.2⟩)
    (Cert.Reference21Ideal.Value.run (F := Ideal) m ρ)

/-- The norm behind the mixing, the residual, and the norm before the feed-forward. -/
theorem algebraic21 : Cert.algebraic_Kernel21Ideal_Reference21Ideal := by
  intro m ρ m' ρ' _ hag
  refine ⟨_, _, Cert.Kernel21Ideal.Value.run_blocks m ρ, (θ_run Cert.Reference21Ideal.defs _ _).mono (fun r h c => ?_) (Cert.Reference21Ideal.Value.run (F := Ideal) m' ρ')⟩
  obtain ⟨a0, a1, a2, a3⟩ := hag c
  obtain ⟨h0, h1, hargs⟩ := h c
  refine ⟨h0.trans ?_, h1.trans ?_, hargs⟩
  · refine (Cert.Reference21Ideal.Read.val_main_v13_eq (F := Ideal) _ _ _).trans ?_
    refine Eq.trans ?_ (Cert.Kernel21Ideal.result_mid m c).symm
    exact congr (congr (congrArg _ a0) a1) a2
  · refine (Cert.Reference21Ideal.Read.val_main_v27_eq (F := Ideal) _ _ _ _).trans ?_
    refine Eq.trans ?_ (Cert.Kernel21Ideal.result_rows m c).symm
    exact congr (congr (congr (congrArg _ a0) a1) a2) a3

theorem frame_reference22 : Cert.quiescent_Reference22Ideal := fun m ρ _ =>
  (θ_run Cert.Reference22Ideal.defs _ _).mono
    (fun r h => ⟨fun c => (h c).2, Idealize.ShloMosaic.sem_eq_zero_of_no_sems (by decide) r.2⟩)
    (Cert.Reference22Ideal.Value.run (F := Ideal) m ρ)

/-- The output product's input. -/
theorem algebraic22 : Cert.algebraic_Kernel22Ideal_Reference22Ideal := by
  intro m ρ m' ρ' _ hag
  refine ⟨_, Cert.Kernel22Ideal.Value.run_blocks m ρ, (θ_run Cert.Reference22Ideal.defs _ _).mono (fun r h c => ?_) (Cert.Reference22Ideal.Value.run (F := Ideal) m' ρ')⟩
  obtain ⟨a0, a1, a2, a3, a4, a5⟩ := hag c
  obtain ⟨h0, hargs⟩ := h c
  refine ⟨h0.trans ?_, hargs⟩
  · refine (Cert.Reference22Ideal.Read.val_main_v52_eq (F := Ideal) m' c).trans ?_
    refine Eq.trans ?_ (Cert.Kernel22Ideal.result_mix m c).symm
    exact congr (congr (congr (congr (congr (congrArg _ a0) a1) a2) a3) a4) a5

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    facts_finite, facts_finite2,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Kernel2.Gen.frame m ρ, fun m ρ _ => Cert.Kernel2Ideal.Gen.frame m ρ, fun m ρ _ => Cert.Kernel2Ideal.Gen.frame m ρ,
    frame_reference2, fun m ρ _ => frame_reference2 m ρ trivial,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, frame_reference9,
    fun m ρ _ => Cert.Kernel10.Gen.frame m ρ, fun m ρ _ => Cert.Kernel10Ideal.Gen.frame m ρ, frame_reference10,
    fun m ρ _ => Cert.Kernel11.Gen.frame m ρ, fun m ρ _ => Cert.Kernel11Ideal.Gen.frame m ρ, frame_reference11,
    fun m ρ _ => Cert.Kernel12.Gen.frame m ρ, fun m ρ _ => Cert.Kernel12Ideal.Gen.frame m ρ, frame_reference12,
    fun m ρ _ => Cert.Kernel13.Gen.frame m ρ, fun m ρ _ => Cert.Kernel13Ideal.Gen.frame m ρ, frame_reference13,
    fun m ρ _ => Cert.Kernel14.Gen.frame m ρ, fun m ρ _ => Cert.Kernel14Ideal.Gen.frame m ρ, frame_reference14,
    fun m ρ _ => Cert.Kernel15.Gen.frame m ρ, fun m ρ _ => Cert.Kernel15Ideal.Gen.frame m ρ, frame_reference15,
    fun m ρ _ => Cert.Kernel16.Gen.frame m ρ, fun m ρ _ => Cert.Kernel16Ideal.Gen.frame m ρ, frame_reference16,
    fun m ρ _ => Cert.Kernel17.Gen.frame m ρ, fun m ρ _ => Cert.Kernel17Ideal.Gen.frame m ρ, frame_reference17,
    fun m ρ _ => Cert.Kernel18.Gen.frame m ρ, fun m ρ _ => Cert.Kernel18Ideal.Gen.frame m ρ, frame_reference18,
    fun m ρ _ => Cert.Kernel19.Gen.frame m ρ, fun m ρ _ => Cert.Kernel19Ideal.Gen.frame m ρ, frame_reference19,
    fun m ρ _ => Cert.Kernel20.Gen.frame m ρ, fun m ρ _ => Cert.Kernel20Ideal.Gen.frame m ρ, frame_reference20,
    fun m ρ _ => Cert.Kernel21.Gen.frame m ρ, fun m ρ _ => Cert.Kernel21Ideal.Gen.frame m ρ, frame_reference21,
    fun m ρ _ => Cert.Kernel22.Gen.frame m ρ, fun m ρ _ => Cert.Kernel22Ideal.Gen.frame m ρ, frame_reference22,
    IdealRules.named_const.statement Cert.KernelIdeal.κ "neg" .f32 0xF149F2CA#32 ⊥ rfl, algebraic,
    trivial, algebraic2, trivial, algebraic3, trivial, algebraic4,
    trivial, algebraic5, trivial, algebraic6, trivial, algebraic7, trivial, algebraic8, trivial, algebraic9, trivial, algebraic10, trivial, algebraic11, trivial, algebraic12, trivial, algebraic13, trivial, algebraic14, trivial, algebraic15, trivial, algebraic16,
    trivial, algebraic17, trivial, algebraic18, trivial, algebraic19,
    trivial, algebraic20, trivial, algebraic21, trivial, algebraic22⟩

end Cert.Proof

end
